-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_mem [hPre_finite_mem : Cert.Pre_finite_mem.Facts] (m : (ℓ : Loc Cert.CrossIdeal.nD Cert.CrossIdeal.τ Cert.CrossIdeal.sig) → Buf (Elt Ideal) ℓ) : Prop :=
  ∀ c : Dev Cert.CrossIdeal.nD,
    (Cert.Pre_finite_mem.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).1 = (fun _ => 1#1)
    ∧ (Cert.Pre_finite_mem.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).2.1 = (fun _ => 1#1)
    ∧ (Cert.Pre_finite_mem.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))).2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_mem [hPre_finite_mem : Cert.Pre_finite_mem.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_mem.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).1 = (fun _ => 1#1)
    ∧ (Cert.Pre_finite_mem.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).2.1 = (fun _ => 1#1)
    ∧ (Cert.Pre_finite_mem.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))).2.2 = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_gmlp [hPre_finite_gmlp : Cert.Pre_finite_gmlp.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.2.1 = (fun _ => 1#1)
    ∧ (Cert.Pre_finite_gmlp.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))).2.2.2.2.2 = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_gmlp [hPre_finite_gmlp : Cert.Pre_finite_gmlp.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.1 = (fun _ => 1#1)
    ∧ (Cert.Pre_finite_gmlp.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))).2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnfwd [hPre_finite_attnfwd : Cert.Pre_finite_attnfwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnfwd [hPre_finite_attnfwd : Cert.Pre_finite_attnfwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2.1 = (fun _ => 1#1)
    ∧ (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))).2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2.1 = (fun _ => 1#1)
    ∧ (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))).2.2.2 = (fun _ => 1#1)

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Mmtn (m : (ℓ : Loc Cert.Mmtn.nD Cert.Mmtn.τ Cert.Mmtn.sig) → Buf (Elt Bits) ℓ) : Prop :=
  True

def Pre_MmtnIdeal (m : (ℓ : Loc Cert.MmtnIdeal.nD Cert.MmtnIdeal.τ Cert.MmtnIdeal.sig) → Buf (Elt Ideal) ℓ) : Prop :=
  True

def Pre_MmtnRefIdeal (m : (ℓ : Loc Cert.MmtnRefIdeal.nD Cert.MmtnRefIdeal.τ Cert.MmtnRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_finite_mem [hCrossIdeal : Cert.CrossIdeal.Facts] [hPre_finite_mem : Cert.Pre_finite_mem.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_mem m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_CrossRefIdeal_pre_finite_mem [hCrossRefIdeal : Cert.CrossRefIdeal.Facts] [hPre_finite_mem : Cert.Pre_finite_mem.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_mem m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpIdeal_pre_finite_gmlp [hGmlpIdeal : Cert.GmlpIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_gmlp m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_finite_gmlp [hGmlpRefIdeal : Cert.GmlpRefIdeal.Facts] [hPre_finite_gmlp : Cert.Pre_finite_gmlp.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_gmlp m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attnfwd [hAttnFwdIdeal : Cert.AttnFwdIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnfwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attnfwd [hAttnFwdRefIdeal : Cert.AttnFwdRefIdeal.Facts] [hPre_finite_attnfwd : Cert.Pre_finite_attnfwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnfwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3)
      ∧ r.2.mem ((c.tc : Thread Cert.Dwin.nD Cert.Dwin.τ).loc Cert.Dwin.main_arg4) = m ((c.tc : Thread Cert.Dwin.nD Cert.Dwin.τ).loc Cert.Dwin.main_arg4)
      ∧ r.2.mem ((c.tc : Thread Cert.Dwin.nD Cert.Dwin.τ).loc Cert.Dwin.main_arg5) = m ((c.tc : Thread Cert.Dwin.nD Cert.Dwin.τ).loc Cert.Dwin.main_arg5))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
      ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
      ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1)
      ∧ r.2.mem ((c.tc : Thread Cert.DwinRefIdeal.nD Cert.DwinRefIdeal.τ).loc Cert.DwinRefIdeal.main_arg2) = m ((c.tc : Thread Cert.DwinRefIdeal.nD Cert.DwinRefIdeal.τ).loc Cert.DwinRefIdeal.main_arg2)
      ∧ r.2.mem ((c.tc : Thread Cert.DwinRefIdeal.nD Cert.DwinRefIdeal.τ).loc Cert.DwinRefIdeal.main_arg3) = m ((c.tc : Thread Cert.DwinRefIdeal.nD Cert.DwinRefIdeal.τ).loc Cert.DwinRefIdeal.main_arg3)
      ∧ r.2.mem ((c.tc : Thread Cert.DwinRefIdeal.nD Cert.DwinRefIdeal.τ).loc Cert.DwinRefIdeal.main_arg4) = m ((c.tc : Thread Cert.DwinRefIdeal.nD Cert.DwinRefIdeal.τ).loc Cert.DwinRefIdeal.main_arg4)
      ∧ r.2.mem ((c.tc : Thread Cert.DwinRefIdeal.nD Cert.DwinRefIdeal.τ).loc Cert.DwinRefIdeal.main_arg5) = m ((c.tc : Thread Cert.DwinRefIdeal.nD Cert.DwinRefIdeal.τ).loc Cert.DwinRefIdeal.main_arg5))
      ∧ r.2.sem = fun _ => 0)

def quiescent_Mmtn [hMmtn : Cert.Mmtn.Facts] : Prop :=
  ∀ (m : (ℓ : Loc Cert.Mmtn.nD Cert.Mmtn.τ Cert.Mmtn.sig) → Buf (Elt Bits) ℓ) (g : Dev Cert.Mmtn.nD → PrngReg), Pre_Mmtn m →
    θ_run (Cert.Mmtn.defs (F := Bits)) (onTc (τ := Cert.Mmtn.τ) (Cert.Mmtn.main (F := Bits))) ⟨m, fun _ => 0, g⟩ (fun r => (∀ c : Dev Cert.Mmtn.nD,
      r.2.mem ((c.tc : Thread Cert.Mmtn.nD Cert.Mmtn.τ).loc Cert.Mmtn.main_arg0) = m ((c.tc : Thread Cert.Mmtn.nD Cert.Mmtn.τ).loc Cert.Mmtn.main_arg0)
      ∧ r.2.mem ((c.tc : Thread Cert.Mmtn.nD Cert.Mmtn.τ).loc Cert.Mmtn.main_arg1) = m ((c.tc : Thread Cert.Mmtn.nD Cert.Mmtn.τ).loc Cert.Mmtn.main_arg1)
      ∧ r.2.mem ((c.tc : Thread Cert.Mmtn.nD Cert.Mmtn.τ).loc Cert.Mmtn.main_arg2) = m ((c.tc : Thread Cert.Mmtn.nD Cert.Mmtn.τ).loc Cert.Mmtn.main_arg2)
      ∧ r.2.mem ((c.tc : Thread Cert.Mmtn.nD Cert.Mmtn.τ).loc Cert.Mmtn.main_arg3) = m ((c.tc : Thread Cert.Mmtn.nD Cert.Mmtn.τ).loc Cert.Mmtn.main_arg3)
      ∧ r.2.mem ((c.tc : Thread Cert.Mmtn.nD Cert.Mmtn.τ).loc Cert.Mmtn.main_arg4) = m ((c.tc : Thread Cert.Mmtn.nD Cert.Mmtn.τ).loc Cert.Mmtn.main_arg4)
      ∧ r.2.mem ((c.tc : Thread Cert.Mmtn.nD Cert.Mmtn.τ).loc Cert.Mmtn.main_arg5) = m ((c.tc : Thread Cert.Mmtn.nD Cert.Mmtn.τ).loc Cert.Mmtn.main_arg5))
      ∧ r.2.sem = fun _ => 0)

def quiescent_MmtnIdeal [hMmtnIdeal : Cert.MmtnIdeal.Facts] : Prop :=
  ∀ (m : (ℓ : Loc Cert.MmtnIdeal.nD Cert.MmtnIdeal.τ Cert.MmtnIdeal.sig) → Buf (Elt Ideal) ℓ) (g : Dev Cert.MmtnIdeal.nD → PrngReg), Pre_MmtnIdeal m →
    θ_run (Cert.MmtnIdeal.defs (F := Ideal)) (onTc (τ := Cert.MmtnIdeal.τ) (Cert.MmtnIdeal.main (F := Ideal))) ⟨m, fun _ => 0, g⟩ (fun r => (∀ c : Dev Cert.MmtnIdeal.nD,
      r.2.mem ((c.tc : Thread Cert.MmtnIdeal.nD Cert.MmtnIdeal.τ).loc Cert.MmtnIdeal.main_arg0) = m ((c.tc : Thread Cert.MmtnIdeal.nD Cert.MmtnIdeal.τ).loc Cert.MmtnIdeal.main_arg0)
      ∧ r.2.mem ((c.tc : Thread Cert.MmtnIdeal.nD Cert.MmtnIdeal.τ).loc Cert.MmtnIdeal.main_arg1) = m ((c.tc : Thread Cert.MmtnIdeal.nD Cert.MmtnIdeal.τ).loc Cert.MmtnIdeal.main_arg1)
      ∧ r.2.mem ((c.tc : Thread Cert.MmtnIdeal.nD Cert.MmtnIdeal.τ).loc Cert.MmtnIdeal.main_arg2) = m ((c.tc : Thread Cert.MmtnIdeal.nD Cert.MmtnIdeal.τ).loc Cert.MmtnIdeal.main_arg2)
      ∧ r.2.mem ((c.tc : Thread Cert.MmtnIdeal.nD Cert.MmtnIdeal.τ).loc Cert.MmtnIdeal.main_arg3) = m ((c.tc : Thread Cert.MmtnIdeal.nD Cert.MmtnIdeal.τ).loc Cert.MmtnIdeal.main_arg3)
      ∧ r.2.mem ((c.tc : Thread Cert.MmtnIdeal.nD Cert.MmtnIdeal.τ).loc Cert.MmtnIdeal.main_arg4) = m ((c.tc : Thread Cert.MmtnIdeal.nD Cert.MmtnIdeal.τ).loc Cert.MmtnIdeal.main_arg4)
      ∧ r.2.mem ((c.tc : Thread Cert.MmtnIdeal.nD Cert.MmtnIdeal.τ).loc Cert.MmtnIdeal.main_arg5) = m ((c.tc : Thread Cert.MmtnIdeal.nD Cert.MmtnIdeal.τ).loc Cert.MmtnIdeal.main_arg5))
      ∧ r.2.sem = fun _ => 0)

def quiescent_MmtnRefIdeal [hMmtnRefIdeal : Cert.MmtnRefIdeal.Facts] : Prop :=
  ∀ (m : (ℓ : Loc Cert.MmtnRefIdeal.nD Cert.MmtnRefIdeal.τ Cert.MmtnRefIdeal.sig) → Buf (Elt Ideal) ℓ) (g : Dev Cert.MmtnRefIdeal.nD → PrngReg), Pre_MmtnRefIdeal m →
    θ_run (Cert.MmtnRefIdeal.defs (F := Ideal)) (onTc (τ := Cert.MmtnRefIdeal.τ) (Cert.MmtnRefIdeal.main (F := Ideal))) ⟨m, fun _ => 0, g⟩ (fun r => (∀ c : Dev Cert.MmtnRefIdeal.nD,
      r.2.mem ((c.tc : Thread Cert.MmtnRefIdeal.nD Cert.MmtnRefIdeal.τ).loc Cert.MmtnRefIdeal.main_arg0) = m ((c.tc : Thread Cert.MmtnRefIdeal.nD Cert.MmtnRefIdeal.τ).loc Cert.MmtnRefIdeal.main_arg0)
      ∧ r.2.mem ((c.tc : Thread Cert.MmtnRefIdeal.nD Cert.MmtnRefIdeal.τ).loc Cert.MmtnRefIdeal.main_arg1) = m ((c.tc : Thread Cert.MmtnRefIdeal.nD Cert.MmtnRefIdeal.τ).loc Cert.MmtnRefIdeal.main_arg1)
      ∧ r.2.mem ((c.tc : Thread Cert.MmtnRefIdeal.nD Cert.MmtnRefIdeal.τ).loc Cert.MmtnRefIdeal.main_arg2) = m ((c.tc : Thread Cert.MmtnRefIdeal.nD Cert.MmtnRefIdeal.τ).loc Cert.MmtnRefIdeal.main_arg2)
      ∧ r.2.mem ((c.tc : Thread Cert.MmtnRefIdeal.nD Cert.MmtnRefIdeal.τ).loc Cert.MmtnRefIdeal.main_arg3) = m ((c.tc : Thread Cert.MmtnRefIdeal.nD Cert.MmtnRefIdeal.τ).loc Cert.MmtnRefIdeal.main_arg3)
      ∧ r.2.mem ((c.tc : Thread Cert.MmtnRefIdeal.nD Cert.MmtnRefIdeal.τ).loc Cert.MmtnRefIdeal.main_arg4) = m ((c.tc : Thread Cert.MmtnRefIdeal.nD Cert.MmtnRefIdeal.τ).loc Cert.MmtnRefIdeal.main_arg4)
      ∧ r.2.mem ((c.tc : Thread Cert.MmtnRefIdeal.nD Cert.MmtnRefIdeal.τ).loc Cert.MmtnRefIdeal.main_arg5) = m ((c.tc : Thread Cert.MmtnRefIdeal.nD Cert.MmtnRefIdeal.τ).loc Cert.MmtnRefIdeal.main_arg5))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v3_0)) (v1 : (c : Dev Cert.MemKvIdeal.nD) → Buf (Elt Ideal) ((c.tc : Thread Cert.MemKvIdeal.nD Cert.MemKvIdeal.τ).loc Cert.MemKvIdeal.main_v3_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3_0) = v0 c
          ∧ r.2.mem ((c.tc : Thread Cert.MemKvIdeal.nD Cert.MemKvIdeal.τ).loc Cert.MemKvIdeal.main_v3_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v21) = v0 c
          ∧ r.2.mem ((c.tc : Thread Cert.MemKvRefIdeal.nD Cert.MemKvRefIdeal.τ).loc Cert.MemKvRefIdeal.main_v22) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)) (v3 : (c : Dev Cert.MergeIdeal.nD) → Buf (Elt Ideal) ((c.tc : Thread Cert.MergeIdeal.nD Cert.MergeIdeal.τ).loc Cert.MergeIdeal.main_v6_3)) (v4 : (c : Dev Cert.MergeIdeal.nD) → Buf (Elt Ideal) ((c.tc : Thread Cert.MergeIdeal.nD Cert.MergeIdeal.τ).loc Cert.MergeIdeal.main_v6_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_v6_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_v35) = v2 c
          ∧ r.2.mem ((c.tc : Thread Cert.MergeRefIdeal.nD Cert.MergeRefIdeal.τ).loc Cert.MergeRefIdeal.main_v38) = v3 c
          ∧ r.2.mem ((c.tc : Thread Cert.MergeRefIdeal.nD Cert.MergeRefIdeal.τ).loc Cert.MergeRefIdeal.main_v39) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v11_0)) (v1 : (c : Dev Cert.DhIdeal.nD) → Buf (Elt Ideal) ((c.tc : Thread Cert.DhIdeal.nD Cert.DhIdeal.τ).loc Cert.DhIdeal.main_v11_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v11_0) = v0 c
          ∧ r.2.mem ((c.tc : Thread Cert.DhIdeal.nD Cert.DhIdeal.τ).loc Cert.DhIdeal.main_v11_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v38) = v0 c
          ∧ r.2.mem ((c.tc : Thread Cert.DhRefIdeal.nD Cert.DhRefIdeal.τ).loc Cert.DhRefIdeal.main_v39) = v1 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Cross_CrossIdeal : Prop :=
  True

def algebraic_CrossIdeal_CrossRefIdeal_pre_finite_mem [hCrossIdeal : Cert.CrossIdeal.Facts] [hCrossRefIdeal : Cert.CrossRefIdeal.Facts] [hPre_finite_mem : Cert.Pre_finite_mem.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_mem m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v1_0)) (v1 : (c : Dev Cert.CrossIdeal.nD) → Buf (Elt Ideal) ((c.tc : Thread Cert.CrossIdeal.nD Cert.CrossIdeal.τ).loc Cert.CrossIdeal.main_v1_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v1_0) = v0 c
          ∧ r.2.mem ((c.tc : Thread Cert.CrossIdeal.nD Cert.CrossIdeal.τ).loc Cert.CrossIdeal.main_v1_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v74) = v0 c
          ∧ r.2.mem ((c.tc : Thread Cert.CrossRefIdeal.nD Cert.CrossRefIdeal.τ).loc Cert.CrossRefIdeal.main_v72) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_Gmlp_GmlpIdeal : Prop :=
  True

def algebraic_GmlpIdeal_GmlpRefIdeal_pre_finite_gmlp [hGmlpIdeal : Cert.GmlpIdeal.Facts] [hGmlpRefIdeal : Cert.GmlpRefIdeal.Facts] [hPre_finite_gmlp : Cert.Pre_finite_gmlp.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_gmlp m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v4_0)) (v1 : (c : Dev Cert.GmlpIdeal.nD) → Buf (Elt Ideal) ((c.tc : Thread Cert.GmlpIdeal.nD Cert.GmlpIdeal.τ).loc Cert.GmlpIdeal.main_v4_1)) (v2 : (c : Dev Cert.GmlpIdeal.nD) → Buf (Elt Ideal) ((c.tc : Thread Cert.GmlpIdeal.nD Cert.GmlpIdeal.τ).loc Cert.GmlpIdeal.main_v4_2)) (v3 : (c : Dev Cert.GmlpIdeal.nD) → Buf (Elt Ideal) ((c.tc : Thread Cert.GmlpIdeal.nD Cert.GmlpIdeal.τ).loc Cert.GmlpIdeal.main_v4_3)) (v4 : (c : Dev Cert.GmlpIdeal.nD) → Buf (Elt Ideal) ((c.tc : Thread Cert.GmlpIdeal.nD Cert.GmlpIdeal.τ).loc Cert.GmlpIdeal.main_v4_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v4_0) = v0 c
          ∧ r.2.mem ((c.tc : Thread Cert.GmlpIdeal.nD Cert.GmlpIdeal.τ).loc Cert.GmlpIdeal.main_v4_1) = v1 c
          ∧ r.2.mem ((c.tc : Thread Cert.GmlpIdeal.nD Cert.GmlpIdeal.τ).loc Cert.GmlpIdeal.main_v4_2) = v2 c
          ∧ r.2.mem ((c.tc : Thread Cert.GmlpIdeal.nD Cert.GmlpIdeal.τ).loc Cert.GmlpIdeal.main_v4_3) = v3 c
          ∧ r.2.mem ((c.tc : Thread Cert.GmlpIdeal.nD Cert.GmlpIdeal.τ).loc Cert.GmlpIdeal.main_v4_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v86) = v0 c
          ∧ r.2.mem ((c.tc : Thread Cert.GmlpRefIdeal.nD Cert.GmlpRefIdeal.τ).loc Cert.GmlpRefIdeal.main_v50) = v1 c
          ∧ r.2.mem ((c.tc : Thread Cert.GmlpRefIdeal.nD Cert.GmlpRefIdeal.τ).loc Cert.GmlpRefIdeal.main_v87) = v2 c
          ∧ r.2.mem ((c.tc : Thread Cert.GmlpRefIdeal.nD Cert.GmlpRefIdeal.τ).loc Cert.GmlpRefIdeal.main_v88) = v3 c
          ∧ r.2.mem ((c.tc : Thread Cert.GmlpRefIdeal.nD Cert.GmlpRefIdeal.τ).loc Cert.GmlpRefIdeal.main_v89) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v55)) (v1 : (c : Dev Cert.AttnIdeal.nD) → Buf (Elt Ideal) ((c.tc : Thread Cert.AttnIdeal.nD Cert.AttnIdeal.τ).loc Cert.AttnIdeal.main_v56)) (v2 : (c : Dev Cert.AttnIdeal.nD) → Buf (Elt Ideal) ((c.tc : Thread Cert.AttnIdeal.nD Cert.AttnIdeal.τ).loc Cert.AttnIdeal.main_v57)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v55) = v0 c
          ∧ r.2.mem ((c.tc : Thread Cert.AttnIdeal.nD Cert.AttnIdeal.τ).loc Cert.AttnIdeal.main_v56) = v1 c
          ∧ r.2.mem ((c.tc : Thread Cert.AttnIdeal.nD Cert.AttnIdeal.τ).loc Cert.AttnIdeal.main_v57) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v70) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v67) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnFwd_AttnFwdIdeal : Prop :=
  True

def algebraic_AttnFwdIdeal_AttnFwdRefIdeal_pre_finite_attnfwd [hAttnFwdIdeal : Cert.AttnFwdIdeal.Facts] [hAttnFwdRefIdeal : Cert.AttnFwdRefIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnfwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v16_0)) (v1 : (c : Dev Cert.AttnFwdIdeal.nD) → Buf (Elt Ideal) ((c.tc : Thread Cert.AttnFwdIdeal.nD Cert.AttnFwdIdeal.τ).loc Cert.AttnFwdIdeal.main_v16_1)) (v2 : (c : Dev Cert.AttnFwdIdeal.nD) → Buf (Elt Ideal) ((c.tc : Thread Cert.AttnFwdIdeal.nD Cert.AttnFwdIdeal.τ).loc Cert.AttnFwdIdeal.main_v16_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v16_0) = v0 c
          ∧ r.2.mem ((c.tc : Thread Cert.AttnFwdIdeal.nD Cert.AttnFwdIdeal.τ).loc Cert.AttnFwdIdeal.main_v16_1) = v1 c
          ∧ r.2.mem ((c.tc : Thread Cert.AttnFwdIdeal.nD Cert.AttnFwdIdeal.τ).loc Cert.AttnFwdIdeal.main_v16_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v25) = v0 c
          ∧ r.2.mem ((c.tc : Thread Cert.AttnFwdRefIdeal.nD Cert.AttnFwdRefIdeal.τ).loc Cert.AttnFwdRefIdeal.main_v36) = v1 c
          ∧ r.2.mem ((c.tc : Thread Cert.AttnFwdRefIdeal.nD Cert.AttnFwdRefIdeal.τ).loc Cert.AttnFwdRefIdeal.main_v39) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v251_0)) (v1 : (c : Dev Cert.PrepIdeal.nD) → Buf (Elt Ideal) ((c.tc : Thread Cert.PrepIdeal.nD Cert.PrepIdeal.τ).loc Cert.PrepIdeal.main_v256)) (v2 : (c : Dev Cert.PrepIdeal.nD) → Buf (Elt Ideal) ((c.tc : Thread Cert.PrepIdeal.nD Cert.PrepIdeal.τ).loc Cert.PrepIdeal.main_v261)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v251_0) = v0 c
          ∧ r.2.mem ((c.tc : Thread Cert.PrepIdeal.nD Cert.PrepIdeal.τ).loc Cert.PrepIdeal.main_v256) = v1 c
          ∧ r.2.mem ((c.tc : Thread Cert.PrepIdeal.nD Cert.PrepIdeal.τ).loc Cert.PrepIdeal.main_v261) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v271) = v0 c
          ∧ r.2.mem ((c.tc : Thread Cert.PrepRefIdeal.nD Cert.PrepRefIdeal.τ).loc Cert.PrepRefIdeal.main_v254) = v1 c
          ∧ r.2.mem ((c.tc : Thread Cert.PrepRefIdeal.nD Cert.PrepRefIdeal.τ).loc Cert.PrepRefIdeal.main_v211) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)) (v3 : (c : Dev Cert.AdamwIdeal.nD) → Buf (Elt Ideal) ((c.tc : Thread Cert.AdamwIdeal.nD Cert.AdamwIdeal.τ).loc Cert.AdamwIdeal.main_v4_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_v4_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v26) = v0 c
          ∧ r.2.mem ((c.tc : Thread Cert.AdamwRefIdeal.nD Cert.AdamwRefIdeal.τ).loc Cert.AdamwRefIdeal.main_v27) = v1 c
          ∧ r.2.mem ((c.tc : Thread Cert.AdamwRefIdeal.nD Cert.AdamwRefIdeal.τ).loc Cert.AdamwRefIdeal.main_v28) = v2 c
          ∧ r.2.mem ((c.tc : Thread Cert.AdamwRefIdeal.nD Cert.AdamwRefIdeal.τ).loc Cert.AdamwRefIdeal.main_v29) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)
      ∧ m' ((c.tc : Thread Cert.DwinRefIdeal.nD Cert.DwinRefIdeal.τ).loc Cert.DwinRefIdeal.main_arg2) = m ((c.tc : Thread Cert.DwinIdeal.nD Cert.DwinIdeal.τ).loc Cert.DwinIdeal.main_arg2)
      ∧ m' ((c.tc : Thread Cert.DwinRefIdeal.nD Cert.DwinRefIdeal.τ).loc Cert.DwinRefIdeal.main_arg3) = m ((c.tc : Thread Cert.DwinIdeal.nD Cert.DwinIdeal.τ).loc Cert.DwinIdeal.main_arg3)
      ∧ m' ((c.tc : Thread Cert.DwinRefIdeal.nD Cert.DwinRefIdeal.τ).loc Cert.DwinRefIdeal.main_arg4) = m ((c.tc : Thread Cert.DwinIdeal.nD Cert.DwinIdeal.τ).loc Cert.DwinIdeal.main_arg4)
      ∧ m' ((c.tc : Thread Cert.DwinRefIdeal.nD Cert.DwinRefIdeal.τ).loc Cert.DwinRefIdeal.main_arg5) = m ((c.tc : Thread Cert.DwinIdeal.nD Cert.DwinIdeal.τ).loc Cert.DwinIdeal.main_arg5)) →
    ∃ (v0 : (c : Dev Cert.DwinIdeal.nD) → Buf (Elt Ideal) ((c.tc : Thread Cert.DwinIdeal.nD Cert.DwinIdeal.τ).loc Cert.DwinIdeal.main_v14)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v14) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
          ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
          ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v20) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1)
          ∧ r.2.mem ((c.tc : Thread Cert.DwinRefIdeal.nD Cert.DwinRefIdeal.τ).loc Cert.DwinRefIdeal.main_arg2) = m' ((c.tc : Thread Cert.DwinRefIdeal.nD Cert.DwinRefIdeal.τ).loc Cert.DwinRefIdeal.main_arg2)
          ∧ r.2.mem ((c.tc : Thread Cert.DwinRefIdeal.nD Cert.DwinRefIdeal.τ).loc Cert.DwinRefIdeal.main_arg3) = m' ((c.tc : Thread Cert.DwinRefIdeal.nD Cert.DwinRefIdeal.τ).loc Cert.DwinRefIdeal.main_arg3)
          ∧ r.2.mem ((c.tc : Thread Cert.DwinRefIdeal.nD Cert.DwinRefIdeal.τ).loc Cert.DwinRefIdeal.main_arg4) = m' ((c.tc : Thread Cert.DwinRefIdeal.nD Cert.DwinRefIdeal.τ).loc Cert.DwinRefIdeal.main_arg4)
          ∧ r.2.mem ((c.tc : Thread Cert.DwinRefIdeal.nD Cert.DwinRefIdeal.τ).loc Cert.DwinRefIdeal.main_arg5) = m' ((c.tc : Thread Cert.DwinRefIdeal.nD Cert.DwinRefIdeal.τ).loc Cert.DwinRefIdeal.main_arg5))

def preserves_Mmtn_MmtnIdeal : Prop :=
  True

def algebraic_MmtnIdeal_MmtnRefIdeal [hMmtnIdeal : Cert.MmtnIdeal.Facts] [hMmtnRefIdeal : Cert.MmtnRefIdeal.Facts] : Prop :=
  ∀ (m : (ℓ : Loc Cert.MmtnIdeal.nD Cert.MmtnIdeal.τ Cert.MmtnIdeal.sig) → Buf (Elt Ideal) ℓ) (g : Dev Cert.MmtnIdeal.nD → PrngReg)
    (m' : (ℓ : Loc Cert.MmtnRefIdeal.nD Cert.MmtnRefIdeal.τ Cert.MmtnRefIdeal.sig) → Buf (Elt Ideal) ℓ) (g' : Dev Cert.MmtnRefIdeal.nD → PrngReg), Pre_MmtnIdeal m →
    (∀ c : Dev Cert.MmtnIdeal.nD,
      m' ((c.tc : Thread Cert.MmtnRefIdeal.nD Cert.MmtnRefIdeal.τ).loc Cert.MmtnRefIdeal.main_arg0) = m ((c.tc : Thread Cert.MmtnIdeal.nD Cert.MmtnIdeal.τ).loc Cert.MmtnIdeal.main_arg0)
      ∧ m' ((c.tc : Thread Cert.MmtnRefIdeal.nD Cert.MmtnRefIdeal.τ).loc Cert.MmtnRefIdeal.main_arg1) = m ((c.tc : Thread Cert.MmtnIdeal.nD Cert.MmtnIdeal.τ).loc Cert.MmtnIdeal.main_arg1)
      ∧ m' ((c.tc : Thread Cert.MmtnRefIdeal.nD Cert.MmtnRefIdeal.τ).loc Cert.MmtnRefIdeal.main_arg2) = m ((c.tc : Thread Cert.MmtnIdeal.nD Cert.MmtnIdeal.τ).loc Cert.MmtnIdeal.main_arg2)
      ∧ m' ((c.tc : Thread Cert.MmtnRefIdeal.nD Cert.MmtnRefIdeal.τ).loc Cert.MmtnRefIdeal.main_arg3) = m ((c.tc : Thread Cert.MmtnIdeal.nD Cert.MmtnIdeal.τ).loc Cert.MmtnIdeal.main_arg3)
      ∧ m' ((c.tc : Thread Cert.MmtnRefIdeal.nD Cert.MmtnRefIdeal.τ).loc Cert.MmtnRefIdeal.main_arg4) = m ((c.tc : Thread Cert.MmtnIdeal.nD Cert.MmtnIdeal.τ).loc Cert.MmtnIdeal.main_arg4)
      ∧ m' ((c.tc : Thread Cert.MmtnRefIdeal.nD Cert.MmtnRefIdeal.τ).loc Cert.MmtnRefIdeal.main_arg5) = m ((c.tc : Thread Cert.MmtnIdeal.nD Cert.MmtnIdeal.τ).loc Cert.MmtnIdeal.main_arg5)) →
    ∃ (v0 : (c : Dev Cert.MmtnIdeal.nD) → Buf (Elt Ideal) ((c.tc : Thread Cert.MmtnIdeal.nD Cert.MmtnIdeal.τ).loc Cert.MmtnIdeal.main_v26)),
      θ_run (Cert.MmtnIdeal.defs (F := Ideal)) (onTc (τ := Cert.MmtnIdeal.τ) (Cert.MmtnIdeal.main (F := Ideal))) ⟨m, fun _ => 0, g⟩ (fun r => ∀ c : Dev Cert.MmtnIdeal.nD,
          r.2.mem ((c.tc : Thread Cert.MmtnIdeal.nD Cert.MmtnIdeal.τ).loc Cert.MmtnIdeal.main_v26) = v0 c
          ∧ r.2.mem ((c.tc : Thread Cert.MmtnIdeal.nD Cert.MmtnIdeal.τ).loc Cert.MmtnIdeal.main_arg0) = m ((c.tc : Thread Cert.MmtnIdeal.nD Cert.MmtnIdeal.τ).loc Cert.MmtnIdeal.main_arg0)
          ∧ r.2.mem ((c.tc : Thread Cert.MmtnIdeal.nD Cert.MmtnIdeal.τ).loc Cert.MmtnIdeal.main_arg1) = m ((c.tc : Thread Cert.MmtnIdeal.nD Cert.MmtnIdeal.τ).loc Cert.MmtnIdeal.main_arg1)
          ∧ r.2.mem ((c.tc : Thread Cert.MmtnIdeal.nD Cert.MmtnIdeal.τ).loc Cert.MmtnIdeal.main_arg2) = m ((c.tc : Thread Cert.MmtnIdeal.nD Cert.MmtnIdeal.τ).loc Cert.MmtnIdeal.main_arg2)
          ∧ r.2.mem ((c.tc : Thread Cert.MmtnIdeal.nD Cert.MmtnIdeal.τ).loc Cert.MmtnIdeal.main_arg3) = m ((c.tc : Thread Cert.MmtnIdeal.nD Cert.MmtnIdeal.τ).loc Cert.MmtnIdeal.main_arg3)
          ∧ r.2.mem ((c.tc : Thread Cert.MmtnIdeal.nD Cert.MmtnIdeal.τ).loc Cert.MmtnIdeal.main_arg4) = m ((c.tc : Thread Cert.MmtnIdeal.nD Cert.MmtnIdeal.τ).loc Cert.MmtnIdeal.main_arg4)
          ∧ r.2.mem ((c.tc : Thread Cert.MmtnIdeal.nD Cert.MmtnIdeal.τ).loc Cert.MmtnIdeal.main_arg5) = m ((c.tc : Thread Cert.MmtnIdeal.nD Cert.MmtnIdeal.τ).loc Cert.MmtnIdeal.main_arg5))
      ∧ θ_run (Cert.MmtnRefIdeal.defs (F := Ideal)) (onTc (τ := Cert.MmtnRefIdeal.τ) (Cert.MmtnRefIdeal.main (F := Ideal))) ⟨m', fun _ => 0, g'⟩ (fun r => ∀ c : Dev Cert.MmtnRefIdeal.nD,
          r.2.mem ((c.tc : Thread Cert.MmtnRefIdeal.nD Cert.MmtnRefIdeal.τ).loc Cert.MmtnRefIdeal.main_v19) = v0 c
          ∧ r.2.mem ((c.tc : Thread Cert.MmtnRefIdeal.nD Cert.MmtnRefIdeal.τ).loc Cert.MmtnRefIdeal.main_arg0) = m' ((c.tc : Thread Cert.MmtnRefIdeal.nD Cert.MmtnRefIdeal.τ).loc Cert.MmtnRefIdeal.main_arg0)
          ∧ r.2.mem ((c.tc : Thread Cert.MmtnRefIdeal.nD Cert.MmtnRefIdeal.τ).loc Cert.MmtnRefIdeal.main_arg1) = m' ((c.tc : Thread Cert.MmtnRefIdeal.nD Cert.MmtnRefIdeal.τ).loc Cert.MmtnRefIdeal.main_arg1)
          ∧ r.2.mem ((c.tc : Thread Cert.MmtnRefIdeal.nD Cert.MmtnRefIdeal.τ).loc Cert.MmtnRefIdeal.main_arg2) = m' ((c.tc : Thread Cert.MmtnRefIdeal.nD Cert.MmtnRefIdeal.τ).loc Cert.MmtnRefIdeal.main_arg2)
          ∧ r.2.mem ((c.tc : Thread Cert.MmtnRefIdeal.nD Cert.MmtnRefIdeal.τ).loc Cert.MmtnRefIdeal.main_arg3) = m' ((c.tc : Thread Cert.MmtnRefIdeal.nD Cert.MmtnRefIdeal.τ).loc Cert.MmtnRefIdeal.main_arg3)
          ∧ r.2.mem ((c.tc : Thread Cert.MmtnRefIdeal.nD Cert.MmtnRefIdeal.τ).loc Cert.MmtnRefIdeal.main_arg4) = m' ((c.tc : Thread Cert.MmtnRefIdeal.nD Cert.MmtnRefIdeal.τ).loc Cert.MmtnRefIdeal.main_arg4)
          ∧ r.2.mem ((c.tc : Thread Cert.MmtnRefIdeal.nD Cert.MmtnRefIdeal.τ).loc Cert.MmtnRefIdeal.main_arg5) = m' ((c.tc : Thread Cert.MmtnRefIdeal.nD Cert.MmtnRefIdeal.τ).loc Cert.MmtnRefIdeal.main_arg5))

def Claim : Prop :=
  ∃ (hMemKv : Cert.MemKv.Facts) (hMemKvIdeal : Cert.MemKvIdeal.Facts) (hMemKvRefIdeal : Cert.MemKvRefIdeal.Facts) (hLoss : Cert.Loss.Facts) (hLossIdeal : Cert.LossIdeal.Facts) (hLossRefIdeal : Cert.LossRefIdeal.Facts) (hMerge : Cert.Merge.Facts) (hMergeIdeal : Cert.MergeIdeal.Facts) (hMergeRefIdeal : Cert.MergeRefIdeal.Facts) (hDh : Cert.Dh.Facts) (hDhIdeal : Cert.DhIdeal.Facts) (hDhRefIdeal : Cert.DhRefIdeal.Facts) (hCross : Cert.Cross.Facts) (hCrossIdeal : Cert.CrossIdeal.Facts) (hCrossRefIdeal : Cert.CrossRefIdeal.Facts) (hGmlp : Cert.Gmlp.Facts) (hGmlpIdeal : Cert.GmlpIdeal.Facts) (hGmlpRefIdeal : Cert.GmlpRefIdeal.Facts) (hAttn : Cert.Attn.Facts) (hAttnIdeal : Cert.AttnIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hPrep : Cert.Prep.Facts) (hPrepIdeal : Cert.PrepIdeal.Facts) (hPrepRefIdeal : Cert.PrepRefIdeal.Facts) (hAdamw : Cert.Adamw.Facts) (hAdamwIdeal : Cert.AdamwIdeal.Facts) (hAdamwRefIdeal : Cert.AdamwRefIdeal.Facts) (hDwin : Cert.Dwin.Facts) (hDwinIdeal : Cert.DwinIdeal.Facts) (hDwinRefIdeal : Cert.DwinRefIdeal.Facts) (hMmtn : Cert.Mmtn.Facts) (hMmtnIdeal : Cert.MmtnIdeal.Facts) (hMmtnRefIdeal : Cert.MmtnRefIdeal.Facts) (hPre_finite_mem : Cert.Pre_finite_mem.Facts) (hPre_finite_gmlp : Cert.Pre_finite_gmlp.Facts) (hPre_finite_attn : Cert.Pre_finite_attn.Facts) (hPre_finite_attnfwd : Cert.Pre_finite_attnfwd.Facts) (hPre_finite_prep : Cert.Pre_finite_prep.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Loss (hLoss := hLoss)
    ∧ quiescent_LossIdeal (hLossIdeal := hLossIdeal)
    ∧ quiescent_LossRefIdeal (hLossRefIdeal := hLossRefIdeal)
    ∧ quiescent_Merge (hMerge := hMerge)
    ∧ quiescent_MergeIdeal (hMergeIdeal := hMergeIdeal)
    ∧ quiescent_MergeRefIdeal (hMergeRefIdeal := hMergeRefIdeal)
    ∧ quiescent_Dh (hDh := hDh)
    ∧ quiescent_DhIdeal (hDhIdeal := hDhIdeal)
    ∧ quiescent_DhRefIdeal (hDhRefIdeal := hDhRefIdeal)
    ∧ quiescent_Cross (hCross := hCross)
    ∧ quiescent_CrossIdeal (hCrossIdeal := hCrossIdeal)
    ∧ quiescent_CrossIdeal_pre_finite_mem (hCrossIdeal := hCrossIdeal) (hPre_finite_mem := hPre_finite_mem)
    ∧ quiescent_CrossRefIdeal (hCrossRefIdeal := hCrossRefIdeal)
    ∧ quiescent_CrossRefIdeal_pre_finite_mem (hCrossRefIdeal := hCrossRefIdeal) (hPre_finite_mem := hPre_finite_mem)
    ∧ quiescent_Gmlp (hGmlp := hGmlp)
    ∧ quiescent_GmlpIdeal (hGmlpIdeal := hGmlpIdeal)
    ∧ quiescent_GmlpIdeal_pre_finite_gmlp (hGmlpIdeal := hGmlpIdeal) (hPre_finite_gmlp := hPre_finite_gmlp)
    ∧ quiescent_GmlpRefIdeal (hGmlpRefIdeal := hGmlpRefIdeal)
    ∧ quiescent_GmlpRefIdeal_pre_finite_gmlp (hGmlpRefIdeal := hGmlpRefIdeal) (hPre_finite_gmlp := hPre_finite_gmlp)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_AttnFwd (hAttnFwd := hAttnFwd)
    ∧ quiescent_AttnFwdIdeal (hAttnFwdIdeal := hAttnFwdIdeal)
    ∧ quiescent_AttnFwdIdeal_pre_finite_attnfwd (hAttnFwdIdeal := hAttnFwdIdeal) (hPre_finite_attnfwd := hPre_finite_attnfwd)
    ∧ quiescent_AttnFwdRefIdeal (hAttnFwdRefIdeal := hAttnFwdRefIdeal)
    ∧ quiescent_AttnFwdRefIdeal_pre_finite_attnfwd (hAttnFwdRefIdeal := hAttnFwdRefIdeal) (hPre_finite_attnfwd := hPre_finite_attnfwd)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Mmtn (hMmtn := hMmtn)
    ∧ quiescent_MmtnIdeal (hMmtnIdeal := hMmtnIdeal)
    ∧ quiescent_MmtnRefIdeal (hMmtnRefIdeal := hMmtnRefIdeal)
    ∧ preserves_MemKv_MemKvIdeal
    ∧ algebraic_MemKvIdeal_MemKvRefIdeal (hMemKvIdeal := hMemKvIdeal) (hMemKvRefIdeal := hMemKvRefIdeal)
    ∧ preserves_Loss_LossIdeal
    ∧ algebraic_LossIdeal_LossRefIdeal (hLossIdeal := hLossIdeal) (hLossRefIdeal := hLossRefIdeal)
    ∧ preserves_Merge_MergeIdeal
    ∧ algebraic_MergeIdeal_MergeRefIdeal (hMergeIdeal := hMergeIdeal) (hMergeRefIdeal := hMergeRefIdeal)
    ∧ preserves_Dh_DhIdeal
    ∧ algebraic_DhIdeal_DhRefIdeal (hDhIdeal := hDhIdeal) (hDhRefIdeal := hDhRefIdeal)
    ∧ preserves_Cross_CrossIdeal
    ∧ algebraic_CrossIdeal_CrossRefIdeal_pre_finite_mem (hCrossIdeal := hCrossIdeal) (hCrossRefIdeal := hCrossRefIdeal) (hPre_finite_mem := hPre_finite_mem)
    ∧ preserves_Gmlp_GmlpIdeal
    ∧ algebraic_GmlpIdeal_GmlpRefIdeal_pre_finite_gmlp (hGmlpIdeal := hGmlpIdeal) (hGmlpRefIdeal := hGmlpRefIdeal) (hPre_finite_gmlp := hPre_finite_gmlp)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_AttnFwd_AttnFwdIdeal
    ∧ algebraic_AttnFwdIdeal_AttnFwdRefIdeal_pre_finite_attnfwd (hAttnFwdIdeal := hAttnFwdIdeal) (hAttnFwdRefIdeal := hAttnFwdRefIdeal) (hPre_finite_attnfwd := hPre_finite_attnfwd)
    ∧ preserves_Prep_PrepIdeal
    ∧ algebraic_PrepIdeal_PrepRefIdeal_pre_finite_prep (hPrepIdeal := hPrepIdeal) (hPrepRefIdeal := hPrepRefIdeal) (hPre_finite_prep := hPre_finite_prep)
    ∧ preserves_Adamw_AdamwIdeal
    ∧ algebraic_AdamwIdeal_AdamwRefIdeal (hAdamwIdeal := hAdamwIdeal) (hAdamwRefIdeal := hAdamwRefIdeal)
    ∧ preserves_Dwin_DwinIdeal
    ∧ algebraic_DwinIdeal_DwinRefIdeal (hDwinIdeal := hDwinIdeal) (hDwinRefIdeal := hDwinRefIdeal)
    ∧ preserves_Mmtn_MmtnIdeal
    ∧ algebraic_MmtnIdeal_MmtnRefIdeal (hMmtnIdeal := hMmtnIdeal) (hMmtnRefIdeal := hMmtnRefIdeal)
-- ==== Pre_finite_attn.lean ====
abbrev S4096x8x64 : Shape := ⟨3, ![4096, 8, 64]⟩
abbrev S4096x2x64 : Shape := ⟨3, ![4096, 2, 64]⟩
abbrev S4096x1280 : Shape := ⟨2, ![4096, 1280]⟩
abbrev S4096x512 : Shape := ⟨2, ![4096, 512]⟩
abbrev S_ : Shape := ⟨0, ![]⟩

class Facts : Prop where
  bcast_S_S4096x8x64 : S_.BroadcastsInDim S4096x8x64 (![] : Fin 0 → Fin S4096x8x64.rank)
  bcast_S_S4096x2x64 : S_.BroadcastsInDim S4096x2x64 (![] : Fin 0 → Fin S4096x2x64.rank)
  bcast_S_S4096x1280 : S_.BroadcastsInDim S4096x1280 (![] : Fin 0 → Fin S4096x1280.rank)
  bcast_S_S4096x512 : S_.BroadcastsInDim S4096x512 (![] : Fin 0 → Fin S4096x512.rank)

variable [Facts]

def fn {F : FTy → Type} [FloatOps F] (main_arg0 : FVec F S4096x8x64 .f32) (main_arg1 : FVec F S4096x2x64 .f32) (main_arg2 : FVec F S4096x1280 .f32) (main_arg3 : FVec F S4096x512 .f32) : IVec S4096x8x64 1 × IVec S4096x2x64 1 × IVec S4096x1280 1 × IVec S4096x512 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x2x64 .f32 := Host.absf main_arg1
  let main_cst_0 : FVec F S_ .f32 := constant S_ .f32 0x7F800000#32
  let main_v4 : FVec F S4096x2x64 .f32 := broadcastInDim S4096x2x64 ![] bcast_S_S4096x2x64 main_cst_0
  let main_v5 : IVec S4096x2x64 1 := cmpf .olt main_v3 main_v4
  let main_v6 : FVec F S4096x1280 .f32 := Host.absf main_arg2
  let main_cst_1 : FVec F S_ .f32 := constant S_ .f32 0x7F800000#32
  let main_v7 : FVec F S4096x1280 .f32 := broadcastInDim S4096x1280 ![] bcast_S_S4096x1280 main_cst_1
  let main_v8 : IVec S4096x1280 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Pre_finite_attnfwd.lean ====
abbrev S4096x8x64 : Shape := ⟨3, ![4096, 8, 64]⟩
abbrev S4096x2x64 : Shape := ⟨3, ![4096, 2, 64]⟩
abbrev S4096x1280 : Shape := ⟨2, ![4096, 1280]⟩
abbrev S_ : Shape := ⟨0, ![]⟩

class Facts : Prop where
  bcast_S_S4096x8x64 : S_.BroadcastsInDim S4096x8x64 (![] : Fin 0 → Fin S4096x8x64.rank)
  bcast_S_S4096x2x64 : S_.BroadcastsInDim S4096x2x64 (![] : Fin 0 → Fin S4096x2x64.rank)
  bcast_S_S4096x1280 : S_.BroadcastsInDim S4096x1280 (![] : Fin 0 → Fin S4096x1280.rank)

variable [Facts]

def fn {F : FTy → Type} [FloatOps F] (main_arg0 : FVec F S4096x8x64 .f32) (main_arg1 : FVec F S4096x2x64 .f32) (main_arg2 : FVec F S4096x1280 .f32) : IVec S4096x8x64 1 × IVec S4096x2x64 1 × IVec S4096x1280 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x2x64 .f32 := Host.absf main_arg1
  let main_cst_0 : FVec F S_ .f32 := constant S_ .f32 0x7F800000#32
  let main_v4 : FVec F S4096x2x64 .f32 := broadcastInDim S4096x2x64 ![] bcast_S_S4096x2x64 main_cst_0
  let main_v5 : IVec S4096x2x64 1 := cmpf .olt main_v3 main_v4
  let main_v6 : FVec F S4096x1280 .f32 := Host.absf main_arg2
  let main_cst_1 : FVec F S_ .f32 := constant S_ .f32 0x7F800000#32
  let main_v7 : FVec F S4096x1280 .f32 := broadcastInDim S4096x1280 ![] bcast_S_S4096x1280 main_cst_1
  let main_v8 : IVec S4096x1280 1 := cmpf .olt main_v6 main_v7
  (main_v2, main_v5, main_v8)
-- ==== Pre_finite_gmlp.lean ====
abbrev S4096x1536 : Shape := ⟨2, ![4096, 1536]⟩
abbrev S512 : Shape := ⟨1, ![512]⟩
abbrev S4x128x128 : Shape := ⟨3, ![4, 128, 128]⟩
abbrev S4x128 : Shape := ⟨2, ![4, 128]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S4096x512 : S_.BroadcastsInDim S4096x512 (![] : Fin 0 → Fin S4096x512.rank)

variable [Facts]

def fn {F : FTy → Type} [FloatOps F] (main_arg0 : FVec F S4096x1536 .f32) (main_arg1 : FVec F S512 .f32) (main_arg2 : FVec F S512 .f32) (main_arg3 : FVec F S4x128x128 .f32) (main_arg4 : FVec F S4x128 .f32) (main_arg5 : FVec F S4096x512 .f32) : IVec S4096x1536 1 × IVec S512 1 × IVec S512 1 × IVec S4x128x128 1 × IVec S4x128 1 × IVec S4096x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S512 .f32 := Host.absf main_arg1
  let main_cst_0 : FVec F S_ .f32 := constant S_ .f32 0x7F800000#32
  let main_v4 : FVec F S512 .f32 := broadcastInDim S512 ![] bcast_S_S512 main_cst_0
  let main_v5 : IVec S512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S4096x512 .f32 := Host.absf main_arg5
  let main_cst_4 : FVec F S_ .f32 := constant S_ .f32 0x7F800000#32
  let main_v16 : FVec F S4096x512 .f32 := broadcastInDim S4096x512 ![] bcast_S_S4096x512 main_cst_4
  let main_v17 : IVec S4096x512 1 := cmpf .olt main_v15 main_v16
  (main_v2, main_v5, main_v8, main_v11, main_v14, main_v17)
-- ==== Pre_finite_mem.lean ====
abbrev S4096x1024 : Shape := ⟨2, ![4096, 1024]⟩
abbrev S256x1024 : Shape := ⟨2, ![256, 1024]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  bcast_S_S256x1024 : S_.BroadcastsInDim S256x1024 (![] : Fin 0 → Fin S256x1024.rank)
  bcast_S_S4096x512 : S_.BroadcastsInDim S4096x512 (![] : Fin 0 → Fin S4096x512.rank)

variable [Facts]

def fn {F : FTy → Type} [FloatOps F] (main_arg0 : FVec F S4096x1024 .f32) (main_arg1 : FVec F S256x1024 .f32) (main_arg2 : FVec F S4096x512 .f32) : IVec S4096x1024 1 × IVec S256x1024 1 × IVec S4096x512 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  (main_v2, main_v5, main_v8)
-- ==== Pre_finite_prep.lean ====
abbrev S4096x1280 : Shape := ⟨2, ![4096, 1280]⟩
abbrev S64 : Shape := ⟨1, ![64]⟩
abbrev S4096x8x64 : Shape := ⟨3, ![4096, 8, 64]⟩
abbrev S4096x2x64 : Shape := ⟨3, ![4096, 2, 64]⟩
abbrev S4096x512 : Shape := ⟨2, ![4096, 512]⟩
abbrev S_ : Shape := ⟨0, ![]⟩

class Facts : Prop where
  bcast_S_S4096x1280 : S_.BroadcastsInDim S4096x1280 (![] : Fin 0 → Fin S4096x1280.rank)
  bcast_S_S64 : S_.BroadcastsInDim S64 (![] : Fin 0 → Fin S64.rank)
  bcast_S_S4096x512 : S_.BroadcastsInDim S4096x512 (![] : Fin 0 → Fin S4096x512.rank)

variable [Facts]

def fn {F : FTy → Type} [FloatOps F] (main_arg0 : FVec F S4096x1280 .f32) (main_arg1 : FVec F S64 .f32) (main_arg2 : FVec F S64 .f32) (main_arg3 : FVec F S4096x8x64 .f32) (main_arg4 : FVec F S4096x2x64 .f32) (main_arg5 : FVec F S4096x2x64 .f32) (main_arg6 : FVec F S4096x512 .f32) : IVec S4096x1280 1 × IVec S64 1 × IVec S64 1 × IVec S4096x512 1 :=
  let main_v0 : FVec F S4096x1280 .f32 := Host.absf main_arg0
  let main_cst : FVec F S_ .f32 := constant S_ .f32 0x7F800000#32
  let main_v1 : FVec F S4096x1280 .f32 := broadcastInDim S4096x1280 ![] bcast_S_S4096x1280 main_cst
  let main_v2 : IVec S4096x1280 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S4096x512 .f32 := Host.absf main_arg6
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== MemKv.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S1x1024, .f32⟩
  | .hbm, ⟨5, _⟩ => ⟨S1024x1024, .bf16⟩
  | .hbm, ⟨6, _⟩ => ⟨S256x1024, .bf16⟩
  | .hbm, ⟨7, _⟩ => ⟨S256x1024, .f32⟩
  | .hbm, ⟨8, _⟩ => ⟨S1024x1024, .bf16⟩
  | .hbm, ⟨9, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S1024x1024, .bf16⟩
  | .local _ .vmem, ⟨9, _⟩ => ⟨S256x1024, .f32⟩
  | .local _ .vmem, ⟨10, _⟩ => ⟨S1024x1024, .bf16⟩
  | .local _ .vmem, ⟨11, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== MemKvRefIdeal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S256x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1024x1024, .f32⟩
  | .hbm, ⟨22, _⟩ => ⟨S1024x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1024, .f32⟩
  | .hbm, ⟨30, _⟩ => ⟨S1024x1024, .bf16⟩
  | .hbm, ⟨31, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Merge.lean ====
abbrev S4096x512 : Shape := ⟨2, ![4096, 512]⟩
abbrev S4096x3072 : Shape := ⟨2, ![4096, 3072]⟩
abbrev S3x512x1024 : Shape := ⟨3, ![3, 512, 1024]⟩
abbrev S1024x1024 : Shape := ⟨2, ![1024, 1024]⟩
abbrev S4096x1024 : Shape := ⟨2, ![4096, 1024]⟩
abbrev S8x3x512x128 : Shape := ⟨4, ![8, 3, 512, 128]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩
abbrev S3x512x128 : Shape := ⟨3, ![3, 512, 128]⟩
abbrev S1x3x512x128 : Shape := ⟨4, ![1, 3, 512, 128]⟩

abbrev nBuf : Space → Nat
  | .hbm => 18
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x3072, .f32⟩
  | .hbm, ⟨4, _⟩ => ⟨S3x512x1024, .f32⟩
  | .hbm, ⟨5, _⟩ => ⟨S1024x1024, .f32⟩
  | .hbm, ⟨6, _⟩ => ⟨S4096x1024, .f32⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x3072, .bf16⟩
  | .hbm, ⟨11, _⟩ => ⟨S3x512x1024, .bf16⟩
  | .hbm, ⟨12, _⟩ => ⟨S1024x1024, .bf16⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x3072, .bf16⟩
  | .hbm, ⟨17, _⟩ => ⟨S8x3x512x128, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S3x512x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x3072, .bf16⟩
  | .local _ .vmem, ⟨19, _⟩ => ⟨S512x3072, .bf16⟩
  | .local _ .vmem, ⟨20, _⟩ => ⟨S8x3x512x128, .bf16⟩
  | .local _ .vmem, ⟨21, _⟩ => ⟨S3x512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v107 : BitVec 1 := Scalar.cmpi .eq arg0 c7_i32
  let v108 : BitVec 32 := Scalar.extui v107
  let c0_i32_72 : BitVec 32 := 0#32
  let v109 : BitVec 1 := Scalar.cmpi .ne v108 c0_i32_72
  v109

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x3x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MergeRefIdeal.lean ====
abbrev S4096x512 : Shape := ⟨2, ![4096, 512]⟩
abbrev S4096x3072 : Shape := ⟨2, ![4096, 3072]⟩
abbrev S3x512x1024 : Shape := ⟨3, ![3, 512, 1024]⟩
abbrev S1024x1024 : Shape := ⟨2, ![1024, 1024]⟩
abbrev S4096x1024 : Shape := ⟨2, ![4096, 1024]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S_ : Shape := ⟨0, ![]⟩
abbrev S3x4096x512 : Shape := ⟨3, ![3, 4096, 512]⟩
abbrev S3x1024x512 : Shape := ⟨3, ![3, 1024, 512]⟩
abbrev S3x512x8x128 : Shape := ⟨4, ![3, 512, 8, 128]⟩
abbrev S8x3x512x128 : Shape := ⟨4, ![8, 3, 512, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x3072, .f32⟩
  | .hbm, ⟨4, _⟩ => ⟨S3x512x1024, .f32⟩
  | .hbm, ⟨5, _⟩ => ⟨S1024x1024, .f32⟩
  | .hbm, ⟨6, _⟩ => ⟨S4096x1024, .f32⟩
  | .hbm, ⟨7, _⟩ => ⟨S4096x1x512, .f32⟩
  | .hbm, ⟨8, _⟩ => ⟨S4096x1x512, .f32⟩
  | .hbm, ⟨9, _⟩ => ⟨S4096x1x512, .f32⟩
  | .hbm, ⟨10, _⟩ => ⟨S4096x3x512, .f32⟩
  | .hbm, ⟨11, _⟩ => ⟨S3x1024x4096, .f32⟩
  | .hbm, ⟨12, _⟩ => ⟨S4096x3x1024, .f32⟩
  | .hbm, ⟨13, _⟩ => ⟨S4096x3x1024, .f32⟩
  | .hbm, ⟨14, _⟩ => ⟨S4096x3x1024, .f32⟩
  | .hbm, ⟨15, _⟩ => ⟨S4096x3x1024, .f32⟩
  | .hbm, ⟨16, _⟩ => ⟨S_, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x3x1024, .f32⟩
  | .hbm, ⟨24, _⟩ => ⟨S4096x3x1024, .f32⟩
  | .hbm, ⟨25, _⟩ => ⟨S4096x3x1024, .f32⟩
  | .hbm, ⟨26, _⟩ => ⟨S4096x3x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x3x1024, .f32⟩
  | .hbm, ⟨32, _⟩ => ⟨S4096x3x1024, .f32⟩
  | .hbm, ⟨33, _⟩ => ⟨S4096x3x1024, .f32⟩
  | .hbm, ⟨34, _⟩ => ⟨S4096x3x1024, .f32⟩
  | .hbm, ⟨35, _⟩ => ⟨S4096x3072, .f32⟩
  | .hbm, ⟨36, _⟩ => ⟨S3x1024x4096, .f32⟩
  | .hbm, ⟨37, _⟩ => ⟨S3x4096x512, .f32⟩
  | .hbm, ⟨38, _⟩ => ⟨S4096x3x512, .f32⟩
  | .hbm, ⟨39, _⟩ => ⟨S3x1024x512, .f32⟩
  | .hbm, ⟨40, _⟩ => ⟨S3x512x1024, .f32⟩
  | .hbm, ⟨41, _⟩ => ⟨S4096x1x512, .f32⟩
  | .hbm, ⟨42, _⟩ => ⟨S4096x512, .f32⟩
  | .hbm, ⟨43, _⟩ => ⟨S4096x1x512, .f32⟩
  | .hbm, ⟨44, _⟩ => ⟨S4096x512, .f32⟩
  | .hbm, ⟨45, _⟩ => ⟨S4096x1x512, .f32⟩
  | .hbm, ⟨46, _⟩ => ⟨S4096x512, .f32⟩
  | .hbm, ⟨47, _⟩ => ⟨S3x512x8x128, .f32⟩
  | .hbm, ⟨48, _⟩ => ⟨S8x3x512x128, .f32⟩
  | .hbm, ⟨49, _⟩ => ⟨S4096x3072, .bf16⟩
  | .hbm, ⟨50, _⟩ => ⟨S8x3x512x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Dh.lean ====
abbrev S4096x6912 : Shape := ⟨2, ![4096, 6912]⟩
abbrev S1024x6912 : Shape := ⟨2, ![1024, 6912]⟩
abbrev S4096x1024 : Shape := ⟨2, ![4096, 1024]⟩
abbrev S1024 : Shape := ⟨1, ![1024]⟩
abbrev S4096x1280 : Shape := ⟨2, ![4096, 1280]⟩
abbrev S4096x1536 : Shape := ⟨2, ![4096, 1536]⟩
abbrev S4096x3072 : Shape := ⟨2, ![4096, 3072]⟩
abbrev S6912x1024 : Shape := ⟨2, ![6912, 1024]⟩
abbrev S1x1024 : Shape := ⟨2, ![1, 1024]⟩
abbrev S256x1280 : Shape := ⟨2, ![256, 1280]⟩
abbrev S256x1536 : Shape := ⟨2, ![256, 1536]⟩
abbrev S256x1024 : Shape := ⟨2, ![256, 1024]⟩
abbrev S256x3072 : Shape := ⟨2, ![256, 3072]⟩
abbrev S1280x1024 : Shape := ⟨2, ![1280, 1024]⟩
abbrev S1536x1024 : Shape := ⟨2, ![1536, 1024]⟩
abbrev S1024x1024 : Shape := ⟨2, ![1024, 1024]⟩
abbrev S3072x1024 : Shape := ⟨2, ![3072, 1024]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S4096x6912, .f32⟩
  | .hbm, ⟨1, _⟩ => ⟨S1024x6912, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1280, .f32⟩
  | .hbm, ⟨6, _⟩ => ⟨S4096x1280, .bf16⟩
  | .hbm, ⟨7, _⟩ => ⟨S4096x1536, .f32⟩
  | .hbm, ⟨8, _⟩ => ⟨S4096x1536, .bf16⟩
  | .hbm, ⟨9, _⟩ => ⟨S4096x1024, .f32⟩
  | .hbm, ⟨10, _⟩ => ⟨S4096x1024, .bf16⟩
  | .hbm, ⟨11, _⟩ => ⟨S4096x3072, .f32⟩
  | .hbm, ⟨12, _⟩ => ⟨S4096x3072, .bf16⟩
  | .hbm, ⟨13, _⟩ => ⟨S6912x1024, .f32⟩
  | .hbm, ⟨14, _⟩ => ⟨S6912x1024, .bf16⟩
  | .hbm, ⟨15, _⟩ => ⟨S1x1024, .f32⟩
  | .hbm, ⟨16, _⟩ => ⟨S4096x1024, .f32⟩
  | .hbm, ⟨17, _⟩ => ⟨S1x1024, .f32⟩
  | .local _ .vmem, ⟨0, _⟩ => ⟨S256x1280, .bf16⟩
  | .local _ .vmem, ⟨1, _⟩ => ⟨S256x1280, .bf16⟩
  | .local _ .vmem, ⟨2, _⟩ => ⟨S256x1536, .bf16⟩
  | .local _ .vmem, ⟨3, _⟩ => ⟨S256x1536, .bf16⟩
  | .local _ .vmem, ⟨4, _⟩ => ⟨S256x1024, .bf16⟩
  | .local _ .vmem, ⟨5, _⟩ => ⟨S256x1024, .bf16⟩
  | .local _ .vmem, ⟨6, _⟩ => ⟨S256x3072, .bf16⟩
  | .local _ .vmem, ⟨7, _⟩ => ⟨S256x3072, .bf16⟩
  | .local _ .vmem, ⟨8, _⟩ => ⟨S6912x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | _, _ => ⟨S4096x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6912x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DhRefIdeal.lean ====
abbrev S4096x6912 : Shape := ⟨2, ![4096, 6912]⟩
abbrev S1024x6912 : Shape := ⟨2, ![1024, 6912]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x6912, .f32⟩
  | .hbm, ⟨1, _⟩ => ⟨S1024x6912, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6912, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x6912, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Cross.lean ====
abbrev S4096x1024 : Shape := ⟨2, ![4096, 1024]⟩
abbrev S256x1024 : Shape := ⟨2, ![256, 1024]⟩
abbrev S4096x512 : Shape := ⟨2, ![4096, 512]⟩
abbrev S512x1024 : Shape := ⟨2, ![512, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x512, .f32⟩
  | .hbm, ⟨3, _⟩ => ⟨S4096x1024, .bf16⟩
  | .hbm, ⟨4, _⟩ => ⟨S4096x1024, .bf16⟩
  | .hbm, ⟨5, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .f32⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | .local _ .vmem, ⟨6, _⟩ => ⟨S512x1024, .bf16⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CrossRefIdeal.lean ====
abbrev S4096x1024 : Shape := ⟨2, ![4096, 1024]⟩
abbrev S256x1024 : Shape := ⟨2, ![256, 1024]⟩
abbrev S4096x512 : Shape := ⟨2, ![4096, 512]⟩
abbrev S256x512 : Shape := ⟨2, ![256, 512]⟩
abbrev S256x4x128 : Shape := ⟨3, ![256, 4, 128]⟩
abbrev S4096x4x128 : Shape := ⟨3, ![4096, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S256x512, .f32⟩
  | .hbm, ⟨6, _⟩ => ⟨S256x512, .f32⟩
  | .hbm, ⟨7, _⟩ => ⟨S256x4x128, .f32⟩
  | .hbm, ⟨8, _⟩ => ⟨S256x4x128, .f32⟩
  | .hbm, ⟨9, _⟩ => ⟨S4096x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x128x4096, .f32⟩
  | .hbm, ⟨53, _⟩ => ⟨S4096x4x128, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x4x128, .f32⟩
  | .hbm, ⟨76, _⟩ => ⟨S4x128x4096, .f32⟩
  | .hbm, ⟨77, _⟩ => ⟨S4x4096x256, .f32⟩
  | .hbm, ⟨78, _⟩ => ⟨S4x128x256, .f32⟩
  | .hbm, ⟨79, _⟩ => ⟨S256x4x128, .f32⟩
  | .hbm, ⟨80, _⟩ => ⟨S4x4096x256, .f32⟩
  | .hbm, ⟨81, _⟩ => ⟨S4x4096x256, .f32⟩
  | .hbm, ⟨82, _⟩ => ⟨S4x4096x256, .f32⟩
  | .hbm, ⟨83, _⟩ => ⟨S_, .f32⟩
  | .hbm, ⟨84, _⟩ => ⟨S4x4096, .f32⟩
  | .hbm, ⟨85, _⟩ => ⟨S4x4096x1, .f32⟩
  | .hbm, ⟨86, _⟩ => ⟨S4x4096x1, .f32⟩
  | .hbm, ⟨87, _⟩ => ⟨S4x4096x256, .f32⟩
  | .hbm, ⟨88, _⟩ => ⟨S4x4096x256, .f32⟩
  | .hbm, ⟨89, _⟩ => ⟨S_, .f32⟩
  | .hbm, ⟨90, _⟩ => ⟨S4x4096, .f32⟩
  | .hbm, ⟨91, _⟩ => ⟨S4x4096x256, .f32⟩
  | .hbm, ⟨92, _⟩ => ⟨S4x4096x256, .f32⟩
  | .hbm, ⟨93, _⟩ => ⟨S4x4096x256, .f32⟩
  | .hbm, ⟨94, _⟩ => ⟨S_, .f32⟩
  | .hbm, ⟨95, _⟩ => ⟨S4x4096x256, .f32⟩
  | .hbm, ⟨96, _⟩ => ⟨S4x4096x256, .f32⟩
  | .hbm, ⟨97, _⟩ => ⟨S4x256x128, .f32⟩
  | .hbm, ⟨98, _⟩ => ⟨S256x4x128, .f32⟩
  | .hbm, ⟨99, _⟩ => ⟨S4x4096x128, .f32⟩
  | .hbm, ⟨100, _⟩ => ⟨S4096x4x128, .f32⟩
  | .hbm, ⟨101, _⟩ => ⟨S4096x512, .f32⟩
  | .hbm, ⟨102, _⟩ => ⟨S256x512, .f32⟩
  | .hbm, ⟨103, _⟩ => ⟨S256x512, .f32⟩
  | .hbm, ⟨104, _⟩ => ⟨S256x1024, .f32⟩
  | .hbm, ⟨105, _⟩ => ⟨S4096x1024, .f32⟩
  | .hbm, ⟨106, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v41_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v41_1 : Ref sig .tc := ⟨.hbm, 66, rfl⟩
abbrev main_v41_0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩

abbrev nD : Nat := 1
abbrev τ : Topo := Topo.v7x

variable {F : FTy → Type} [FloatOps F]
-- ==== Gmlp.lean ====
abbrev S4096x1536 : Shape := ⟨2, ![4096, 1536]⟩
abbrev S512 : Shape := ⟨1, ![512]⟩
abbrev S4x128x128 : Shape := ⟨3, ![4, 128, 128]⟩
abbrev S4x128 : Shape := ⟨2, ![4, 128]⟩
abbrev S4096x512 : Shape := ⟨2, ![4096, 512]⟩
abbrev S1x512 : Shape := ⟨2, ![1, 512]⟩
abbrev S4x128x1 : Shape := ⟨3, ![4, 128, 1]⟩
abbrev S256x1536 : Shape := ⟨2, ![256, 1536]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S128 : Shape := ⟨1, ![128]⟩

abbrev nBuf : Space → Nat
  | .hbm => 15
  | .vmem => 15
  | .smem => 0
  | _ => 0

abbrev bufTy : (tb : Table) → Fin (tcTables nBuf tb) → BufTy
  | .hbm, ⟨0, _⟩ => ⟨S4096x1536, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4096x512, .f32⟩
  | .hbm, ⟨6, _⟩ => ⟨S4096x1536, .bf16⟩
  | .hbm, ⟨7, _⟩ => ⟨S1x512, .f32⟩
  | .hbm, ⟨8, _⟩ => ⟨S1x512, .f32⟩
  | .hbm, ⟨9, _⟩ => ⟨S4x128x1, .f32⟩
  | .hbm, ⟨10, _⟩ => ⟨S4096x1536, .bf16⟩
  | .hbm, ⟨11, _⟩ => ⟨S4x128x128, .f32⟩
  | .hbm, ⟨12, _⟩ => ⟨S4x128x1, .f32⟩
  | .hbm, ⟨13, _⟩ => ⟨S1x512, .f32⟩
  | .hbm, ⟨14, _⟩ => ⟨S1x512, .f32⟩
  | .local _ .vmem, ⟨0, _⟩ => ⟨S256x1536, .bf16⟩
  | .local _ .vmem, ⟨1, _⟩ => ⟨S256x1536, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S4x128x1, .f32⟩
  | .local _ .vmem, ⟨6, _⟩ => ⟨S256x512, .f32⟩
  | .local _ .vmem, ⟨7, _⟩ => ⟨S256x512, .f32⟩
  | .local _ .vmem, ⟨8, _⟩ => ⟨S256x1536, .bf16⟩
  | .local _ .vmem, ⟨9, _⟩ => ⟨S256x1536, .bf16⟩
  | .local _ .vmem, ⟨10, _⟩ => ⟨S4x128x128, .f32⟩
  | .local _ .vmem, ⟨11, _⟩ => ⟨S4x128x1, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpRefIdeal.lean ====
abbrev S4096x1536 : Shape := ⟨2, ![4096, 1536]⟩
abbrev S512 : Shape := ⟨1, ![512]⟩
abbrev S4x128x128 : Shape := ⟨3, ![4, 128, 128]⟩
abbrev S4x128 : Shape := ⟨2, ![4, 128]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4x128x1 : Shape := ⟨3, ![4, 128, 1]⟩

abbrev nBuf : Space → Nat
  | .hbm => 129
  | .vmem => 0
  | .smem => 0
  | _ => 0

abbrev hbmTy0_0 (i : Nat) : BufTy := match i % 128 with
  | 0 => ⟨S4096x1536, .f32⟩
  | 1 => ⟨S512, .f32⟩
  | 2 => ⟨S512, .f32⟩
  | 3 => ⟨S4x128x128, .f32⟩
  | 4 => ⟨S4x128, .f32⟩
  | 5 => ⟨S4096x512, .f32⟩
  | 6 => ⟨S4096x512, .f32⟩
  | 7 => ⟨S4096x512, .f32⟩
  | 8 => ⟨S4096x512, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x512, .f32⟩
  | 16 => ⟨S4096x512, .f32⟩
  | 17 => ⟨S4096x512, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x512, .f32⟩
  | 33 => ⟨S4096x512, .f32⟩
  | 34 => ⟨S1x512, .f32⟩
  | 35 => ⟨S4096x512, .f32⟩
  | 36 => ⟨S4096x512, .f32⟩
  | 37 => ⟨S1x512, .f32⟩
  | 38 => ⟨S4096x512, .f32⟩
  | 39 => ⟨S4096x512, .f32⟩
  | 40 => ⟨S32x128x4x128, .f32⟩
  | 41 => ⟨S4x32x128x128, .f32⟩
  | 42 => ⟨S32x128x4x128, .f32⟩
  | 43 => ⟨S128x4, .f32⟩
  | 44 => ⟨S1x128x4x1, .f32⟩
  | 45 => ⟨S32x128x4x128, .f32⟩
  | 46 => ⟨S32x128x4x128, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x512, .f32⟩
  | 65 => ⟨S4096x512, .f32⟩
  | 66 => ⟨S4096x512, .f32⟩
  | 67 => ⟨S4096x512, .f32⟩
  | 68 => ⟨S4096x512, .f32⟩
  | 69 => ⟨S4096x512, .f32⟩
  | 70 => ⟨S4096x512, .f32⟩
  | 71 => ⟨S32x128x4x128, .f32⟩
  | 72 => ⟨S_, .f32⟩
  | 73 => ⟨S128x4, .f32⟩
  | 74 => ⟨S1x128x4x1, .f32⟩
  | 75 => ⟨S_, .f32⟩
  | 76 => ⟨S128x4, .f32⟩
  | 77 => ⟨S4x128, .f32⟩
  | 78 => ⟨S4x32x128x128, .f32⟩
  | 79 => ⟨S4x128x128, .f32⟩
  | 80 => ⟨S4x32x128x128, .f32⟩
  | 81 => ⟨S32x128x4x128, .f32⟩
  | 82 => ⟨S4096x512, .f32⟩
  | 83 => ⟨S_, .f32⟩
  | 84 => ⟨S512, .f32⟩
  | 85 => ⟨S1x512, .f32⟩
  | 86 => ⟨S_, .f32⟩
  | 87 => ⟨S512, .f32⟩
  | 88 => ⟨S4096x512, .f32⟩
  | 89 => ⟨S_, .f32⟩
  | 90 => ⟨S512, .f32⟩
  | 91 => ⟨S1x512, .f32⟩
  | 92 => ⟨S4096x512, .f32⟩
  | 93 => ⟨S4096x512, .f32⟩
  | 94 => ⟨S_, .f32⟩
  | 95 => ⟨S512, .f32⟩
  | 96 => ⟨S4096x512, .f32⟩
  | 97 => ⟨S_, .f32⟩
  | 98 => ⟨S4096, .f32⟩
  | 99 => ⟨S4096x1, .f32⟩
  | 100 => ⟨S4096x512, .f32⟩
  | 101 => ⟨S4096x512, .f32⟩
  | 102 => ⟨S4096x1, .f32⟩
  | 103 => ⟨S_, .f32⟩
  | 104 => ⟨S4096x1, .f32⟩
  | 105 => ⟨S4096x1, .f32⟩
  | 106 => ⟨S_, .f32⟩
  | 107 => ⟨S4096, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096, .f32⟩
  | 122 => ⟨S4096x512, .f32⟩
  | 123 => ⟨S4096x512, .f32⟩
  | 124 => ⟨S4096x1536, .f32⟩
  | 125 => ⟨S4096x1536, .bf16⟩
  | 126 => ⟨S4x128x1, .f32⟩
  | 127 => ⟨S1x512, .f32⟩
  | _ => ⟨S4096x1536, .f32⟩

abbrev hbmTy0_1 (i : Nat) : BufTy := match i % 128 with
  | 0 => ⟨S1x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v37_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v37_1 : Ref sig .tc := ⟨.hbm, 60, rfl⟩
abbrev main_v37_0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_14 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]
-- ==== Attn.lean ====
abbrev S4096x8x64 : Shape := ⟨3, ![4096, 8, 64]⟩
abbrev S4096x2x64 : Shape := ⟨3, ![4096, 2, 64]⟩
abbrev S4096x1280 : Shape := ⟨2, ![4096, 1280]⟩
abbrev S4096x512 : Shape := ⟨2, ![4096, 512]⟩
abbrev S4096x128 : Shape := ⟨2, ![4096, 128]⟩
abbrev S4096x2x4x64 : Shape := ⟨4, ![4096, 2, 4, 64]⟩
abbrev S2x4x4096x64 : Shape := ⟨4, ![2, 4, 4096, 64]⟩
abbrev S2x4096x64 : Shape := ⟨3, ![2, 4096, 64]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4096x4 : Shape := ⟨3, ![2, 4096, 4]⟩
abbrev S4096x64 : Shape := ⟨2, ![4096, 64]⟩
abbrev S1x4096x64 : Shape := ⟨3, ![1, 4096, 64]⟩
abbrev S512x4096 : Shape := ⟨2, ![512, 4096]⟩
abbrev S128x4096 : Shape := ⟨2, ![128, 4096]⟩
abbrev S2x64x4096 : Shape := ⟨3, ![2, 64, 4096]⟩
abbrev S256x256 : Shape := ⟨2, ![256, 256]⟩
abbrev S64x4096 : Shape := ⟨2, ![64, 4096]⟩
abbrev S1x256x4 : Shape := ⟨3, ![1, 256, 4]⟩
abbrev S1x64x4096 : Shape := ⟨3, ![1, 64, 4096]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S64x256 : Shape := ⟨2, ![64, 256]⟩

abbrev nBuf : Space → Nat
  | .hbm => 72
  | .vmem => 24
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x1280, .f32⟩
  | .hbm, ⟨3, _⟩ => ⟨S4096x512, .f32⟩
  | .hbm, ⟨4, _⟩ => ⟨S4096x128, .f32⟩
  | .hbm, ⟨5, _⟩ => ⟨S4096x2x64, .f32⟩
  | .hbm, ⟨6, _⟩ => ⟨S4096x2x4x64, .f32⟩
  | .hbm, ⟨7, _⟩ => ⟨S2x4x4096x64, .f32⟩
  | .hbm, ⟨8, _⟩ => ⟨S2x4096x64, .f32⟩
  | .hbm, ⟨9, _⟩ => ⟨S2x4096x64, .f32⟩
  | .hbm, ⟨10, _⟩ => ⟨S2x4x4096x4096, .f32⟩
  | .hbm, ⟨11, _⟩ => ⟨S_, .f32⟩
  | .hbm, ⟨12, _⟩ => ⟨S2x4x4096x4096, .f32⟩
  | .hbm, ⟨13, _⟩ => ⟨S2x4x4096x4096, .f32⟩
  | .hbm, ⟨14, _⟩ => ⟨S_, .f32⟩
  | .hbm, ⟨15, _⟩ => ⟨S2x4x4096, .f32⟩
  | .hbm, ⟨16, _⟩ => ⟨S_, .f32⟩
  | .hbm, ⟨17, _⟩ => ⟨S2x4x4096, .f32⟩
  | .hbm, ⟨18, _⟩ => ⟨S2x4x4096, .f32⟩
  | .hbm, ⟨19, _⟩ => ⟨S2x4x4096x1, .f32⟩
  | .hbm, ⟨20, _⟩ => ⟨S2x4x4096x4096, .f32⟩
  | .hbm, ⟨21, _⟩ => ⟨S2x4x4096x4096, .f32⟩
  | .hbm, ⟨22, _⟩ => ⟨S2x4x4096x4096, .f32⟩
  | .hbm, ⟨23, _⟩ => ⟨S_, .f32⟩
  | .hbm, ⟨24, _⟩ => ⟨S2x4x4096, .f32⟩
  | .hbm, ⟨25, _⟩ => ⟨S2x4x4096x1, .f32⟩
  | .hbm, ⟨26, _⟩ => ⟨S2x4x4096x4096, .f32⟩
  | .hbm, ⟨27, _⟩ => ⟨S2x4x4096x4096, .f32⟩
  | .hbm, ⟨28, _⟩ => ⟨S2x4x4096x64, .f32⟩
  | .hbm, ⟨29, _⟩ => ⟨S4096x2x4x64, .f32⟩
  | .hbm, ⟨30, _⟩ => ⟨S4096x512, .f32⟩
  | .hbm, ⟨31, _⟩ => ⟨S_, .f32⟩
  | .hbm, ⟨32, _⟩ => ⟨S2x4x4096, .f32⟩
  | .hbm, ⟨33, _⟩ => ⟨S2x4x4096x1, .f32⟩
  | .hbm, ⟨34, _⟩ => ⟨S2x4x4096x4096, .f32⟩
  | .hbm, ⟨35, _⟩ => ⟨S2x4x4096x4096, .f32⟩
  | .hbm, ⟨36, _⟩ => ⟨S2x4x4096x4096, .f32⟩
  | .hbm, ⟨37, _⟩ => ⟨S_, .f32⟩
  | .hbm, ⟨38, _⟩ => ⟨S2x4x4096, .f32⟩
  | .hbm, ⟨39, _⟩ => ⟨S2x4x4096x1, .f32⟩
  | .hbm, ⟨40, _⟩ => ⟨S2x4x4096x1, .f32⟩
  | .hbm, ⟨41, _⟩ => ⟨S2x4x4096x1, .f32⟩
  | .hbm, ⟨42, _⟩ => ⟨S2x4x4096, .f32⟩
  | .hbm, ⟨43, _⟩ => ⟨S2x4096x4, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x128, .f32⟩
  | .hbm, ⟨49, _⟩ => ⟨S4096x64, .f32⟩
  | .hbm, ⟨50, _⟩ => ⟨S4096x64, .f32⟩
  | .hbm, ⟨51, _⟩ => ⟨S1x4096x64, .f32⟩
  | .hbm, ⟨52, _⟩ => ⟨S1x4096x64, .f32⟩
  | .hbm, ⟨53, _⟩ => ⟨S2x4096x64, .f32⟩
  | .hbm, ⟨54, _⟩ => ⟨S2x4096x64, .bf16⟩
  | .hbm, ⟨55, _⟩ => ⟨S4096x512, .bf16⟩
  | .hbm, ⟨56, _⟩ => ⟨S512x4096, .f32⟩
  | .hbm, ⟨57, _⟩ => ⟨S512x4096, .bf16⟩
  | .hbm, ⟨58, _⟩ => ⟨S128x4096, .f32⟩
  | .hbm, ⟨59, _⟩ => ⟨S128x4096, .bf16⟩
  | .hbm, ⟨60, _⟩ => ⟨S128x4096, .f32⟩
  | .hbm, ⟨61, _⟩ => ⟨S128x4096, .bf16⟩
  | .hbm, ⟨62, _⟩ => ⟨S4096x1280, .bf16⟩
  | .hbm, ⟨63, _⟩ => ⟨S4096x512, .f32⟩
  | .hbm, ⟨64, _⟩ => ⟨S2x64x4096, .f32⟩
  | .hbm, ⟨65, _⟩ => ⟨S2x64x4096, .f32⟩
  | .hbm, ⟨66, _⟩ => ⟨S_, .f32⟩
  | .hbm, ⟨67, _⟩ => ⟨S4096x512, .f32⟩
  | .hbm, ⟨68, _⟩ => ⟨S4096x512, .f32⟩
  | .hbm, ⟨69, _⟩ => ⟨S4096x8x64, .f32⟩
  | .hbm, ⟨70, _⟩ => ⟨S4096x2x64, .f32⟩
  | .hbm, ⟨71, _⟩ => ⟨S4096x2x64, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S1x4096x64, .bf16⟩
  | .local _ .vmem, ⟨5, _⟩ => ⟨S1x4096x64, .bf16⟩
  | .local _ .vmem, ⟨6, _⟩ => ⟨S64x4096, .bf16⟩
  | .local _ .vmem, ⟨7, _⟩ => ⟨S64x4096, .bf16⟩
  | .local _ .vmem, ⟨8, _⟩ => ⟨S64x4096, .bf16⟩
  | .local _ .vmem, ⟨9, _⟩ => ⟨S64x4096, .bf16⟩
  | .local _ .vmem, ⟨10, _⟩ => ⟨S256x256, .bf16⟩
  | .local _ .vmem, ⟨11, _⟩ => ⟨S256x256, .bf16⟩
  | .local _ .vmem, ⟨12, _⟩ => ⟨S256x256, .f32⟩
  | .local _ .vmem, ⟨13, _⟩ => ⟨S256x256, .f32⟩
  | .local _ .vmem, ⟨14, _⟩ => ⟨S1x256x4, .f32⟩
  | .local _ .vmem, ⟨15, _⟩ => ⟨S1x256x4, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S1x64x4096, .f32⟩
  | .local _ .vmem, ⟨21, _⟩ => ⟨S1x64x4096, .f32⟩
  | .local _ .vmem, ⟨22, _⟩ => ⟨S1x64x4096, .f32⟩
  | .local _ .vmem, ⟨23, _⟩ => ⟨S1x64x4096, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52_0 : Ref sig .tc := ⟨.hbm, 63, rfl⟩
abbrev main_v52_1 : Ref sig .tc := ⟨.hbm, 64, rfl⟩
abbrev main_v52_2 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnRefIdeal.lean ====
abbrev S4096x8x64 : Shape := ⟨3, ![4096, 8, 64]⟩
abbrev S4096x2x64 : Shape := ⟨3, ![4096, 2, 64]⟩
abbrev S4096x1280 : Shape := ⟨2, ![4096, 1280]⟩
abbrev S4096x512 : Shape := ⟨2, ![4096, 512]⟩
abbrev S4096x128 : Shape := ⟨2, ![4096, 128]⟩
abbrev S4096x2x4x64 : Shape := ⟨4, ![4096, 2, 4, 64]⟩
abbrev S2x4x4096x64 : Shape := ⟨4, ![2, 4, 4096, 64]⟩
abbrev S2x4096x64 : Shape := ⟨3, ![2, 4096, 64]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4096 : Shape := ⟨3, ![2, 64, 4096]⟩

abbrev nBuf : Space → Nat
  | .hbm => 97
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x1280, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S4096x128, .f32⟩
  | .hbm, ⟨7, _⟩ => ⟨S4096x512, .f32⟩
  | .hbm, ⟨8, _⟩ => ⟨S4096x2x64, .f32⟩
  | .hbm, ⟨9, _⟩ => ⟨S4096x2x4x64, .f32⟩
  | .hbm, ⟨10, _⟩ => ⟨S2x4x4096x64, .f32⟩
  | .hbm, ⟨11, _⟩ => ⟨S2x4096x64, .f32⟩
  | .hbm, ⟨12, _⟩ => ⟨S2x4096x64, .f32⟩
  | .hbm, ⟨13, _⟩ => ⟨S2x4x4096x4096, .f32⟩
  | .hbm, ⟨14, _⟩ => ⟨S_, .f32⟩
  | .hbm, ⟨15, _⟩ => ⟨S2x4x4096x4096, .f32⟩
  | .hbm, ⟨16, _⟩ => ⟨S2x4x4096x4096, .f32⟩
  | .hbm, ⟨17, _⟩ => ⟨S_, .f32⟩
  | .hbm, ⟨18, _⟩ => ⟨S2x4x4096, .f32⟩
  | .hbm, ⟨19, _⟩ => ⟨S2x4x4096x1, .f32⟩
  | .hbm, ⟨20, _⟩ => ⟨S2x4x4096x4096, .f32⟩
  | .hbm, ⟨21, _⟩ => ⟨S2x4x4096x4096, .i1⟩
  | .hbm, ⟨22, _⟩ => ⟨S2x4x4096x4096, .f32⟩
  | .hbm, ⟨23, _⟩ => ⟨S_, .f32⟩
  | .hbm, ⟨24, _⟩ => ⟨S2x4x4096, .f32⟩
  | .hbm, ⟨25, _⟩ => ⟨S_, .f32⟩
  | .hbm, ⟨26, _⟩ => ⟨S2x4x4096, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S2x4x4096, .i1⟩
  | .hbm, ⟨31, _⟩ => ⟨S_, .f32⟩
  | .hbm, ⟨32, _⟩ => ⟨S2x4x4096, .f32⟩
  | .hbm, ⟨33, _⟩ => ⟨S2x4x4096, .i1⟩
  | .hbm, ⟨34, _⟩ => ⟨S_, .f32⟩
  | .hbm, ⟨35, _⟩ => ⟨S2x4x4096, .f32⟩
  | .hbm, ⟨36, _⟩ => ⟨S_, .f32⟩
  | .hbm, ⟨37, _⟩ => ⟨S2x4x4096, .f32⟩
  | .hbm, ⟨38, _⟩ => ⟨S_, .f32⟩
  | .hbm, ⟨39, _⟩ => ⟨S2x4x4096, .f32⟩
  | .hbm, ⟨40, _⟩ => ⟨S2x4x4096, .f32⟩
  | .hbm, ⟨41, _⟩ => ⟨S2x4x4096, .f32⟩
  | .hbm, ⟨42, _⟩ => ⟨S2x4x4096x1, .f32⟩
  | .hbm, ⟨43, _⟩ => ⟨S2x4x4096x4096, .f32⟩
  | .hbm, ⟨44, _⟩ => ⟨S2x4x4096x4096, .f32⟩
  | .hbm, ⟨45, _⟩ => ⟨S2x4x4096x4096, .f32⟩
  | .hbm, ⟨46, _⟩ => ⟨S_, .f32⟩
  | .hbm, ⟨47, _⟩ => ⟨S2x4x4096, .f32⟩
  | .hbm, ⟨48, _⟩ => ⟨S2x4x4096x1, .f32⟩
  | .hbm, ⟨49, _⟩ => ⟨S2x4x4096x4096, .f32⟩
  | .hbm, ⟨50, _⟩ => ⟨S2x4x4096x4096, .f32⟩
  | .hbm, ⟨51, _⟩ => ⟨S2x4x4096x1, .f32⟩
  | .hbm, ⟨52, _⟩ => ⟨S_, .f32⟩
  | .hbm, ⟨53, _⟩ => ⟨S2x4x4096x1, .f32⟩
  | .hbm, ⟨54, _⟩ => ⟨S2x4x4096x1, .f32⟩
  | .hbm, ⟨55, _⟩ => ⟨S2x4x4096x64, .f32⟩
  | .hbm, ⟨56, _⟩ => ⟨S4096x2x4x64, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | .hbm, ⟨63, _⟩ => ⟨S_, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x2x4x64, .f32⟩
  | .hbm, ⟨70, _⟩ => ⟨S2x4x4096x64, .f32⟩
  | .hbm, ⟨71, _⟩ => ⟨S2x64x4096, .f32⟩
  | .hbm, ⟨72, _⟩ => ⟨S2x4096x64, .f32⟩
  | .hbm, ⟨73, _⟩ => ⟨S2x4x4096x4096, .f32⟩
  | .hbm, ⟨74, _⟩ => ⟨S2x4x4096x4096, .f32⟩
  | .hbm, ⟨75, _⟩ => ⟨S2x4x4096x4096, .f32⟩
  | .hbm, ⟨76, _⟩ => ⟨S2x4x4096x4096, .f32⟩
  | .hbm, ⟨77, _⟩ => ⟨S_, .f32⟩
  | .hbm, ⟨78, _⟩ => ⟨S2x4x4096, .f32⟩
  | .hbm, ⟨79, _⟩ => ⟨S2x4x4096x1, .f32⟩
  | .hbm, ⟨80, _⟩ => ⟨S2x4x4096x1, .f32⟩
  | .hbm, ⟨81, _⟩ => ⟨S2x4x4096x4096, .f32⟩
  | .hbm, ⟨82, _⟩ => ⟨S2x4x4096x4096, .f32⟩
  | .hbm, ⟨83, _⟩ => ⟨S_, .f32⟩
  | .hbm, ⟨84, _⟩ => ⟨S2x4x4096, .f32⟩
  | .hbm, ⟨85, _⟩ => ⟨S2x4x4096x4096, .f32⟩
  | .hbm, ⟨86, _⟩ => ⟨S2x4x4096x4096, .f32⟩
  | .hbm, ⟨87, _⟩ => ⟨S2x4x4096x4096, .f32⟩
  | .hbm, ⟨88, _⟩ => ⟨S_, .f32⟩
  | .hbm, ⟨89, _⟩ => ⟨S2x4x4096x4096, .f32⟩
  | .hbm, ⟨90, _⟩ => ⟨S2x4x4096x4096, .f32⟩
  | .hbm, ⟨91, _⟩ => ⟨S2x4096x64, .f32⟩
  | .hbm, ⟨92, _⟩ => ⟨S2x4x4096x64, .f32⟩
  | .hbm, ⟨93, _⟩ => ⟨S4096x2x64, .f32⟩
  | .hbm, ⟨94, _⟩ => ⟨S4096x2x64, .f32⟩
  | .hbm, ⟨95, _⟩ => ⟨S4096x2x4x64, .f32⟩
  | .hbm, ⟨96, _⟩ => ⟨S4096x8x64, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== AttnFwd.lean ====
abbrev S4096x8x64 : Shape := ⟨3, ![4096, 8, 64]⟩
abbrev S4096x2x64 : Shape := ⟨3, ![4096, 2, 64]⟩
abbrev S4096x1280 : Shape := ⟨2, ![4096, 1280]⟩
abbrev S4096x512 : Shape := ⟨2, ![4096, 512]⟩
abbrev S_ : Shape := ⟨0, ![]⟩
abbrev S4096x128 : Shape := ⟨2, ![4096, 128]⟩
abbrev S4096x64 : Shape := ⟨2, ![4096, 64]⟩
abbrev S1x4096x64 : Shape := ⟨3, ![1, 4096, 64]⟩
abbrev S2x4096x64 : Shape := ⟨3, ![2, 4096, 64]⟩
abbrev S512x4096 : Shape := ⟨2, ![512, 4096]⟩
abbrev S128x4096 : Shape := ⟨2, ![128, 4096]⟩
abbrev S2x4096x4 : Shape := ⟨3, ![2, 4096, 4]⟩
abbrev S512x512 : Shape := ⟨2, ![512, 512]⟩
abbrev S512x1280 : Shape := ⟨2, ![512, 1280]⟩
abbrev S2x512x4 : Shape := ⟨3, ![2, 512, 4]⟩
abbrev S1x2048x64 : Shape := ⟨3, ![1, 2048, 64]⟩
abbrev S2048x64 : Shape := ⟨2, ![2048, 64]⟩
abbrev S64x512 : Shape := ⟨2, ![64, 512]⟩
abbrev S2048x512 : Shape := ⟨2, ![2048, 512]⟩
abbrev S512 : Shape := ⟨1, ![512]⟩
abbrev S1x512 : Shape := ⟨2, ![1, 512]⟩
abbrev S64x2048 : Shape := ⟨2, ![64, 2048]⟩
abbrev S128x512 : Shape := ⟨2, ![128, 512]⟩
abbrev S512x128 : Shape := ⟨2, ![512, 128]⟩
abbrev S8x512 : Shape := ⟨2, ![8, 512]⟩
abbrev S512x8 : Shape := ⟨2, ![512, 8]⟩
abbrev S512x4 : Shape := ⟨2, ![512, 4]⟩
abbrev S1x512x4 : Shape := ⟨3, ![1, 512, 4]⟩

abbrev nBuf : Space → Nat
  | .hbm => 23
  | .vmem => 12
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x1280, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x64, .f32⟩
  | .hbm, ⟨9, _⟩ => ⟨S4096x64, .f32⟩
  | .hbm, ⟨10, _⟩ => ⟨S1x4096x64, .f32⟩
  | .hbm, ⟨11, _⟩ => ⟨S1x4096x64, .f32⟩
  | .hbm, ⟨12, _⟩ => ⟨S2x4096x64, .f32⟩
  | .hbm, ⟨13, _⟩ => ⟨S2x4096x64, .bf16⟩
  | .hbm, ⟨14, _⟩ => ⟨S512x4096, .f32⟩
  | .hbm, ⟨15, _⟩ => ⟨S512x4096, .bf16⟩
  | .hbm, ⟨16, _⟩ => ⟨S4096x128, .f32⟩
  | .hbm, ⟨17, _⟩ => ⟨S128x4096, .f32⟩
  | .hbm, ⟨18, _⟩ => ⟨S128x4096, .bf16⟩
  | .hbm, ⟨19, _⟩ => ⟨S4096x1280, .bf16⟩
  | .hbm, ⟨20, _⟩ => ⟨S4096x512, .f32⟩
  | .hbm, ⟨21, _⟩ => ⟨S2x4096x4, .f32⟩
  | .hbm, ⟨22, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S2x4096x64, .bf16⟩
  | .local _ .vmem, ⟨3, _⟩ => ⟨S128x4096, .bf16⟩
  | .local _ .vmem, ⟨4, _⟩ => ⟨S512x1280, .bf16⟩
  | .local _ .vmem, ⟨5, _⟩ => ⟨S512x1280, .bf16⟩
  | .local _ .vmem, ⟨6, _⟩ => ⟨S512x512, .f32⟩
  | .local _ .vmem, ⟨7, _⟩ => ⟨S512x512, .f32⟩
  | .local _ .vmem, ⟨8, _⟩ => ⟨S2x512x4, .f32⟩
  | .local _ .vmem, ⟨9, _⟩ => ⟨S2x512x4, .f32⟩
  | .local _ .vmem, ⟨10, _⟩ => ⟨S512x512, .bf16⟩
  | .local _ .vmem, ⟨11, _⟩ => ⟨S512x512, .bf16⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16_0 : Ref sig .tc := ⟨.hbm, 20, rfl⟩
abbrev main_v16_1 : Ref sig .tc := ⟨.hbm, 21, rfl⟩
abbrev main_v16_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdRefIdeal.lean ====
abbrev S4096x8x64 : Shape := ⟨3, ![4096, 8, 64]⟩
abbrev S4096x2x64 : Shape := ⟨3, ![4096, 2, 64]⟩
abbrev S4096x1280 : Shape := ⟨2, ![4096, 1280]⟩
abbrev S4096x512 : Shape := ⟨2, ![4096, 512]⟩
abbrev S4096x128 : Shape := ⟨2, ![4096, 128]⟩
abbrev S4096x2x4x64 : Shape := ⟨4, ![4096, 2, 4, 64]⟩
abbrev S2x4x4096x64 : Shape := ⟨4, ![2, 4, 4096, 64]⟩
abbrev S2x4096x64 : Shape := ⟨3, ![2, 4096, 64]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4096x4 : Shape := ⟨3, ![2, 4096, 4]⟩

abbrev nBuf : Space → Nat
  | .hbm => 57
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x2x64, .f32⟩
  | .hbm, ⟨2, _⟩ => ⟨S4096x1280, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x512, .f32⟩
  | .hbm, ⟨7, _⟩ => ⟨S4096x2x64, .f32⟩
  | .hbm, ⟨8, _⟩ => ⟨S4096x2x4x64, .f32⟩
  | .hbm, ⟨9, _⟩ => ⟨S2x4x4096x64, .f32⟩
  | .hbm, ⟨10, _⟩ => ⟨S2x4096x64, .f32⟩
  | .hbm, ⟨11, _⟩ => ⟨S2x4096x64, .f32⟩
  | .hbm, ⟨12, _⟩ => ⟨S2x4x4096x4096, .f32⟩
  | .hbm, ⟨13, _⟩ => ⟨S_, .f32⟩
  | .hbm, ⟨14, _⟩ => ⟨S2x4x4096x4096, .f32⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S_, .f32⟩
  | .hbm, ⟨19, _⟩ => ⟨S2x4x4096, .f32⟩
  | .hbm, ⟨20, _⟩ => ⟨S2x4x4096, .f32⟩
  | .hbm, ⟨21, _⟩ => ⟨S2x4x4096x1, .f32⟩
  | .hbm, ⟨22, _⟩ => ⟨S2x4x4096x4096, .f32⟩
  | .hbm, ⟨23, _⟩ => ⟨S2x4x4096x4096, .f32⟩
  | .hbm, ⟨24, _⟩ => ⟨S2x4x4096x4096, .f32⟩
  | .hbm, ⟨25, _⟩ => ⟨S_, .f32⟩
  | .hbm, ⟨26, _⟩ => ⟨S2x4x4096, .f32⟩
  | .hbm, ⟨27, _⟩ => ⟨S2x4x4096x1, .f32⟩
  | .hbm, ⟨28, _⟩ => ⟨S2x4x4096x4096, .f32⟩
  | .hbm, ⟨29, _⟩ => ⟨S2x4x4096x4096, .f32⟩
  | .hbm, ⟨30, _⟩ => ⟨S2x4x4096x64, .f32⟩
  | .hbm, ⟨31, _⟩ => ⟨S4096x2x4x64, .f32⟩
  | .hbm, ⟨32, _⟩ => ⟨S4096x512, .f32⟩
  | .hbm, ⟨33, _⟩ => ⟨S_, .f32⟩
  | .hbm, ⟨34, _⟩ => ⟨S2x4x4096, .f32⟩
  | .hbm, ⟨35, _⟩ => ⟨S2x4x4096x1, .f32⟩
  | .hbm, ⟨36, _⟩ => ⟨S2x4x4096x4096, .f32⟩
  | .hbm, ⟨37, _⟩ => ⟨S2x4x4096x4096, .f32⟩
  | .hbm, ⟨38, _⟩ => ⟨S2x4x4096x4096, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S2x4x4096x1, .f32⟩
  | .hbm, ⟨43, _⟩ => ⟨S2x4x4096x1, .f32⟩
  | .hbm, ⟨44, _⟩ => ⟨S2x4x4096, .f32⟩
  | .hbm, ⟨45, _⟩ => ⟨S2x4096x4, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .bf16⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Prep.lean ====
abbrev S4096x1280 : Shape := ⟨2, ![4096, 1280]⟩
abbrev S64 : Shape := ⟨1, ![64]⟩
abbrev S4096x8x64 : Shape := ⟨3, ![4096, 8, 64]⟩
abbrev S4096x2x64 : Shape := ⟨3, ![4096, 2, 64]⟩
abbrev S4096x512 : Shape := ⟨2, ![4096, 512]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x8 : Shape := ⟨2, ![4096, 8]⟩
abbrev S4096x8x1 : Shape := ⟨3, ![4096, 8, 1]⟩
abbrev S1x1x64 : Shape := ⟨3, ![1, 1, 64]⟩
abbrev S4096x8x16 : Shape := ⟨3, ![4096, 8, 16]⟩
abbrev S4096x2 : Shape := ⟨2, ![4096, 2]⟩
abbrev S4096x2x1 : Shape := ⟨3, ![4096, 2, 1]⟩
abbrev S4096x2x4x64 : Shape := ⟨4, ![4096, 2, 4, 64]⟩
abbrev S2x4x4096x64 : Shape := ⟨4, ![2, 4, 4096, 64]⟩
abbrev S2x4096x64 : Shape := ⟨3, ![2, 4096, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S128x4096 : Shape := ⟨2, ![128, 4096]⟩
abbrev S512x1280 : Shape := ⟨2, ![512, 1280]⟩
abbrev S512x128 : Shape := ⟨2, ![512, 128]⟩
abbrev S512x512 : Shape := ⟨2, ![512, 512]⟩
abbrev S128x512 : Shape := ⟨2, ![128, 512]⟩
abbrev S512 : Shape := ⟨1, ![512]⟩
abbrev S512x1 : Shape := ⟨2, ![512, 1]⟩
abbrev S128 : Shape := ⟨1, ![128]⟩

abbrev nBuf : Space → Nat
  | .hbm => 287
  | .vmem => 22
  | .smem => 0
  | _ => 0

abbrev hbmTy0_0 (i : Nat) : BufTy := match i % 128 with
  | 0 => ⟨S4096x1280, .f32⟩
  | 1 => ⟨S64, .f32⟩
  | 2 => ⟨S64, .f32⟩
  | 3 => ⟨S4096x8x64, .f32⟩
  | 4 => ⟨S4096x2x64, .f32⟩
  | 5 => ⟨S4096x2x64, .f32⟩
  | 6 => ⟨S4096x512, .f32⟩
  | 7 => ⟨S64, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x1x16, .f32⟩
  | 33 => ⟨S4096x1x16, .f32⟩
  | 34 => ⟨S4096x2x16, .f32⟩
  | 35 => ⟨S4096x2x16, .f32⟩
  | 36 => ⟨S4096x2x16, .f32⟩
  | 37 => ⟨S4096x1x16, .f32⟩
  | 38 => ⟨S4096x16, .f32⟩
  | 39 => ⟨S4096x1x16, .f32⟩
  | 40 => ⟨S4096x16, .f32⟩
  | 41 => ⟨S4096x1x16, .f32⟩
  | 42 => ⟨S4096x16, .f32⟩
  | 43 => ⟨S4096x1x16, .f32⟩
  | 44 => ⟨S4096x16, .f32⟩
  | 45 => ⟨S4096x64, .f32⟩
  | 46 => ⟨S4096x1x16, .f32⟩
  | 47 => ⟨S4096x16, .f32⟩
  | 48 => ⟨S4096x16, .f32⟩
  | 49 => ⟨S4096x1x16, .f32⟩
  | 50 => ⟨S4096x16, .f32⟩
  | 51 => ⟨S4096x1x16, .f32⟩
  | 52 => ⟨S4096x16, .f32⟩
  | 53 => ⟨S4096x16, .f32⟩
  | 54 => ⟨S4096x1x16, .f32⟩
  | 55 => ⟨S4096x16, .f32⟩
  | 56 => ⟨S4096x64, .f32⟩
  | 57 => ⟨S1x4096x1x64, .f32⟩
  | 58 => ⟨S1x4096x2x64, .f32⟩
  | 59 => ⟨S4096x128, .f32⟩
  | 60 => ⟨S1x4096x1x64, .f32⟩
  | 61 => ⟨S1x4096x2x64, .f32⟩
  | 62 => ⟨S4096x128, .f32⟩
  | 63 => ⟨S1x64, .f32⟩
  | 64 => ⟨S1x1x1x64, .f32⟩
  | 65 => ⟨S1x1x2x64, .f32⟩
  | 66 => ⟨S1x128, .f32⟩
  | 67 => ⟨S1x64, .f32⟩
  | 68 => ⟨S1x1x1x64, .f32⟩
  | 69 => ⟨S1x1x2x64, .f32⟩
  | 70 => ⟨S1x128, .f32⟩
  | 71 => ⟨S4096x512, .f32⟩
  | 72 => ⟨S4096x8x64, .f32⟩
  | 73 => ⟨S4096x8x64, .f32⟩
  | 74 => ⟨S_, .f32⟩
  | 75 => ⟨S4096x8, .f32⟩
  | 76 => ⟨S4096x8x1, .f32⟩
  | 77 => ⟨S_, .f32⟩
  | 78 => ⟨S4096x8x1, .f32⟩
  | 79 => ⟨S4096x8x1, .f32⟩
  | 80 => ⟨S_, .f32⟩
  | 81 => ⟨S4096x8x1, .f32⟩
  | 82 => ⟨S4096x8x1, .f32⟩
  | 83 => ⟨S4096x8x1, .f32⟩
  | 84 => ⟨S4096x8x64, .f32⟩
  | 85 => ⟨S4096x8x64, .f32⟩
  | 86 => ⟨S1x1x64, .f32⟩
  | 87 => ⟨S4096x8x64, .f32⟩
  | 88 => ⟨S4096x8x64, .f32⟩
  | 89 => ⟨S64, .f32⟩
  | 90 => ⟨S64x64, .f32⟩
  | 91 => ⟨S4096, .f32⟩
  | 92 => ⟨S64, .f32⟩
  | 93 => ⟨S1x64, .f32⟩
  | 94 => ⟨S64x64, .f32⟩
  | 95 => ⟨S4096, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S4096x1, .f32⟩
  | 105 => ⟨S1x16, .f32⟩
  | 106 => ⟨S4096x16, .f32⟩
  | 107 => ⟨S4096x16, .f32⟩
  | 108 => ⟨S4096x16, .f32⟩
  | 109 => ⟨S4096x1, .f32⟩
  | 110 => ⟨S1x16, .f32⟩
  | 111 => ⟨S4096x16, .f32⟩
  | 112 => ⟨S4096x16, .f32⟩
  | 113 => ⟨S4096x16, .f32⟩
  | 114 => ⟨S4096x1x16, .f32⟩
  | 115 => ⟨S4096x1x16, .f32⟩
  | 116 => ⟨S4096x2x16, .f32⟩
  | 117 => ⟨S4096x2x16, .f32⟩
  | 118 => ⟨S4096x2x16, .f32⟩
  | 119 => ⟨S4096x8x16, .f32⟩
  | 120 => ⟨S4096x8x16, .f32⟩
  | 121 => ⟨S4096x1x16, .f32⟩
  | 122 => ⟨S4096x16, .f32⟩
  | 123 => ⟨S4096x1x16, .f32⟩
  | 124 => ⟨S4096x1x16, .f32⟩
  | 125 => ⟨S4096x16, .f32⟩
  | 126 => ⟨S4096x1x16, .f32⟩
  | 127 => ⟨S4096x8x16, .f32⟩
  | _ => ⟨S4096x1280, .f32⟩

abbrev hbmTy0_1 (i : Nat) : BufTy := match i % 128 with
  | 0 => ⟨S4096x8x16, .f32⟩
  | 1 => ⟨S4096x8x16, .f32⟩
  | 2 => ⟨S4096x8x16, .f32⟩
  | 3 => ⟨S4096x8x16, .f32⟩
  | 4 => ⟨S4096x8x16, .f32⟩
  | 5 => ⟨S4096x8x16, .f32⟩
  | 6 => ⟨S4096x8x16, .f32⟩
  | 7 => ⟨S4096x8x16, .f32⟩
  | 8 => ⟨S4096x8x16, .f32⟩
  | 9 => ⟨S4096x8x16, .f32⟩
  | 10 => ⟨S4096x8x16, .f32⟩
  | 11 => ⟨S4096x1x16, .f32⟩
  | 12 => ⟨S4096x16, .f32⟩
  | 13 => ⟨S4096x1x16, .f32⟩
  | 14 => ⟨S4096x1x16, .f32⟩
  | 15 => ⟨S4096x16, .f32⟩
  | 16 => ⟨S4096x1x16, .f32⟩
  | 17 => ⟨S4096x8x16, .f32⟩
  | 18 => ⟨S4096x8x16, .f32⟩
  | 19 => ⟨S4096x8x16, .f32⟩
  | 20 => ⟨S4096x8x16, .f32⟩
  | 21 => ⟨S4096x8x16, .f32⟩
  | 22 => ⟨S4096x8x16, .f32⟩
  | 23 => ⟨S4096x8x16, .f32⟩
  | 24 => ⟨S4096x8x16, .f32⟩
  | 25 => ⟨S4096x8x16, .f32⟩
  | 26 => ⟨S4096x8x16, .f32⟩
  | 27 => ⟨S4096x8x64, .f32⟩
  | 28 => ⟨S4096x128, .f32⟩
  | 29 => ⟨S4096x2x64, .f32⟩
  | 30 => ⟨S4096x2x64, .f32⟩
  | 31 => ⟨S_, .f32⟩
  | 32 => ⟨S4096x2, .f32⟩
  | 33 => ⟨S4096x2x1, .f32⟩
  | 34 => ⟨S_, .f32⟩
  | 35 => ⟨S4096x2x1, .f32⟩
  | 36 => ⟨S4096x2x1, .f32⟩
  | 37 => ⟨S_, .f32⟩
  | 38 => ⟨S4096x2x1, .f32⟩
  | 39 => ⟨S4096x2x1, .f32⟩
  | 40 => ⟨S4096x2x1, .f32⟩
  | 41 => ⟨S4096x2x64, .f32⟩
  | 42 => ⟨S4096x2x64, .f32⟩
  | 43 => ⟨S1x1x64, .f32⟩
  | 44 => ⟨S4096x2x64, .f32⟩
  | 45 => ⟨S4096x2x64, .f32⟩
  | 46 => ⟨S64, .f32⟩
  | 47 => ⟨S64x64, .f32⟩
  | 48 => ⟨S4096, .f32⟩
  | 49 => ⟨S64, .f32⟩
  | 50 => ⟨S1x64, .f32⟩
  | 51 => ⟨S64x64, .f32⟩
  | 52 => ⟨S4096, .f32⟩
  | 53 => ⟨S16, .f32⟩
  | 54 => ⟨S16, .f32⟩
  | 55 => ⟨S_, .f32⟩
  | 56 => ⟨S16, .f32⟩
  | 57 => ⟨S16, .f32⟩
  | 58 => ⟨S_, .f32⟩
  | 59 => ⟨S16, .f32⟩
  | 60 => ⟨S16, .f32⟩
  | 61 => ⟨S4096x1, .f32⟩
  | 62 => ⟨S1x16, .f32⟩
  | 63 => ⟨S4096x16, .f32⟩
  | 64 => ⟨S4096x16, .f32⟩
  | 65 => ⟨S4096x16, .f32⟩
  | 66 => ⟨S4096x1, .f32⟩
  | 67 => ⟨S1x16, .f32⟩
  | 68 => ⟨S4096x16, .f32⟩
  | 69 => ⟨S4096x16, .f32⟩
  | 70 => ⟨S4096x16, .f32⟩
  | 71 => ⟨S4096x1x16, .f32⟩
  | 72 => ⟨S4096x1x16, .f32⟩
  | 73 => ⟨S4096x2x16, .f32⟩
  | 74 => ⟨S4096x2x16, .f32⟩
  | 75 => ⟨S4096x2x16, .f32⟩
  | 76 => ⟨S4096x2x16, .f32⟩
  | 77 => ⟨S4096x2x16, .f32⟩
  | 78 => ⟨S4096x1x16, .f32⟩
  | 79 => ⟨S4096x16, .f32⟩
  | 80 => ⟨S4096x1x16, .f32⟩
  | 81 => ⟨S4096x1x16, .f32⟩
  | 82 => ⟨S4096x16, .f32⟩
  | 83 => ⟨S4096x1x16, .f32⟩
  | 84 => ⟨S4096x2x16, .f32⟩
  | 85 => ⟨S4096x2x16, .f32⟩
  | 86 => ⟨S4096x2x16, .f32⟩
  | 87 => ⟨S4096x2x16, .f32⟩
  | 88 => ⟨S4096x2x16, .f32⟩
  | 89 => ⟨S4096x2x16, .f32⟩
  | 90 => ⟨S4096x2x16, .f32⟩
  | 91 => ⟨S4096x2x16, .f32⟩
  | 92 => ⟨S4096x2x16, .f32⟩
  | 93 => ⟨S4096x2x16, .f32⟩
  | 94 => ⟨S4096x2x16, .f32⟩
  | 95 => ⟨S4096x2x16, .f32⟩
  | 96 => ⟨S4096x1x16, .f32⟩
  | 97 => ⟨S4096x16, .f32⟩
  | 98 => ⟨S4096x1x16, .f32⟩
  | 99 => ⟨S4096x1x16, .f32⟩
  | 100 => ⟨S4096x16, .f32⟩
  | 101 => ⟨S4096x1x16, .f32⟩
  | 102 => ⟨S4096x2x16, .f32⟩
  | 103 => ⟨S4096x2x16, .f32⟩
  | 104 => ⟨S4096x2x16, .f32⟩
  | 105 => ⟨S4096x2x16, .f32⟩
  | 106 => ⟨S4096x2x16, .f32⟩
  | 107 => ⟨S4096x2x16, .f32⟩
  | 108 => ⟨S4096x2x16, .f32⟩
  | 109 => ⟨S4096x2x16, .f32⟩
  | 110 => ⟨S4096x2x16, .f32⟩
  | 111 => ⟨S4096x2x16, .f32⟩
  | 112 => ⟨S4096x2x64, .f32⟩
  | 113 => ⟨S4096x128, .f32⟩
  | 114 => ⟨S4096x2x64, .f32⟩
  | 115 => ⟨S4096x2x4x64, .f32⟩
  | 116 => ⟨S2x4x4096x64, .f32⟩
  | 117 => ⟨S2x4096x64, .f32⟩
  | 118 => ⟨S2x4096x64, .f32⟩
  | 119 => ⟨S2x4x4096x4096, .f32⟩
  | 120 => ⟨S_, .f32⟩
  | 121 => ⟨S2x4x4096x4096, .f32⟩
  | 122 => ⟨S2x4x4096x4096, .f32⟩
  | 123 => ⟨S_, .f32⟩
  | 124 => ⟨S2x4x4096, .f32⟩
  | 125 => ⟨S_, .f32⟩
  | 126 => ⟨S2x4x4096, .f32⟩
  | 127 => ⟨S2x4x4096, .f32⟩
  | _ => ⟨S4096x1280, .f32⟩

abbrev hbmTy0_2 (i : Nat) : BufTy := match i % 128 with
  | 0 => ⟨S2x4x4096x1, .f32⟩
  | 1 => ⟨S2x4x4096x4096, .f32⟩
  | 2 => ⟨S2x4x4096x4096, .f32⟩
  | 3 => ⟨S2x4x4096x4096, .f32⟩
  | 4 => ⟨S_, .f32⟩
  | 5 => ⟨S2x4x4096, .f32⟩
  | 6 => ⟨S2x4x4096x1, .f32⟩
  | 7 => ⟨S2x4x4096x4096, .f32⟩
  | 8 => ⟨S2x4x4096x4096, .f32⟩
  | 9 => ⟨S2x4x4096x64, .f32⟩
  | 10 => ⟨S4096x2x4x64, .f32⟩
  | 11 => ⟨S4096x512, .f32⟩
  | 12 => ⟨S4096x1280, .bf16⟩
  | 13 => ⟨S4096x512, .f32⟩
  | 14 => ⟨S4096x128, .f32⟩
  | 15 => ⟨S128x4096, .f32⟩
  | 16 => ⟨S4096x128, .f32⟩
  | 17 => ⟨S128x4096, .f32⟩
  | 18 => ⟨S4096x1280, .bf16⟩
  | 19 => ⟨S1x128, .f32⟩
  | 20 => ⟨S1x128, .f32⟩
  | 21 => ⟨S1x64, .f32⟩
  | 22 => ⟨S64, .f32⟩
  | 23 => ⟨S1x64, .f32⟩
  | 24 => ⟨S64, .f32⟩
  | 25 => ⟨S64, .f32⟩
  | 26 => ⟨S1x64, .f32⟩
  | 27 => ⟨S64, .f32⟩
  | 28 => ⟨S1x64, .f32⟩
  | 29 => ⟨S64, .f32⟩
  | 30 => ⟨S64, .f32⟩
  | _ => ⟨S4096x1280, .f32⟩

abbrev hbmTy (i : Nat) : BufTy := match i / 128 with
  | 0 => hbmTy0_0 i
  | 1 => hbmTy0_1 i
  | 2 => hbmTy0_2 i
  | _ => ⟨S4096x1280, .f32⟩

abbrev bufTy : (tb : Table) → Fin (tcTables nBuf tb) → BufTy
  | .hbm, ⟨i, _⟩ => hbmTy i
  | .local _ .vmem, ⟨0, _⟩ => ⟨S512x1280, .bf16⟩
  | .local _ .vmem, ⟨1, _⟩ => ⟨S512x1280, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1280, .bf16⟩
  | .local _ .vmem, ⟨19, _⟩ => ⟨S512x1280, .bf16⟩
  | .local _ .vmem, ⟨20, _⟩ => ⟨S1x128, .f32⟩
  | .local _ .vmem, ⟨21, _⟩ => ⟨S1x128, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_1 : Ref sig .tc := ⟨.hbm, 74, rfl⟩
abbrev main_v65 : Ref sig .tc := ⟨.hbm, 75, rfl⟩
abbrev main_v66 : Ref sig .tc := ⟨.hbm, 76, rfl⟩
abbrev main_cst_2 : Ref sig .tc := ⟨.hbm, 77, rfl⟩
abbrev main_v67 : Ref sig .tc := ⟨.hbm, 78, rfl⟩
abbrev main_v68 : Ref sig .tc := ⟨.hbm, 79, rfl⟩
abbrev main_cst_3 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_4 : Ref sig .tc := ⟨.hbm, 98, rfl⟩
abbrev main_v86 : Ref sig .tc := ⟨.hbm, 99, rfl⟩
abbrev main_v87 : Ref sig .tc := ⟨.hbm, 100, rfl⟩
abbrev main_cst_5 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_cst_6 : Ref sig .tc := ⟨.hbm, 159, rfl⟩
abbrev main_v145 : Ref sig .tc := ⟨.hbm, 160, rfl⟩
abbrev main_v146 : Ref sig .tc := ⟨.hbm, 161, rfl⟩
abbrev main_cst_7 : Ref sig .tc := ⟨.hbm, 162, rfl⟩
abbrev main_v147 : Ref sig .tc := ⟨.hbm, 163, rfl⟩
abbrev main_v148 : Ref sig .tc := ⟨.hbm, 164, rfl⟩
abbrev main_cst_8 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_cst_9 : Ref sig .tc := ⟨.hbm, 183, rfl⟩
abbrev main_v166 : Ref sig .tc := ⟨.hbm, 184, rfl⟩
abbrev main_v167 : Ref sig .tc := ⟨.hbm, 185, rfl⟩
abbrev main_cst_10 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_cst_11 : Ref sig .tc := ⟨.hbm, 248, rfl⟩
abbrev main_v229 : Ref sig .tc := ⟨.hbm, 249, rfl⟩
abbrev main_v230 : Ref sig .tc := ⟨.hbm, 250, rfl⟩
abbrev main_cst_12 : Ref sig .tc := ⟨.hbm, 251, rfl⟩
abbrev main_v231 : Ref sig .tc := ⟨.hbm, 252, rfl⟩
abbrev main_cst_13 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_cst_14 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_v245 : Ref sig .tc := ⟨.hbm, 268, rfl⟩
abbrev main_v246 : Ref sig .tc := ⟨.hbm, 269, rfl⟩
abbrev main_v247 : Ref sig .tc := ⟨.hbm, 270, rfl⟩
abbrev main_v248 : Ref sig .tc := ⟨.hbm, 271, rfl⟩
abbrev main_v249 : Ref sig .tc := ⟨.hbm, 272, rfl⟩
abbrev main_v250 : Ref sig .tc := ⟨.hbm, 273, rfl⟩
abbrev main_v251_0 : Ref sig .tc := ⟨.hbm, 274, rfl⟩
abbrev main_v251_1 : Ref sig .tc := ⟨.hbm, 275, rfl⟩
abbrev main_v251_2 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PrepRefIdeal.lean ====
abbrev S4096x1280 : Shape := ⟨2, ![4096, 1280]⟩
abbrev S64 : Shape := ⟨1, ![64]⟩
abbrev S4096x8x64 : Shape := ⟨3, ![4096, 8, 64]⟩
abbrev S4096x2x64 : Shape := ⟨3, ![4096, 2, 64]⟩
abbrev S4096x512 : Shape := ⟨2, ![4096, 512]⟩
abbrev S4096x128 : Shape := ⟨2, ![4096, 128]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4096x2x16 : Shape := ⟨3, ![4096, 2, 16]⟩
abbrev S4096x8x2x2x16 : Shape := ⟨5, ![4096, 8, 2, 2, 16]⟩
abbrev S4096x8x2x1x16 : Shape := ⟨5, ![4096, 8, 2, 1, 16]⟩
abbrev S4096x8x2x16 : Shape := ⟨4, ![4096, 8, 2, 16]⟩
abbrev S4096x1x2x16 : Shape := ⟨4, ![4096, 1, 2, 16]⟩
abbrev S4096x2 : Shape := ⟨2, ![4096, 2]⟩
abbrev S4096x2x1 : Shape := ⟨3, ![4096, 2, 1]⟩
abbrev S4096x2x2x2x16 : Shape := ⟨5, ![4096, 2, 2, 2, 16]⟩
abbrev S4096x2x2x1x16 : Shape := ⟨5, ![4096, 2, 2, 1, 16]⟩
abbrev S4096x2x2x16 : Shape := ⟨4, ![4096, 2, 2, 16]⟩
abbrev S4096x2x4x64 : Shape := ⟨4, ![4096, 2, 4, 64]⟩
abbrev S2x4x4096x64 : Shape := ⟨4, ![2, 4, 4096, 64]⟩
abbrev S2x4096x64 : Shape := ⟨3, ![2, 4096, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩

abbrev nBuf : Space → Nat
  | .hbm => 333
  | .vmem => 0
  | .smem => 0
  | _ => 0

abbrev hbmTy0_0 (i : Nat) : BufTy := match i % 128 with
  | 0 => ⟨S4096x1280, .f32⟩
  | 1 => ⟨S64, .f32⟩
  | 2 => ⟨S64, .f32⟩
  | 3 => ⟨S4096x8x64, .f32⟩
  | 4 => ⟨S4096x2x64, .f32⟩
  | 5 => ⟨S4096x2x64, .f32⟩
  | 6 => ⟨S4096x512, .f32⟩
  | 7 => ⟨S4096x512, .f32⟩
  | 8 => ⟨S4096x128, .f32⟩
  | 9 => ⟨S4096x128, .f32⟩
  | 10 => ⟨S4096x512, .f32⟩
  | 11 => ⟨S4096x8x64, .f32⟩
  | 12 => ⟨S4096x8x64, .f32⟩
  | 13 => ⟨S_, .f32⟩
  | 14 => ⟨S4096x8, .f32⟩
  | 15 => ⟨S4096x8x1, .f32⟩
  | 16 => ⟨S_, .f32⟩
  | 17 => ⟨S4096x8x1, .f32⟩
  | 18 => ⟨S4096x8x1, .f32⟩
  | 19 => ⟨S_, .f32⟩
  | 20 => ⟨S4096x8x1, .f32⟩
  | 21 => ⟨S4096x8x1, .f32⟩
  | 22 => ⟨S4096x8x1, .f32⟩
  | 23 => ⟨S4096x8x1, .f32⟩
  | 24 => ⟨S_, .f32⟩
  | 25 => ⟨S4096x8x1, .f32⟩
  | 26 => ⟨S4096x8x1, .f32⟩
  | 27 => ⟨S4096x8x64, .f32⟩
  | 28 => ⟨S4096x8x64, .f32⟩
  | 29 => ⟨S1x1x64, .f32⟩
  | 30 => ⟨S4096x8x64, .f32⟩
  | 31 => ⟨S4096x8x64, .f32⟩
  | 32 => ⟨S64, .f32⟩
  | 33 => ⟨S64x64, .f32⟩
  | 34 => ⟨S4096, .f32⟩
  | 35 => ⟨S64, .f32⟩
  | 36 => ⟨S1x64, .f32⟩
  | 37 => ⟨S64x64, .f32⟩
  | 38 => ⟨S4096, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S4096x1, .f32⟩
  | 48 => ⟨S1x16, .f32⟩
  | 49 => ⟨S4096x16, .f32⟩
  | 50 => ⟨S4096x16, .f32⟩
  | 51 => ⟨S4096x16, .f32⟩
  | 52 => ⟨S4096x1, .f32⟩
  | 53 => ⟨S1x16, .f32⟩
  | 54 => ⟨S4096x16, .f32⟩
  | 55 => ⟨S4096x16, .f32⟩
  | 56 => ⟨S4096x16, .f32⟩
  | 57 => ⟨S4096x1x16, .f32⟩
  | 58 => ⟨S4096x1x16, .f32⟩
  | 59 => ⟨S4096x2x16, .f32⟩
  | 60 => ⟨S4096x2x16, .f32⟩
  | 61 => ⟨S4096x2x16, .f32⟩
  | 62 => ⟨S4096x8x2x2x16, .f32⟩
  | 63 => ⟨S4096x8x2x1x16, .f32⟩
  | 64 => ⟨S4096x8x2x16, .f32⟩
  | 65 => ⟨S4096x8x2x1x16, .f32⟩
  | 66 => ⟨S4096x8x2x16, .f32⟩
  | 67 => ⟨S4096x1x2x16, .f32⟩
  | 68 => ⟨S4096x1x2x16, .f32⟩
  | 69 => ⟨S4096x8x2x16, .f32⟩
  | 70 => ⟨S4096x8x2x16, .f32⟩
  | 71 => ⟨S4096x8x2x16, .f32⟩
  | 72 => ⟨S4096x8x2x16, .f32⟩
  | 73 => ⟨S4096x8x2x16, .f32⟩
  | 74 => ⟨S4096x8x2x16, .f32⟩
  | 75 => ⟨S4096x8x2x16, .f32⟩
  | 76 => ⟨S4096x8x2x16, .f32⟩
  | 77 => ⟨S4096x8x2x16, .f32⟩
  | 78 => ⟨S4096x8x2x16, .f32⟩
  | 79 => ⟨S4096x8x2x1x16, .f32⟩
  | 80 => ⟨S4096x8x2x1x16, .f32⟩
  | 81 => ⟨S4096x8x2x2x16, .f32⟩
  | 82 => ⟨S4096x8x64, .f32⟩
  | 83 => ⟨S4096x2x64, .f32⟩
  | 84 => ⟨S4096x2x64, .f32⟩
  | 85 => ⟨S_, .f32⟩
  | 86 => ⟨S4096x2, .f32⟩
  | 87 => ⟨S4096x2x1, .f32⟩
  | 88 => ⟨S_, .f32⟩
  | 89 => ⟨S4096x2x1, .f32⟩
  | 90 => ⟨S4096x2x1, .f32⟩
  | 91 => ⟨S_, .f32⟩
  | 92 => ⟨S4096x2x1, .f32⟩
  | 93 => ⟨S4096x2x1, .f32⟩
  | 94 => ⟨S4096x2x1, .f32⟩
  | 95 => ⟨S4096x2x1, .f32⟩
  | 96 => ⟨S_, .f32⟩
  | 97 => ⟨S4096x2x1, .f32⟩
  | 98 => ⟨S4096x2x1, .f32⟩
  | 99 => ⟨S4096x2x64, .f32⟩
  | 100 => ⟨S4096x2x64, .f32⟩
  | 101 => ⟨S1x1x64, .f32⟩
  | 102 => ⟨S4096x2x64, .f32⟩
  | 103 => ⟨S4096x2x64, .f32⟩
  | 104 => ⟨S64, .f32⟩
  | 105 => ⟨S64x64, .f32⟩
  | 106 => ⟨S4096, .f32⟩
  | 107 => ⟨S64, .f32⟩
  | 108 => ⟨S1x64, .f32⟩
  | 109 => ⟨S64x64, .f32⟩
  | 110 => ⟨S4096, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S4096x1, .f32⟩
  | 120 => ⟨S1x16, .f32⟩
  | 121 => ⟨S4096x16, .f32⟩
  | 122 => ⟨S4096x16, .f32⟩
  | 123 => ⟨S4096x16, .f32⟩
  | 124 => ⟨S4096x1, .f32⟩
  | 125 => ⟨S1x16, .f32⟩
  | 126 => ⟨S4096x16, .f32⟩
  | 127 => ⟨S4096x16, .f32⟩
  | _ => ⟨S4096x1280, .f32⟩

abbrev hbmTy0_1 (i : Nat) : BufTy := match i % 128 with
  | 0 => ⟨S4096x16, .f32⟩
  | 1 => ⟨S4096x1x16, .f32⟩
  | 2 => ⟨S4096x1x16, .f32⟩
  | 3 => ⟨S4096x2x16, .f32⟩
  | 4 => ⟨S4096x2x16, .f32⟩
  | 5 => ⟨S4096x2x16, .f32⟩
  | 6 => ⟨S4096x2x2x2x16, .f32⟩
  | 7 => ⟨S4096x2x2x1x16, .f32⟩
  | 8 => ⟨S4096x2x2x16, .f32⟩
  | 9 => ⟨S4096x2x2x1x16, .f32⟩
  | 10 => ⟨S4096x2x2x16, .f32⟩
  | 11 => ⟨S4096x1x2x16, .f32⟩
  | 12 => ⟨S4096x1x2x16, .f32⟩
  | 13 => ⟨S4096x2x2x16, .f32⟩
  | 14 => ⟨S4096x2x2x16, .f32⟩
  | 15 => ⟨S4096x2x2x16, .f32⟩
  | 16 => ⟨S4096x2x2x16, .f32⟩
  | 17 => ⟨S4096x2x2x16, .f32⟩
  | 18 => ⟨S4096x2x2x16, .f32⟩
  | 19 => ⟨S4096x2x2x16, .f32⟩
  | 20 => ⟨S4096x2x2x16, .f32⟩
  | 21 => ⟨S4096x2x2x16, .f32⟩
  | 22 => ⟨S4096x2x2x16, .f32⟩
  | 23 => ⟨S4096x2x2x1x16, .f32⟩
  | 24 => ⟨S4096x2x2x1x16, .f32⟩
  | 25 => ⟨S4096x2x2x2x16, .f32⟩
  | 26 => ⟨S4096x2x64, .f32⟩
  | 27 => ⟨S4096x2x64, .f32⟩
  | 28 => ⟨S4096x2x4x64, .f32⟩
  | 29 => ⟨S2x4x4096x64, .f32⟩
  | 30 => ⟨S2x4096x64, .f32⟩
  | 31 => ⟨S2x4096x64, .f32⟩
  | 32 => ⟨S2x4x4096x4096, .f32⟩
  | 33 => ⟨S_, .f32⟩
  | 34 => ⟨S2x4x4096x4096, .f32⟩
  | 35 => ⟨S2x4x4096x4096, .f32⟩
  | 36 => ⟨S_, .f32⟩
  | 37 => ⟨S2x4x4096, .f32⟩
  | 38 => ⟨S2x4x4096x1, .f32⟩
  | 39 => ⟨S2x4x4096x4096, .f32⟩
  | 40 => ⟨S2x4x4096x4096, .i1⟩
  | 41 => ⟨S2x4x4096x4096, .f32⟩
  | 42 => ⟨S_, .f32⟩
  | 43 => ⟨S2x4x4096, .f32⟩
  | 44 => ⟨S_, .f32⟩
  | 45 => ⟨S2x4x4096, .f32⟩
  | 46 => ⟨S2x4x4096, .f32⟩
  | 47 => ⟨S_, .f32⟩
  | 48 => ⟨S2x4x4096, .f32⟩
  | 49 => ⟨S2x4x4096, .i1⟩
  | 50 => ⟨S_, .f32⟩
  | 51 => ⟨S2x4x4096, .f32⟩
  | 52 => ⟨S2x4x4096, .i1⟩
  | 53 => ⟨S_, .f32⟩
  | 54 => ⟨S2x4x4096, .f32⟩
  | 55 => ⟨S_, .f32⟩
  | 56 => ⟨S2x4x4096, .f32⟩
  | 57 => ⟨S_, .f32⟩
  | 58 => ⟨S2x4x4096, .f32⟩
  | 59 => ⟨S2x4x4096, .f32⟩
  | 60 => ⟨S2x4x4096, .f32⟩
  | 61 => ⟨S2x4x4096x1, .f32⟩
  | 62 => ⟨S2x4x4096x4096, .f32⟩
  | 63 => ⟨S2x4x4096x4096, .f32⟩
  | 64 => ⟨S2x4x4096x4096, .f32⟩
  | 65 => ⟨S_, .f32⟩
  | 66 => ⟨S2x4x4096, .f32⟩
  | 67 => ⟨S2x4x4096x1, .f32⟩
  | 68 => ⟨S2x4x4096x4096, .f32⟩
  | 69 => ⟨S2x4x4096x4096, .f32⟩
  | 70 => ⟨S2x4x4096x1, .f32⟩
  | 71 => ⟨S_, .f32⟩
  | 72 => ⟨S2x4x4096x1, .f32⟩
  | 73 => ⟨S2x4x4096x1, .f32⟩
  | 74 => ⟨S2x4x4096x64, .f32⟩
  | 75 => ⟨S4096x2x4x64, .f32⟩
  | 76 => ⟨S4096x512, .f32⟩
  | 77 => ⟨S_, .f32⟩
  | 78 => ⟨S4096x8x64, .f32⟩
  | 79 => ⟨S4096x8x64, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S_, .f32⟩
  | 100 => ⟨S4096x8x64, .f32⟩
  | 101 => ⟨S4096x8x64, .f32⟩
  | 102 => ⟨S4096x128, .f32⟩
  | 103 => ⟨S4096x2x2x2x16, .f32⟩
  | 104 => ⟨S4096x2x2x1x16, .f32⟩
  | 105 => ⟨S4096x2x2x16, .f32⟩
  | 106 => ⟨S4096x2x2x1x16, .f32⟩
  | 107 => ⟨S4096x2x2x16, .f32⟩
  | 108 => ⟨S4096x2x2x16, .f32⟩
  | 109 => ⟨S4096x2x2x16, .f32⟩
  | 110 => ⟨S4096x2x2x16, .f32⟩
  | 111 => ⟨S4096x2x2x16, .f32⟩
  | 112 => ⟨S4096x2x2x16, .f32⟩
  | 113 => ⟨S4096x2x2x16, .f32⟩
  | 114 => ⟨S4096x2x2x16, .f32⟩
  | 115 => ⟨S4096x2x2x16, .f32⟩
  | 116 => ⟨S4096x2x2x16, .f32⟩
  | 117 => ⟨S4096x2x2x16, .f32⟩
  | 118 => ⟨S4096x2x2x16, .f32⟩
  | 119 => ⟨S4096x2x2x1x16, .f32⟩
  | 120 => ⟨S_, .f32⟩
  | 121 => ⟨S4096x2x2x2x16, .f32⟩
  | 122 => ⟨S4096x2x2x1x16, .f32⟩
  | 123 => ⟨S_, .f32⟩
  | 124 => ⟨S4096x2x2x2x16, .f32⟩
  | 125 => ⟨S4096x2x2x2x16, .f32⟩
  | 126 => ⟨S4096x2x64, .f32⟩
  | 127 => ⟨S4096x2x64, .f32⟩
  | _ => ⟨S4096x1280, .f32⟩

abbrev hbmTy0_2 (i : Nat) : BufTy := match i % 128 with
  | 0 => ⟨S_, .f32⟩
  | 1 => ⟨S64, .f32⟩
  | 2 => ⟨S1x1x64, .f32⟩
  | 3 => ⟨S4096x2x64, .f32⟩
  | 4 => ⟨S4096x2x64, .f32⟩
  | 5 => ⟨S_, .f32⟩
  | 6 => ⟨S64, .f32⟩
  | 7 => ⟨S4096x2x64, .f32⟩
  | 8 => ⟨S_, .f32⟩
  | 9 => ⟨S4096x2, .f32⟩
  | 10 => ⟨S4096x2x1, .f32⟩
  | 11 => ⟨S4096x2x64, .f32⟩
  | 12 => ⟨S4096x2x64, .f32⟩
  | 13 => ⟨S4096x2x1, .f32⟩
  | 14 => ⟨S_, .f32⟩
  | 15 => ⟨S4096x2x1, .f32⟩
  | 16 => ⟨S4096x2x1, .f32⟩
  | 17 => ⟨S_, .f32⟩
  | 18 => ⟨S4096x2, .f32⟩
  | 19 => ⟨S4096x2x64, .f32⟩
  | 20 => ⟨S4096x2x64, .f32⟩
  | 21 => ⟨S4096x2x64, .f32⟩
  | 22 => ⟨S4096x2x64, .f32⟩
  | 23 => ⟨S4096x2x64, .f32⟩
  | 24 => ⟨S4096x128, .f32⟩
  | 25 => ⟨S4096x8x2x2x16, .f32⟩
  | 26 => ⟨S4096x8x2x1x16, .f32⟩
  | 27 => ⟨S4096x8x2x16, .f32⟩
  | 28 => ⟨S4096x8x2x1x16, .f32⟩
  | 29 => ⟨S4096x8x2x16, .f32⟩
  | 30 => ⟨S4096x8x2x16, .f32⟩
  | 31 => ⟨S4096x8x2x16, .f32⟩
  | 32 => ⟨S4096x8x2x16, .f32⟩
  | 33 => ⟨S4096x8x2x16, .f32⟩
  | 34 => ⟨S4096x8x2x16, .f32⟩
  | 35 => ⟨S4096x8x2x16, .f32⟩
  | 36 => ⟨S4096x8x2x16, .f32⟩
  | 37 => ⟨S4096x8x2x16, .f32⟩
  | 38 => ⟨S4096x8x2x16, .f32⟩
  | 39 => ⟨S4096x8x2x16, .f32⟩
  | 40 => ⟨S4096x8x2x16, .f32⟩
  | 41 => ⟨S4096x8x2x1x16, .f32⟩
  | 42 => ⟨S_, .f32⟩
  | 43 => ⟨S4096x8x2x2x16, .f32⟩
  | 44 => ⟨S4096x8x2x1x16, .f32⟩
  | 45 => ⟨S_, .f32⟩
  | 46 => ⟨S4096x8x2x2x16, .f32⟩
  | 47 => ⟨S4096x8x2x2x16, .f32⟩
  | 48 => ⟨S4096x8x64, .f32⟩
  | 49 => ⟨S4096x8x64, .f32⟩
  | 50 => ⟨S_, .f32⟩
  | 51 => ⟨S64, .f32⟩
  | 52 => ⟨S1x1x64, .f32⟩
  | 53 => ⟨S4096x8x64, .f32⟩
  | 54 => ⟨S4096x8x64, .f32⟩
  | 55 => ⟨S_, .f32⟩
  | 56 => ⟨S64, .f32⟩
  | 57 => ⟨S4096x8x64, .f32⟩
  | 58 => ⟨S_, .f32⟩
  | 59 => ⟨S4096x8, .f32⟩
  | 60 => ⟨S4096x8x1, .f32⟩
  | 61 => ⟨S4096x8x64, .f32⟩
  | 62 => ⟨S4096x8x64, .f32⟩
  | 63 => ⟨S4096x8x1, .f32⟩
  | 64 => ⟨S_, .f32⟩
  | 65 => ⟨S4096x8x1, .f32⟩
  | 66 => ⟨S4096x8x1, .f32⟩
  | 67 => ⟨S_, .f32⟩
  | 68 => ⟨S4096x8, .f32⟩
  | 69 => ⟨S4096x8x64, .f32⟩
  | 70 => ⟨S4096x8x64, .f32⟩
  | 71 => ⟨S4096x8x64, .f32⟩
  | 72 => ⟨S4096x8x64, .f32⟩
  | 73 => ⟨S4096x8x64, .f32⟩
  | 74 => ⟨S4096x512, .f32⟩
  | 75 => ⟨S4096x1280, .f32⟩
  | 76 => ⟨S4096x1280, .bf16⟩
  | _ => ⟨S4096x1280, .f32⟩

abbrev hbmTy (i : Nat) : BufTy := match i / 128 with
  | 0 => hbmTy0_0 i
  | 1 => hbmTy0_1 i
  | 2 => hbmTy0_2 i
  | _ => ⟨S4096x1280, .f32⟩

abbrev bufTy : (tb : Table) → Fin (tcTables nBuf tb) → BufTy
  | .hbm, ⟨i, _⟩ => hbmTy i
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_v73 : Ref sig .tc := ⟨.hbm, 87, rfl⟩
abbrev main_cst_6 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_8 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_cst_10 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_cst_11 : Ref sig .tc := ⟨.hbm, 161, rfl⟩
abbrev main_v142 : Ref sig .tc := ⟨.hbm, 162, rfl⟩
abbrev main_v143 : Ref sig .tc := ⟨.hbm, 163, rfl⟩
abbrev main_cst_12 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_cst_13 : Ref sig .tc := ⟨.hbm, 170, rfl⟩
abbrev main_v149 : Ref sig .tc := ⟨.hbm, 171, rfl⟩
abbrev main_cst_14 : Ref sig .tc := ⟨.hbm, 172, rfl⟩
abbrev main_v150 : Ref sig .tc := ⟨.hbm, 173, rfl⟩
abbrev main_v151 : Ref sig .tc := ⟨.hbm, 174, rfl⟩
abbrev main_cst_15 : Ref sig .tc := ⟨.hbm, 175, rfl⟩
abbrev main_v152 : Ref sig .tc := ⟨.hbm, 176, rfl⟩
abbrev main_v153 : Ref sig .tc := ⟨.hbm, 177, rfl⟩
abbrev main_cst_16 : Ref sig .tc := ⟨.hbm, 178, rfl⟩
abbrev main_v154 : Ref sig .tc := ⟨.hbm, 179, rfl⟩
abbrev main_v155 : Ref sig .tc := ⟨.hbm, 180, rfl⟩
abbrev main_cst_17 : Ref sig .tc := ⟨.hbm, 181, rfl⟩
abbrev main_v156 : Ref sig .tc := ⟨.hbm, 182, rfl⟩
abbrev main_cst_18 : Ref sig .tc := ⟨.hbm, 183, rfl⟩
abbrev main_v157 : Ref sig .tc := ⟨.hbm, 184, rfl⟩
abbrev main_cst_19 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_cst_20 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_cst_21 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_cst_22 : Ref sig .tc := ⟨.hbm, 205, rfl⟩
abbrev main_v175 : Ref sig .tc := ⟨.hbm, 206, rfl⟩
abbrev main_v176 : Ref sig .tc := ⟨.hbm, 207, rfl⟩
abbrev main_call0_v0 : Ref sig .tc := ⟨.hbm, 208, rfl⟩
abbrev main_call0_v1 : Ref sig .tc := ⟨.hbm, 209, rfl⟩
abbrev main_call0_cst : Ref sig .tc := ⟨.hbm, 210, rfl⟩
abbrev main_call0_v2 : Ref sig .tc := ⟨.hbm, 211, rfl⟩
abbrev main_call0_v3 : Ref sig .tc := ⟨.hbm, 212, rfl⟩
abbrev main_call0_cst_0 : Ref sig .tc := ⟨.hbm, 213, rfl⟩
abbrev main_call0_v4 : Ref sig .tc := ⟨.hbm, 214, rfl⟩
abbrev main_v177_2 : Ref sig .tc := ⟨.hbm, 215, rfl⟩
abbrev main_call0_cst_1 : Ref sig .tc := ⟨.hbm, 216, rfl⟩
abbrev main_call0_v6 : Ref sig .tc := ⟨.hbm, 217, rfl⟩
abbrev main_call0_v7 : Ref sig .tc := ⟨.hbm, 218, rfl⟩
abbrev main_v177_1 : Ref sig .tc := ⟨.hbm, 219, rfl⟩
abbrev main_v177_0 : Ref sig .tc := ⟨.hbm, 220, rfl⟩
abbrev main_v178 : Ref sig .tc := ⟨.hbm, 221, rfl⟩
abbrev main_v179 : Ref sig .tc := ⟨.hbm, 222, rfl⟩
abbrev main_call1_v0 : Ref sig .tc := ⟨.hbm, 223, rfl⟩
abbrev main_call1_v1 : Ref sig .tc := ⟨.hbm, 224, rfl⟩
abbrev main_call1_v2 : Ref sig .tc := ⟨.hbm, 225, rfl⟩
abbrev main_v180 : Ref sig .tc := ⟨.hbm, 226, rfl⟩
abbrev main_cst_23 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_24 : Ref sig .tc := ⟨.hbm, 248, rfl⟩
abbrev main_v201 : Ref sig .tc := ⟨.hbm, 249, rfl⟩
abbrev main_v202 : Ref sig .tc := ⟨.hbm, 250, rfl⟩
abbrev main_cst_25 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_cst_26 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_cst_27 : Ref sig .tc := ⟨.hbm, 261, rfl⟩
abbrev main_v211 : Ref sig .tc := ⟨.hbm, 262, rfl⟩
abbrev main_v212 : Ref sig .tc := ⟨.hbm, 263, rfl⟩
abbrev main_cst_28 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_cst_29 : Ref sig .tc := ⟨.hbm, 270, rfl⟩
abbrev main_v218 : Ref sig .tc := ⟨.hbm, 271, rfl⟩
abbrev main_v219 : Ref sig .tc := ⟨.hbm, 272, rfl⟩
abbrev main_cst_30 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_cst_31 : Ref sig .tc := ⟨.hbm, 298, rfl⟩
abbrev main_v244 : Ref sig .tc := ⟨.hbm, 299, rfl⟩
abbrev main_v245 : Ref sig .tc := ⟨.hbm, 300, rfl⟩
abbrev main_cst_32 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_cst_33 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_cst_34 : Ref sig .tc := ⟨.hbm, 311, rfl⟩
abbrev main_v254 : Ref sig .tc := ⟨.hbm, 312, rfl⟩
abbrev main_v255 : Ref sig .tc := ⟨.hbm, 313, rfl⟩
abbrev main_cst_35 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_cst_36 : Ref sig .tc := ⟨.hbm, 320, rfl⟩
abbrev main_v261 : Ref sig .tc := ⟨.hbm, 321, rfl⟩
abbrev main_v262 : Ref sig .tc := ⟨.hbm, 322, rfl⟩
abbrev main_cst_37 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩

abbrev nD : Nat := 1
abbrev τ : Topo := Topo.v7x

variable {F : FTy → Type} [FloatOps F]
-- ==== Adamw.lean ====
abbrev S8x4x4x128x128 : Shape := ⟨5, ![8, 4, 4, 128, 128]⟩
abbrev S4x4x128x128 : Shape := ⟨4, ![4, 4, 128, 128]⟩
abbrev S8x2048x128 : Shape := ⟨3, ![8, 2048, 128]⟩
abbrev S2048x128 : Shape := ⟨2, ![2048, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 12
  | .vmem => 16
  | .smem => 0
  | _ => 0

abbrev bufTy : (tb : Table) → Fin (tcTables nBuf tb) → BufTy
  | .hbm, ⟨0, _⟩ => ⟨S8x4x4x128x128, .bf16⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S8x2048x128, .bf16⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S2048x128, .f32⟩
  | .local _ .vmem, ⟨0, _⟩ => ⟨S8x512x128, .bf16⟩
  | .local _ .vmem, ⟨1, _⟩ => ⟨S8x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x4x4x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S8x4x4x128x128 : Shape := ⟨5, ![8, 4, 4, 128, 128]⟩
abbrev S4x4x128x128 : Shape := ⟨4, ![4, 4, 128, 128]⟩
abbrev S_ : Shape := ⟨0, ![]⟩
abbrev S2048x128 : Shape := ⟨2, ![2048, 128]⟩

abbrev nBuf : Space → Nat
  | .hbm => 44
  | .vmem => 0
  | .smem => 0
  | _ => 0

abbrev bufTy : (tb : Table) → Fin (tcTables nBuf tb) → BufTy
  | .hbm, ⟨0, _⟩ => ⟨S8x4x4x128x128, .bf16⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S8x4x4x128x128, .f32⟩
  | .hbm, ⟨5, _⟩ => ⟨S_, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S_, .f32⟩
  | .hbm, ⟨11, _⟩ => ⟨S4x4x128x128, .f32⟩
  | .hbm, ⟨12, _⟩ => ⟨S4x4x128x128, .f32⟩
  | .hbm, ⟨13, _⟩ => ⟨S4x4x128x128, .f32⟩
  | .hbm, ⟨14, _⟩ => ⟨S_, .f32⟩
  | .hbm, ⟨15, _⟩ => ⟨S4x4x128x128, .f32⟩
  | .hbm, ⟨16, _⟩ => ⟨S4x4x128x128, .f32⟩
  | .hbm, ⟨17, _⟩ => ⟨S4x4x128x128, .f32⟩
  | .hbm, ⟨18, _⟩ => ⟨S_, .f32⟩
  | .hbm, ⟨19, _⟩ => ⟨S4x4x128x128, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S_, .f32⟩
  | .hbm, ⟨26, _⟩ => ⟨S4x4x128x128, .f32⟩
  | .hbm, ⟨27, _⟩ => ⟨S4x4x128x128, .f32⟩
  | .hbm, ⟨28, _⟩ => ⟨S4x4x128x128, .f32⟩
  | .hbm, ⟨29, _⟩ => ⟨S_, .f32⟩
  | .hbm, ⟨30, _⟩ => ⟨S4x4x128x128, .f32⟩
  | .hbm, ⟨31, _⟩ => ⟨S4x4x128x128, .f32⟩
  | .hbm, ⟨32, _⟩ => ⟨S4x4x128x128, .f32⟩
  | .hbm, ⟨33, _⟩ => ⟨S_, .f32⟩
  | .hbm, ⟨34, _⟩ => ⟨S4x4x128x128, .f32⟩
  | .hbm, ⟨35, _⟩ => ⟨S4x4x128x128, .f32⟩
  | .hbm, ⟨36, _⟩ => ⟨S4x4x128x128, .f32⟩
  | .hbm, ⟨37, _⟩ => ⟨S_, .f32⟩
  | .hbm, ⟨38, _⟩ => ⟨S4x4x128x128, .f32⟩
  | .hbm, ⟨39, _⟩ => ⟨S4x4x128x128, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S2048x128, .f32⟩
  | _, _ => ⟨S8x4x4x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Dwin.lean ====
abbrev S4096x1024 : Shape := ⟨2, ![4096, 1024]⟩
abbrev S1024 : Shape := ⟨1, ![1024]⟩
abbrev S4096x1280 : Shape := ⟨2, ![4096, 1280]⟩
abbrev S4096x1536 : Shape := ⟨2, ![4096, 1536]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩
abbrev S4096x256 : Shape := ⟨2, ![4096, 256]⟩
abbrev S256x1024 : Shape := ⟨2, ![256, 1024]⟩

abbrev nBuf : Space → Nat
  | .hbm => 24
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1280, .bf16⟩
  | .hbm, ⟨3, _⟩ => ⟨S4096x1536, .bf16⟩
  | .hbm, ⟨4, _⟩ => ⟨S4096x1024, .bf16⟩
  | .hbm, ⟨5, _⟩ => ⟨S4096x3072, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S6912x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c5_i32 : BitVec 32 := 5#32
  let v1 : BitVec 1 := Scalar.cmpi .slt arg0 c5_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c5_i32_1 : BitVec 32 := 5#32
  let v5 : BitVec 1 := Scalar.cmpi .sge arg0 c5_i32_1
  let c11_i32 : BitVec 32 := 11#32
  let v6 : BitVec 1 := Scalar.cmpi .slt arg0 c11_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c11_i32_3 : BitVec 32 := 11#32
  let v10 : BitVec 1 := Scalar.cmpi .sge arg0 c11_i32_3
  let c15_i32 : BitVec 32 := 15#32
  let v11 : BitVec 1 := Scalar.cmpi .slt arg0 c15_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c15_i32_5 : BitVec 32 := 15#32
  let v15 : BitVec 1 := Scalar.cmpi .sge arg0 c15_i32_5
  let c27_i32 : BitVec 32 := 27#32
  let v16 : BitVec 1 := Scalar.cmpi .slt arg0 c27_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c5_i32_0 : BitVec 32 := 5#32
  let v1 : BitVec 32 := Scalar.maxsi c0_i32 v0
  let v2 : BitVec 32 := Scalar.minsi c5_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c11_i32 : BitVec 32 := 11#32
  let v1 : BitVec 32 := Scalar.maxsi c0_i32 v0
  let v2 : BitVec 32 := Scalar.minsi c11_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DwinRefIdeal.lean ====
abbrev S4096x1024 : Shape := ⟨2, ![4096, 1024]⟩
abbrev S1024 : Shape := ⟨1, ![1024]⟩
abbrev S4096x1280 : Shape := ⟨2, ![4096, 1280]⟩
abbrev S4096x1536 : Shape := ⟨2, ![4096, 1536]⟩
abbrev S4096x3072 : Shape := ⟨2, ![4096, 3072]⟩
abbrev S4096x6912 : Shape := ⟨2, ![4096, 6912]⟩
abbrev S_ : Shape := ⟨0, ![]⟩
abbrev S1024x6912 : Shape := ⟨2, ![1024, 6912]⟩
abbrev S4096 : Shape := ⟨1, ![4096]⟩
abbrev S4096x1 : Shape := ⟨2, ![4096, 1]⟩
abbrev S1x1024 : Shape := ⟨2, ![1, 1024]⟩
abbrev S6912x1024 : Shape := ⟨2, ![6912, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1280, .bf16⟩
  | .hbm, ⟨3, _⟩ => ⟨S4096x1536, .bf16⟩
  | .hbm, ⟨4, _⟩ => ⟨S4096x1024, .bf16⟩
  | .hbm, ⟨5, _⟩ => ⟨S4096x3072, .bf16⟩
  | .hbm, ⟨6, _⟩ => ⟨S4096x6912, .bf16⟩
  | .hbm, ⟨7, _⟩ => ⟨S4096x6912, .f32⟩
  | .hbm, ⟨8, _⟩ => ⟨S_, .f32⟩
  | .hbm, ⟨9, _⟩ => ⟨S1024x6912, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x6912, .f32⟩
  | .hbm, ⟨27, _⟩ => ⟨S6912x1024, .f32⟩
  | .hbm, ⟨28, _⟩ => ⟨S1024x6912, .f32⟩
  | .hbm, ⟨29, _⟩ => ⟨S6912x1024, .f32⟩
  | .hbm, ⟨30, _⟩ => ⟨S6912x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Mmtn.lean ====
abbrev S4096x512 : Shape := ⟨2, ![4096, 512]⟩
abbrev S4096x3072 : Shape := ⟨2, ![4096, 3072]⟩
abbrev S3x512x1024 : Shape := ⟨3, ![3, 512, 1024]⟩
abbrev S4096x1024 : Shape := ⟨2, ![4096, 1024]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S2048x1024 : Shape := ⟨2, ![2048, 1024]⟩

abbrev nBuf : Space → Nat
  | .hbm => 36
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x3072, .f32⟩
  | .hbm, ⟨4, _⟩ => ⟨S3x512x1024, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x1024, .f32⟩
  | .hbm, ⟨15, _⟩ => ⟨S1x512x1024, .f32⟩
  | .hbm, ⟨16, _⟩ => ⟨S512x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x512x1024, .f32⟩
  | .hbm, ⟨24, _⟩ => ⟨S512x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x512x1024, .f32⟩
  | .hbm, ⟨30, _⟩ => ⟨S512x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== MmtnRefIdeal.lean ====
abbrev S4096x512 : Shape := ⟨2, ![4096, 512]⟩
abbrev S4096x3072 : Shape := ⟨2, ![4096, 3072]⟩
abbrev S3x512x1024 : Shape := ⟨3, ![3, 512, 1024]⟩
abbrev S4096x1024 : Shape := ⟨2, ![4096, 1024]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S_ : Shape := ⟨0, ![]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x3072, .f32⟩
  | .hbm, ⟨4, _⟩ => ⟨S3x512x1024, .f32⟩
  | .hbm, ⟨5, _⟩ => ⟨S4096x1024, .f32⟩
  | .hbm, ⟨6, _⟩ => ⟨S4096x1x512, .f32⟩
  | .hbm, ⟨7, _⟩ => ⟨S4096x1x512, .f32⟩
  | .hbm, ⟨8, _⟩ => ⟨S4096x1x512, .f32⟩
  | .hbm, ⟨9, _⟩ => ⟨S4096x3x512, .f32⟩
  | .hbm, ⟨10, _⟩ => ⟨S3x1024x4096, .f32⟩
  | .hbm, ⟨11, _⟩ => ⟨S4096x3x1024, .f32⟩
  | .hbm, ⟨12, _⟩ => ⟨S4096x3x1024, .f32⟩
  | .hbm, ⟨13, _⟩ => ⟨S4096x3x1024, .f32⟩
  | .hbm, ⟨14, _⟩ => ⟨S4096x3x1024, .f32⟩
  | .hbm, ⟨15, _⟩ => ⟨S_, .f32⟩
  | .hbm, ⟨16, _⟩ => ⟨S4096x3x1024, .f32⟩
  | .hbm, ⟨17, _⟩ => ⟨S4096x3x1024, .f32⟩
  | .hbm, ⟨18, _⟩ => ⟨S_, .f32⟩
  | .hbm, ⟨19, _⟩ => ⟨S4096x3x1024, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x1024, .f32⟩
  | .hbm, ⟨24, _⟩ => ⟨S_, .f32⟩
  | .hbm, ⟨25, _⟩ => ⟨S1024x1024, .f32⟩
  | .hbm, ⟨26, _⟩ => ⟨S4096x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.MemKvRun.lean ====
/-
  The whole run of the memory key/value program (two kernels after one host stretch), with more in its post than the
  frame says: every array that @main owns ends at `Gen.W3`, the contents after the last kernel.
-/
module

public import proofs.«01_k».proof.Proof.Gen.MemKvIdeal.Frame

@[expose] public section

noncomputable section

namespace Cert.MemKvIdeal.Whole

open Cert.MemKvIdeal Cert.MemKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- Every execution terminates without a fault, with every array of @main at the contents after the last kernel and every
    semaphore counter at zero: the launch over the generated segments, the last thread state read whole. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.MemKvIdeal.Whole
-- ==== Proof.MemKvValue.lean ====
/-
  The gradients of the memory's key/value projection: what the backward kernel leaves in its two result arrays is the
  reference's derivative of the projection's weights and of the norm's gain. The backward kernel reads the normalised
  memory that the forward kernel saved; that array is read back through the run.
-/
module

public import proofs.«01_k».proof.Proof.MemKvRun
public import proofs.«01_k».proof.Proof.Gen.MemKvRefIdeal.Read
public import Idealize.ShloMosaic.Lib.Claim
public import Idealize.ShloMosaic.Lib.Pipeline.ValueKit
public import Idealize.ShloMosaic.Lib.Pointwise

@[expose] public section

set_option maxRecDepth 16384

noncomputable section

namespace Cert.MemKvIdeal.Whole

open Cert.MemKvIdeal Cert.MemKvIdeal.Gen Cert.MemKvRefIdeal.Read
open Idealize.ShloMosaic Idealize.ShloMosaic.TcCoe Idealize.SL.Sem

variable (m : (ℓ : Loc nD τ sig) → Buf (Elt Ideal) ℓ) (ρ : Dev nD → PrngReg)

/-- The forward kernel's normalised memory is the reference's, the gain read as a row. -/
theorem memn_eq (x : Vec Ideal S256x1024 .f32) (g : Vec Ideal S1024 .f32) (gr : Vec Ideal S1x1024 .f32)
    (hg : ∀ j : S1x1024.Idx, gr j = g (ix1 (j 1))) (j : S256x1024.Idx) :
    k0_pay1 (F := Ideal) x gr j = val_main_v12 (F := Ideal) x g j := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1, hg]

/-- The weights' gradient from a normalised memory `n` equal to the reference's: the two products in either order. -/
theorem dw_eq (x : Vec Ideal S256x1024 .f32) (g : Vec Ideal S1024 .f32) (d : Vec Ideal S256x1024 .f32)
    (n : Vec Ideal S256x1024 .bf16) (hn : ∀ j, n j = val_main_v12 (F := Ideal) x g j) (j : S1024x1024.Idx) :
    k1_pay2 (F := Ideal) d n j = val_main_v21 (F := Ideal) x g d j := by
  pointwise [k1_pay2, k1_pay1, val_main_v21, val_main_v15, val_main_v14, hn]
  exact Finset.sum_congr rfl fun k _ => mul_comm _ _

/-- The gain's gradient: the sum over the rows of the memory's gradient times the normalised memory. -/
theorem dg_eq (x : Vec Ideal S256x1024 .f32) (w : Vec Ideal S1024x1024 .f32) (wb : Vec Ideal S1024x1024 .bf16)
    (d : Vec Ideal S256x1024 .f32) (hw : ∀ j, wb j = w j) (j : S1x1024.Idx) :
    k1_pay3 (F := Ideal) d wb x j = val_main_v22 (F := Ideal) x w d j := by
  pointwise [k1_pay3, k1_pay1, val_main_v22, val_main_v20, val_main_v19, val_main_v18, val_main_v17, val_main_v16,
    val_main_v9, val_main_v8, val_main_v7, val_main_v6, val_main_v5, val_main_v4, val_main_v3, val_main_v2, val_main_v1,
    val_main_v0, val_main_cst, val_main_cst_0, val_main_cst_1, val_main_cst_2, val_main_cst_3, hw]
  rw [Fin.sum_univ_one]
  exact Finset.sum_congr rfl fun k _ => mul_comm _ _

/-- The gain as the kernels see it, a row. -/
theorem gain_row (c : Dev nD) (j : S1x1024.Idx) :
    V1 m ρ c main_v0 j = m ((c : Thread nD τ).loc main_arg1) (ix1 (j 1)) := by
  have h : V1 m ρ c main_v0 = shapeCast _ (m ((c : Thread nD τ).loc main_arg1)) shapeCasts_S1024_S1x1024 := by
    show StableHlo.after hostOps0 (W0 m ρ c) (Proc.devRef .tc main_v0) = _
    after_results <;> rfl
  rw [h]
  pointwise

/-- The weights as the kernels see them: a cast, nothing over the reals. -/
theorem weights (c : Dev nD) (j : S1024x1024.Idx) :
    V1 m ρ c main_v1 j = m ((c : Thread nD τ).loc main_arg2) j := by
  have h : V1 m ρ c main_v1 = truncf (F := Ideal) (s := S1024x1024) .bf16 (m ((c : Thread nD τ).loc main_arg2)) bitsLt_bf16_f32 := by
    show StableHlo.after hostOps0 (W0 m ρ c) (Proc.devRef .tc main_v1) = _
    after_results <;> rfl
  rw [h]
  pointwise

section Blocks
variable (V : (c : Dev nD) → (b : Ref sig .tc) → Buf (Elt Ideal) ((c : Thread nD τ).loc b)) (c : Dev nD)

/-- A window over a whole array at the one point: its block is the array. -/
theorem blk0_mem (k : S256x1024.Idx) : iblk0 V c 0 t0_0 k = V c main_arg0 k := by
  blk_point [iblk0] <;> exact (congrArg (· + _) (Nat.zero_mul _)).trans (Nat.zero_add _)
theorem blk0_gain (k : S1x1024.Idx) : iblk0 V c 1 t0_0 k = V c main_v0 k := by
  blk_point [iblk0]
  · rfl
  · exact (congrArg (· + _) (Nat.zero_mul _)).trans (Nat.zero_add _)
theorem blk1_mem (k : S256x1024.Idx) : iblk1 V c 0 t1_0 k = V c main_arg0 k := by
  blk_point [iblk1] <;> exact (congrArg (· + _) (Nat.zero_mul _)).trans (Nat.zero_add _)
theorem blk1_saved (k : S256x1024.Idx) : iblk1 V c 2 t1_0 k = V c main_v2_0 k := by
  blk_point [iblk1] <;> exact (congrArg (· + _) (Nat.zero_mul _)).trans (Nat.zero_add _)
theorem blk1_weights (k : S1024x1024.Idx) : iblk1 V c 3 t1_0 k = V c main_v1 k := by
  blk_point [iblk1] <;> exact (congrArg (· + _) (Nat.zero_mul _)).trans (Nat.zero_add _)
theorem blk1_dkv (k : S256x1024.Idx) : iblk1 V c 4 t1_0 k = V c main_arg3 k := by
  blk_point [iblk1] <;> exact (congrArg (· + _) (Nat.zero_mul _)).trans (Nat.zero_add _)

end Blocks

/-- What the forward kernel saves: the normalised memory. -/
theorem saved (c : Dev nD) : V2 m ρ c main_v2_0
    = val_main_v12 (F := Ideal) (m ((c : Thread nD τ).loc main_arg0)) (m ((c : Thread nD τ).loc main_arg1)) := by
  refine (W2_arr m ρ c 3).trans ((dat0 (V1 m ρ) c).arrAt_eq_of_after_last 3 t0_0 (by decide +kernel) _ fun j => ?_)
  blk_simp
  rw [after0_3]
  frame_out
  rw [funext (blk0_mem (V1 m ρ) c), show V1 m ρ c main_arg0 = _ from W1_args m ρ c main_arg0 (by decide)]
  exact memn_eq _ _ _ (fun k => (blk0_gain (V1 m ρ) c k).trans (gain_row m ρ c k)) j

/-- The first result, the weights' gradient. -/
theorem dw_value (c : Dev nD) : W3 m ρ c (Proc.devRef .tc main_v3_0)
    = val_main_v21 (F := Ideal) (m ((c : Thread nD τ).loc main_arg0)) (m ((c : Thread nD τ).loc main_arg1)) (m ((c : Thread nD τ).loc main_arg3)) := by
  refine (W3_arr m ρ c 5).trans ((dat1 (V2 m ρ) c).arrAt_eq_of_after_last 5 t1_0 (by decide +kernel) _ fun j => ?_)
  blk_simp
  rw [after1_5]
  frame_out
  rw [funext (blk1_dkv (V2 m ρ) c), show V2 m ρ c main_arg3 = _ from W2_args m ρ c main_arg3 (by decide)]
  exact dw_eq _ _ _ _ (fun k => (blk1_saved (V2 m ρ) c k).trans (congrFun (saved m ρ c) k)) j

/-- The second result, the gain's gradient. -/
theorem dg_value (c : Dev nD) : W3 m ρ c (Proc.devRef .tc main_v3_1)
    = val_main_v22 (F := Ideal) (m ((c : Thread nD τ).loc main_arg0)) (m ((c : Thread nD τ).loc main_arg2)) (m ((c : Thread nD τ).loc main_arg3)) := by
  refine (W3_arr m ρ c 6).trans ((dat1 (V2 m ρ) c).arrAt_eq_of_after_last 6 t1_0 (by decide +kernel) _ fun j => ?_)
  blk_simp
  rw [after1_6]
  frame_out
  rw [funext (blk1_dkv (V2 m ρ) c), show V2 m ρ c main_arg3 = _ from W2_args m ρ c main_arg3 (by decide),
    funext (blk1_mem (V2 m ρ) c), show V2 m ρ c main_arg0 = _ from W2_args m ρ c main_arg0 (by decide)]
  exact dg_eq _ _ _ _ (fun k => (blk1_weights (V2 m ρ) c k).trans
    ((congrFun (W2_of m ρ c main_v1 (by decide)) k).trans (weights m ρ c k))) j

/-- The run read at the two results and the arguments. -/
theorem run_value : θ_run defs (onTc (τ := τ) (main (F := Ideal))) ⟨m, fun _ => 0, ρ⟩ (fun r => ∀ c : Dev nD,
      r.2.mem ((c.tc : Thread nD τ).loc main_v3_0) = val_main_v21 (F := Ideal) (m ((c : Thread nD τ).loc main_arg0)) (m ((c : Thread nD τ).loc main_arg1)) (m ((c : Thread nD τ).loc main_arg3))
      ∧ r.2.mem ((c.tc : Thread nD τ).loc main_v3_1) = val_main_v22 (F := Ideal) (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c _ (mem_uc main_v3_0 (by decide))).trans (dw_value m ρ c),
      (h.1 c _ (mem_uc main_v3_1 (by decide))).trans (dg_value m ρ c),
      (h.1 c _ (mem_uc main_arg0 (by decide))).trans (W3_main_arg0 m ρ c),
      (h.1 c _ (mem_uc main_arg1 (by decide))).trans (W3_main_arg1 m ρ c),
      (h.1 c _ (mem_uc main_arg2 (by decide))).trans (W3_main_arg2 m ρ c),
      (h.1 c _ (mem_uc main_arg3 (by decide))).trans (W3_main_arg3 m ρ c)⟩) (run_main m ρ)

end Cert.MemKvIdeal.Whole
-- ==== Proof.MemKvClaims.lean ====
/-
  The claims about the memory's key/value projection, backward: the kernels' frames, the reference's frame, and that both
  compute the same two gradients over the reals.
-/
module

public import proofs.«01_k».proof.Defs
public import proofs.«01_k».proof.Proof.MemKvValue
public import proofs.«01_k».proof.Proof.Gen.MemKv
public import Idealize.ShloMosaic.Lib.Quiescent

@[expose] public section

set_option maxRecDepth 16384

noncomputable section

namespace Cert.Proof.MemKv

open Idealize.ShloMosaic Idealize.ShloMosaic.TcCoe Idealize.SL.Sem

attribute [local instance] Cert.MemKv.Gen.facts Cert.MemKvIdeal.Gen.facts Cert.MemKvRefIdeal.Gen.facts

/-- The printed kernels' frame, from the one generated run at machine floats. -/
theorem frame_kernel : Cert.quiescent_MemKv := fun m ρ _ =>
  cast (by sl_kernel_rfl) (Cert.MemKvIdeal.Gen.frame (F := Bits) m ρ)
/-- The same run over the reals. -/
theorem frame_ideal : Cert.quiescent_MemKvIdeal := fun m ρ _ => Cert.MemKvIdeal.Gen.frame (F := Ideal) m ρ
/-- The reference, host operations only, leaves its arguments and has no semaphore. -/
theorem frame_reference : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)
/-- The reference's two results are the kernels'. -/
theorem algebraic : Cert.algebraic_MemKvIdeal_MemKvRefIdeal := by
  pair_intro
  · run_from Cert.MemKvIdeal.Whole.run_value m g
  · refine (θ_run Cert.MemKvRefIdeal.defs _ _).mono (fun r h c => ?_) (Cert.MemKvRefIdeal.Value.run (F := Ideal) m' g')
    obtain ⟨e0, e1, e2, e3⟩ := hagree c
    refine ⟨((h c).1.trans (Cert.MemKvRefIdeal.Read.val_main_v21_eq (F := Ideal) _ _ _)).trans ?_,
      ((h c).2.1.trans (Cert.MemKvRefIdeal.Read.val_main_v22_eq (F := Ideal) _ _ _)).trans ?_, (h c).2.2⟩
    · rw [e0, e1, e3]
    · rw [e0, e2, e3]

end Cert.Proof.MemKv
-- ==== Proof.Reals.lean ====
/-
  Facts about the extended reals that several value proofs share: the literals of the programs as reals, a nonnegative
  real factor moved through a sum, and the gradient of a root mean square norm, which holds at every extended real: where a
  row has an infinite entry its inverse root is zero and both sides are.
-/
module

public import Idealize.ShloMosaic.Lib.Claim
public import Idealize.ShloMosaic.Lib.Pointwise
public import Idealize.ShloMosaic.Lib.IdealHost

@[expose] public section

noncomputable section

namespace Cert.Alg

open Idealize.ShloMosaic

/-! ## Literals -/

theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
/-- The norm's small constant is a positive real. -/
theorem lit_eps : ∃ e : ℝ, 0 < e ∧ Ideal.ofBits .f32 0x358637BD#32 = (e : EReal) :=
  ⟨8796093 / 2 ^ 43, by norm_num, by simp [Ideal.ofBits, Ideal.ieee, -EReal.coe_mul]; norm_num⟩

/-! ## Real factors -/

/-- A nonnegative real factor distributes over any sum of extended reals. -/
theorem coe_mul_add {c : ℝ} (hc : 0 ≤ c) (a b : EReal) : (c : EReal) * (a + b) = c * a + c * b :=
  EReal.left_distrib_of_nonneg_of_ne_top (EReal.coe_nonneg.mpr hc) (EReal.coe_ne_top c) a b

/-- The same over a finite sum. -/
theorem coe_mul_sum {c : ℝ} (hc : 0 ≤ c) {ι : Type} (s : Finset ι) (f : ι → EReal) :
    (c : EReal) * ∑ i ∈ s, f i = ∑ i ∈ s, (c : EReal) * f i := by
  classical
  induction s using Finset.induction_on with
  | empty => simp
  | insert i s hi ih => rw [Finset.sum_insert hi, Finset.sum_insert hi, coe_mul_add hc, ih]

/-- The factor on the right. -/
theorem sum_mul_coe {c : ℝ} (hc : 0 ≤ c) {ι : Type} (s : Finset ι) (f : ι → EReal) :
    (∑ i ∈ s, f i) * (c : EReal) = ∑ i ∈ s, f i * (c : EReal) := by
  rw [mul_comm, coe_mul_sum hc]; exact Finset.sum_congr rfl fun i _ => mul_comm _ _

/-- Halves of one extended real add to it. -/
theorem half_add_half {k : ℝ} (hk : 0 ≤ k) (z : EReal) :
    ((k / 2 : ℝ) : EReal) * z + ((k / 2 : ℝ) : EReal) * z = (k : EReal) * z := by
  rw [← EReal.right_distrib_of_nonneg (EReal.coe_nonneg.mpr (by positivity)) (EReal.coe_nonneg.mpr (by positivity)),
    ← EReal.coe_add, add_halves]

/-! ## The norm -/

/-- A square is nonnegative. -/
theorem mul_self_nonneg' (a : EReal) : 0 ≤ a * a := by
  rcases le_total 0 a with h | h
  · exact EReal.mul_nonneg_iff.mpr (.inl ⟨h, h⟩)
  · exact EReal.mul_nonneg_iff.mpr (.inr ⟨h, h⟩)

/-- The mean square of a row with a positive constant added: the top element, or a positive real. -/
theorem mean_square {n : ℕ} (N e : ℝ) (hN : 0 < N) (he : 0 < e) (x : Fin n → EReal) :
    Ideal.div (∑ k, x k * x k) (N : EReal) + (e : EReal) = ⊤
      ∨ ∃ v : ℝ, 0 < v ∧ Ideal.div (∑ k, x k * x k) (N : EReal) + (e : EReal) = (v : EReal) := by
  have h0 : 0 ≤ ∑ k, x k * x k := Finset.sum_nonneg fun k _ => mul_self_nonneg' (x k)
  rw [Ideal.div_coe hN.ne']
  generalize ∑ k, x k * x k = s at h0
  induction s with
  | bot => exact absurd h0 (by simp)
  | top => left; rw [EReal.top_mul_coe_of_pos (by positivity), EReal.top_add_coe]
  | coe r =>
    right
    have hr : 0 ≤ r := EReal.coe_nonneg.mp h0
    exact ⟨r * (1 / N) + e, by positivity, by push_cast; rfl⟩

/-- The gradient of a root mean square norm against its gradient by the chain rule. The kernel forms
    `r (a − x̂ · mean (a x̂))` with `x̂ = x r`; the chain rule sends `a r` through the product and
    `(Σ x a) · (−½ r / v) / N` through each factor of the square. -/
theorem rms_grad {n : ℕ} (N e : ℝ) (hN : 0 < N) (he : 0 < e) (x a : Fin n → EReal) (j : Fin n) (v r : EReal)
    (hv : v = Ideal.div (∑ k, x k * x k) (N : EReal) + (e : EReal)) (hr : r = Ideal.rsqrt v) :
    r * (a j - x j * r * Ideal.div (∑ k, a k * (x k * r)) (N : EReal))
      = a j * r + x j * Ideal.div ((∑ k, x k * a k) * (((-(1 / 2) : ℝ) : EReal) * Ideal.div r v)) (N : EReal)
        + Ideal.div ((∑ k, x k * a k) * (((-(1 / 2) : ℝ) : EReal) * Ideal.div r v)) (N : EReal) * x j := by
  rcases mean_square N e hN he x with h | ⟨w, hw, h⟩
  · have hr0 : r = 0 := by rw [hr, hv, h, Ideal.rsqrt_top]
    have hd : Ideal.div r v = 0 := by rw [hr0, hv, h]; simp [Ideal.div]
    rw [hd, hr0]; simp [Ideal.div_coe hN.ne']
  · have hρ : 0 < (Real.sqrt w)⁻¹ := by positivity
    have hvw : v = (w : EReal) := hv.trans h
    have hr' : r = (((Real.sqrt w)⁻¹ : ℝ) : EReal) := by
      rw [hr, hvw, Ideal.rsqrt_coe]; simp [hw.not_gt, hw.ne']
    generalize hρd : (Real.sqrt w)⁻¹ = ρ at *
    have hd : Ideal.div r v = ((ρ / w : ℝ) : EReal) := by
      rw [hr', hvw, Ideal.div_coe hw.ne', ← EReal.coe_mul]; congr 1; ring
    have hw2 : 1 / w = ρ * ρ := by
      rw [← hρd, ← mul_inv, Real.mul_self_sqrt hw.le, one_div]
    have hS : (∑ k, a k * (x k * r)) = (ρ : EReal) * ∑ k, x k * a k := by
      rw [coe_mul_sum hρ.le]; refine Finset.sum_congr rfl fun k _ => ?_
      rw [hr']; ac_rfl
    rw [hS, hd, hr', Ideal.div_coe hN.ne', Ideal.div_coe hN.ne']
    generalize (∑ k, x k * a k) = S
    have hk : 0 ≤ ρ * ρ * ρ * (1 / N) := by positivity
    have e1 : x j * (S * (((-(1 / 2) : ℝ) : EReal) * ((ρ / w : ℝ) : EReal)) * ((1 / N : ℝ) : EReal))
        = ((ρ * ρ * ρ * (1 / N) / 2 : ℝ) : EReal) * -(x j * S) := by
      have : (ρ / w : ℝ) = ρ * ρ * ρ := by rw [div_eq_mul_one_div, hw2]; ring
      rw [this, mul_neg, ← neg_mul, ← EReal.coe_neg]
      have : ((-(ρ * ρ * ρ * (1 / N) / 2) : ℝ) : EReal)
          = ((-(1 / 2) : ℝ) : EReal) * ((ρ * ρ * ρ : ℝ) : EReal) * ((1 / N : ℝ) : EReal) := by
        rw [← EReal.coe_mul, ← EReal.coe_mul]; congr 1; ring
      rw [this]; ac_rfl
    rw [mul_comm _ (x j), e1, add_assoc, half_add_half hk, sub_eq_add_neg, coe_mul_add hρ.le, mul_comm (ρ : EReal) (a j)]
    congr 1
    rw [mul_neg, mul_neg]
    congr 1
    have : ((ρ * ρ * ρ * (1 / N) : ℝ) : EReal) = (ρ : EReal) * ρ * ρ * ((1 / N : ℝ) : EReal) := by
      push_cast; rfl
    rw [this]; ac_rfl

/-- The logistic function from the hyperbolic tangent of half its argument. -/
theorem half_tanh (z : EReal) : ((1 / 2 : ℝ) : EReal) * Ideal.tanh (((1 / 2 : ℝ) : EReal) * z) + ((1 / 2 : ℝ) : EReal)
    = Ideal.div 1 (1 + Ideal.exp (-z)) := by
  have one : Ideal.div 1 (1 : EReal) = 1 := by simpa using Ideal.div_coe one_ne_zero 1
  induction z using EReal.rec with
  | bot =>
    have h : ((1 / 2 : ℝ) : EReal) * -1 + ((1 / 2 : ℝ) : EReal) = 0 := by
      rw [← EReal.coe_one, ← EReal.coe_neg, ← EReal.coe_mul, ← EReal.coe_add]; norm_num
    rw [EReal.coe_mul_bot_of_pos (by norm_num), Ideal.tanh_bot, h, EReal.neg_bot, Ideal.exp_top, ← EReal.coe_one,
      EReal.coe_add_top]
    simp [Ideal.div]
  | coe z =>
    have hp : 0 < 1 + Real.exp (-z) := by positivity
    rw [← EReal.coe_neg, Ideal.exp_coe, ← EReal.coe_mul, Ideal.tanh_coe, ← EReal.coe_mul, ← EReal.coe_add, ← EReal.coe_one,
      ← EReal.coe_add, Ideal.div_coe hp.ne', ← EReal.coe_mul]
    refine congrArg _ ?_
    have h2 : Real.exp (-z) = Real.exp (-(1 / 2 * z)) * Real.exp (-(1 / 2 * z)) := by rw [← Real.exp_add]; ring_nf
    have h1 : Real.exp (1 / 2 * z) * Real.exp (-(1 / 2 * z)) = 1 := by rw [← Real.exp_add]; simp
    have hu : 0 < Real.exp (1 / 2 * z) := Real.exp_pos _
    have hv : 0 < Real.exp (-(1 / 2 * z)) := Real.exp_pos _
    rw [Real.tanh_eq_sinh_div_cosh, Real.sinh_eq, Real.cosh_eq]
    rw [h2] at hp ⊢
    generalize Real.exp (1 / 2 * z) = u at *
    generalize Real.exp (-(1 / 2 * z)) = v at *
    field_simp
    linear_combination (2 * v - 2 * v ^ 2 / 1 * 0) * h1
  | top =>
    have h : ((1 / 2 : ℝ) : EReal) * 1 + ((1 / 2 : ℝ) : EReal) = 1 := by
      rw [← EReal.coe_one, ← EReal.coe_mul, ← EReal.coe_add]; norm_num
    rw [EReal.coe_mul_top_of_pos (by norm_num), Ideal.tanh_top, h, EReal.neg_top, Ideal.exp_bot, add_zero, one]

end Cert.Alg
-- ==== Proof.LossValue.lean ====
/-
  The loss head: the loss, the gradient of its input and of the norm's gain. A grid point normalises 512 rows, writes their
  gradient and adds its rows' part to the loss and to the gain's gradient; the reference differentiates the loss over
  all 4096 rows.
-/
module

public import proofs.«01_k».proof.Proof.Gen.LossIdeal.Value
public import proofs.«01_k».proof.Proof.Gen.LossRefIdeal.Read
public import proofs.«01_k».proof.Proof.Reals
public import Idealize.ShloMosaic.Lib.Pipeline.ValueKit

@[expose] public section

set_option maxRecDepth 16384

noncomputable section

namespace Cert.LossIdeal.Whole

open Cert.LossIdeal Cert.LossIdeal.Gen Cert.LossRefIdeal.Read
open Idealize.ShloMosaic Idealize.ShloMosaic.TcCoe Idealize.SL.Sem

/-- The kernel scales the error by 1/1024; the chain rule by (1/2)/1024 times 2. -/
theorem scale_eq (y : EReal) :
    Ideal.div (Ideal.ofBits .f32 0x3F000000#32) (Ideal.ofBits .f32 0x44800000#32) * (Ideal.ofBits .f32 0x40000000#32 * y)
      = y * Ideal.ofBits .f32 0x3A800000#32 := by
  rw [Alg.lit_half, Alg.lit_1024, Alg.lit_two, Alg.lit_inv1024, Ideal.div_coe (by norm_num), ← mul_assoc, mul_comm y,
    ← EReal.coe_mul, ← EReal.coe_mul]
  norm_num

/-! ## One point's rows -/

section Rows
variable (x t : Vec Ideal S4096x1024 .f32) (g : Vec Ideal S1024 .f32) (X T : Vec Ideal S512x1024 .f32) (G : Vec Ideal S1x1024 .f32)
  (row : Fin 512 → Fin 4096) (hX : ∀ j : S512x1024.Idx, X j = x (ix2 (row (j 0)) (j 1)))
  (hT : ∀ j : S512x1024.Idx, T j = t (ix2 (row (j 0)) (j 1))) (hG : ∀ j : S1x1024.Idx, G j = g (ix1 (j 1)))
include hX hT hG

/-- The input's gradient at a row of the block. -/
theorem dx_point (j : S512x1024.Idx) :
    k0_pay1 (F := Ideal) (k0_pay5 X) (k0_pay6 X) (k0_pay9 X G T) G j = val_main_v50 (F := Ideal) x g t (ix2 (row (j 0)) (j 1)) := by
  pointwise [k0_pay1, k0_pay5, k0_pay6, k0_pay9, k0_pay7, hX, hT, hG,
    val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v18,
    val_main_v19, val_main_v25, val_main_v26, val_main_v27, val_main_v28, val_main_v29, val_main_v30, val_main_v34, val_main_v35,
    val_main_v37, val_main_v38, val_main_v39, val_main_v40, val_main_v41, val_main_v42, val_main_v43, val_main_v44, val_main_v45,
    val_main_v46, val_main_v47, val_main_v48, val_main_v49, val_main_v50, val_main_cst, val_main_cst_0, val_main_cst_1,
    val_main_cst_2, val_main_cst_3, val_main_cst_8, val_main_cst_9, val_main_cst_10, val_main_cst_13, val_main_cst_14,
    val_main_cst_15]
  rw [Fin.sum_univ_one]
  simp only [scale_eq]
  obtain ⟨e, he, hl⟩ := Alg.lit_eps
  rw [Alg.lit_1024, Alg.lit_neg_half, hl]
  generalize hv : Ideal.div _ _ + (e : EReal) = v
  exact Alg.rms_grad 1024 e (by norm_num) he (fun k => x (ix2 (row (j 0)) k))
    (fun k => (x (ix2 (row (j 0)) k) * Ideal.rsqrt v * g (ix1 k) - t (ix2 (row (j 0)) k)) * Ideal.ofBits .f32 0x3A800000#32 * g (ix1 k))
    (j 1) v _ hv.symm rfl

/-- A point adds half the sum of its rows' mean squares to the loss. -/
theorem loss_point (acc : Vec Ideal S1x1 .f32) (j : S1x1.Idx) :
    k0_pay8 (F := Ideal) X G T acc j = acc j + Ideal.ofBits .f32 0x3F000000#32 * ∑ k, val_main_v22 (F := Ideal) x g t (ix1 (row k)) := by
  pointwise [k0_pay8, k0_pay5, k0_pay6, k0_pay7, hX, hT, hG,
    val_main_v0, val_main_v1, val_main_v2, val_main_v3, val_main_v4, val_main_v5, val_main_v6, val_main_v7, val_main_v11,
    val_main_v12, val_main_v13, val_main_v14, val_main_v15, val_main_v16, val_main_v17, val_main_v20, val_main_v21, val_main_v22,
    val_main_cst, val_main_cst_0, val_main_cst_1, val_main_cst_4, val_main_cst_5]

/-- A point adds its rows' normalised input times gradient to the gain's gradient. -/
theorem dg_point (acc : Vec Ideal S1x1024 .f32) (j : S1x1024.Idx) :
    k0_pay2 (F := Ideal) (k0_pay6 X) (k0_pay9 X G T) acc j = acc j + ∑ k, val_main_v31 (F := Ideal) x g t (ix2 (row k) (j 1)) := by
  pointwise [k0_pay2, k0_pay5, k0_pay6, k0_pay7, k0_pay9, hX, hT, hG,
    val_main_v0, val_main_v1, val_main_v2, val_main_v3, val_main_v4, val_main_v5, val_main_v6, val_main_v7, val_main_v11,
    val_main_v12, val_main_v13, val_main_v14, val_main_v15, val_main_v16, val_main_v18, val_main_v19, val_main_v25, val_main_v26,
    val_main_v27, val_main_v28, val_main_v29, val_main_v30, val_main_v31, val_main_cst, val_main_cst_0, val_main_cst_1,
    val_main_cst_3, val_main_cst_8, val_main_cst_9, val_main_cst_10]
  simp only [scale_eq]
  refine congrArg _ (Finset.sum_congr rfl fun k _ => mul_comm _ _)

end Rows

/-- The zero blocks the first point starts from. -/
theorem zero_loss (j : S1x1.Idx) : k0_pay3 (F := Ideal) j = 0 := by pointwise [k0_pay3]
theorem zero_dg (j : S1x1024.Idx) : k0_pay4 (F := Ideal) j = 0 := by pointwise [k0_pay4]

/-- The loss is half the sum over all rows, and the gain's gradient the sum over all rows. -/
theorem loss_ref (x t : Vec Ideal S4096x1024 .f32) (g : Vec Ideal S1024 .f32) (j : S1x1.Idx) :
    val_main_v51 (F := Ideal) x g t j = Ideal.ofBits .f32 0x3F000000#32 * ∑ k, val_main_v22 (F := Ideal) x g t (ix1 k) := by
  pointwise [val_main_v51, val_main_v24, val_main_v23, val_main_cst_6, val_main_cst_7]
theorem dg_ref (x t : Vec Ideal S4096x1024 .f32) (g : Vec Ideal S1024 .f32) (j : S1x1024.Idx) :
    val_main_v52 (F := Ideal) x g t j = ∑ k, val_main_v31 (F := Ideal) x g t (ix2 k (j 1)) := by
  pointwise [val_main_v52, val_main_v36, val_main_v33, val_main_v32, val_main_cst_11, val_main_cst_12]
  rw [Fin.sum_univ_one]

variable (m : (ℓ : Loc nD τ sig) → Buf (Elt Ideal) ℓ) (ρ : Dev nD → PrngReg)

/-- The block indices of the windows. -/
theorem idx : ∀ t : Fin cfg0.N, win0_0.index t = ![t.val, 0] ∧ win0_1.index t = ![0, 0] ∧ win0_2.index t = ![t.val, 0]
    ∧ win0_4.index t = ![t.val, 0] :=
  (by decide +kernel : ∀ t : Fin grid0.N, _)

/-- The row of the array that a row of point `t`'s block is. -/
def row (t : Fin cfg0.N) (i : Fin 512) : Fin 4096 := ⟨t.val * 512 + i.val, by have := t.isLt; have : t.val < 8 := this; omega⟩

/-- A sum over all rows, point by point. -/
theorem sum_rows (f : Fin 4096 → EReal) : ∑ t : Fin cfg0.N, ∑ k, f (row t k) = ∑ k, f k :=
  (Fin.sum_univ_tiles (M := EReal) 8 512 rfl f).symm

/-- The gain as the kernel sees it, a row. -/
theorem gain_row (c : Dev nD) (j : S1x1024.Idx) :
    V m c main_v0 j = m ((c : Thread nD τ).loc main_arg1) (ix1 (j 1)) := by
  have h : V m c main_v0 = shapeCast _ (m ((c : Thread nD τ).loc main_arg1)) shapeCasts_S1024_S1x1024 := by
    show StableHlo.after hostOps0 _ (Proc.devRef .tc main_v0) = _
    after_results <;> rfl
  rw [h]
  pointwise

theorem blk_x (c : Dev nD) (t : Fin cfg0.N) (j : S512x1024.Idx) :
    iblk m c 0 t j = m ((c : Thread nD τ).loc main_arg0) (ix2 (row t (j 0)) (j 1)) := by
  rw [← V_main_arg0 m c]
  blk_point [iblk, idx t, row]
theorem blk_t (c : Dev nD) (t : Fin cfg0.N) (j : S512x1024.Idx) :
    iblk m c 2 t j = m ((c : Thread nD τ).loc main_arg2) (ix2 (row t (j 0)) (j 1)) := by
  rw [← V_main_arg2 m c]
  blk_point [iblk, idx t, row]
theorem blk_g (c : Dev nD) (t : Fin cfg0.N) (j : S1x1024.Idx) :
    iblk m c 1 t j = m ((c : Thread nD τ).loc main_arg1) (ix1 (j 1)) := by
  rw [← gain_row m c]
  blk_point [iblk, idx t]

/-- The gradient of the input: block `t` of the result is rows `512 t …` of the reference's. -/
theorem dx_value (c : Dev nD) : (dats m 0 c).arrAt 4 cfg0.N
    = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 8 = 0
  · rw [outsAt0_A m c t h]; frame_out
    rw [dx_point _ _ _ _ _ _ (row t) (blk_x m c t) (blk_t m c t) (blk_g m c t)]
    blk_ext [idx t, row]
  · rw [outsAt0_B m c t h]; frame_out
    rw [dx_point _ _ _ _ _ _ (row t) (blk_x m c t) (blk_t m c t) (blk_g m c t)]
    blk_ext [idx t, row]

/-- The loss: every point's part, half of which is taken before or after the sum. -/
theorem loss_value (c : Dev nD) : (dats m 0 c).arrAt 3 cfg0.N
    = val_main_v51 (F := Ideal) (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0) _
    (fun t h j => by
      rw [outsAt0_A m c t h]; frame_out
      rw [loss_point _ _ _ _ _ _ (row t) (blk_x m c t) (blk_t m c t) (blk_g m c t), zero_loss])
    (fun t h j => by
      rw [outsAt0_B m c t h]; frame_out
      rw [loss_point _ _ _ _ _ _ (row t) (blk_x m c t) (blk_t m c t) (blk_g m c t)])
    (le_of_eq N_0) t0_7 rfl j, zero_add, loss_ref, Alg.lit_half, ← Alg.coe_mul_sum (by norm_num)]
  exact congrArg _ (sum_rows fun k => val_main_v22 (F := Ideal) _ _ _ (ix1 k))

/-- The gain's gradient: every point's part. -/
theorem dg_value (c : Dev nD) : (dats m 0 c).arrAt 5 cfg0.N
    = val_main_v52 (F := Ideal) (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
    (fun t h j => by
      rw [outsAt0_A m c t h]; frame_out
      rw [dg_point _ _ _ _ _ _ (row t) (blk_x m c t) (blk_t m c t) (blk_g m c t), zero_dg])
    (fun t h j => by
      rw [outsAt0_B m c t h]; frame_out
      rw [dg_point _ _ _ _ _ _ (row t) (blk_x m c t) (blk_t m c t) (blk_g m c t)])
    (le_of_eq N_0) t0_7 rfl j, zero_add, dg_ref]
  exact sum_rows fun k => val_main_v31 (F := Ideal) _ _ _ (ix2 k (j 1))

/-- The run read at the three results and the arguments. -/
theorem run_value : θ_run defs (onTc (τ := τ) (main (F := Ideal))) ⟨m, fun _ => 0, ρ⟩ (fun r => ∀ c : Dev nD,
      r.2.mem ((c.tc : Thread nD τ).loc main_v1_0) = val_main_v51 (F := Ideal) (m ((c : Thread nD τ).loc main_arg0)) (m ((c : Thread nD τ).loc main_arg1)) (m ((c : Thread nD τ).loc main_arg2))
      ∧ r.2.mem ((c.tc : Thread nD τ).loc main_v1_1) = val_main_v50 (F := Ideal) (m ((c : Thread nD τ).loc main_arg0)) (m ((c : Thread nD τ).loc main_arg1)) (m ((c : Thread nD τ).loc main_arg2))
      ∧ r.2.mem ((c.tc : Thread nD τ).loc main_v1_2) = val_main_v52 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (loss_value m c), (h c).2.1.trans (dx_value m c),
    (h c).2.2.1.trans (dg_value m c), (h c).2.2.2⟩) (Cert.LossIdeal.Value.run_blocks m ρ)

end Cert.LossIdeal.Whole
-- ==== Proof.LossClaims.lean ====
/-
  The claims about the loss head: the kernel's frame, the reference's frame, and that both compute the same loss and the
  same two gradients over the extended reals, at any arguments.
-/
module

public import proofs.«01_k».proof.Defs
public import proofs.«01_k».proof.Proof.LossValue
public import proofs.«01_k».proof.Proof.Gen.Loss
public import Idealize.ShloMosaic.Lib.Quiescent

@[expose] public section

set_option maxRecDepth 16384

noncomputable section

namespace Cert.Proof.Loss

open Idealize.ShloMosaic Idealize.ShloMosaic.TcCoe Idealize.SL.Sem

attribute [local instance] Cert.Loss.Gen.facts Cert.LossIdeal.Gen.facts Cert.LossRefIdeal.Gen.facts

/-- The printed kernel's frame, from the one generated run at machine floats. -/
theorem frame_kernel : Cert.quiescent_Loss := fun m ρ _ =>
  cast (by sl_kernel_rfl) (Cert.LossIdeal.Gen.frame (F := Bits) m ρ)
/-- The same run over the reals. -/
theorem frame_ideal : Cert.quiescent_LossIdeal := fun m ρ _ => Cert.LossIdeal.Gen.frame (F := Ideal) m ρ
/-- The reference, host operations only, leaves its arguments and has no semaphore. -/
theorem frame_reference : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)
/-- The reference's three results are the kernel's. -/
theorem algebraic : Cert.algebraic_LossIdeal_LossRefIdeal := by
  pair_intro
  · run_from Cert.LossIdeal.Whole.run_value m g
  · refine (θ_run Cert.LossRefIdeal.defs _ _).mono (fun r h c => ?_) (Cert.LossRefIdeal.Value.run (F := Ideal) m' g')
    obtain ⟨e0, e1, e2⟩ := hagree c
    refine ⟨((h c).1.trans (Cert.LossRefIdeal.Read.val_main_v51_eq (F := Ideal) _ _ _)).trans ?_,
      ((h c).2.1.trans (Cert.LossRefIdeal.Read.val_main_v50_eq (F := Ideal) m' c)).trans ?_,
      ((h c).2.2.1.trans (Cert.LossRefIdeal.Read.val_main_v52_eq (F := Ideal) _ _ _)).trans ?_, (h c).2.2.2⟩ <;>
    rw [e0, e1, e2]

end Cert.Proof.Loss
-- ==== Proof.MergeValue.lean ====
/-
  The gradients of the merge of the three branches. A grid point takes 512 rows through each branch: the gate's logistic
  function, which the kernel writes with a hyperbolic tangent, the branch's gradient, the gate's gradient, and the rows' part
  of the branch's weight gradient, which it adds to an accumulator that the last point writes out by columns.
-/
module

public import proofs.«01_k».proof.Proof.Gen.MergeIdeal.Value
public import proofs.«01_k».proof.Proof.Gen.MergeRefIdeal.Read
public import proofs.«01_k».proof.Proof.Reals
public import Idealize.ShloMosaic.Lib.Pipeline.ValueKit
public import Idealize.ShloMosaic.Lib.Pipeline.ReadBack

@[expose] public section

set_option maxRecDepth 16384

noncomputable section

namespace Cert.MergeIdeal.Whole

open Cert.MergeIdeal Cert.MergeIdeal.Gen Cert.MergeRefIdeal.Read
open Idealize.ShloMosaic Idealize.ShloMosaic.TcCoe Idealize.SL.Sem

/-! ## One point's rows of branch `n` -/

section Rows
variable (y0 y1 y2 : Vec Ideal S4096x512 .f32) (p : Vec Ideal S4096x3072 .f32) (w : Vec Ideal S3x512x1024 .f32)
  (o : Vec Ideal S1024x1024 .f32) (d : Vec Ideal S4096x1024 .f32)
  (row : Fin 512 → Fin 4096) (n : Fin 3)
  (D : Vec Ideal S512x1024 .f32) (O : Vec Ideal S1024x1024 .bf16) (G : Vec Ideal S512x1024 .bf16) (Y : Vec Ideal S512x512 .bf16)
  (W : Vec Ideal S512x1024 .bf16)

/-- The gate. -/
theorem gate_point (hG : ∀ j : S512x1024.Idx, G j = val_main_v6 (F := Ideal) p (ix3 (row (j 0)) n (j 1))) (j : S512x1024.Idx) :
    k0_pay14 (F := Ideal) G j = val_main_v12 (F := Ideal) p (ix3 (row (j 0)) n (j 1)) := by
  pointwise [k0_pay14, hG, val_main_v12, val_main_v11, val_main_v10, val_main_v9, val_main_v8, val_main_v7, val_main_cst,
    val_main_cst_0]
  rw [Alg.lit_half, Alg.half_tanh]

/-- The gradient of the gated sum. -/
theorem dm_point (hD : ∀ j : S512x1024.Idx, D j = d (ix2 (row (j 0)) (j 1))) (hO : ∀ j : S1024x1024.Idx, O j = o j)
    (j : S512x1024.Idx) : k0_pay13 (F := Ideal) D O j = val_main_v19 (F := Ideal) o d (ix2 (row (j 0)) (j 1)) := by
  pointwise [k0_pay13, hD, hO, val_main_v19]

variable (hG : ∀ j : S512x1024.Idx, G j = val_main_v6 (F := Ideal) p (ix3 (row (j 0)) n (j 1)))
  (hD : ∀ j : S512x1024.Idx, D j = d (ix2 (row (j 0)) (j 1))) (hO : ∀ j : S1024x1024.Idx, O j = o j)
include hG hD hO

/-- The gradient of the branch's product. -/
theorem dup_point (j : S512x1024.Idx) :
    k0_pay15 (F := Ideal) D O G j = val_main_v21 (F := Ideal) p o d (ix3 (row (j 0)) n (j 1)) := by
  pointwise [k0_pay15, gate_point p row n G hG, dm_point o d row D O hD hO, val_main_v21, val_main_v20]
  exact mul_comm (_ : EReal) _

/-- The gradient of the branch. -/
theorem dy_point (hW : ∀ j : S512x1024.Idx, W j = w (ix3 n (j 0) (j 1))) (j : S512x512.Idx) :
    k0_pay20 (F := Ideal) (k0_pay15 D O G) W j = val_main_v27 (F := Ideal) p w o d (ix3 (row (j 0)) n (j 1)) := by
  pointwise [k0_pay20, dup_point p o d row n D O G hG hD hO, hW, val_main_v27, val_main_v26, val_main_v25]

/-- The rows' part of the branch's weight gradient, added to what the accumulator holds. -/
theorem dw_point (hY : ∀ j : S512x512.Idx, Y j = val_main_v3 (F := Ideal) y0 y1 y2 (ix3 (row (j 0)) n (j 1)))
    (A : Vec Ideal S1x512x1024 .f32) (j : S1x512x1024.Idx) :
    k0_pay21 (F := Ideal) (k0_pay15 D O G) Y A j = A j + ∑ k, val_main_v21 (F := Ideal) p o d (ix3 (row k) n (j 2))
      * val_main_v3 (F := Ideal) y0 y1 y2 (ix3 (row k) n (j 1)) := by
  pointwise [k0_pay21, dup_point p o d row n D O G hG hD hO, hY]
  refine congrArg _ (Finset.sum_congr rfl fun k _ => mul_comm (_ : EReal) _)

/-- The gate's gradient. -/
theorem dp_point (hY : ∀ j : S512x512.Idx, Y j = val_main_v3 (F := Ideal) y0 y1 y2 (ix3 (row (j 0)) n (j 1)))
    (hW : ∀ j : S512x1024.Idx, W j = w (ix3 n (j 0) (j 1))) (j : S512x1024.Idx) :
    k0_pay22 (F := Ideal) (k0_pay13 D O) (k0_pay14 G) Y W j
      = val_main_v23 (F := Ideal) y0 y1 y2 p w o d (ix3 (row (j 0)) n (j 1)) := by
  pointwise [k0_pay22, gate_point p row n G hG, dm_point o d row D O hD hO, hW, hY, val_main_v23, val_main_v22, val_main_v20,
    val_main_v15, val_main_v14, val_main_v13, val_main_cst_1, val_main_v5, val_main_v4]
  rw [← mul_assoc]
  refine congrArg (· * _) (congrArg (· * _) (congrArg _ (Finset.sum_congr rfl fun k _ => mul_comm (_ : EReal) _)))

end Rows

/-! ## The accumulator -/

/-- Three stores, one a branch, are the array whose branches they hold. -/
theorem canon_dw (P0 P1 P2 : Vec Ideal S1x512x1024 .f32) (L : List (View.Piece (Elt Ideal) S3x512x1024 .f32))
    (f : Vec Ideal S3x512x1024 .f32) (h0 : ∀ j : S1x512x1024.Idx, P0 j = f (ix3 0 (j 1) (j 2)))
    (h1 : ∀ j : S1x512x1024.Idx, P1 j = f (ix3 1 (j 1) (j 2))) (h2 : ∀ j : S1x512x1024.Idx, P2 j = f (ix3 2 (j 1) (j 2))) :
    View.canon (⟨Rect.unit (s := S3x512x1024) ![2, 0, 0] ![1, 512, 1024] inb_S3x512x1024_S1x512x1024_2_0_0, P2⟩
      :: ⟨Rect.unit (s := S3x512x1024) ![1, 0, 0] ![1, 512, 1024] inb_S3x512x1024_S1x512x1024_1_0_0, P1⟩
      :: ⟨Rect.unit (s := S3x512x1024) ![0, 0, 0] ![1, 512, 1024] inb_S3x512x1024_S1x512x1024_0_0_0, P0⟩ :: L) = f := by
  funext z
  refine View.canon_append_of_piecesOf f L [_, _, _] ⟨fun x => (h2 x).trans ?_, fun x => (h1 x).trans ?_, fun x => (h0 x).trans ?_,
    trivial⟩ z ?_
  · blk_ext
  · blk_ext
  · blk_ext
  · have h3 : (z 0).val < 3 := (z 0).isLt
    have h4 : (z 1).val < 512 := (z 1).isLt
    have h5 : (z 2).val < 1024 := (z 2).isLt
    rcases (by omega : (z 0).val = 0 ∨ (z 0).val = 1 ∨ (z 0).val = 2) with h | h | h
    · refine ⟨_, List.mem_cons_of_mem _ (List.mem_cons_of_mem _ List.mem_cons_self), ?_⟩
      mem_blk
      intro a; fin_cases a <;> simp <;> omega
    · refine ⟨_, List.mem_cons_of_mem _ List.mem_cons_self, ?_⟩
      mem_blk
      intro a; fin_cases a <;> simp <;> omega
    · refine ⟨_, List.mem_cons_self, ?_⟩
      mem_blk
      intro a; fin_cases a <;> simp <;> omega

/-- The reference's gradient of branch weights, from the sum over all rows. -/
theorem dw_ref (y0 y1 y2 : Vec Ideal S4096x512 .f32) (p : Vec Ideal S4096x3072 .f32) (o : Vec Ideal S1024x1024 .f32)
    (d : Vec Ideal S4096x1024 .f32) (z : S3x512x1024.Idx) : val_main_v29 (F := Ideal) y0 y1 y2 p o d z
      = ∑ k, val_main_v21 (F := Ideal) p o d (ix3 k (z 0) (z 2)) * val_main_v3 (F := Ideal) y0 y1 y2 (ix3 k (z 0) (z 1)) := by
  pointwise [val_main_v29, val_main_v28, val_main_v25]

/-- The result holds them by groups of 128 columns. -/
theorem dwd_ref (y0 y1 y2 : Vec Ideal S4096x512 .f32) (p : Vec Ideal S4096x3072 .f32) (o : Vec Ideal S1024x1024 .f32)
    (d : Vec Ideal S4096x1024 .f32) (g : Fin 8) (n : Fin 3) (k : Fin 512) (l : Fin 128) :
    val_main_v39 (F := Ideal) y0 y1 y2 p o d (ix4 g n k l) = val_main_v29 (F := Ideal) y0 y1 y2 p o d
      (ix3 n k ⟨g.val * 128 + l.val, by omega⟩) := by
  pointwise [val_main_v39, val_main_v37, val_main_v36]

/-- The gates' gradients side by side. -/
theorem dp_ref (y0 y1 y2 : Vec Ideal S4096x512 .f32) (p : Vec Ideal S4096x3072 .f32) (w : Vec Ideal S3x512x1024 .f32)
    (o : Vec Ideal S1024x1024 .f32) (d : Vec Ideal S4096x1024 .f32) (i : Fin 4096) (n : Fin 3) (k : Fin 1024) :
    val_main_v38 (F := Ideal) y0 y1 y2 p w o d (ix2 i ⟨n.val * 1024 + k.val, by omega⟩)
      = val_main_v23 (F := Ideal) y0 y1 y2 p w o d (ix3 i n k) := by
  pointwise [val_main_v38, val_main_v24]

theorem pre_ref (p : Vec Ideal S4096x3072 .f32) (i : Fin 4096) (n : Fin 3) (k : Fin 1024) :
    val_main_v6 (F := Ideal) p (ix3 i n k) = p (ix2 i ⟨n.val * 1024 + k.val, by omega⟩) := by
  pointwise [val_main_v6]

theorem y0_ref (y0 y1 y2 : Vec Ideal S4096x512 .f32) (i : Fin 4096) (k : Fin 512) :
    val_main_v3 (F := Ideal) y0 y1 y2 (ix3 i 0 k) = y0 (ix2 i k) := by
  pointwise [val_main_v3, val_main_v0, val_main_v1, val_main_v2]

theorem y1_ref (y0 y1 y2 : Vec Ideal S4096x512 .f32) (i : Fin 4096) (k : Fin 512) :
    val_main_v3 (F := Ideal) y0 y1 y2 (ix3 i 1 k) = y1 (ix2 i k) := by
  pointwise [val_main_v3, val_main_v0, val_main_v1, val_main_v2]

theorem y2_ref (y0 y1 y2 : Vec Ideal S4096x512 .f32) (i : Fin 4096) (k : Fin 512) :
    val_main_v3 (F := Ideal) y0 y1 y2 (ix3 i 2 k) = y2 (ix2 i k) := by
  pointwise [val_main_v3, val_main_v0, val_main_v1, val_main_v2]

theorem dy_ref (p : Vec Ideal S4096x3072 .f32) (w : Vec Ideal S3x512x1024 .f32) (o : Vec Ideal S1024x1024 .f32)
    (d : Vec Ideal S4096x1024 .f32) (j : S4096x512.Idx) :
    val_main_v31 (F := Ideal) p w o d j = val_main_v27 (F := Ideal) p w o d (ix3 (j 0) 0 (j 1))
    ∧ val_main_v33 (F := Ideal) p w o d j = val_main_v27 (F := Ideal) p w o d (ix3 (j 0) 1 (j 1))
    ∧ val_main_v35 (F := Ideal) p w o d j = val_main_v27 (F := Ideal) p w o d (ix3 (j 0) 2 (j 1)) := by
  refine ⟨?_, ?_, ?_⟩
  · pointwise [val_main_v31, val_main_v30]
  · pointwise [val_main_v33, val_main_v32]
  · pointwise [val_main_v35, val_main_v34]

variable (m : (ℓ : Loc nD τ sig) → Buf (Elt Ideal) ℓ) (ρ : Dev nD → PrngReg)

/-- The block indices of the windows. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0, 0, 0] :=
  (by decide +kernel : ∀ t : Fin grid0.N, _)

/-- The row of the array that a row of point `t`'s block is. -/
def row (t : Fin cfg0.N) (i : Fin 512) : Fin 4096 := ⟨t.val * 512 + i.val, by have := t.isLt; have : t.val < 8 := this; omega⟩

/-- A sum over all rows, point by point. -/
theorem sum_rows (f : Fin 4096 → EReal) : ∑ t : Fin cfg0.N, ∑ k, f (row t k) = ∑ k, f k :=
  (Fin.sum_univ_tiles (M := EReal) 8 512 rfl f).symm

/-! ## What a point reads -/

section Blocks
variable (c : Dev nD) (t : Fin cfg0.N)

theorem host_y0 : V m c main_v0 = (fun j => m ((c : Thread nD τ).loc main_arg0) j) := by
  have h : V m c main_v0 = truncf (F := Ideal) (s := S4096x512) .bf16 (m ((c : Thread nD τ).loc main_arg0)) bitsLt_bf16_f32 := by
    show StableHlo.after hostOps0 _ (Proc.devRef .tc main_v0) = _
    after_results <;> rfl
  rw [h]; rfl

theorem host_y1 : V m c main_v1 = (fun j => m ((c : Thread nD τ).loc main_arg1) j) := by
  have h : V m c main_v1 = truncf (F := Ideal) (s := S4096x512) .bf16 (m ((c : Thread nD τ).loc main_arg1)) bitsLt_bf16_f32 := by
    show StableHlo.after hostOps0 _ (Proc.devRef .tc main_v1) = _
    after_results <;> rfl
  rw [h]; rfl

theorem host_y2 : V m c main_v2 = (fun j => m ((c : Thread nD τ).loc main_arg2) j) := by
  have h : V m c main_v2 = truncf (F := Ideal) (s := S4096x512) .bf16 (m ((c : Thread nD τ).loc main_arg2)) bitsLt_bf16_f32 := by
    show StableHlo.after hostOps0 _ (Proc.devRef .tc main_v2) = _
    after_results <;> rfl
  rw [h]; rfl

theorem host_p : V m c main_v3 = (fun j => m ((c : Thread nD τ).loc main_arg3) j) := by
  have h : V m c main_v3 = truncf (F := Ideal) (s := S4096x3072) .bf16 (m ((c : Thread nD τ).loc main_arg3)) bitsLt_bf16_f32 := by
    show StableHlo.after hostOps0 _ (Proc.devRef .tc main_v3) = _
    after_results <;> rfl
  rw [h]; rfl

theorem host_w : V m c main_v4 = (fun j => m ((c : Thread nD τ).loc main_arg4) j) := by
  have h : V m c main_v4 = truncf (F := Ideal) (s := S3x512x1024) .bf16 (m ((c : Thread nD τ).loc main_arg4)) bitsLt_bf16_f32 := by
    show StableHlo.after hostOps0 _ (Proc.devRef .tc main_v4) = _
    after_results <;> rfl
  rw [h]; rfl

theorem host_o : V m c main_v5 = (fun j => m ((c : Thread nD τ).loc main_arg5) j) := by
  have h : V m c main_v5 = truncf (F := Ideal) (s := S1024x1024) .bf16 (m ((c : Thread nD τ).loc main_arg5)) bitsLt_bf16_f32 := by
    show StableHlo.after hostOps0 _ (Proc.devRef .tc main_v5) = _
    after_results <;> rfl
  rw [h]; rfl

theorem blk_y0 (j : S512x512.Idx) : k0_pay18 (F := Ideal) (iblk m c 0 t) j = val_main_v3 (F := Ideal)
    (m ((c : Thread nD τ).loc main_arg0)) (m ((c : Thread nD τ).loc main_arg1)) (m ((c : Thread nD τ).loc main_arg2)) (ix3 (row t (j 0)) 0 (j 1)) := by
  refine Eq.trans ?_ (y0_ref _ _ _ _ _).symm
  pointwise [k0_pay18]
  refine Eq.trans (b := V m c main_v0 (ix2 (row t (j 0)) (j 1))) ?_ (congrFun (host_y0 m c) _)
  blk_point [iblk, idx t, row]

theorem blk_y1 (j : S512x512.Idx) : k0_pay25 (F := Ideal) (iblk m c 1 t) j = val_main_v3 (F := Ideal)
    (m ((c : Thread nD τ).loc main_arg0)) (m ((c : Thread nD τ).loc main_arg1)) (m ((c : Thread nD τ).loc main_arg2)) (ix3 (row t (j 0)) 1 (j 1)) := by
  refine Eq.trans ?_ (y1_ref _ _ _ _ _).symm
  pointwise [k0_pay25]
  refine Eq.trans (b := V m c main_v1 (ix2 (row t (j 0)) (j 1))) ?_ (congrFun (host_y1 m c) _)
  blk_point [iblk, idx t, row]

theorem blk_y2 (j : S512x512.Idx) : k0_pay30 (F := Ideal) (iblk m c 2 t) j = val_main_v3 (F := Ideal)
    (m ((c : Thread nD τ).loc main_arg0)) (m ((c : Thread nD τ).loc main_arg1)) (m ((c : Thread nD τ).loc main_arg2)) (ix3 (row t (j 0)) 2 (j 1)) := by
  refine Eq.trans ?_ (y2_ref _ _ _ _ _).symm
  pointwise [k0_pay30]
  refine Eq.trans (b := V m c main_v2 (ix2 (row t (j 0)) (j 1))) ?_ (congrFun (host_y2 m c) _)
  blk_point [iblk, idx t, row]

theorem blk_p (j : S512x3072.Idx) : iblk m c 3 t j = m ((c : Thread nD τ).loc main_arg3) (ix2 (row t (j 0)) (j 1)) := by
  refine Eq.trans (b := V m c main_v3 (ix2 (row t (j 0)) (j 1))) ?_ (congrFun (host_p m c) _)
  blk_point [iblk, idx t, row]

theorem blk_p0 (j : S512x1024.Idx) : View.ld (iblk m c 3 t) (Rect.unit ![0, 0] ![512, 1024] inb_S512x3072_S512x1024_0_0) j
    = val_main_v6 (F := Ideal) (m ((c : Thread nD τ).loc main_arg3)) (ix3 (row t (j 0)) 0 (j 1)) := by
  refine Eq.trans ?_ (pre_ref _ _ _ _).symm
  refine (blk_p m c t _).trans ?_
  blk_ext
  · exact congrArg (fun i => (row t i).val) (Fin.ext ((Rect.idx_unit_val _ _ _ _ _).trans (by simp)))
  · refine (Rect.idx_unit_val _ _ _ _ _).trans ?_; simp

theorem blk_p1 (j : S512x1024.Idx) : View.ld (iblk m c 3 t) (Rect.unit ![0, 1024] ![512, 1024] inb_S512x3072_S512x1024_0_1024) j
    = val_main_v6 (F := Ideal) (m ((c : Thread nD τ).loc main_arg3)) (ix3 (row t (j 0)) 1 (j 1)) := by
  refine Eq.trans ?_ (pre_ref _ _ _ _).symm
  refine (blk_p m c t _).trans ?_
  blk_ext
  · exact congrArg (fun i => (row t i).val) (Fin.ext ((Rect.idx_unit_val _ _ _ _ _).trans (by simp)))
  · refine (Rect.idx_unit_val _ _ _ _ _).trans ?_; simp

theorem blk_p2 (j : S512x1024.Idx) : View.ld (iblk m c 3 t) (Rect.unit ![0, 2048] ![512, 1024] inb_S512x3072_S512x1024_0_2048) j
    = val_main_v6 (F := Ideal) (m ((c : Thread nD τ).loc main_arg3)) (ix3 (row t (j 0)) 2 (j 1)) := by
  refine Eq.trans ?_ (pre_ref _ _ _ _).symm
  refine (blk_p m c t _).trans ?_
  blk_ext
  · exact congrArg (fun i => (row t i).val) (Fin.ext ((Rect.idx_unit_val _ _ _ _ _).trans (by simp)))
  · refine (Rect.idx_unit_val _ _ _ _ _).trans ?_; simp

theorem blk_w (j : S3x512x1024.Idx) : iblk m c 4 t j = m ((c : Thread nD τ).loc main_arg4) j := by
  refine Eq.trans (b := V m c main_v4 j) ?_ (congrFun (host_w m c) _)
  blk_point [iblk, idx t, row]

theorem blk_w0 (j : S512x1024.Idx) : k0_pay19 (F := Ideal) (View.ld (iblk m c 4 t) (Rect.unit ![0, 0, 0] ![1, 512, 1024] inb_S3x512x1024_S1x512x1024_0_0_0)) j
    = m ((c : Thread nD τ).loc main_arg4) (ix3 0 (j 0) (j 1)) := by
  pointwise [k0_pay19]
  refine (blk_w m c t _).trans ?_
  blk_ext <;> (refine (Rect.idx_unit_val _ _ _ _ _).trans ?_; simp)

theorem blk_w1 (j : S512x1024.Idx) : k0_pay26 (F := Ideal) (View.ld (iblk m c 4 t) (Rect.unit ![1, 0, 0] ![1, 512, 1024] inb_S3x512x1024_S1x512x1024_1_0_0)) j
    = m ((c : Thread nD τ).loc main_arg4) (ix3 1 (j 0) (j 1)) := by
  pointwise [k0_pay26]
  refine (blk_w m c t _).trans ?_
  blk_ext <;> (refine (Rect.idx_unit_val _ _ _ _ _).trans ?_; simp)

theorem blk_w2 (j : S512x1024.Idx) : k0_pay31 (F := Ideal) (View.ld (iblk m c 4 t) (Rect.unit ![2, 0, 0] ![1, 512, 1024] inb_S3x512x1024_S1x512x1024_2_0_0)) j
    = m ((c : Thread nD τ).loc main_arg4) (ix3 2 (j 0) (j 1)) := by
  pointwise [k0_pay31]
  refine (blk_w m c t _).trans ?_
  blk_ext <;> (refine (Rect.idx_unit_val _ _ _ _ _).trans ?_; simp)

theorem blk_d (j : S512x1024.Idx) : iblk m c 5 t j = m ((c : Thread nD τ).loc main_arg6) (ix2 (row t (j 0)) (j 1)) := by
  rw [← V_main_arg6 m c]
  blk_point [iblk, idx t, row]

theorem blk_o (j : S1024x1024.Idx) : iblk m c 6 t j = m ((c : Thread nD τ).loc main_arg5) j := by
  refine Eq.trans (b := V m c main_v5 j) ?_ (congrFun (host_o m c) _)
  blk_point [iblk, idx t, row]

end Blocks

/-! ## The branches' gradients -/

/-- Branch 0's gradient at a point. -/
theorem dy0_at (c : Dev nD) (t : Fin cfg0.N) (y : S512x512.Idx) : k0_pay20 (F := Ideal) (k0_pay15 (iblk m c 5 t) (iblk m c 6 t) (View.ld (iblk m c 3 t) (Rect.unit ![0, 0] ![512, 1024] inb_S512x3072_S512x1024_0_0))) (k0_pay19 (View.ld (iblk m c 4 t) (Rect.unit ![0, 0, 0] ![1, 512, 1024] inb_S3x512x1024_S1x512x1024_0_0_0))) y
    = val_main_v27 (F := Ideal) (m ((c : Thread nD τ).loc main_arg3)) (m ((c : Thread nD τ).loc main_arg4)) (m ((c : Thread nD τ).loc main_arg5)) (m ((c : Thread nD τ).loc main_arg6)) (ix3 ((win0_7.rect t).emb y 0) 0 ((win0_7.rect t).emb y 1)) := by
  refine (dy_point (m ((c : Thread nD τ).loc main_arg3)) (m ((c : Thread nD τ).loc main_arg4)) (m ((c : Thread nD τ).loc main_arg5)) (m ((c : Thread nD τ).loc main_arg6)) (row t) 0 _ _ _ _ (blk_p0 m c t) (blk_d m c t) (blk_o m c t) (blk_w0 m c t) y).trans ?_
  blk_ext [idx t, row] <;> simp [Pipeline.WinKind.off]

/-- The gradient of branch 0: block `t` of the result is rows `512 t …` of the reference's. -/
theorem dy0_value (c : Dev nD) : (dats m 0 c).arrAt 7 cfg0.N = val_main_v31 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  refine Eq.trans ?_ (dy_ref _ _ _ _ _).1.symm
  by_cases h : t.val % 8 = 0
  · rw [outsAt0_A m c t h (by omega)]
    frame_out
    exact dy0_at m c t y
  · by_cases h7 : t.val % 8 = 7
    · rw [outsAt0_C m c t h h7]
      frame_out
      exact dy0_at m c t y
    · rw [outsAt0_B m c t h h7]
      frame_out
      exact dy0_at m c t y

/-- Branch 1's gradient at a point. -/
theorem dy1_at (c : Dev nD) (t : Fin cfg0.N) (y : S512x512.Idx) : k0_pay27 (F := Ideal) (k0_pay17 (iblk m c 5 t) (iblk m c 6 t) (View.ld (iblk m c 3 t) (Rect.unit ![0, 1024] ![512, 1024] inb_S512x3072_S512x1024_0_1024))) (k0_pay26 (View.ld (iblk m c 4 t) (Rect.unit ![1, 0, 0] ![1, 512, 1024] inb_S3x512x1024_S1x512x1024_1_0_0))) y
    = val_main_v27 (F := Ideal) (m ((c : Thread nD τ).loc main_arg3)) (m ((c : Thread nD τ).loc main_arg4)) (m ((c : Thread nD τ).loc main_arg5)) (m ((c : Thread nD τ).loc main_arg6)) (ix3 ((win0_8.rect t).emb y 0) 1 ((win0_8.rect t).emb y 1)) := by
  refine (dy_point (m ((c : Thread nD τ).loc main_arg3)) (m ((c : Thread nD τ).loc main_arg4)) (m ((c : Thread nD τ).loc main_arg5)) (m ((c : Thread nD τ).loc main_arg6)) (row t) 1 _ _ _ _ (blk_p1 m c t) (blk_d m c t) (blk_o m c t) (blk_w1 m c t) y).trans ?_
  blk_ext [idx t, row] <;> simp [Pipeline.WinKind.off]

/-- The gradient of branch 1: block `t` of the result is rows `512 t …` of the reference's. -/
theorem dy1_value (c : Dev nD) : (dats m 0 c).arrAt 8 cfg0.N = val_main_v33 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  refine Eq.trans ?_ (dy_ref _ _ _ _ _).2.1.symm
  by_cases h : t.val % 8 = 0
  · rw [outsAt0_A m c t h (by omega)]
    frame_out
    exact dy1_at m c t y
  · by_cases h7 : t.val % 8 = 7
    · rw [outsAt0_C m c t h h7]
      frame_out
      exact dy1_at m c t y
    · rw [outsAt0_B m c t h h7]
      frame_out
      exact dy1_at m c t y

/-- Branch 2's gradient at a point. -/
theorem dy2_at (c : Dev nD) (t : Fin cfg0.N) (y : S512x512.Idx) : k0_pay32 (F := Ideal) (k0_pay24 (k0_pay13 (iblk m c 5 t) (iblk m c 6 t)) (View.ld (iblk m c 3 t) (Rect.unit ![0, 2048] ![512, 1024] inb_S512x3072_S512x1024_0_2048))) (View.ld (iblk m c 4 t) (Rect.unit ![2, 0, 0] ![1, 512, 1024] inb_S3x512x1024_S1x512x1024_2_0_0)) y
    = val_main_v27 (F := Ideal) (m ((c : Thread nD τ).loc main_arg3)) (m ((c : Thread nD τ).loc main_arg4)) (m ((c : Thread nD τ).loc main_arg5)) (m ((c : Thread nD τ).loc main_arg6)) (ix3 ((win0_9.rect t).emb y 0) 2 ((win0_9.rect t).emb y 1)) := by
  refine (dy_point (m ((c : Thread nD τ).loc main_arg3)) (m ((c : Thread nD τ).loc main_arg4)) (m ((c : Thread nD τ).loc main_arg5)) (m ((c : Thread nD τ).loc main_arg6)) (row t) 2 _ _ _ _ (blk_p2 m c t) (blk_d m c t) (blk_o m c t) (blk_w2 m c t) y).trans ?_
  blk_ext [idx t, row] <;> simp [Pipeline.WinKind.off]

/-- The gradient of branch 2: block `t` of the result is rows `512 t …` of the reference's. -/
theorem dy2_value (c : Dev nD) : (dats m 0 c).arrAt 9 cfg0.N = val_main_v35 (F := Ideal) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  refine Eq.trans ?_ (dy_ref _ _ _ _ _).2.2.symm
  by_cases h : t.val % 8 = 0
  · rw [outsAt0_A m c t h (by omega)]
    frame_out
    exact dy2_at m c t y
  · by_cases h7 : t.val % 8 = 7
    · rw [outsAt0_C m c t h h7]
      frame_out
      exact dy2_at m c t y
    · rw [outsAt0_B m c t h h7]
      frame_out
      exact dy2_at m c t y

/-! ## The gates' gradients -/

/-- Gate 0's gradient at a point. -/
theorem dp0_at (c : Dev nD) (t : Fin cfg0.N) (j : S512x1024.Idx) :
    k0_pay22 (F := Ideal) (k0_pay13 (iblk m c 5 t) (iblk m c 6 t)) (k0_pay14 (View.ld (iblk m c 3 t) (Rect.unit ![0, 0] ![512, 1024] inb_S512x3072_S512x1024_0_0))) (k0_pay18 (iblk m c 0 t)) (k0_pay19 (View.ld (iblk m c 4 t) (Rect.unit ![0, 0, 0] ![1, 512, 1024] inb_S3x512x1024_S1x512x1024_0_0_0))) j
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (j 0)) ⟨0 * 1024 + (j 1).val, by have := (j 1).isLt; simp at this; omega⟩) := by
  refine Eq.trans ?_ (dp_ref _ _ _ _ _ _ _ (row t (j 0)) 0 (j 1)).symm
  exact dp_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t) 0 _ _ _ _ _ (blk_p0 m c t) (blk_d m c t) (blk_o m c t) (blk_y0 m c t) (blk_w0 m c t) j

/-- Gate 1's gradient at a point. -/
theorem dp1_at (c : Dev nD) (t : Fin cfg0.N) (j : S512x1024.Idx) :
    k0_pay29 (F := Ideal) (k0_pay13 (iblk m c 5 t) (iblk m c 6 t)) (k0_pay16 (View.ld (iblk m c 3 t) (Rect.unit ![0, 1024] ![512, 1024] inb_S512x3072_S512x1024_0_1024))) (k0_pay25 (iblk m c 1 t)) (k0_pay26 (View.ld (iblk m c 4 t) (Rect.unit ![1, 0, 0] ![1, 512, 1024] inb_S3x512x1024_S1x512x1024_1_0_0))) j
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (j 0)) ⟨1 * 1024 + (j 1).val, by have := (j 1).isLt; simp at this; omega⟩) := by
  refine Eq.trans ?_ (dp_ref _ _ _ _ _ _ _ (row t (j 0)) 1 (j 1)).symm
  exact dp_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t) 1 _ _ _ _ _ (blk_p1 m c t) (blk_d m c t) (blk_o m c t) (blk_y1 m c t) (blk_w1 m c t) j

/-- Gate 2's gradient at a point. -/
theorem dp2_at (c : Dev nD) (t : Fin cfg0.N) (j : S512x1024.Idx) :
    k0_pay2 (F := Ideal) (k0_pay13 (iblk m c 5 t) (iblk m c 6 t)) (k0_pay23 (View.ld (iblk m c 3 t) (Rect.unit ![0, 2048] ![512, 1024] inb_S512x3072_S512x1024_0_2048))) (k0_pay30 (iblk m c 2 t)) (k0_pay31 (View.ld (iblk m c 4 t) (Rect.unit ![2, 0, 0] ![1, 512, 1024] inb_S3x512x1024_S1x512x1024_2_0_0))) j
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (j 0)) ⟨2 * 1024 + (j 1).val, by have := (j 1).isLt; simp at this; omega⟩) := by
  refine Eq.trans ?_ (dp_ref _ _ _ _ _ _ _ (row t (j 0)) 2 (j 1)).symm
  exact dp_point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t) 2 _ _ _ _ _ (blk_p2 m c t) (blk_d m c t) (blk_o m c t) (blk_y2 m c t) (blk_w2 m c t) j

/-- Three stores side by side are the array whose columns they hold. -/
theorem canon_dp (P0 P1 P2 : Vec Ideal S512x1024 .bf16) (L : List (View.Piece (Elt Ideal) S512x3072 .bf16)) (f : Vec Ideal S512x3072 .bf16)
    (h0 : ∀ j : S512x1024.Idx, P0 j = f (ix2 (j 0) ⟨0 * 1024 + (j 1).val, by have := (j 1).isLt; simp at this; omega⟩))
    (h1 : ∀ j : S512x1024.Idx, P1 j = f (ix2 (j 0) ⟨1 * 1024 + (j 1).val, by have := (j 1).isLt; simp at this; omega⟩))
    (h2 : ∀ j : S512x1024.Idx, P2 j = f (ix2 (j 0) ⟨2 * 1024 + (j 1).val, by have := (j 1).isLt; simp at this; omega⟩)) :
    View.canon (⟨Rect.unit (s := S512x3072) ![0, 2048] ![512, 1024] inb_S512x3072_S512x1024_0_2048, P2⟩
      :: ⟨Rect.unit (s := S512x3072) ![0, 1024] ![512, 1024] inb_S512x3072_S512x1024_0_1024, P1⟩
      :: ⟨Rect.unit (s := S512x3072) ![0, 0] ![512, 1024] inb_S512x3072_S512x1024_0_0, P0⟩ :: L) = f := by
  funext z
  refine View.canon_append_of_piecesOf f L [_, _, _] ⟨fun x => (h2 x).trans ?_, fun x => (h1 x).trans ?_, fun x => (h0 x).trans ?_,
    trivial⟩ z ?_
  · blk_ext
  · blk_ext
  · blk_ext
  · have h4 : (z 0).val < 512 := (z 0).isLt
    have h5 : (z 1).val < 3072 := (z 1).isLt
    rcases (by omega : (z 1).val < 1024 ∨ (1024 ≤ (z 1).val ∧ (z 1).val < 2048) ∨ 2048 ≤ (z 1).val) with h | h | h
    · refine ⟨_, List.mem_cons_of_mem _ (List.mem_cons_of_mem _ List.mem_cons_self), ?_⟩
      mem_blk
      intro a; fin_cases a <;> simp <;> omega
    · refine ⟨_, List.mem_cons_of_mem _ List.mem_cons_self, ?_⟩
      mem_blk
      intro a; fin_cases a <;> simp <;> omega
    · refine ⟨_, List.mem_cons_self, ?_⟩
      mem_blk
      intro a; fin_cases a <;> simp <;> omega

/-- The gradients of the gates' columns: block `t` of the result is rows `512 t …` of the reference's. -/
theorem dp_value (c : Dev nD) : (dats m 0 c).arrAt 10 cfg0.N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]
  by_cases h : t.val % 8 = 0
  · rw [outsAt0_A m c t h (by omega)]
    frame_out
    exact (congrFun (canon_dp _ _ _ [] (fun z : S512x3072.Idx => val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (z 0)) (z 1)))
      (dp0_at m c t) (dp1_at m c t) (dp2_at m c t)) y).trans (by blk_ext [idx t, row] <;> simp [Pipeline.WinKind.off])
  · by_cases h7 : t.val % 8 = 7
    · rw [outsAt0_C m c t h h7]
      frame_out
      exact (congrFun (canon_dp _ _ _ [] (fun z : S512x3072.Idx => val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (z 0)) (z 1)))
      (dp0_at m c t) (dp1_at m c t) (dp2_at m c t)) y).trans (by blk_ext [idx t, row] <;> simp [Pipeline.WinKind.off])
    · rw [outsAt0_B m c t h h7]
      frame_out
      exact (congrFun (canon_dp _ _ _ [] (fun z : S512x3072.Idx => val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t (z 0)) (z 1)))
      (dp0_at m c t) (dp1_at m c t) (dp2_at m c t)) y).trans (by blk_ext [idx t, row] <;> simp [Pipeline.WinKind.off])

/-! ## The weights' gradient -/

/-- What a point leaves in the accumulator that held `X`. -/
def add (c : Dev nD) (t : Fin cfg0.N) (X : Vec Ideal S3x512x1024 .f32) : Vec Ideal S3x512x1024 .f32 := fun z =>
  X z + ∑ k, val_main_v21 (F := Ideal) (m ((c : Thread nD τ).loc main_arg3)) (m ((c : Thread nD τ).loc main_arg5)) (m ((c : Thread nD τ).loc main_arg6)) (ix3 (row t k) (z 0) (z 2))
    * val_main_v3 (F := Ideal) (m ((c : Thread nD τ).loc main_arg0)) (m ((c : Thread nD τ).loc main_arg1)) (m ((c : Thread nD τ).loc main_arg2)) (ix3 (row t k) (z 0) (z 1))

theorem add0_at (c : Dev nD) (t : Fin cfg0.N) (X : Vec Ideal S3x512x1024 .f32) (j : S1x512x1024.Idx) :
    k0_pay21 (F := Ideal) (k0_pay15 (iblk m c 5 t) (iblk m c 6 t) (View.ld (iblk m c 3 t) (Rect.unit ![0, 0] ![512, 1024] inb_S512x3072_S512x1024_0_0))) (k0_pay18 (iblk m c 0 t)) (View.ld X (Rect.unit ![0, 0, 0] ![1, 512, 1024] inb_S3x512x1024_S1x512x1024_0_0_0)) j
    = add m c t X (ix3 0 (j 1) (j 2)) := by
  refine (dw_point (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (row t) 0 _ _ _ _ (blk_p0 m c t) (blk_d m c t) (blk_o m c t) (blk_y0 m c t) _ j).trans ?_
  refine congrArg (· + _) ?_
  show X _ = X _
  blk_ext <;> (refine (Rect.idx_unit_val _ _ _ _ _).trans ?_; simp)

theorem add1_at (c : Dev nD) (t : Fin cfg0.N) (X : Vec Ideal S3x512x1024 .f32) (j : S1x512x1024.Idx) :
    k0_pay28 (F := Ideal) (k0_pay17 (iblk m c 5 t) (iblk m c 6 t) (View.ld (iblk m c 3 t) (Rect.unit ![0, 1024] ![512, 1024] inb_S512x3072_S512x1024_0_1024))) (k0_pay25 (iblk m c 1 t)) (View.ld X (Rect.unit ![1, 0, 0] ![1, 512, 1024] inb_S3x512x1024_S1x512x1024_1_0_0)) j
    = add m c t X (ix3 1 (j 1) (j 2)) := by
  refine (dw_point (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (row t) 1 _ _ _ _ (blk_p1 m c t) (blk_d m c t) (blk_o m c t) (blk_y1 m c t) _ j).trans ?_
  refine congrArg (· + _) ?_
  show X _ = X _
  blk_ext <;> (refine (Rect.idx_unit_val _ _ _ _ _).trans ?_; simp)

theorem add2_at (c : Dev nD) (t : Fin cfg0.N) (X : Vec Ideal S3x512x1024 .f32) (j : S1x512x1024.Idx) :
    k0_pay1 (F := Ideal) (k0_pay33 (k0_pay24 (k0_pay13 (iblk m c 5 t) (iblk m c 6 t)) (View.ld (iblk m c 3 t) (Rect.unit ![0, 2048] ![512, 1024] inb_S512x3072_S512x1024_0_2048))) (iblk m c 2 t) (View.ld X (Rect.unit ![2, 0, 0] ![1, 512, 1024] inb_S3x512x1024_S1x512x1024_2_0_0))) j
    = add m c t X (ix3 2 (j 1) (j 2)) := by
  refine (dw_point (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (row t) 2 _ _ _ _ (blk_p2 m c t) (blk_d m c t) (blk_o m c t) (blk_y2 m c t) _ j).trans ?_
  refine congrArg (· + _) ?_
  show X _ = X _
  blk_ext <;> (refine (Rect.idx_unit_val _ _ _ _ _).trans ?_; simp)

/-- The first point starts from zeros. -/
theorem acc_A (c : Dev nD) (t : Fin cfg0.N) (h : t.val % 8 = 0) :
    (outsAt0 m c t.val t.isLt).2.2.2.2.2 = add m c t (k0_pay12 (F := Ideal)) := by
  rw [outsAt0_A m c t h (by omega)]
  frame_out
  simp (discharger := decide) only [View.readCov_skip, View.readCov_fill]
  exact canon_dw _ _ _ _ _ (add0_at m c t _) (add1_at m c t _) (add2_at m c t _)

/-- The others go on. -/
theorem acc_B (c : Dev nD) (t : Fin cfg0.N) (h : ¬ t.val % 8 = 0) (h7 : ¬ t.val % 8 = 7) :
    (outsAt0 m c t.val t.isLt).2.2.2.2.2 = add m c t (outsAt0 m c (t.val - 1) (by omega)).2.2.2.2.2 := by
  rw [outsAt0_B m c t h h7]
  frame_out
  simp only [read_unread_whole]
  exact canon_dw _ _ _ _ _ (add0_at m c t _) (add1_at m c t _) (add2_at m c t _)

theorem acc_C (c : Dev nD) (t : Fin cfg0.N) (h : ¬ t.val % 8 = 0) (h7 : t.val % 8 = 7) :
    (outsAt0 m c t.val t.isLt).2.2.2.2.2 = add m c t (outsAt0 m c (t.val - 1) (by omega)).2.2.2.2.2 := by
  rw [outsAt0_C m c t h h7]
  frame_out
  simp only [read_unread_whole]
  exact canon_dw _ _ _ _ _ (add0_at m c t _) (add1_at m c t _) (add2_at m c t _)

/-- The last point writes the accumulator out by groups of 128 columns. -/
theorem out_C (c : Dev nD) (t : Fin cfg0.N) (h : ¬ t.val % 8 = 0) (h7 : t.val % 8 = 7) (z : S8x3x512x128.Idx) :
    (outsAt0 m c t.val t.isLt).2.2.2.2.1 z = (outsAt0 m c t.val t.isLt).2.2.2.2.2
      (ix3 (z 1) (z 2) ⟨(z 0).val * 128 + (z 3).val, by have h0 : (z 0).val < 8 := (z 0).isLt; have h3 : (z 3).val < 128 := (z 3).isLt; omega⟩) := by
  rw [outsAt0_C m c t h h7]
  frame_out
  simp only [View.readCov_eq_canon']
  generalize View.canon (Val := Elt Ideal) (s := S3x512x1024) (e := .f32) _ = A
  canon_tiles x hx
  all_goals
    pointwise [k0_pay3, k0_pay4, k0_pay5, k0_pay6, k0_pay7, k0_pay8, k0_pay9, k0_pay10, k0_pay11]
    refine congrArg A (funext fun a => Fin.ext ?_)
    fin_cases a <;> simp <;> omega

/-- The gradient of the branches' weights. -/
theorem dw_value (c : Dev nD) : (dats m 0 c).arrAt 11 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  refine (dats m 0 c).arrAt_eq_of_after_last 11 t0_7 (by decide +kernel) _ fun z => ?_
  blk_simp
  rw [after0_11, out_C m c t0_7 (by decide) (by decide),
    Pipeline.eq_sum_fin_of_reset_step_apply_last (fun n h => (outsAt0 m c n h).2.2.2.2.2) 8 (fun _ => 0) _
    (fun t h j => by
      refine (congrFun (acc_A m c t h) j).trans (congrArg (· + _) ?_)
      pointwise [k0_pay12])
    (fun t h j => by
      by_cases h7 : t.val % 8 = 7
      · exact congrFun (acc_C m c t h h7) j
      · exact congrFun (acc_B m c t h h7) j)
    (le_of_eq N_0) t0_7 rfl _, zero_add]
  refine (sum_rows fun k => val_main_v21 (F := Ideal) (m ((c : Thread nD τ).loc main_arg3)) (m ((c : Thread nD τ).loc main_arg5)) (m ((c : Thread nD τ).loc main_arg6)) (ix3 k _ _)
    * val_main_v3 (F := Ideal) (m ((c : Thread nD τ).loc main_arg0)) (m ((c : Thread nD τ).loc main_arg1)) (m ((c : Thread nD τ).loc main_arg2)) (ix3 k _ _)).trans ?_
  refine Eq.trans ?_ (dwd_ref _ _ _ _ _ _ (z 0) (z 1) (z 2) (z 3)).symm
  exact (dw_ref _ _ _ _ _ _ _).symm

/-- The run read at the five results and the arguments. -/
theorem run_value : θ_run defs (onTc (τ := τ) (main (F := Ideal))) ⟨m, fun _ => 0, ρ⟩ (fun r => ∀ c : Dev nD,
      r.2.mem ((c.tc : Thread nD τ).loc main_v6_0) = val_main_v31 (F := Ideal) (m ((c : Thread nD τ).loc main_arg3)) (m ((c : Thread nD τ).loc main_arg4)) (m ((c : Thread nD τ).loc main_arg5)) (m ((c : Thread nD τ).loc main_arg6))
      ∧ r.2.mem ((c.tc : Thread nD τ).loc main_v6_1) = val_main_v33 (F := Ideal) (m ((c : Thread nD τ).loc main_arg3)) (m ((c : Thread nD τ).loc main_arg4)) (m ((c : Thread nD τ).loc main_arg5)) (m ((c : Thread nD τ).loc main_arg6))
      ∧ r.2.mem ((c.tc : Thread nD τ).loc main_v6_2) = val_main_v35 (F := Ideal) (m ((c : Thread nD τ).loc main_arg3)) (m ((c : Thread nD τ).loc main_arg4)) (m ((c : Thread nD τ).loc main_arg5)) (m ((c : Thread nD τ).loc main_arg6))
      ∧ r.2.mem ((c.tc : Thread nD τ).loc main_v6_3) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v6_4) = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (dy0_value m c), (h c).2.1.trans (dy1_value m c), (h c).2.2.1.trans (dy2_value m c),
    (h c).2.2.2.1.trans (dp_value m c), (h c).2.2.2.2.1.trans (dw_value m c), (h c).2.2.2.2.2⟩)
    (Cert.MergeIdeal.Value.run_blocks m ρ)

end Cert.MergeIdeal.Whole
-- ==== Proof.MergeClaims.lean ====
/-
  The claims about the merge of the three branches, backward: the kernel's frame, the reference's frame, and that both
  compute the same five gradients over the extended reals, at any arguments.
-/
module

public import proofs.«01_k».proof.Defs
public import proofs.«01_k».proof.Proof.MergeValue
public import proofs.«01_k».proof.Proof.Gen.Merge
public import Idealize.ShloMosaic.Lib.Quiescent

@[expose] public section

set_option maxRecDepth 16384

noncomputable section

namespace Cert.Proof.Merge

open Idealize.ShloMosaic Idealize.ShloMosaic.TcCoe Idealize.SL.Sem

attribute [local instance] Cert.Merge.Gen.facts Cert.MergeIdeal.Gen.facts Cert.MergeRefIdeal.Gen.facts

/-- The printed kernel's frame, from the one generated run at machine floats. -/
theorem frame_kernel : Cert.quiescent_Merge := fun m ρ _ =>
  cast (by sl_kernel_rfl) (Cert.MergeIdeal.Gen.frame (F := Bits) m ρ)
/-- The same run over the reals. -/
theorem frame_ideal : Cert.quiescent_MergeIdeal := fun m ρ _ => Cert.MergeIdeal.Gen.frame (F := Ideal) m ρ
/-- The reference, host operations only, leaves its arguments and has no semaphore. -/
theorem frame_reference : Cert.quiescent_MergeRefIdeal := fun m ρ _ =>
  (θ_run Cert.MergeRefIdeal.defs _ _).mono (fun r h => ⟨fun c => (h c).2.2.2.2.2, sem_eq_zero_of_no_sems (by decide) r.2⟩)
    (Cert.MergeRefIdeal.Value.run (F := Ideal) m ρ)
/-- The reference's five results are the kernel's. -/
theorem algebraic : Cert.algebraic_MergeIdeal_MergeRefIdeal := by
  pair_intro
  · run_from Cert.MergeIdeal.Whole.run_value m g
  · refine (θ_run Cert.MergeRefIdeal.defs _ _).mono (fun r h c => ?_) (Cert.MergeRefIdeal.Value.run (F := Ideal) m' g')
    obtain ⟨e0, e1, e2, e3, e4, e5, e6⟩ := hagree c
    refine ⟨((h c).1.trans (Cert.MergeRefIdeal.Read.val_main_v31_eq (F := Ideal) _ _ _ _)).trans ?_,
      ((h c).2.1.trans (Cert.MergeRefIdeal.Read.val_main_v33_eq (F := Ideal) _ _ _ _)).trans ?_,
      ((h c).2.2.1.trans (Cert.MergeRefIdeal.Read.val_main_v35_eq (F := Ideal) _ _ _ _)).trans ?_,
      ((h c).2.2.2.1.trans (Cert.MergeRefIdeal.Read.val_main_v38_eq (F := Ideal) _ _ _ _ _ _ _)).trans ?_,
      ((h c).2.2.2.2.1.trans (Cert.MergeRefIdeal.Read.val_main_v39_eq (F := Ideal) _ _ _ _ _ _)).trans ?_, (h c).2.2.2.2.2⟩
    · rw [e3, e4, e5, e6]
    · rw [e3, e4, e5, e6]
    · rw [e3, e4, e5, e6]
    · rw [e0, e1, e2, e3, e4, e5, e6]
    · rw [e0, e1, e2, e3, e5, e6]

end Cert.Proof.Merge
-- ==== Proof.DhValue.lean ====
/-
  The gradient of the layer's norm behind the input projection, and of its gain. A grid point multiplies 256 rows of the
  four groups of the projection's gradient by the groups' rows of the weights, which together are the rows' product with all
  of the weights; then it sends that through the norm, adds the residual's gradient and adds its rows' part to the gain's.
-/
module

public import proofs.«01_k».proof.Proof.Gen.DhIdeal.Value
public import proofs.«01_k».proof.Proof.Gen.DhRefIdeal.Read
public import proofs.«01_k».proof.Proof.Reals
public import Idealize.ShloMosaic.Lib.Pipeline.ValueKit

@[expose] public section

set_option maxRecDepth 16384

noncomputable section

namespace Cert.DhIdeal.Whole

open Cert.DhIdeal Cert.DhIdeal.Gen Cert.DhRefIdeal.Read
open Idealize.ShloMosaic Idealize.ShloMosaic.TcCoe Idealize.SL.Sem

/-! ## One point's rows -/

/-- The four groups' products add to the product over all columns. -/
theorem dh_point (p : Vec Ideal S4096x6912 .f32) (w : Vec Ideal S1024x6912 .f32) (row : Fin 256 → Fin 4096)
    (P0 : Vec Ideal S256x1280 .bf16) (W0 : Vec Ideal S1280x1024 .bf16) (P1 : Vec Ideal S256x1536 .bf16) (W1 : Vec Ideal S1536x1024 .bf16)
    (P2 : Vec Ideal S256x1024 .bf16) (W2 : Vec Ideal S1024x1024 .bf16) (P3 : Vec Ideal S256x3072 .bf16) (W3 : Vec Ideal S3072x1024 .bf16)
    (hP0 : ∀ j : S256x1280.Idx, P0 j = p (ix2 (row (j 0)) ⟨(j 1).val, by have := (j 1).isLt; simp at this; omega⟩))
    (hP1 : ∀ j : S256x1536.Idx, P1 j = p (ix2 (row (j 0)) ⟨1280 + (j 1).val, by have := (j 1).isLt; simp at this; omega⟩))
    (hP2 : ∀ j : S256x1024.Idx, P2 j = p (ix2 (row (j 0)) ⟨2816 + (j 1).val, by have := (j 1).isLt; simp at this; omega⟩))
    (hP3 : ∀ j : S256x3072.Idx, P3 j = p (ix2 (row (j 0)) ⟨3840 + (j 1).val, by have := (j 1).isLt; simp at this; omega⟩))
    (hW0 : ∀ j : S1280x1024.Idx, W0 j = w (ix2 (j 1) ⟨(j 0).val, by have := (j 0).isLt; simp at this; omega⟩))
    (hW1 : ∀ j : S1536x1024.Idx, W1 j = w (ix2 (j 1) ⟨1280 + (j 0).val, by have := (j 0).isLt; simp at this; omega⟩))
    (hW2 : ∀ j : S1024x1024.Idx, W2 j = w (ix2 (j 1) ⟨2816 + (j 0).val, by have := (j 0).isLt; simp at this; omega⟩))
    (hW3 : ∀ j : S3072x1024.Idx, W3 j = w (ix2 (j 1) ⟨3840 + (j 0).val, by have := (j 0).isLt; simp at this; omega⟩))
    (j : S256x1024.Idx) :
    k0_pay6 (F := Ideal) P0 W0 P1 W1 P2 W2 P3 W3 j = val_main_v17 (F := Ideal) p w (ix2 (row (j 0)) (j 1)) := by
  pointwise [k0_pay6, hP0, hP1, hP2, hP3, hW0, hW1, hW2, hW3, val_main_v17]
  rw [Fin.sum_univ_two_halves 3840 3072 rfl, Fin.sum_univ_two_halves 2816 1024 rfl, Fin.sum_univ_two_halves 1280 1536 rfl]

section Rows
variable (p : Vec Ideal S4096x6912 .f32) (w : Vec Ideal S1024x6912 .f32) (x d : Vec Ideal S4096x1024 .f32) (g : Vec Ideal S1024 .f32)
  (D X E : Vec Ideal S256x1024 .f32) (G : Vec Ideal S1x1024 .f32)
  (row : Fin 256 → Fin 4096) (hD : ∀ j : S256x1024.Idx, D j = val_main_v17 (F := Ideal) p w (ix2 (row (j 0)) (j 1)))
  (hX : ∀ j : S256x1024.Idx, X j = x (ix2 (row (j 0)) (j 1)))
include hD hX

/-- The input's gradient at a row of the block. -/
theorem dx_point (hE : ∀ j : S256x1024.Idx, E j = d (ix2 (row (j 0)) (j 1))) (hG : ∀ j : S1x1024.Idx, G j = g (ix1 (j 1))) (j : S256x1024.Idx) :
    k0_pay3 (F := Ideal) D X (k0_pay7 G) (k0_pay8 X) k0_pay9 E j = val_main_v38 (F := Ideal) p w x g d (ix2 (row (j 0)) (j 1)) := by
  pointwise [k0_pay3, k0_pay2, k0_pay1, k0_pay7, k0_pay8, k0_pay9, hX, hD, hE, hG,
    val_main_v0, val_main_v1, val_main_v2, val_main_v3, val_main_v4, val_main_v5, val_main_v6, val_main_v7, val_main_v8,
    val_main_v9, val_main_v10, val_main_v13, val_main_v21, val_main_v22, val_main_v24, val_main_v25, val_main_v26, val_main_v27,
    val_main_v28, val_main_v29, val_main_v30, val_main_v31, val_main_v32, val_main_v33, val_main_v34, val_main_v35, val_main_v36,
    val_main_v37, val_main_v38, val_main_cst, val_main_cst_0, val_main_cst_1, val_main_cst_2, val_main_cst_5, val_main_cst_6,
    val_main_cst_7]
  rw [Fin.sum_univ_one]
  obtain ⟨e, he, hl⟩ := Alg.lit_eps
  rw [Alg.lit_1024, Alg.lit_neg_half, hl]
  generalize hv : Ideal.div _ _ + (e : EReal) = v
  rw [add_comm, add_assoc, add_assoc, ← add_assoc (_ * Ideal.rsqrt v)]
  exact congrArg _ (Alg.rms_grad 1024 e (by norm_num) he (fun k => x (ix2 (row (j 0)) k))
    (fun k => val_main_v17 (F := Ideal) p w (ix2 (row (j 0)) k) * g (ix1 k)) (j 1) v _ hv.symm rfl)

/-- A point adds its rows' normalised input times gradient to the gain's gradient. -/
theorem dg_point (acc : Vec Ideal S1x1024 .f32) (j : S1x1024.Idx) :
    k0_pay5 (F := Ideal) D X (k0_pay8 X) k0_pay9 acc j = acc j + ∑ k, val_main_v18 (F := Ideal) p w x (ix2 (row k) (j 1)) := by
  pointwise [k0_pay5, k0_pay2, k0_pay1, k0_pay8, k0_pay9, hX, hD,
    val_main_v0, val_main_v1, val_main_v2, val_main_v3, val_main_v4, val_main_v5, val_main_v6, val_main_v7, val_main_v11,
    val_main_v12, val_main_v18, val_main_cst, val_main_cst_0, val_main_cst_1]
  refine congrArg _ (Finset.sum_congr rfl fun k _ => mul_comm _ _)

end Rows

/-- The zero block the first point starts from. -/
theorem zero_dg (j : S1x1024.Idx) : k0_pay4 (F := Ideal) j = 0 := by pointwise [k0_pay4]

/-- The gain's gradient is the sum over all rows. -/
theorem dg_ref (p : Vec Ideal S4096x6912 .f32) (w : Vec Ideal S1024x6912 .f32) (x : Vec Ideal S4096x1024 .f32) (j : S1x1024.Idx) :
    val_main_v39 (F := Ideal) p w x j = ∑ k, val_main_v18 (F := Ideal) p w x (ix2 k (j 1)) := by
  pointwise [val_main_v39, val_main_v23, val_main_v20, val_main_v19, val_main_cst_3, val_main_cst_4]
  rw [Fin.sum_univ_one]

variable (m : (ℓ : Loc nD τ sig) → Buf (Elt Ideal) ℓ) (ρ : Dev nD → PrngReg)

/-- The block indices of the windows. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] :=
  (by decide +kernel : ∀ t : Fin grid0.N, _)

/-- The row of the array that a row of point `t`'s block is. -/
def row (t : Fin cfg0.N) (i : Fin 256) : Fin 4096 := ⟨t.val * 256 + i.val, by have := t.isLt; have : t.val < 16 := this; omega⟩

/-- A sum over all rows, point by point. -/
theorem sum_rows (f : Fin 4096 → EReal) : ∑ t : Fin cfg0.N, ∑ k, f (row t k) = ∑ k, f k :=
  (Fin.sum_univ_tiles (M := EReal) 16 256 rfl f).symm

/-- Group 0's columns of the projection's gradient. -/
theorem group0 (c : Dev nD) (j : S4096x1280.Idx) : V m c main_v1 j
    = m ((c : Thread nD τ).loc main_arg0) (ix2 (j 0) ⟨(j 1).val, by have := (j 1).isLt; simp at this; omega⟩) := by
  have h : V m c main_v1 = truncf (F := Ideal) (s := S4096x1280) .bf16 (extractStridedSlice S4096x1280 ![0, 0]
      (m ((c : Thread nD τ).loc main_arg0)) slices_S4096x6912_S4096x1280_0_0) bitsLt_bf16_f32 := by
    show StableHlo.after hostOps0 _ (Proc.devRef .tc main_v1) = _
    after_results <;> rfl
  rw [h]
  pointwise

theorem blk_p0 (c : Dev nD) (t : Fin cfg0.N) (j : S256x1280.Idx) : iblk m c 0 t j
    = m ((c : Thread nD τ).loc main_arg0) (ix2 (row t (j 0)) ⟨(j 1).val, by have := (j 1).isLt; simp at this; omega⟩) := by
  refine Eq.trans (b := V m c main_v1 (ix2 (row t (j 0)) (j 1))) ?_ (group0 m c _)
  blk_point [iblk, idx t, row]

/-- Group 1's columns of the projection's gradient. -/
theorem group1 (c : Dev nD) (j : S4096x1536.Idx) : V m c main_v3 j
    = m ((c : Thread nD τ).loc main_arg0) (ix2 (j 0) ⟨1280 + (j 1).val, by have := (j 1).isLt; simp at this; omega⟩) := by
  have h : V m c main_v3 = truncf (F := Ideal) (s := S4096x1536) .bf16 (extractStridedSlice S4096x1536 ![0, 1280]
      (m ((c : Thread nD τ).loc main_arg0)) slices_S4096x6912_S4096x1536_0_1280) bitsLt_bf16_f32 := by
    show StableHlo.after hostOps0 _ (Proc.devRef .tc main_v3) = _
    after_results <;> rfl
  rw [h]
  pointwise

theorem blk_p1 (c : Dev nD) (t : Fin cfg0.N) (j : S256x1536.Idx) : iblk m c 1 t j
    = m ((c : Thread nD τ).loc main_arg0) (ix2 (row t (j 0)) ⟨1280 + (j 1).val, by have := (j 1).isLt; simp at this; omega⟩) := by
  refine Eq.trans (b := V m c main_v3 (ix2 (row t (j 0)) (j 1))) ?_ (group1 m c _)
  blk_point [iblk, idx t, row]

/-- Group 2's columns of the projection's gradient. -/
theorem group2 (c : Dev nD) (j : S4096x1024.Idx) : V m c main_v5 j
    = m ((c : Thread nD τ).loc main_arg0) (ix2 (j 0) ⟨2816 + (j 1).val, by have := (j 1).isLt; simp at this; omega⟩) := by
  have h : V m c main_v5 = truncf (F := Ideal) (s := S4096x1024) .bf16 (extractStridedSlice S4096x1024 ![0, 2816]
      (m ((c : Thread nD τ).loc main_arg0)) slices_S4096x6912_S4096x1024_0_2816) bitsLt_bf16_f32 := by
    show StableHlo.after hostOps0 _ (Proc.devRef .tc main_v5) = _
    after_results <;> rfl
  rw [h]
  pointwise

theorem blk_p2 (c : Dev nD) (t : Fin cfg0.N) (j : S256x1024.Idx) : iblk m c 2 t j
    = m ((c : Thread nD τ).loc main_arg0) (ix2 (row t (j 0)) ⟨2816 + (j 1).val, by have := (j 1).isLt; simp at this; omega⟩) := by
  refine Eq.trans (b := V m c main_v5 (ix2 (row t (j 0)) (j 1))) ?_ (group2 m c _)
  blk_point [iblk, idx t, row]

/-- Group 3's columns of the projection's gradient. -/
theorem group3 (c : Dev nD) (j : S4096x3072.Idx) : V m c main_v7 j
    = m ((c : Thread nD τ).loc main_arg0) (ix2 (j 0) ⟨3840 + (j 1).val, by have := (j 1).isLt; simp at this; omega⟩) := by
  have h : V m c main_v7 = truncf (F := Ideal) (s := S4096x3072) .bf16 (extractStridedSlice S4096x3072 ![0, 3840]
      (m ((c : Thread nD τ).loc main_arg0)) slices_S4096x6912_S4096x3072_0_3840) bitsLt_bf16_f32 := by
    show StableHlo.after hostOps0 _ (Proc.devRef .tc main_v7) = _
    after_results <;> rfl
  rw [h]
  pointwise

theorem blk_p3 (c : Dev nD) (t : Fin cfg0.N) (j : S256x3072.Idx) : iblk m c 3 t j
    = m ((c : Thread nD τ).loc main_arg0) (ix2 (row t (j 0)) ⟨3840 + (j 1).val, by have := (j 1).isLt; simp at this; omega⟩) := by
  refine Eq.trans (b := V m c main_v7 (ix2 (row t (j 0)) (j 1))) ?_ (group3 m c _)
  blk_point [iblk, idx t, row]

/-- The weights as the kernel sees them, transposed. -/
theorem weights (c : Dev nD) (j : S6912x1024.Idx) : V m c main_v9 j = m ((c : Thread nD τ).loc main_arg1) (ix2 (j 1) (j 0)) := by
  have h : V m c main_v9 = truncf (F := Ideal) (s := S6912x1024) .bf16 (transpose S6912x1024 [1, 0]
      (m ((c : Thread nD τ).loc main_arg1)) transposes_S1024x6912_S6912x1024_1_0) bitsLt_bf16_f32 := by
    show StableHlo.after hostOps0 _ (Proc.devRef .tc main_v9) = _
    after_results <;> rfl
  rw [h]
  pointwise

/-- The gain as the kernel sees it, a row. -/
theorem gain_row (c : Dev nD) (j : S1x1024.Idx) : V m c main_v10 j = m ((c : Thread nD τ).loc main_arg3) (ix1 (j 1)) := by
  have h : V m c main_v10 = shapeCast _ (m ((c : Thread nD τ).loc main_arg3)) shapeCasts_S1024_S1x1024 := by
    show StableHlo.after hostOps0 _ (Proc.devRef .tc main_v10) = _
    after_results <;> rfl
  rw [h]
  pointwise

theorem blk_w (c : Dev nD) (t : Fin cfg0.N) (j : S6912x1024.Idx) :
    iblk m c 4 t j = m ((c : Thread nD τ).loc main_arg1) (ix2 (j 1) (j 0)) := by
  rw [← weights m c]
  blk_point [iblk, idx t]
theorem blk_x (c : Dev nD) (t : Fin cfg0.N) (j : S256x1024.Idx) :
    iblk m c 5 t j = m ((c : Thread nD τ).loc main_arg2) (ix2 (row t (j 0)) (j 1)) := by
  rw [← V_main_arg2 m c]
  blk_point [iblk, idx t, row]
theorem blk_g (c : Dev nD) (t : Fin cfg0.N) (j : S1x1024.Idx) :
    iblk m c 6 t j = m ((c : Thread nD τ).loc main_arg3) (ix1 (j 1)) := by
  rw [← gain_row m c]
  blk_point [iblk, idx t]
theorem blk_d (c : Dev nD) (t : Fin cfg0.N) (j : S256x1024.Idx) :
    iblk m c 7 t j = m ((c : Thread nD τ).loc main_arg4) (ix2 (row t (j 0)) (j 1)) := by
  rw [← V_main_arg4 m c]
  blk_point [iblk, idx t, row]

/-- The product a point forms is the reference's at the point's rows. -/
theorem dh_blk (c : Dev nD) (t : Fin cfg0.N) (j : S256x1024.Idx) :
    k0_pay6 (F := Ideal) (iblk m c 0 t) (View.ld (iblk m c 4 t) (Rect.unit ![0, 0] ![1280, 1024] inb_S6912x1024_S1280x1024_0_0))
    (iblk m c 1 t) (View.ld (iblk m c 4 t) (Rect.unit ![1280, 0] ![1536, 1024] inb_S6912x1024_S1536x1024_1280_0))
    (iblk m c 2 t) (View.ld (iblk m c 4 t) (Rect.unit ![2816, 0] ![1024, 1024] inb_S6912x1024_S1024x1024_2816_0))
    (iblk m c 3 t) (View.ld (iblk m c 4 t) (Rect.unit ![3840, 0] ![3072, 1024] inb_S6912x1024_S3072x1024_3840_0)) j
    = val_main_v17 (F := Ideal) (m ((c : Thread nD τ).loc main_arg0)) (m ((c : Thread nD τ).loc main_arg1)) (ix2 (row t (j 0)) (j 1)) :=
  dh_point _ _ (row t) _ _ _ _ _ _ _ _ (blk_p0 m c t) (blk_p1 m c t) (blk_p2 m c t) (blk_p3 m c t)
    (fun k => by refine (blk_w m c t _).trans ?_; blk_ext <;> (refine (Rect.idx_unit_val _ _ _ _ _).trans ?_; simp)) (fun k => by refine (blk_w m c t _).trans ?_; blk_ext <;> (refine (Rect.idx_unit_val _ _ _ _ _).trans ?_; simp))
    (fun k => by refine (blk_w m c t _).trans ?_; blk_ext <;> (refine (Rect.idx_unit_val _ _ _ _ _).trans ?_; simp)) (fun k => by refine (blk_w m c t _).trans ?_; blk_ext <;> (refine (Rect.idx_unit_val _ _ _ _ _).trans ?_; simp)) j

/-- The gradient of the input: block `t` of the result is rows `256 t …` of the reference's. -/
theorem dx_value (c : Dev nD) : (dats m 0 c).arrAt 8 cfg0.N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  by_cases h : t.val % 16 = 0
  · rw [outsAt0_A m c t h]; frame_out
    refine (dx_point _ _ _ _ _ _ _ _ _ (row t) (dh_blk m c t) (blk_x m c t) (blk_d m c t) (blk_g m c t) y).trans ?_
    blk_ext [idx t, row]
  · rw [outsAt0_B m c t h]; frame_out
    refine (dx_point _ _ _ _ _ _ _ _ _ (row t) (dh_blk m c t) (blk_x m c t) (blk_d m c t) (blk_g m c t) y).trans ?_
    blk_ext [idx t, row]

/-- The gain's gradient: every point's part. -/
theorem dg_value (c : Dev nD) : (dats m 0 c).arrAt 9 cfg0.N = val_main_v39 (F := Ideal) (m ((c : Thread nD τ).loc main_arg0)) (m ((c : Thread nD τ).loc main_arg1)) (m ((c : Thread nD τ).loc main_arg2)) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0) _
    (fun t h j => by
      rw [outsAt0_A m c t h]; frame_out
      refine (dg_point _ _ _ _ _ (row t) (dh_blk m c t) (blk_x m c t) _ j).trans ?_
      rw [zero_dg])
    (fun t h j => by
      rw [outsAt0_B m c t h]; frame_out
      exact dg_point _ _ _ _ _ (row t) (dh_blk m c t) (blk_x m c t) _ j)
    (le_of_eq N_0) t0_15 rfl j, zero_add, dg_ref]
  exact sum_rows fun k => val_main_v18 (F := Ideal) _ _ _ (ix2 k (j 1))

/-- The run read at the two results and the arguments. -/
theorem run_value : θ_run defs (onTc (τ := τ) (main (F := Ideal))) ⟨m, fun _ => 0, ρ⟩ (fun r => ∀ c : Dev nD,
      r.2.mem ((c.tc : Thread nD τ).loc main_v11_0) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v11_1) = val_main_v39 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (dx_value m c), (h c).2.1.trans (dg_value m c), (h c).2.2⟩)
    (Cert.DhIdeal.Value.run_blocks m ρ)

end Cert.DhIdeal.Whole
-- ==== Proof.DhClaims.lean ====
/-
  The claims about the layer's norm behind the input projection, backward: the kernel's frame, the reference's frame, and
  that both compute the same two gradients over the extended reals, at any arguments.
-/
module

public import proofs.«01_k».proof.Defs
public import proofs.«01_k».proof.Proof.DhValue
public import proofs.«01_k».proof.Proof.Gen.Dh
public import Idealize.ShloMosaic.Lib.Quiescent

@[expose] public section

set_option maxRecDepth 16384

noncomputable section

namespace Cert.Proof.Dh

open Idealize.ShloMosaic Idealize.ShloMosaic.TcCoe Idealize.SL.Sem

attribute [local instance] Cert.Dh.Gen.facts Cert.DhIdeal.Gen.facts Cert.DhRefIdeal.Gen.facts

/-- The printed kernel's frame, from the one generated run at machine floats. -/
theorem frame_kernel : Cert.quiescent_Dh := fun m ρ _ =>
  cast (by sl_kernel_rfl) (Cert.DhIdeal.Gen.frame (F := Bits) m ρ)
/-- The same run over the reals. -/
theorem frame_ideal : Cert.quiescent_DhIdeal := fun m ρ _ => Cert.DhIdeal.Gen.frame (F := Ideal) m ρ
/-- The reference, host operations only, leaves its arguments and has no semaphore. -/
theorem frame_reference : Cert.quiescent_DhRefIdeal := fun m ρ _ =>
  (θ_run Cert.DhRefIdeal.defs _ _).mono (fun r h => ⟨fun c => (h c).2.2, sem_eq_zero_of_no_sems (by decide) r.2⟩)
    (Cert.DhRefIdeal.Value.run (F := Ideal) m ρ)
/-- The reference's two results are the kernel's. -/
theorem algebraic : Cert.algebraic_DhIdeal_DhRefIdeal := by
  pair_intro
  · run_from Cert.DhIdeal.Whole.run_value m g
  · refine (θ_run Cert.DhRefIdeal.defs _ _).mono (fun r h c => ?_) (Cert.DhRefIdeal.Value.run (F := Ideal) m' g')
    obtain ⟨e0, e1, e2, e3, e4⟩ := hagree c
    refine ⟨((h c).1.trans (Cert.DhRefIdeal.Read.val_main_v38_eq (F := Ideal) m' c)).trans ?_,
      ((h c).2.1.trans (Cert.DhRefIdeal.Read.val_main_v39_eq (F := Ideal) _ _ _)).trans ?_, (h c).2.2⟩
    · rw [e0, e1, e2, e3, e4]
    · rw [e0, e1, e2]

end Cert.Proof.Dh
-- ==== Proof.Softmax.lean ====
/-
  The gradient of a softmax at finite arguments. One program multiplies the probability by the difference of the cotangent and its
  mean; the other differentiates the quotient `e / S` and writes the square of `S`. Both are one real number.
-/
module

public import proofs.«01_k».proof.Proof.Reals

@[expose] public section

noncomputable section

namespace Cert.Alg

open Idealize.ShloMosaic

/-- A sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The literal of minus infinity. -/
theorem lit_bot : Ideal.ofBits .f32 0xFF800000#32 = ⊥ := by simp [Ideal.ofBits, Ideal.ieee]
theorem lit_one : Ideal.ofBits .f32 0x3F800000#32 = ((1 : ℝ) : EReal) := by
  simp [Ideal.ofBits, Ideal.ieee, -EReal.coe_mul]; norm_num
/-- The root of one over 128, as the programs round it, is a nonnegative real. -/
theorem lit_scale : ∃ c : ℝ, 0 ≤ c ∧ Ideal.ofBits .f32 0x3DB504F3#32 = (c : EReal) :=
  ⟨11863283 / 2 ^ 27, by norm_num, by simp [Ideal.ofBits, Ideal.ieee, -EReal.coe_mul]; norm_num⟩

/-- The maximum of finitely many reals, at least one, is a real. -/
theorem fold_max_coe {n : ℕ} (f : Fin (n + 1) → ℝ) : ∃ M : ℝ, Finset.univ.fold max (⊥ : EReal) (fun k => (f k : EReal)) = (M : EReal) := by
  have h : ∀ s : Finset (Fin (n + 1)), s.fold max (⊥ : EReal) (fun k => (f k : EReal)) = ⊥
      ∨ ∃ M : ℝ, s.fold max (⊥ : EReal) (fun k => (f k : EReal)) = (M : EReal) := fun s => by
    classical
    induction s using Finset.induction_on with
    | empty => exact .inl rfl
    | insert a s ha ih =>
      rw [Finset.fold_insert ha]
      rcases ih with h | ⟨M, h⟩
      · exact .inr ⟨f a, by rw [h]; exact max_bot_right _⟩
      · exact .inr ⟨max (f a) M, by rw [h]; exact (EReal.coe_strictMono.monotone.map_max).symm⟩
  rcases h Finset.univ with h | h
  · have : (f 0 : EReal) ≤ ⊥ := h ▸ (Finset.le_fold_max (f 0 : EReal)).mpr (.inr ⟨0, Finset.mem_univ _, le_rfl⟩)
    exact absurd (le_bot_iff.mp this) (EReal.coe_ne_bot _)
  · exact h

/-- A sum of exponentials is a positive real. -/
theorem sum_exp_coe {n : ℕ} (f : Fin (n + 1) → ℝ) : ∃ S : ℝ, 0 < S ∧ S = ∑ k, Real.exp (f k) ∧ ∑ k, Ideal.exp (f k : EReal) = (S : EReal) :=
  ⟨∑ k, Real.exp (f k), Finset.sum_pos (fun k _ => Real.exp_pos _) Finset.univ_nonempty, rfl, by
    simp only [Ideal.exp_coe]; exact sum_coe _ _⟩

/-- A row's gradient of a softmax followed by the product with `v`, at finite arguments: `s` the scores, `M` what is subtracted of them,
`d` the product's cotangent. -/
theorem softmax_grad {n m : ℕ} (s : Fin (n + 1) → ℝ) (M : ℝ) (d : Fin m → ℝ) (v : Fin (n + 1) → Fin m → ℝ) (k : Fin (n + 1))
    (e : Fin (n + 1) → EReal) (S : EReal) (he : ∀ k, e k = Ideal.exp ((s k : EReal) - M)) (hS : S = ∑ k, e k) :
    Ideal.div (e k) S * ((∑ a, (d a : EReal) * v k a) - ∑ a, (d a : EReal) * ∑ j, Ideal.div (e j) S * v j a)
      = (Ideal.div (∑ a, (d a : EReal) * v k a) S + -∑ j, (∑ a, (d a : EReal) * v j a) * Ideal.div 1 (S * S) * e j) * e k := by
  have he' : ∀ k, e k = ((Real.exp (s k - M) : ℝ) : EReal) := fun k => by
    rw [he, ← EReal.coe_sub, Ideal.exp_coe]
  have hS' : S = ((∑ k, Real.exp (s k - M) : ℝ) : EReal) := by rw [hS]; simp only [he']; exact sum_coe _ _
  have hpos : 0 < ∑ k, Real.exp (s k - M) := Finset.sum_pos (fun k _ => Real.exp_pos _) Finset.univ_nonempty
  generalize hT : ∑ k, Real.exp (s k - M) = T at hS' hpos
  rw [hS']
  have one : (1 : EReal) = ((1 : ℝ) : EReal) := rfl
  have hne : T * T ≠ 0 := (mul_pos hpos hpos).ne'
  simp only [he', ← EReal.coe_mul, one, Ideal.div_coe hpos.ne', Ideal.div_coe hne, sum_coe, ← EReal.coe_sub, ← EReal.coe_add, ← EReal.coe_neg]
  rw [EReal.coe_eq_coe_iff]
  generalize hx : (fun k => Real.exp (s k - M)) = x
  have hx' : ∀ k, Real.exp (s k - M) = x k := fun k => congrFun hx k
  simp only [hx']
  have h1 : ∑ a, d a * ∑ j, x j * (1 / T) * v j a = (1 / T) * ∑ j, x j * ∑ a, d a * v j a := by
    simp only [Finset.mul_sum]
    rw [Finset.sum_comm]
    exact Finset.sum_congr rfl fun _ _ => Finset.sum_congr rfl fun _ _ => by ring
  have h2 : ∑ j, (∑ a, d a * v j a) * (1 * (1 / (T * T))) * x j = (1 / (T * T)) * ∑ j, x j * ∑ a, d a * v j a := by
    rw [Finset.mul_sum]
    exact Finset.sum_congr rfl fun _ _ => by ring
  rw [h1, h2]
  have : T ≠ 0 := hpos.ne'
  field_simp
  ring

/-- The gradient of `z * σ(z)` times a cotangent, at finite arguments: the kernel's factored form and the product rule's two terms. -/
theorem silu_grad (w z s : ℝ) : (w : EReal) * ((s : EReal) * (((1 : ℝ) : EReal) + (z : EReal) * (((1 : ℝ) : EReal) - (s : EReal))))
    = (w : EReal) * s + (z : EReal) * w * ((s : EReal) * (((1 : ℝ) : EReal) - (s : EReal))) := by
  simp only [← EReal.coe_mul, ← EReal.coe_sub, ← EReal.coe_add]
  rw [EReal.coe_eq_coe_iff]; ring

/-- The logistic function of a real is a real. -/
theorem logistic_coe (z : ℝ) : ∃ s : ℝ, Ideal.div 1 (1 + Ideal.exp (-(z : EReal))) = (s : EReal) := by
  have h : (1 : EReal) + Ideal.exp (-(z : EReal)) = ((1 + Real.exp (-z) : ℝ) : EReal) := by
    rw [← EReal.coe_neg, Ideal.exp_coe]; rfl
  have hp : (1 + Real.exp (-z) : ℝ) ≠ 0 := (add_pos one_pos (Real.exp_pos _)).ne'
  exact ⟨1 * (1 / (1 + Real.exp (-z))), by rw [h, Ideal.div_coe hp]; rfl⟩

/-- An array whose every entry's size is below infinity has real entries. -/
theorem finite_of {s : Shape} (x : FVec Ideal s .f32) (b : FVec Ideal s .f32) (hb : ∀ i, b i = Ideal.ofBits .f32 0x7F800000#32)
    (h : cmpf (F := Ideal) .olt (Host.absf x) b = fun _ => 1#1) (i : s.Idx) : ∃ r : ℝ, x i = (r : EReal) := by
  have h1 := congrFun h i
  have htop : Ideal.ofBits .f32 0x7F800000#32 = ⊤ := by simp [Ideal.ofBits, Ideal.ieee]
  have h2 : FloatOps.cmpf (F := Ideal) .olt (FloatOps.absf (x i)) (b i) = 1#1 := h1
  rw [hb, htop] at h2
  have h3 : max (x i) (-(x i)) < ⊤ := by
    by_contra hn
    have h4 : BitVec.ofBool (decide (max (x i) (-(x i)) < ⊤)) = 1#1 := h2
    rw [decide_eq_false hn] at h4
    exact absurd h4 (by decide)
  exact ⟨(x i).toReal, (EReal.coe_toReal (fun e => by rw [e] at h3; simp at h3) (fun e => by rw [e] at h3; simp at h3)).symm⟩

end Cert.Alg
-- ==== Proof.CrossValue.lean ====
/-
  The gradients of the cross attention to the projected memory. A grid point takes 512 rows through each of the four heads: the softmax of the
  scores, the gate's and the queries' gradients, and the rows' part of the keys' and values' gradients, which it adds to the result.
-/
module

public import proofs.«01_k».proof.Proof.Gen.CrossIdeal.Value
public import proofs.«01_k».proof.Proof.Gen.CrossRefIdeal.Read
public import proofs.«01_k».proof.Proof.Softmax
public import Idealize.ShloMosaic.Lib.Pipeline.ValueKit
public import Idealize.ShloMosaic.Lib.Pipeline.ReadBack

@[expose] public section

set_option maxRecDepth 16384

noncomputable section

namespace Cert.CrossIdeal.Whole

open Cert.CrossIdeal Cert.CrossIdeal.Gen Cert.CrossRefIdeal.Read
open Idealize.ShloMosaic Idealize.ShloMosaic.TcCoe Idealize.SL.Sem

/-- Column `d` of head `h`. -/
def col (h : Fin 4) (d : Fin 128) : Fin 512 := ⟨h.val * 128 + d.val, by omega⟩

/-! ## The reference at one place -/

section Reference
variable (pm : Vec Ideal S4096x1024 .f32) (kv : Vec Ideal S256x1024 .f32) (dy : Vec Ideal S4096x512 .f32)
  (h : Fin 4) (i : Fin 4096) (k : Fin 256) (d : Fin 128)

/-- The maximum of a row's scores. -/
def top : EReal := Finset.univ.fold max ⊥ fun k : Fin 256 => val_main_v9 (F := Ideal) pm kv (ix3 h i k)

/-- The exponential of a score. -/
theorem ref_exp : val_main_v30 (F := Ideal) pm kv (ix3 h i k) = Ideal.exp (val_main_v9 (F := Ideal) pm kv (ix3 h i k) - top pm kv h i) := by
  have hm : val_main_v10 (F := Ideal) pm kv (ix2 h i) = top pm kv h i := by
    unfold top; rw [← Alg.lit_bot]; pointwise [val_main_v10, val_main_cst_0]
  have h1 : val_main_v17 (F := Ideal) pm kv (ix2 h i) = top pm kv h i := by
    rw [← hm, val_main_v17_apply]
    have : val_main_v16 (F := Ideal) (ix2 h i) = (⊥ : EReal) := by rw [← Alg.lit_bot]; rfl
    rw [this]; exact max_eq_right bot_le
  rw [← h1]; pointwise [val_main_v30, val_main_v29, val_main_v28, val_main_v27]

/-- The sum of a row's exponentials. -/
theorem ref_sum : val_main_v31 (F := Ideal) pm kv (ix2 h i) = ∑ k : Fin 256, val_main_v30 (F := Ideal) pm kv (ix3 h i k) := by
  pointwise [val_main_v31, val_main_cst_8]

/-- A probability. -/
theorem ref_p : val_main_v34 (F := Ideal) pm kv (ix3 h i k)
    = Ideal.div (val_main_v30 (F := Ideal) pm kv (ix3 h i k)) (val_main_v31 (F := Ideal) pm kv (ix2 h i)) := by
  pointwise [val_main_v34, val_main_v33, val_main_v32]

/-- A probability from the scores. -/
theorem ref_softmax : val_main_v34 (F := Ideal) pm kv (ix3 h i k)
    = Ideal.div (Ideal.exp (val_main_v9 (F := Ideal) pm kv (ix3 h i k) - top pm kv h i))
      (∑ k : Fin 256, Ideal.exp (val_main_v9 (F := Ideal) pm kv (ix3 h i k) - top pm kv h i)) := by
  rw [ref_p, ref_sum]; simp only [ref_exp]

/-- A row's mean of the values. -/
theorem ref_o : val_main_v40 (F := Ideal) pm kv (ix2 i (col h d))
    = ∑ k : Fin 256, val_main_v34 (F := Ideal) pm kv (ix3 h i k) * val_main_v5 (F := Ideal) kv (ix3 k h d) := by
  have h1 : val_main_v40 (F := Ideal) pm kv (ix2 i (col h d)) = val_main_v38 (F := Ideal) pm kv (ix3 h d i) := by
    pointwise [val_main_v40, val_main_v39, col]
  rw [h1]; pointwise [val_main_v38]
  exact Finset.sum_congr rfl fun _ _ => mul_comm (_ : EReal) _

/-- The cotangent of a probability. -/
theorem ref_dp : val_main_v48 (F := Ideal) pm kv dy (ix3 h i k)
    = ∑ d : Fin 128, val_main_v44 (F := Ideal) pm dy (ix2 i (col h d)) * val_main_v5 (F := Ideal) kv (ix3 k h d) := by
  have h1 : ∀ d : Fin 128, val_main_v47 (F := Ideal) pm dy (ix3 h d i) = val_main_v44 (F := Ideal) pm dy (ix2 i (col h d)) := fun d => by
    pointwise [val_main_v47, val_main_v46, col]
  pointwise [val_main_v48, h1]

/-- The score's cotangent as the quotient's derivative writes it. -/
theorem ref_dr : val_main_v64 (F := Ideal) pm kv dy (ix3 h i k)
    = (Ideal.div (val_main_v48 (F := Ideal) pm kv dy (ix3 h i k)) (val_main_v31 (F := Ideal) pm kv (ix2 h i))
        + -∑ j : Fin 256, val_main_v48 (F := Ideal) pm kv dy (ix3 h i j)
          * Ideal.div 1 (val_main_v31 (F := Ideal) pm kv (ix2 h i) * val_main_v31 (F := Ideal) pm kv (ix2 h i)) * val_main_v30 (F := Ideal) pm kv (ix3 h i j))
        * val_main_v30 (F := Ideal) pm kv (ix3 h i k) * Ideal.ofBits .f32 0x3DB504F3#32 := by
  have h1 : val_main_v54 (F := Ideal) pm kv dy (ix2 h i) = ∑ j : Fin 256, val_main_v48 (F := Ideal) pm kv dy (ix3 h i j)
      * Ideal.div 1 (val_main_v31 (F := Ideal) pm kv (ix2 h i) * val_main_v31 (F := Ideal) pm kv (ix2 h i)) * val_main_v30 (F := Ideal) pm kv (ix3 h i j) := by
    rw [← Ideal.ofBits_one_f32]
    pointwise [val_main_v54, val_main_cst_10, val_main_v53, val_main_v52, val_main_v51, val_main_v37, val_main_v36, val_main_v35, val_main_v32, val_main_cst_9]
  have h2 : val_main_v59 (F := Ideal) pm kv dy (ix2 h i) = -val_main_v54 (F := Ideal) pm kv dy (ix2 h i) := by
    pointwise [val_main_v59, val_main_v56, val_main_v55, val_main_cst_11]
    exact Fin.sum_univ_one (M := EReal) _
  rw [← h1, ← h2]
  pointwise [val_main_v64, val_main_v63, val_main_cst_12, val_main_v62, val_main_v61, val_main_v60, val_main_v58, val_main_v57, val_main_v32]

variable (hpm : ∀ i, ∃ r : ℝ, pm i = (r : EReal)) (hkv : ∀ i, ∃ r : ℝ, kv i = (r : EReal)) (hdy : ∀ i, ∃ r : ℝ, dy i = (r : EReal))

include hpm hkv in
/-- A score of finite arguments is finite. -/
theorem score_real : ∃ r : ℝ, val_main_v9 (F := Ideal) pm kv (ix3 h i k) = (r : EReal) := by
  choose a ha using hpm
  choose b hb using hkv
  obtain ⟨c, -, hc⟩ := Alg.lit_scale
  have hq : ∀ d, val_main_v6 (F := Ideal) pm (ix3 i h d) = ((a (ix2 i ⟨h.val * 128 + d.val, by omega⟩) : ℝ) : EReal) := fun d => by
    rw [← ha]; pointwise [val_main_v6, val_main_v0]
  have hk : ∀ d, val_main_v4 (F := Ideal) kv (ix3 k h d) = ((b (ix2 k ⟨h.val * 128 + d.val, by omega⟩) : ℝ) : EReal) := fun d => by
    rw [← hb]; pointwise [val_main_v4, val_main_v2]
  refine ⟨(∑ d : Fin 128, a (ix2 i ⟨h.val * 128 + d.val, by omega⟩) * b (ix2 k ⟨h.val * 128 + d.val, by omega⟩)) * c, ?_⟩
  rw [EReal.coe_mul, ← hc, ← Alg.sum_coe]
  simp only [EReal.coe_mul, ← hq, ← hk]
  pointwise [val_main_v9, val_main_v8, val_main_v7, val_main_cst]

include hpm hdy in
/-- The product's cotangent at finite arguments is finite. -/
theorem do_real (n : Fin 512) : ∃ r : ℝ, val_main_v44 (F := Ideal) pm dy (ix2 i n) = (r : EReal) := by
  obtain ⟨z, hz⟩ := hpm (ix2 i ⟨512 + n.val, by omega⟩)
  obtain ⟨y, hy⟩ := hdy (ix2 i n)
  obtain ⟨s, hs⟩ := Alg.logistic_coe z
  refine ⟨y * (z * s), ?_⟩
  rw [EReal.coe_mul, EReal.coe_mul, ← hy, ← hs, ← hz, ← Ideal.ofBits_one_f32]
  pointwise [val_main_v44, val_main_v41_0, val_main_v41_2, val_main_call0_v4, val_main_call0_v3, val_main_call0_v2, val_main_call0_v1,
    val_main_call0_v0, val_main_call0_cst, val_main_call0_cst_0, val_main_v1]

include hpm hkv hdy in
/-- The score's cotangent as the kernel forms it: the probability by what its cotangent exceeds the row's mean by. -/
theorem dr_eq : val_main_v64 (F := Ideal) pm kv dy (ix3 h i k)
    = val_main_v34 (F := Ideal) pm kv (ix3 h i k)
      * ((∑ d : Fin 128, val_main_v44 (F := Ideal) pm dy (ix2 i (col h d)) * val_main_v5 (F := Ideal) kv (ix3 k h d))
        - ∑ d : Fin 128, val_main_v44 (F := Ideal) pm dy (ix2 i (col h d)) * val_main_v40 (F := Ideal) pm kv (ix2 i (col h d)))
      * Ideal.ofBits .f32 0x3DB504F3#32 := by
  choose s hs using fun k => score_real pm kv h i k hpm hkv
  choose w hw using fun d => do_real pm dy i hpm hdy (col h d)
  choose b hb using hkv
  have hv : ∀ k d, val_main_v5 (F := Ideal) kv (ix3 k h d) = ((b (ix2 k ⟨512 + (h.val * 128 + d.val), by omega⟩) : ℝ) : EReal) := fun k d => by
    rw [← hb]; pointwise [val_main_v5, val_main_v3]
  obtain ⟨M, hM⟩ : ∃ M : ℝ, top pm kv h i = (M : EReal) := by unfold top; simp only [hs]; exact Alg.fold_max_coe (n := 255) s
  rw [ref_dr]
  refine congrArg (· * Ideal.ofBits .f32 0x3DB504F3#32) ?_
  simp only [ref_dp, ref_o, ref_p, hw, hv]
  exact (Alg.softmax_grad (n := 255) s M w (fun k d => b (ix2 k ⟨512 + (h.val * 128 + d.val), by omega⟩)) k
    (fun k => val_main_v30 (F := Ideal) pm kv (ix3 h i k)) _ (fun k => by rw [ref_exp, hs, hM]) (ref_sum pm kv h i)).symm

include hpm hkv in
/-- The mean of the values of finite arguments is finite. -/
theorem o_real : ∃ r : ℝ, val_main_v40 (F := Ideal) pm kv (ix2 i (col h d)) = (r : EReal) := by
  choose s hs using fun k => score_real pm kv h i k hpm hkv
  choose b hb using hkv
  have hv : ∀ k, val_main_v5 (F := Ideal) kv (ix3 k h d) = ((b (ix2 k ⟨512 + (h.val * 128 + d.val), by omega⟩) : ℝ) : EReal) := fun k => by
    rw [← hb]; pointwise [val_main_v5, val_main_v3]
  obtain ⟨M, hM⟩ : ∃ M : ℝ, top pm kv h i = (M : EReal) := by unfold top; simp only [hs]; exact Alg.fold_max_coe (n := 255) s
  have he : ∀ k, val_main_v30 (F := Ideal) pm kv (ix3 h i k) = ((Real.exp (s k - M) : ℝ) : EReal) := fun k => by
    rw [ref_exp, hs, hM, ← EReal.coe_sub, Ideal.exp_coe]
  have hpos : 0 < ∑ k : Fin 256, Real.exp (s k - M) := Finset.sum_pos (fun k _ => Real.exp_pos _) Finset.univ_nonempty
  have hS : val_main_v31 (F := Ideal) pm kv (ix2 h i) = ((∑ k : Fin 256, Real.exp (s k - M) : ℝ) : EReal) := by
    rw [ref_sum]; simp only [he]; exact Alg.sum_coe _ _
  refine ⟨∑ k : Fin 256, Real.exp (s k - M) * (1 / ∑ k : Fin 256, Real.exp (s k - M)) * b (ix2 k ⟨512 + (h.val * 128 + d.val), by omega⟩), ?_⟩
  · simp only [ref_o, ref_p, he, hS, hv, Ideal.div_coe hpos.ne', ← EReal.coe_mul]; exact Alg.sum_coe _ _

include hpm hkv hdy in
/-- The gate's cotangent as the kernel forms it. -/
theorem dz_eq : val_main_v45 (F := Ideal) pm kv dy (ix2 i (col h d))
    = dy (ix2 i (col h d)) * val_main_v40 (F := Ideal) pm kv (ix2 i (col h d))
      * (val_main_v41_2 (F := Ideal) pm (ix2 i (col h d))
        * (1 + val_main_v1 (F := Ideal) pm (ix2 i (col h d)) * (1 - val_main_v41_2 (F := Ideal) pm (ix2 i (col h d))))) := by
  obtain ⟨o, ho⟩ := o_real pm kv h i d hpm hkv
  obtain ⟨y, hy⟩ := hdy (ix2 i (col h d))
  obtain ⟨z, hz⟩ : ∃ z : ℝ, val_main_v1 (F := Ideal) pm (ix2 i (col h d)) = (z : EReal) := by
    obtain ⟨z, hz⟩ := hpm (ix2 i ⟨512 + (col h d).val, by omega⟩)
    exact ⟨z, by rw [← hz]; pointwise [val_main_v1]⟩
  obtain ⟨s, hs⟩ : ∃ s : ℝ, val_main_v41_2 (F := Ideal) pm (ix2 i (col h d)) = (s : EReal) := by
    obtain ⟨s, hs⟩ := Alg.logistic_coe z
    refine ⟨s, ?_⟩
    rw [← hs, ← hz, ← Ideal.ofBits_one_f32]
    pointwise [val_main_v41_2, val_main_call0_v4, val_main_call0_v3, val_main_call0_v2, val_main_call0_v1, val_main_call0_v0,
      val_main_call0_cst, val_main_call0_cst_0]
  have h1 : val_main_v45 (F := Ideal) pm kv dy (ix2 i (col h d))
      = val_main_v40 (F := Ideal) pm kv (ix2 i (col h d)) * dy (ix2 i (col h d)) * val_main_v41_2 (F := Ideal) pm (ix2 i (col h d))
        + val_main_v1 (F := Ideal) pm (ix2 i (col h d)) * (val_main_v40 (F := Ideal) pm kv (ix2 i (col h d)) * dy (ix2 i (col h d)))
          * (val_main_v41_2 (F := Ideal) pm (ix2 i (col h d)) * (1 - val_main_v41_2 (F := Ideal) pm (ix2 i (col h d)))) := by
    rw [← Ideal.ofBits_one_f32]
    pointwise [val_main_v45, val_main_call1_v1, val_main_call1_v2, val_main_call1_v0, val_main_v43, val_main_v41_1, val_main_call0_v7,
      val_main_call0_v6, val_main_call0_cst_1]
  rw [h1, ho, hy, hz, hs, mul_comm (o : EReal)]
  have := Alg.silu_grad (y * o) z s
  rw [EReal.coe_mul] at this
  exact this.symm

end Reference

/-! ## One point's rows of head `h` -/

section Rows
variable (pm : Vec Ideal S4096x1024 .f32) (kv : Vec Ideal S256x1024 .f32) (dy : Vec Ideal S4096x512 .f32)
  (hpm : ∀ i, ∃ r : ℝ, pm i = (r : EReal)) (hkv : ∀ i, ∃ r : ℝ, kv i = (r : EReal)) (hdy : ∀ i, ∃ r : ℝ, dy i = (r : EReal))
  (row : Fin 512 → Fin 4096) (h : Fin 4)
  (Q : Vec Ideal S512x128 .bf16) (K : Vec Ideal S256x128 .f32) (V : Vec Ideal S256x128 .f32) (Z : Vec Ideal S512x128 .bf16) (Y : Vec Ideal S512x128 .f32)
  (S P : Vec Ideal S512x256 .f32) (O : Vec Ideal S512x128 .f32)
  (hQ : ∀ j : S512x128.Idx, Q j = val_main_v6 (F := Ideal) pm (ix3 (row (j 0)) h (j 1)))
  (hK : ∀ j : S256x128.Idx, K j = val_main_v4 (F := Ideal) kv (ix3 (j 0) h (j 1)))
  (hV : ∀ j : S256x128.Idx, V j = val_main_v5 (F := Ideal) kv (ix3 (j 0) h (j 1)))
  (hZ : ∀ j : S512x128.Idx, Z j = val_main_v1 (F := Ideal) pm (ix2 (row (j 0)) (col h (j 1))))
  (hY : ∀ j : S512x128.Idx, Y j = dy (ix2 (row (j 0)) (col h (j 1))))
  (hS : ∀ j : S512x256.Idx, S j = val_main_v9 (F := Ideal) pm kv (ix3 h (row (j 0)) (j 1)))
  (hP : ∀ j : S512x256.Idx, P j = val_main_v34 (F := Ideal) pm kv (ix3 h (row (j 0)) (j 1)))
  (hO : ∀ j : S512x128.Idx, O j = val_main_v40 (F := Ideal) pm kv (ix2 (row (j 0)) (col h (j 1))))

include hQ hK in
/-- The scores. -/
theorem score_point (j : S512x256.Idx) : k0_pay5 (F := Ideal) Q K j = val_main_v9 (F := Ideal) pm kv (ix3 h (row (j 0)) (j 1)) := by
  pointwise [k0_pay5, hQ, hK, val_main_v9, val_main_v8, val_main_v7, val_main_cst]

include hS in
/-- The softmax. -/
theorem p_point (j : S512x256.Idx) : k0_pay23 (F := Ideal) S j = val_main_v34 (F := Ideal) pm kv (ix3 h (row (j 0)) (j 1)) := by
  refine Eq.trans ?_ (ref_softmax _ _ _ _ _).symm
  simp only [top, ← Alg.lit_bot]
  pointwise [k0_pay23, hS]

include hS hV in
/-- The mean of the values. -/
theorem o_point (j : S512x128.Idx) : k0_pay25 (F := Ideal) S V j = val_main_v40 (F := Ideal) pm kv (ix2 (row (j 0)) (col h (j 1))) := by
  refine Eq.trans ?_ (ref_o _ _ _ _ _).symm
  have hp := p_point pm kv row h S hS
  pointwise [k0_pay25, k0_pay24, k0_pay20, hp, hV]

include hZ in
/-- The logistic function of the gate. -/
theorem sig_point (j : S512x128.Idx) : k0_pay10 (F := Ideal) Z j = val_main_v41_2 (F := Ideal) pm (ix2 (row (j 0)) (col h (j 1))) := by
  trans Ideal.div (Ideal.ofBits .f32 0x3F800000#32) (Ideal.ofBits .f32 0x3F800000#32 + Ideal.exp (-val_main_v1 (F := Ideal) pm (ix2 (row (j 0)) (col h (j 1)))))
  · pointwise [k0_pay10, k0_pay9, hZ]
    rw [Alg.lit_half]; exact Alg.half_tanh _
  · pointwise [val_main_v41_2, val_main_call0_v4, val_main_call0_v3, val_main_call0_v2, val_main_call0_v1, val_main_call0_v0,
      val_main_call0_cst, val_main_call0_cst_0]

include hZ hY in
/-- The product's cotangent. -/
theorem do_point (j : S512x128.Idx) : k0_pay11 (F := Ideal) Z Y j = val_main_v44 (F := Ideal) pm dy (ix2 (row (j 0)) (col h (j 1))) := by
  have hs := sig_point pm row h Z hZ
  pointwise [k0_pay11, k0_pay9, hZ, hY, hs, val_main_v44, val_main_v41_0]

include hpm hkv hdy hZ hY hO in
/-- The gate's cotangent. -/
theorem dz_point (j : S512x128.Idx) : k0_pay12 (F := Ideal) O Z Y j = val_main_v45 (F := Ideal) pm kv dy (ix2 (row (j 0)) (col h (j 1))) := by
  refine Eq.trans ?_ (dz_eq pm kv dy h _ _ hpm hkv hdy).symm
  have hs := sig_point pm row h Z hZ
  rw [← Ideal.ofBits_one_f32]
  pointwise [k0_pay12, k0_pay9, hZ, hY, hs, hO]

include hpm hkv hdy hZ hY hO hP hV in
/-- The scores' cotangent. -/
theorem dr_point (j : S512x256.Idx) : k0_pay14 (F := Ideal) V P O Z Y j = val_main_v64 (F := Ideal) pm kv dy (ix3 h (row (j 0)) (j 1)) := by
  refine Eq.trans ?_ (dr_eq pm kv dy h _ _ hpm hkv hdy).symm
  have hd := do_point pm dy row h Z Y hZ hY
  pointwise [k0_pay14, k0_pay13, hd, hV, hP, hO]

include hpm hkv hdy hZ hY hO hP hV hK in
/-- The queries' gradient. -/
theorem dq_point (j : S512x128.Idx) : k0_pay15 (F := Ideal) K V P O Z Y j = val_main_v69 (F := Ideal) pm kv dy (ix2 (row (j 0)) (col h (j 1))) := by
  have hd := dr_point pm kv dy hpm hkv hdy row h V Z Y P O hV hZ hY hP hO
  trans val_main_v67 (F := Ideal) pm kv dy (ix3 h (row (j 0)) (j 1))
  · pointwise [k0_pay15, hd, hK, val_main_v67]
  · pointwise [val_main_v69, val_main_v68, col]

variable (R : Vec Ideal S512x256 .bf16) (D : Vec Ideal S512x128 .bf16) (A : Vec Ideal S256x128 .f32)
  (hR : ∀ j : S512x256.Idx, R j = val_main_v64 (F := Ideal) pm kv dy (ix3 h (row (j 0)) (j 1)))
  (hD : ∀ j : S512x128.Idx, D j = val_main_v44 (F := Ideal) pm dy (ix2 (row (j 0)) (col h (j 1))))

include hR hQ in
/-- The rows' part of the keys' gradient. -/
theorem dk_point (j : S256x128.Idx) : k0_pay17 (F := Ideal) Q R A (constant S256x128 .f32 0x00000000#32) j
    = A j + ∑ i : Fin 512, val_main_v64 (F := Ideal) pm kv dy (ix3 h (row i) (j 0)) * val_main_v6 (F := Ideal) pm (ix3 (row i) h (j 1)) := by
  pointwise [k0_pay17, hR, hQ]

include hP hD in
/-- The rows' part of the values' gradient. -/
theorem dv_point (j : S256x128.Idx) : k0_pay18 (F := Ideal) P D A j
    = A j + ∑ i : Fin 512, val_main_v34 (F := Ideal) pm kv (ix3 h (row i) (j 0)) * val_main_v44 (F := Ideal) pm dy (ix2 (row i) (col h (j 1))) := by
  pointwise [k0_pay18, hP, hD]

end Rows

/-! ## What a point reads -/

variable (m : (ℓ : Loc nD τ sig) → Buf (Elt Ideal) ℓ) (ρ : Dev nD → PrngReg)

/-- The block indices of the windows. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The row of the array that a row of point `t`'s block is. -/
def row (t : Fin cfg0.N) (i : Fin 512) : Fin 4096 := ⟨t.val * 512 + i.val, by have := t.isLt; have : t.val < 8 := this; omega⟩

/-- A sum over all rows, point by point. -/
theorem sum_rows (f : Fin 4096 → EReal) : ∑ t : Fin cfg0.N, ∑ k, f (row t k) = ∑ k, f k :=
  (Fin.sum_univ_tiles (M := EReal) 8 512 rfl f).symm

theorem host_pm (c : Dev nD) : V m c main_v0 = (fun j => m ((c : Thread nD τ).loc main_arg0) j) := by
  have h : V m c main_v0 = truncf (F := Ideal) (s := S4096x1024) .bf16 (m ((c : Thread nD τ).loc main_arg0)) bitsLt_bf16_f32 := by
    show StableHlo.after hostOps0 _ (Proc.devRef .tc main_v0) = _
    after_results <;> rfl
  rw [h]; rfl

section Blocks
variable (c : Dev nD) (t : Fin cfg0.N)

theorem blk_pm (j : S512x1024.Idx) : iblk m c 0 t j = m ((c : Thread nD τ).loc main_arg0) (ix2 (row t (j 0)) (j 1)) := by
  refine Eq.trans (b := V m c main_v0 (ix2 (row t (j 0)) (j 1))) ?_ (congrFun (host_pm m c) _)
  blk_point [iblk, idx t, row]

theorem blk_kv (j : S256x1024.Idx) : iblk m c 1 t j = m ((c : Thread nD τ).loc main_arg1) j := by
  rw [← V_main_arg1 m c]
  blk_point [iblk, idx t, row]

theorem blk_dy (j : S512x512.Idx) : iblk m c 2 t j = m ((c : Thread nD τ).loc main_arg2) (ix2 (row t (j 0)) (j 1)) := by
  rw [← V_main_arg2 m c]
  blk_point [iblk, idx t, row]

end Blocks

/-! ## Blocks of 128 columns -/

/-- A load of 128 columns from column `o` on. -/
theorem ld_cols {n w : ℕ} {e : EltTy} (X : Vec Ideal ⟨2, ![n, w]⟩ e) (o : ℕ) (ho : o + 128 ≤ w)
    (inb : ∀ a : Fin 2, (![0, o] : Fin 2 → ℕ) a + (![n, 128] : Fin 2 → ℕ) a ≤ (⟨2, ![n, w]⟩ : Shape).size a) (j : (⟨2, ![n, 128]⟩ : Shape).Idx) :
    View.ld (Val := Elt Ideal) X (Rect.unit (s := ⟨2, ![n, w]⟩) ![0, o] ![n, 128] inb) j
      = X (ix2 (n0 := n) (n1 := w) (j 0) ⟨o + (j 1).val, by have : (j 1).val < 128 := (j 1).isLt; omega⟩) := by
  refine congrArg X (funext fun a => Fin.ext ((Rect.idx_unit_val _ _ _ _ _).trans ?_))
  fin_cases a <;> simp

/-- The place of a block's column in the whole. -/
abbrev at8 {n : ℕ} (k : Fin 8) (j : (⟨2, ![n, 128]⟩ : Shape).Idx) : (⟨2, ![n, 1024]⟩ : Shape).Idx :=
  ix2 (n0 := n) (n1 := 1024) (j 0) ⟨k.val * 128 + (j 1).val, by have : (j 1).val < 128 := (j 1).isLt; omega⟩

theorem inb8 {n : ℕ} (k : Fin 8) (a : Fin 2) :
    (![0, k.val * 128] : Fin 2 → ℕ) a + (![n, 128] : Fin 2 → ℕ) a ≤ (⟨2, ![n, 1024]⟩ : Shape).size a := by
  fin_cases a <;> simp; omega

/-- A store of 128 columns. -/
abbrev piece {n : ℕ} {e : EltTy} (k : Fin 8) (A : Vec Ideal ⟨2, ![n, 128]⟩ e) : View.Piece (Elt Ideal) ⟨2, ![n, 1024]⟩ e :=
  ⟨Rect.unit (s := ⟨2, ![n, 1024]⟩) ![0, k.val * 128] ![n, 128] (inb8 k), A⟩

theorem piece_of {n : ℕ} {e : EltTy} (k : Fin 8) (A : Vec Ideal ⟨2, ![n, 128]⟩ e) (f : Vec Ideal ⟨2, ![n, 1024]⟩ e) (hA : ∀ j, A j = f (at8 k j))
    (x : (piece k A).1.shape.Idx) : (piece k A).2 x = f ((piece k A).1.emb x) := by
  refine (hA x).trans (congrArg f (funext fun a => Fin.ext ?_))
  refine Eq.trans ?_ (Rect.idx_unit_val _ _ (inb8 k) _ _).symm
  fin_cases a <;> simp [at8]

theorem piece_mem {n : ℕ} {e : EltTy} (k : Fin 8) (A : Vec Ideal ⟨2, ![n, 128]⟩ e) (z : (⟨2, ![n, 1024]⟩ : Shape).Idx) (h : (z 1).val / 128 = k.val) :
    z ∈ (piece k A).1.set := by
  mem_blk
  have h0 : (z 0).val < n := (z 0).isLt
  intro a; fin_cases a <;> simp <;> omega

/-- Eight stores of 128 columns each leave the array that they are the columns of. -/
theorem canon_cols {n : ℕ} {e : EltTy} (o : Fin 8 → Fin 8) (ho : ∀ k, ∃ l, o l = k) (f : Vec Ideal ⟨2, ![n, 1024]⟩ e)
    (L : List (View.Piece (Elt Ideal) ⟨2, ![n, 1024]⟩ e)) {A0 A1 A2 A3 A4 A5 A6 A7 : Vec Ideal ⟨2, ![n, 128]⟩ e}
    (h0 : ∀ j, A0 j = f (at8 (o 0) j))
    (h1 : ∀ j, A1 j = f (at8 (o 1) j))
    (h2 : ∀ j, A2 j = f (at8 (o 2) j))
    (h3 : ∀ j, A3 j = f (at8 (o 3) j))
    (h4 : ∀ j, A4 j = f (at8 (o 4) j))
    (h5 : ∀ j, A5 j = f (at8 (o 5) j))
    (h6 : ∀ j, A6 j = f (at8 (o 6) j))
    (h7 : ∀ j, A7 j = f (at8 (o 7) j)) :
    View.canon (piece (o 0) A0 :: piece (o 1) A1 :: piece (o 2) A2 :: piece (o 3) A3 :: piece (o 4) A4 :: piece (o 5) A5 :: piece (o 6) A6 :: piece (o 7) A7 :: L) = f := by
  funext z
  refine View.canon_append_of_piecesOf f L [piece (o 0) A0, piece (o 1) A1, piece (o 2) A2, piece (o 3) A3, piece (o 4) A4, piece (o 5) A5, piece (o 6) A6, piece (o 7) A7]
    ⟨piece_of _ _ f h0, piece_of _ _ f h1, piece_of _ _ f h2, piece_of _ _ f h3, piece_of _ _ f h4, piece_of _ _ f h5, piece_of _ _ f h6, piece_of _ _ f h7, trivial⟩ z ?_
  have h1 : (z 1).val < 1024 := (z 1).isLt
  obtain ⟨l, hl⟩ := ho ⟨(z 1).val / 128, by omega⟩
  have h2 : (z 1).val / 128 = (o l).val := by rw [hl]
  fin_cases l
  · exact ⟨piece (o 0) A0, by simp, piece_mem _ _ _ h2⟩
  · exact ⟨piece (o 1) A1, by simp, piece_mem _ _ _ h2⟩
  · exact ⟨piece (o 2) A2, by simp, piece_mem _ _ _ h2⟩
  · exact ⟨piece (o 3) A3, by simp, piece_mem _ _ _ h2⟩
  · exact ⟨piece (o 4) A4, by simp, piece_mem _ _ _ h2⟩
  · exact ⟨piece (o 5) A5, by simp, piece_mem _ _ _ h2⟩
  · exact ⟨piece (o 6) A6, by simp, piece_mem _ _ _ h2⟩
  · exact ⟨piece (o 7) A7, by simp, piece_mem _ _ _ h2⟩

/-! ## The gradient of the keys and values, row by row -/

/-- What row `i` adds to the gradient of the keys and values at `z`. -/
def term (x : Vec Ideal S4096x1024 .f32) (y : Vec Ideal S256x1024 .f32) (w : Vec Ideal S4096x512 .f32) (i : Fin 4096) (z : S256x1024.Idx) : EReal :=
  if h : (z 1).val < 512 then
    val_main_v64 (F := Ideal) x y w (ix3 ⟨(z 1).val / 128, by omega⟩ i (z 0))
      * val_main_v6 (F := Ideal) x (ix3 i ⟨(z 1).val / 128, by omega⟩ ⟨(z 1).val % 128, by omega⟩)
  else
    val_main_v34 (F := Ideal) x y (ix3 ⟨((z 1).val - 512) / 128, by have : (z 1).val < 1024 := (z 1).isLt; omega⟩ i (z 0))
      * val_main_v44 (F := Ideal) x w (ix2 i ⟨(z 1).val - 512, by have : (z 1).val < 1024 := (z 1).isLt; omega⟩)

theorem term_k (x : Vec Ideal S4096x1024 .f32) (y : Vec Ideal S256x1024 .f32) (w : Vec Ideal S4096x512 .f32) (i : Fin 4096) (a : Fin 256) (h : Fin 4) (d : Fin 128) (n : Fin 1024) (hn : n.val = h.val * 128 + d.val) :
    term x y w i (ix2 a n) = val_main_v64 (F := Ideal) x y w (ix3 h i a) * val_main_v6 (F := Ideal) x (ix3 i h d) := by
  refine (dif_pos (show n.val < 512 by omega)).trans ?_
  have e1 : (⟨n.val / 128, by omega⟩ : Fin 4) = h := Fin.ext (by show n.val / 128 = _; omega)
  have e2 : (⟨n.val % 128, by omega⟩ : Fin 128) = d := Fin.ext (by show n.val % 128 = _; omega)
  exact congrArg₂ (fun (p : Fin 4) (q : Fin 128) => val_main_v64 (F := Ideal) x y w (ix3 p i a) * val_main_v6 (F := Ideal) x (ix3 i p q)) e1 e2

theorem term_v (x : Vec Ideal S4096x1024 .f32) (y : Vec Ideal S256x1024 .f32) (w : Vec Ideal S4096x512 .f32) (i : Fin 4096) (a : Fin 256) (h : Fin 4) (d : Fin 128) (n : Fin 1024) (hn : n.val = 512 + h.val * 128 + d.val) :
    term x y w i (ix2 a n) = val_main_v34 (F := Ideal) x y (ix3 h i a) * val_main_v44 (F := Ideal) x w (ix2 i (col h d)) := by
  refine (dif_neg (show ¬n.val < 512 by omega)).trans ?_
  have e1 : (⟨(n.val - 512) / 128, by omega⟩ : Fin 4) = h := Fin.ext (by show (n.val - 512) / 128 = _; omega)
  have e2 : (⟨n.val - 512, by omega⟩ : Fin 512) = col h d := Fin.ext (by show n.val - 512 = h.val * 128 + d.val; omega)
  exact congrArg₂ (fun (p : Fin 4) (q : Fin 512) => val_main_v34 (F := Ideal) x y (ix3 p i a) * val_main_v44 (F := Ideal) x w (ix2 i q)) e1 e2

/-- A gradient of the keys and values is the sum of what the rows add. -/
theorem dkv_ref (x : Vec Ideal S4096x1024 .f32) (y : Vec Ideal S256x1024 .f32) (w : Vec Ideal S4096x512 .f32) (z : S256x1024.Idx) : val_main_v72 (F := Ideal) x y w z = ∑ i, term x y w i z := by
  have h1 : (z 1).val < 1024 := (z 1).isLt
  have hz : z = ix2 (z 0) ⟨(z 1).val, h1⟩ := by blk_ext
  have ek : ∀ (a : Fin 256) (h : Fin 4) (d : Fin 128), val_main_v71 (F := Ideal) x y w (ix2 a (col h d))
      = ∑ i, val_main_v64 (F := Ideal) x y w (ix3 h i a) * val_main_v6 (F := Ideal) x (ix3 i h d) := fun a h d => by
    trans val_main_v65 (F := Ideal) x y w (ix3 h a d)
    · pointwise [val_main_v71, val_main_v66, col]
    · pointwise [val_main_v65]
  have ev : ∀ (a : Fin 256) (h : Fin 4) (d : Fin 128), val_main_v70 (F := Ideal) x y w (ix2 a (col h d))
      = ∑ i, val_main_v34 (F := Ideal) x y (ix3 h i a) * val_main_v44 (F := Ideal) x w (ix2 i (col h d)) := fun a h d => by
    trans val_main_v49 (F := Ideal) x y w (ix3 h d a)
    · pointwise [val_main_v70, val_main_v50, col]
    · have h1 : ∀ i : Fin 4096, val_main_v47 (F := Ideal) x w (ix3 h d i) = val_main_v44 (F := Ideal) x w (ix2 i (col h d)) := fun i => by
        pointwise [val_main_v47, val_main_v46, col]
      pointwise [val_main_v49, h1]
      exact Finset.sum_congr rfl fun _ _ => mul_comm (_ : EReal) _
  suffices H : ∀ (a : Fin 256) (n : ℕ) (h1 : n < 1024), val_main_v72 (F := Ideal) x y w (ix2 a ⟨n, h1⟩) = ∑ i, term x y w i (ix2 a ⟨n, h1⟩) by
    rw [hz]; exact H _ _ h1
  intro a n h1
  by_cases h : n < 512
  · have hc : (⟨n, h⟩ : Fin 512) = col ⟨n / 128, by omega⟩ ⟨n % 128, by omega⟩ := Fin.ext (by show n = n / 128 * 128 + n % 128; omega)
    trans val_main_v71 (F := Ideal) x y w (ix2 a ⟨n, h⟩)
    · pointwise [val_main_v72]
      exact dif_pos h
    · rw [hc, ek]
      exact Finset.sum_congr rfl fun i _ => (term_k x y w i a _ _ _ (by show n = n / 128 * 128 + n % 128; omega)).symm
  · have hc : (⟨n - 512, by omega⟩ : Fin 512) = col ⟨(n - 512) / 128, by omega⟩ ⟨(n - 512) % 128, by omega⟩ :=
      Fin.ext (by show n - 512 = (n - 512) / 128 * 128 + (n - 512) % 128; omega)
    trans val_main_v70 (F := Ideal) x y w (ix2 a ⟨n - 512, by omega⟩)
    · pointwise [val_main_v72]
      exact dif_neg h
    · rw [hc, ev]
      exact Finset.sum_congr rfl fun i _ => (term_v x y w i a _ _ _ (by show n = 512 + (n - 512) / 128 * 128 + (n - 512) % 128; omega)).symm

/-! ## The heads' blocks of a point -/

section Heads
variable (c : Dev nD) (t : Fin cfg0.N)

/-- The finiteness of the three arguments. -/
def Fin3 : Prop := (∀ i, ∃ r : ℝ, m ((c : Thread nD τ).loc main_arg0) i = (r : EReal)) ∧ (∀ i, ∃ r : ℝ, m ((c : Thread nD τ).loc main_arg1) i = (r : EReal))
  ∧ ∀ i, ∃ r : ℝ, m ((c : Thread nD τ).loc main_arg2) i = (r : EReal)

variable (h : Fin 4) (o : ℕ)

theorem q_blk (ho : o = h.val * 128) (inb) (j : S512x128.Idx) : View.ld (Val := Elt Ideal) (iblk m c 0 t) (Rect.unit (s := S512x1024) ![0, o] ![512, 128] inb) j
    = val_main_v6 (F := Ideal) (m ((c : Thread nD τ).loc main_arg0)) (ix3 (row t (j 0)) h (j 1)) := by
  have e : ∀ (x : Vec Ideal S4096x1024 .f32) (i : Fin 4096) (d : Fin 128), val_main_v6 (F := Ideal) x (ix3 i h d)
    = x (ix2 i ⟨h.val * 128 + d.val, by omega⟩) := fun x i d => by pointwise [val_main_v6, val_main_v0]
  subst ho
  refine ((ld_cols (n := 512) (w := 1024) (e := .bf16) (iblk m c 0 t) _ (by omega) inb j).trans (blk_pm m c t _)).trans (e _ _ _).symm

theorem z_blk (ho : o = 512 + h.val * 128) (inb) (j : S512x128.Idx) : View.ld (Val := Elt Ideal) (iblk m c 0 t) (Rect.unit (s := S512x1024) ![0, o] ![512, 128] inb) j
    = val_main_v1 (F := Ideal) (m ((c : Thread nD τ).loc main_arg0)) (ix2 (row t (j 0)) (col h (j 1))) := by
  have e : ∀ (x : Vec Ideal S4096x1024 .f32) (i : Fin 4096) (d : Fin 128), val_main_v1 (F := Ideal) x (ix2 i (col h d))
    = x (ix2 i ⟨512 + h.val * 128 + d.val, by omega⟩) := fun x i d => by
      pointwise [val_main_v1, col]
      exact congrArg x (by blk_ext)
  subst ho
  refine ((ld_cols (n := 512) (w := 1024) (e := .bf16) (iblk m c 0 t) _ (by omega) inb j).trans (blk_pm m c t _)).trans (e _ _ _).symm

theorem y_blk (ho : o = h.val * 128) (inb) (j : S512x128.Idx) : View.ld (Val := Elt Ideal) (iblk m c 2 t) (Rect.unit (s := S512x512) ![0, o] ![512, 128] inb) j
    = m ((c : Thread nD τ).loc main_arg2) (ix2 (row t (j 0)) (col h (j 1))) := by
  subst ho
  exact (ld_cols (n := 512) (w := 512) (e := .f32) (iblk m c 2 t) _ (by omega) inb j).trans (blk_dy m c t _)

theorem k_blk (ho : o = h.val * 128) (inb) (j : S256x128.Idx) : View.ld (Val := Elt Ideal) (iblk m c 1 t) (Rect.unit (s := S256x1024) ![0, o] ![256, 128] inb) j
    = val_main_v4 (F := Ideal) (m ((c : Thread nD τ).loc main_arg1)) (ix3 (j 0) h (j 1)) := by
  have e : ∀ (x : Vec Ideal S256x1024 .f32) (i : Fin 256) (d : Fin 128), val_main_v4 (F := Ideal) x (ix3 i h d)
    = x (ix2 i ⟨h.val * 128 + d.val, by omega⟩) := fun x i d => by pointwise [val_main_v4, val_main_v2]
  subst ho
  refine ((ld_cols (n := 256) (w := 1024) (e := .f32) (iblk m c 1 t) _ (by omega) inb j).trans (blk_kv m c t _)).trans (e _ _ _).symm

theorem v_blk (ho : o = 512 + h.val * 128) (inb) (j : S256x128.Idx) : View.ld (Val := Elt Ideal) (iblk m c 1 t) (Rect.unit (s := S256x1024) ![0, o] ![256, 128] inb) j
    = val_main_v5 (F := Ideal) (m ((c : Thread nD τ).loc main_arg1)) (ix3 (j 0) h (j 1)) := by
  have e : ∀ (x : Vec Ideal S256x1024 .f32) (i : Fin 256) (d : Fin 128), val_main_v5 (F := Ideal) x (ix3 i h d)
    = x (ix2 i ⟨512 + h.val * 128 + d.val, by omega⟩) := fun x i d => by
      pointwise [val_main_v5, val_main_v3]
      exact congrArg x (by blk_ext)
  subst ho
  refine ((ld_cols (n := 256) (w := 1024) (e := .f32) (iblk m c 1 t) _ (by omega) inb j).trans (blk_kv m c t _)).trans (e _ _ _).symm

variable (oz : ℕ) (ho : o = h.val * 128) (hz : oz = 512 + h.val * 128) (hf : Fin3 m c) (k : Fin 8) (iq : _) (ik : _) (iv : _) (iz : _) (iy : _)
include ho hz

include hf in
/-- The queries' gradient of a head. -/
theorem dq_at (hk : k.val = h.val) (j : S512x128.Idx) :
    k0_pay15 (F := Ideal) (k0_pay2 (View.ld (iblk m c 1 t) (Rect.unit (s := S256x1024) ![0, o] ![256, 128] ik)))
      (k0_pay3 (View.ld (iblk m c 1 t) (Rect.unit (s := S256x1024) ![0, oz] ![256, 128] iv)))
      (k0_pay6 (View.ld (iblk m c 0 t) (Rect.unit (s := S512x1024) ![0, o] ![512, 128] iq))
        (View.ld (iblk m c 1 t) (Rect.unit (s := S256x1024) ![0, o] ![256, 128] ik)))
      (k0_pay8 (View.ld (iblk m c 0 t) (Rect.unit (s := S512x1024) ![0, o] ![512, 128] iq))
        (View.ld (iblk m c 1 t) (Rect.unit (s := S256x1024) ![0, o] ![256, 128] ik))
        (View.ld (iblk m c 1 t) (Rect.unit (s := S256x1024) ![0, oz] ![256, 128] iv)))
      (View.ld (iblk m c 0 t) (Rect.unit (s := S512x1024) ![0, oz] ![512, 128] iz))
      (View.ld (iblk m c 2 t) (Rect.unit (s := S512x512) ![0, o] ![512, 128] iy)) j
    = val_main_v74 (F := Ideal) (m ((c : Thread nD τ).loc main_arg0)) (m ((c : Thread nD τ).loc main_arg1)) (m ((c : Thread nD τ).loc main_arg2))
      (ix2 (row t (j 0)) (at8 (n := 512) k j 1)) := by
  have hS := score_point _ _ (row t) h _ _ (q_blk m c t h o ho iq) (k_blk m c t h o ho ik)
  refine (dq_point _ _ _ hf.1 hf.2.1 hf.2.2 (row t) h _ _ _ _ _ _ (k_blk m c t h o ho ik) (v_blk m c t h oz hz iv) (z_blk m c t h oz hz iz)
    (y_blk m c t h o ho iy) (p_point _ _ _ _ _ hS) (o_point _ _ _ _ _ _ (v_blk m c t h oz hz iv) hS) j).trans ?_
  have e : ∀ x y z (i : Fin 4096) (d : Fin 128), val_main_v69 (F := Ideal) x y z (ix2 i (col h d))
      = val_main_v74 (F := Ideal) x y z (ix2 i ⟨k.val * 128 + d.val, by omega⟩) := fun x y z i d => by
    pointwise [val_main_v74, val_main_v73, col, hk]
    refine Eq.trans ?_ (dif_pos (show h.val * 128 + d.val < 512 by omega)).symm
    rfl
  exact e _ _ _ _ _

include hf in
/-- The gate's gradient of a head. -/
theorem dz_at (hk : k.val = 4 + h.val) (j : S512x128.Idx) :
    k0_pay12 (F := Ideal) (k0_pay8 (View.ld (iblk m c 0 t) (Rect.unit (s := S512x1024) ![0, o] ![512, 128] iq)) (View.ld (iblk m c 1 t) (Rect.unit (s := S256x1024) ![0, o] ![256, 128] ik))
        (View.ld (iblk m c 1 t) (Rect.unit (s := S256x1024) ![0, oz] ![256, 128] iv))) (View.ld (iblk m c 0 t) (Rect.unit (s := S512x1024) ![0, oz] ![512, 128] iz))
      (View.ld (iblk m c 2 t) (Rect.unit (s := S512x512) ![0, o] ![512, 128] iy)) j
    = val_main_v74 (F := Ideal) (m ((c : Thread nD τ).loc main_arg0)) (m ((c : Thread nD τ).loc main_arg1)) (m ((c : Thread nD τ).loc main_arg2))
      (ix2 (row t (j 0)) (at8 (n := 512) k j 1)) := by
  have hS := score_point _ _ (row t) h _ _ (q_blk m c t h o ho iq) (k_blk m c t h o ho ik)
  refine (dz_point _ _ _ hf.1 hf.2.1 hf.2.2 (row t) h _ _ _ (z_blk m c t h oz hz iz)
    (y_blk m c t h o ho iy) (o_point _ _ _ _ _ _ (v_blk m c t h oz hz iv) hS) j).trans ?_
  have e : ∀ x y z (i : Fin 4096) (d : Fin 128), val_main_v45 (F := Ideal) x y z (ix2 i (col h d))
      = val_main_v74 (F := Ideal) x y z (ix2 i ⟨k.val * 128 + d.val, by omega⟩) := fun x y z i d => by
    pointwise [val_main_v74, val_main_v73, col, hk]
    refine Eq.trans ?_ (dif_neg (by omega)).symm
    exact congrArg _ (by blk_ext)
  exact e _ _ _ _ _

include hf in
/-- A point's part of the keys' gradient of a head, added to what is there. -/
theorem dk_at (A : Vec Ideal S256x1024 .f32) (hk : k.val = h.val) (ia) (j : S256x128.Idx) :
    k0_pay17 (F := Ideal) (k0_pay4 (View.ld (iblk m c 0 t) (Rect.unit (s := S512x1024) ![0, o] ![512, 128] iq))) (k0_pay14 (k0_pay3 (View.ld (iblk m c 1 t) (Rect.unit (s := S256x1024) ![0, oz] ![256, 128] iv)))
      (k0_pay6 (View.ld (iblk m c 0 t) (Rect.unit (s := S512x1024) ![0, o] ![512, 128] iq)) (View.ld (iblk m c 1 t) (Rect.unit (s := S256x1024) ![0, o] ![256, 128] ik)))
      (k0_pay8 (View.ld (iblk m c 0 t) (Rect.unit (s := S512x1024) ![0, o] ![512, 128] iq)) (View.ld (iblk m c 1 t) (Rect.unit (s := S256x1024) ![0, o] ![256, 128] ik))
        (View.ld (iblk m c 1 t) (Rect.unit (s := S256x1024) ![0, oz] ![256, 128] iv))) (View.ld (iblk m c 0 t) (Rect.unit (s := S512x1024) ![0, oz] ![512, 128] iz))
      (View.ld (iblk m c 2 t) (Rect.unit (s := S512x512) ![0, o] ![512, 128] iy))) (k0_pay16 (View.ld A (Rect.unit (s := S256x1024) ![0, o] ![256, 128] ia))) (constant S256x128 .f32 0x00000000#32) j
    = A (at8 (n := 256) k j) + ∑ i, term (m ((c : Thread nD τ).loc main_arg0)) (m ((c : Thread nD τ).loc main_arg1)) (m ((c : Thread nD τ).loc main_arg2)) (row t i) (at8 (n := 256) k j) := by
  have hS := score_point _ _ (row t) h _ _ (q_blk m c t h o ho iq) (k_blk m c t h o ho ik)
  have hd := dr_point _ _ _ hf.1 hf.2.1 hf.2.2 (row t) h _ _ _ _ _ (v_blk m c t h oz hz iv) (z_blk m c t h oz hz iz)
    (y_blk m c t h o ho iy) (p_point _ _ _ _ _ hS) (o_point _ _ _ _ _ _ (v_blk m c t h oz hz iv) hS)
  have hq : ∀ j : S512x128.Idx, k0_pay4 (F := Ideal) (View.ld (iblk m c 0 t) (Rect.unit (s := S512x1024) ![0, o] ![512, 128] iq)) j
      = val_main_v6 (F := Ideal) (m ((c : Thread nD τ).loc main_arg0)) (ix3 (row t (j 0)) h (j 1)) := fun j => by
    pointwise [k0_pay4]
    exact (ld_cols (n := 512) (w := 1024) (e := .bf16) (iblk m c 0 t) o (by omega) iq j).symm.trans (q_blk m c t h o ho iq j)
  refine (dk_point (hQ := hq) (hR := hd) (j := j) ..).trans ?_
  refine congrArg₂ (· + ·) ?_ (Finset.sum_congr rfl fun i _ => (term_k _ _ _ _ _ _ _ _ (by show k.val * 128 + _ = _; rw [hk])).symm)
  have hA : ∀ p q : Fin 1024, p.val = q.val → A (ix2 (j 0) p) = A (ix2 (j 0) q) := fun p q e => by rw [Fin.ext e]
  pointwise [k0_pay16]
  exact hA _ _ (by show o + (j 1).val = k.val * 128 + (j 1).val; omega)

include hf in
/-- A point's part of the values' gradient of a head, added to what is there. -/
theorem dv_at (A : Vec Ideal S256x1024 .f32) (hk : k.val = 4 + h.val) (ia) (j : S256x128.Idx) :
    k0_pay18 (F := Ideal) (k0_pay7 (View.ld (iblk m c 0 t) (Rect.unit (s := S512x1024) ![0, o] ![512, 128] iq)) (View.ld (iblk m c 1 t) (Rect.unit (s := S256x1024) ![0, o] ![256, 128] ik)))
      (k0_pay13 (View.ld (iblk m c 0 t) (Rect.unit (s := S512x1024) ![0, oz] ![512, 128] iz)) (View.ld (iblk m c 2 t) (Rect.unit (s := S512x512) ![0, o] ![512, 128] iy)))
      (View.ld A (Rect.unit (s := S256x1024) ![0, oz] ![256, 128] ia)) j
    = A (at8 (n := 256) k j) + ∑ i, term (m ((c : Thread nD τ).loc main_arg0)) (m ((c : Thread nD τ).loc main_arg1)) (m ((c : Thread nD τ).loc main_arg2)) (row t i) (at8 (n := 256) k j) := by
  have hS := score_point _ _ (row t) h _ _ (q_blk m c t h o ho iq) (k_blk m c t h o ho ik)
  refine (dv_point (hP := p_point _ _ _ _ _ hS) (hD := do_point _ _ _ _ _ _ (z_blk m c t h oz hz iz) (y_blk m c t h o ho iy)) (j := j) ..).trans ?_
  refine congrArg₂ (· + ·) ?_ (Finset.sum_congr rfl fun i _ => (term_v _ _ _ _ _ _ _ _ (by show k.val * 128 + _ = _; omega)).symm)
  have hA : ∀ p q : Fin 1024, p.val = q.val → A (ix2 (j 0) p) = A (ix2 (j 0) q) := fun p q e => by rw [Fin.ext e]
  exact (ld_cols (n := 256) (w := 1024) (e := .f32) A _ (by omega) ia j).trans
    (hA _ _ (by show oz + (j 1).val = k.val * 128 + (j 1).val; omega))

end Heads

/-- The gradient of the queries and gates: block `t` of the result is rows `512 t …` of the reference's. -/
theorem dpm_value (c : Dev nD) (hf : Fin3 m c) : (dats m 0 c).arrAt 3 cfg0.N = val_main_v74 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  trans val_main_v74 (F := Ideal) (m ((c : Thread nD τ).loc main_arg0)) (m ((c : Thread nD τ).loc main_arg1)) (m ((c : Thread nD τ).loc main_arg2)) (ix2 (row t (y 0)) (y 1))
  · by_cases h : t.val % 8 = 0
    · rw [outsAt0_A m c t h]
      frame_out
      exact congrFun (canon_cols (n := 512) (e := .bf16) ![3, 7, 2, 6, 1, 5, 0, 4] (by decide)
        (fun y => val_main_v74 (F := Ideal) (m ((c : Thread nD τ).loc main_arg0)) (m ((c : Thread nD τ).loc main_arg1)) (m ((c : Thread nD τ).loc main_arg2)) (ix2 (row t (y 0)) (y 1))) []
        (dq_at m c t 3 _ _ rfl rfl hf 3 _ _ _ _ _ rfl) (dz_at m c t 3 _ _ rfl rfl hf 7 _ _ _ _ _ rfl)
        (dq_at m c t 2 _ _ rfl rfl hf 2 _ _ _ _ _ rfl) (dz_at m c t 2 _ _ rfl rfl hf 6 _ _ _ _ _ rfl)
        (dq_at m c t 1 _ _ rfl rfl hf 1 _ _ _ _ _ rfl) (dz_at m c t 1 _ _ rfl rfl hf 5 _ _ _ _ _ rfl)
        (dq_at m c t 0 _ _ rfl rfl hf 0 _ _ _ _ _ rfl) (dz_at m c t 0 _ _ rfl rfl hf 4 _ _ _ _ _ rfl)) y
    · rw [outsAt0_B m c t h]
      frame_out
      exact congrFun (canon_cols (n := 512) (e := .bf16) ![3, 7, 2, 6, 1, 5, 0, 4] (by decide)
        (fun y => val_main_v74 (F := Ideal) (m ((c : Thread nD τ).loc main_arg0)) (m ((c : Thread nD τ).loc main_arg1)) (m ((c : Thread nD τ).loc main_arg2)) (ix2 (row t (y 0)) (y 1))) []
        (dq_at m c t 3 _ _ rfl rfl hf 3 _ _ _ _ _ rfl) (dz_at m c t 3 _ _ rfl rfl hf 7 _ _ _ _ _ rfl)
        (dq_at m c t 2 _ _ rfl rfl hf 2 _ _ _ _ _ rfl) (dz_at m c t 2 _ _ rfl rfl hf 6 _ _ _ _ _ rfl)
        (dq_at m c t 1 _ _ rfl rfl hf 1 _ _ _ _ _ rfl) (dz_at m c t 1 _ _ rfl rfl hf 5 _ _ _ _ _ rfl)
        (dq_at m c t 0 _ _ rfl rfl hf 0 _ _ _ _ _ rfl) (dz_at m c t 0 _ _ rfl rfl hf 4 _ _ _ _ _ rfl)) y
  · refine congrArg _ ?_
    blk_ext [idx t, row] <;> simp [Pipeline.WinKind.off]

/-- The gradient of the keys and values: the last point leaves the sum of the points' parts. -/
theorem dkv_value (c : Dev nD) (hf : Fin3 m c) : (dats m 0 c).arrAt 4 cfg0.N = val_main_v72 (F := Ideal) (m ((c : Thread nD τ).loc main_arg0)) (m ((c : Thread nD τ).loc main_arg1)) (m ((c : Thread nD τ).loc main_arg2)) := by
  have reset : ∀ t : Fin cfg0.N, t.val % 8 = 0 → (outsAt0 m c t.val t.isLt).2
      = fun z => k0_pay1 (F := Ideal) z + ∑ i, term (m ((c : Thread nD τ).loc main_arg0)) (m ((c : Thread nD τ).loc main_arg1)) (m ((c : Thread nD τ).loc main_arg2)) (row t i) z := fun t h => by
    rw [outsAt0_A m c t h]
    frame_out
    simp (discharger := decide) only [View.readCov_skip, View.readCov_fill]
    exact (canon_cols (n := 256) (e := .f32) ![7, 3, 6, 2, 5, 1, 4, 0] (by decide) (fun z => k0_pay1 (F := Ideal) z + ∑ i, term (m ((c : Thread nD τ).loc main_arg0)) (m ((c : Thread nD τ).loc main_arg1)) (m ((c : Thread nD τ).loc main_arg2)) (row t i) z) [_]
        (fun j => dv_at m c t 3 _ _ rfl rfl hf 7 (A := k0_pay1 (F := Ideal)) (hk := rfl) (ia := inb_S256x1024_S256x128_0_896) (j := j) ..) (fun j => dk_at m c t 3 _ _ rfl rfl hf 3 (A := k0_pay1 (F := Ideal)) (hk := rfl) (ia := inb_S256x1024_S256x128_0_384) (j := j) ..)
        (fun j => dv_at m c t 2 _ _ rfl rfl hf 6 (A := k0_pay1 (F := Ideal)) (hk := rfl) (ia := inb_S256x1024_S256x128_0_768) (j := j) ..) (fun j => dk_at m c t 2 _ _ rfl rfl hf 2 (A := k0_pay1 (F := Ideal)) (hk := rfl) (ia := inb_S256x1024_S256x128_0_256) (j := j) ..)
        (fun j => dv_at m c t 1 _ _ rfl rfl hf 5 (A := k0_pay1 (F := Ideal)) (hk := rfl) (ia := inb_S256x1024_S256x128_0_640) (j := j) ..) (fun j => dk_at m c t 1 _ _ rfl rfl hf 1 (A := k0_pay1 (F := Ideal)) (hk := rfl) (ia := inb_S256x1024_S256x128_0_128) (j := j) ..)
        (fun j => dv_at m c t 0 _ _ rfl rfl hf 4 (A := k0_pay1 (F := Ideal)) (hk := rfl) (ia := inb_S256x1024_S256x128_0_512) (j := j) ..) (fun j => dk_at m c t 0 _ _ rfl rfl hf 0 (A := k0_pay1 (F := Ideal)) (hk := rfl) (ia := inb_S256x1024_S256x128_0_0) (j := j) ..))

  have step : ∀ t : Fin cfg0.N, ¬t.val % 8 = 0 → (outsAt0 m c t.val t.isLt).2
      = fun z => (outsAt0 m c (t.val - 1) (by omega)).2 z + ∑ i, term (m ((c : Thread nD τ).loc main_arg0)) (m ((c : Thread nD τ).loc main_arg1)) (m ((c : Thread nD τ).loc main_arg2)) (row t i) z := fun t h => by
    rw [outsAt0_B m c t h]
    frame_out
    exact (canon_cols (n := 256) (e := .f32) ![7, 3, 6, 2, 5, 1, 4, 0] (by decide) (fun z => (outsAt0 m c (t.val - 1) (by omega)).2 z + ∑ i, term (m ((c : Thread nD τ).loc main_arg0)) (m ((c : Thread nD τ).loc main_arg1)) (m ((c : Thread nD τ).loc main_arg2)) (row t i) z) []
        (fun j => dv_at m c t 3 _ _ rfl rfl hf 7 (A := (outsAt0 m c (t.val - 1) (by omega)).2) (hk := rfl) (ia := inb_S256x1024_S256x128_0_896) (j := j) ..) (fun j => dk_at m c t 3 _ _ rfl rfl hf 3 (A := (outsAt0 m c (t.val - 1) (by omega)).2) (hk := rfl) (ia := inb_S256x1024_S256x128_0_384) (j := j) ..)
        (fun j => dv_at m c t 2 _ _ rfl rfl hf 6 (A := (outsAt0 m c (t.val - 1) (by omega)).2) (hk := rfl) (ia := inb_S256x1024_S256x128_0_768) (j := j) ..) (fun j => dk_at m c t 2 _ _ rfl rfl hf 2 (A := (outsAt0 m c (t.val - 1) (by omega)).2) (hk := rfl) (ia := inb_S256x1024_S256x128_0_256) (j := j) ..)
        (fun j => dv_at m c t 1 _ _ rfl rfl hf 5 (A := (outsAt0 m c (t.val - 1) (by omega)).2) (hk := rfl) (ia := inb_S256x1024_S256x128_0_640) (j := j) ..) (fun j => dk_at m c t 1 _ _ rfl rfl hf 1 (A := (outsAt0 m c (t.val - 1) (by omega)).2) (hk := rfl) (ia := inb_S256x1024_S256x128_0_128) (j := j) ..)
        (fun j => dv_at m c t 0 _ _ rfl rfl hf 4 (A := (outsAt0 m c (t.val - 1) (by omega)).2) (hk := rfl) (ia := inb_S256x1024_S256x128_0_512) (j := j) ..) (fun j => dk_at m c t 0 _ _ rfl rfl hf 0 (A := (outsAt0 m c (t.val - 1) (by omega)).2) (hk := rfl) (ia := inb_S256x1024_S256x128_0_0) (j := j) ..))

  refine (dats m 0 c).arrAt_eq_of_after_last 4 t0_7 (by decide +kernel) _ fun z => ?_
  blk_simp
  rw [after0_4, Pipeline.eq_sum_fin_of_reset_step_apply_last (fun n h => (outsAt0 m c n h).2) 8 (fun _ => 0) _
    (fun t h j => by
      refine (congrFun (reset t h) j).trans (congrArg (· + _) ?_)
      pointwise [k0_pay1])
    (fun t h j => congrFun (step t h) j) (le_of_eq N_0) t0_7 rfl _, zero_add]
  refine (sum_rows fun k => term (m ((c : Thread nD τ).loc main_arg0)) (m ((c : Thread nD τ).loc main_arg1)) (m ((c : Thread nD τ).loc main_arg2)) k _).trans ?_
  refine Eq.trans ?_ (dkv_ref _ _ _ _).symm
  refine Finset.sum_congr rfl fun i _ => congrArg (term _ _ _ i) ?_
  blk_ext [idx t0_7] <;> simp [Pipeline.WinKind.off]

/-- The whole run: both results hold the reference's gradients, and the arguments are as they were. -/
theorem run_value (hf : ∀ c : Dev nD, Fin3 m c) : θ_run defs (onTc (τ := τ) (main (F := Ideal))) ⟨m, fun _ => 0, ρ⟩ (fun r => ∀ c : Dev nD,
      r.2.mem ((c.tc : Thread nD τ).loc main_v1_0) = val_main_v74 (F := Ideal) (m ((c : Thread nD τ).loc main_arg0)) (m ((c : Thread nD τ).loc main_arg1)) (m ((c : Thread nD τ).loc main_arg2))
      ∧ r.2.mem ((c.tc : Thread nD τ).loc main_v1_1) = val_main_v72 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (dpm_value m c (hf c)), (h c).2.1.trans (dkv_value m c (hf c)), (h c).2.2⟩)
    (Cert.CrossIdeal.Value.run_blocks m ρ)

end Cert.CrossIdeal.Whole
-- ==== Proof.CrossClaims.lean ====
/-
  The claims about the cross attention to the projected memory, backward: the kernel's frame, the reference's frame, and that both
  compute the same two gradients over the extended reals where the arguments are finite.
-/
module

public import proofs.«01_k».proof.Defs
public import proofs.«01_k».proof.Proof.CrossValue
public import proofs.«01_k».proof.Proof.Gen.Cross
public import Idealize.ShloMosaic.Lib.Quiescent

@[expose] public section

set_option maxRecDepth 16384

noncomputable section

namespace Cert.Proof.Cross

open Idealize.ShloMosaic Idealize.ShloMosaic.TcCoe Idealize.SL.Sem

attribute [local instance] Cert.Cross.Gen.facts Cert.CrossIdeal.Gen.facts Cert.CrossRefIdeal.Gen.facts

/-- The printed kernel's frame, from the one generated run at machine floats. -/
theorem frame_kernel : Cert.quiescent_Cross := fun m ρ _ =>
  cast (by sl_kernel_rfl) (Cert.CrossIdeal.Gen.frame (F := Bits) m ρ)
/-- The same run over the reals. -/
theorem frame_ideal : Cert.quiescent_CrossIdeal := fun m ρ _ => Cert.CrossIdeal.Gen.frame (F := Ideal) m ρ
/-- The reference, host operations only, leaves its arguments and has no semaphore. -/
theorem frame_reference : Cert.quiescent_CrossRefIdeal := fun m ρ _ =>
  (θ_run Cert.CrossRefIdeal.defs _ _).mono (fun r h => ⟨fun c => (h c).2.2, sem_eq_zero_of_no_sems (by decide) r.2⟩)
    (Cert.CrossRefIdeal.Value.run (F := Ideal) m ρ)
/-- What the precondition's text asks of shapes. -/
theorem pre_facts : Cert.Pre_finite_mem.Facts := ⟨by decide, by decide, by decide⟩

attribute [local instance] pre_facts

/-- The run over the reals, where the arguments are finite. -/
theorem frame_ideal_finite : Cert.quiescent_CrossIdeal_pre_finite_mem := fun m ρ _ => Cert.CrossIdeal.Gen.frame (F := Ideal) m ρ
/-- The reference's, where they are finite. -/
theorem frame_reference_finite : Cert.quiescent_CrossRefIdeal_pre_finite_mem := fun m ρ _ => frame_reference m ρ trivial

/-- The precondition says that the three arguments' entries are reals. -/
theorem finite (m) (h : Cert.Pre_CrossIdeal_finite_mem m) (c : Dev Cert.CrossIdeal.nD) : Cert.CrossIdeal.Whole.Fin3 m c :=
  ⟨Alg.finite_of _ _ (fun _ => rfl) (h c).1, Alg.finite_of _ _ (fun _ => rfl) (h c).2.1, Alg.finite_of _ _ (fun _ => rfl) (h c).2.2⟩

/-- The reference's two results are the kernel's. -/
theorem algebraic : Cert.algebraic_CrossIdeal_CrossRefIdeal_pre_finite_mem := by
  pair_intro
  · run_from Cert.CrossIdeal.Whole.run_value m g (finite m hpre)
  · refine (θ_run Cert.CrossRefIdeal.defs _ _).mono (fun r h c => ?_) (Cert.CrossRefIdeal.Value.run (F := Ideal) m' g')
    obtain ⟨e0, e1, e2⟩ := hagree c
    refine ⟨((h c).1.trans (Cert.CrossRefIdeal.Read.val_main_v74_eq (F := Ideal) m' c)).trans ?_,
      ((h c).2.1.trans (Cert.CrossRefIdeal.Read.val_main_v72_eq (F := Ideal) m' c)).trans ?_, (h c).2.2⟩
    · rw [e0, e1, e2]
    · rw [e0, e1, e2]

end Cert.Proof.Cross
-- ==== Proof.GmlpRows.lean ====
/-
  One row of the gated branch's layer norm: the norm, and its input's gradient, which the kernel forms in one step and the chain
  rule by the variance, the product and the mean in turn.
-/
module

public import proofs.«01_k».proof.Proof.Reals

@[expose] public section

noncomputable section

namespace Cert.GmlpIdeal.Rows

open Idealize.ShloMosaic

theorem lit_512 : Ideal.ofBits .f32 0x44000000#32 = ((512 : ℝ) : EReal) := by
  simp [Ideal.ofBits, Ideal.ieee, -EReal.coe_mul]; norm_num

section Row
variable (x a : Fin 512 → EReal)

/-- The row less its mean. -/
def xc (k : Fin 512) : EReal := x k - Ideal.div (∑ k, x k) (Ideal.ofBits .f32 0x44000000#32)

/-- The row's variance with the small constant added. -/
def var : EReal := Ideal.div (∑ k, xc x k * xc x k) (Ideal.ofBits .f32 0x44000000#32) + Ideal.ofBits .f32 0x358637BD#32

/-- The reciprocal of its root. -/
def rs : EReal := Ideal.rsqrt (var x)

/-- The normalised row. -/
def xh (k : Fin 512) : EReal := xc x k * rs x

/-- The gradient of the norm's input, as the kernel forms it. -/
def dx (j : Fin 512) : EReal := rs x * (a j - Ideal.div (∑ k, a k) (Ideal.ofBits .f32 0x44000000#32)
  - xh x j * Ideal.div (∑ k, a k * xh x k) (Ideal.ofBits .f32 0x44000000#32))

/-- The variance's part of it, as the chain rule forms it. -/
def kv : EReal := Ideal.div ((∑ k, xc x k * a k) * (Ideal.ofBits .f32 0xBF000000#32 * Ideal.div (rs x) (var x))) (Ideal.ofBits .f32 0x44000000#32)

/-- The centred row's gradient, as the chain rule forms it. -/
def dc (j : Fin 512) : EReal := a j * rs x + xc x j * kv x a + kv x a * xc x j

/-- The centred row's gradient in one step. -/
theorem dc_eq (j : Fin 512) : dc x a j = rs x * (a j - xc x j * rs x * Ideal.div (∑ k, a k * (xc x k * rs x)) (Ideal.ofBits .f32 0x44000000#32)) := by
  obtain ⟨e, he, hl⟩ := Alg.lit_eps
  refine Eq.symm ?_
  unfold dc kv
  rw [lit_512, Alg.lit_neg_half]
  exact Alg.rms_grad 512 e (by norm_num) he (xc x) a j (var x) (rs x) (by rw [var, lit_512, hl]) rfl

/-- A sum of reals is real. -/
theorem sum_real {n : ℕ} (f : Fin n → ℝ) : ∑ k, (f k : EReal) = ((∑ k, f k : ℝ) : EReal) := (map_sum (⟨⟨Real.toEReal, EReal.coe_zero⟩, EReal.coe_add⟩ : ℝ →+ EReal) f _).symm

/-- A quotient by 512. -/
theorem div_512 (y : ℝ) : Ideal.div (y : EReal) (Ideal.ofBits .f32 0x44000000#32) = ((y * (1 / 512) : ℝ) : EReal) := by
  rw [lit_512, Ideal.div_coe (by norm_num), ← EReal.coe_mul]

/-- The inverse root is real where the row is. -/
theorem rs_real : ∃ r : ℝ, rs x = (r : EReal) := by
  obtain ⟨e, he, hl⟩ := Alg.lit_eps
  have h := Alg.mean_square 512 e (by norm_num) he (xc x)
  rw [rs, var, lit_512, hl]
  rcases h with h | ⟨v, hv, h⟩
  · exact ⟨0, by rw [h, Ideal.rsqrt_top]; rfl⟩
  · exact ⟨(Real.sqrt v)⁻¹, by rw [h, Ideal.rsqrt_coe]; simp [hv.not_gt, hv.ne']⟩

/-- On real rows the kernel's gradient is the chain rule's: the centred row adds to zero. -/
theorem dx_eq (hx : ∀ k, ∃ r : ℝ, x k = (r : EReal)) (ha : ∀ k, ∃ r : ℝ, a k = (r : EReal)) (j : Fin 512) :
    dx x a j = dc x a j + Ideal.div (∑ k, -dc x a k) (Ideal.ofBits .f32 0x44000000#32) := by
  simp only [dc_eq, dx, xh]
  obtain ⟨r, hr⟩ := rs_real x
  choose X hX using hx
  choose A hA using ha
  have hc : ∀ k, xc x k = ((X k - (∑ k, X k) * (1 / 512) : ℝ) : EReal) := fun k => by
    rw [xc]; simp only [hX]; rw [sum_real, div_512, ← EReal.coe_sub]
  generalize hC : (fun k => X k - (∑ k, X k) * (1 / 512)) = C at *
  have hc' : ∀ k, xc x k = (C k : EReal) := fun k => by rw [hc, ← hC]
  have h0 : ∑ k, C k = 0 := by rw [← hC]; simp [Finset.sum_sub_distrib]; ring
  simp only [hc', hr, hA, ← EReal.coe_mul, ← EReal.coe_sub, ← EReal.coe_neg, sum_real, div_512, ← EReal.coe_add]
  refine congrArg _ ?_
  generalize (∑ k, A k * (C k * r)) * (1 / 512) = M
  have : ∑ k, -(r * (A k - C k * r * M)) = -(r * ∑ k, A k) + r * r * M * ∑ k, C k := by
    rw [Finset.mul_sum, Finset.mul_sum, ← Finset.sum_neg_distrib, ← Finset.sum_add_distrib]
    exact Finset.sum_congr rfl fun k _ => by ring
  rw [this, h0]; ring

end Row

end Cert.GmlpIdeal.Rows
-- ==== Proof.GmlpRef.lean ====
/-
  The gated branch's reference gradients, entry by entry: the layer norm, the mixing inside a chunk of 128 rows, the gate, and
  each result as a sum over the chunks, the rows or the columns.
-/
module

public import proofs.«01_k».proof.Proof.GmlpRows
public import proofs.«01_k».proof.Proof.Gen.GmlpRefIdeal.Read
public import Idealize.ShloMosaic.Lib.Pipeline.ValueKit
public import Idealize.ShloMosaic.Lib.IdealHost

@[expose] public section

set_option maxRecDepth 16384

noncomputable section

namespace Cert.GmlpRefIdeal.Entry

open Cert.GmlpRefIdeal Cert.GmlpRefIdeal.Gen Cert.GmlpRefIdeal.Read Cert.GmlpIdeal.Rows
open Idealize.ShloMosaic Idealize.ShloMosaic.TcCoe Idealize.SL.Sem

/-- A sum over the outermost and the innermost of four axes. -/
theorem sum_outer {n0 n1 n2 n3 : ℕ} (h : (⟨4, ![n0, n1, n2, n3]⟩ : Shape).ReducesTo [0, 3] ⟨2, ![n1, n2]⟩) (v : (⟨4, ![n0, n1, n2, n3]⟩ : Shape).Idx → EReal)
    (z : EReal) (p : Fin n1) (g : Fin n2) : Ideal.hostReduceAdd h v z (ix2 p g) = z + ∑ C : Fin n0, ∑ d : Fin n3, v (ix4 C p g d) := by
  have fiber : ∀ i, h.drop i = ix2 p g ↔ ∃ k : Fin n0 × Fin n3, ix4 k.1 p g k.2 = i := fun i => by
    constructor
    · intro e
      refine ⟨(i 0, i 3), funext fun a => Fin.ext ?_⟩
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      refine funext fun b => Fin.ext ?_
      match b with
      | ⟨0, _⟩ => rfl
      | ⟨1, _⟩ => rfl
  refine congrArg (z + ·) ((Finset.sum_filter_eq_sum_of_fiber _ _ (fun _ _ e => Prod.ext (congrFun e 0) (congrFun e 3)) fiber v).trans ?_)
  simp only [Fintype.sum_prod_type]

/-- Row `p` of chunk `C`, and channel `d` of group `g`. -/
def cr (C : Fin 32) (p : Fin 128) : Fin 4096 := ⟨C.val * 128 + p.val, by omega⟩
def gc (g : Fin 4) (d : Fin 128) : Fin 512 := ⟨g.val * 128 + d.val, by omega⟩

/-- The joint input's three parts: the gated value, the normalised one, the gate. -/
def cu (k : Fin 512) : Fin 1536 := ⟨k.val, by omega⟩
def cv (k : Fin 512) : Fin 1536 := ⟨512 + k.val, by omega⟩
def cz (k : Fin 512) : Fin 1536 := ⟨1024 + k.val, by omega⟩

variable (x0 : Vec Ideal S4096x1536 .f32) (x1 x2 : Vec Ideal S512 .f32) (x3 : Vec Ideal S4x128x128 .f32) (x4 : Vec Ideal S4x128 .f32)
  (x5 : Vec Ideal S4096x512 .f32) (r : Fin 4096) (j : Fin 512) (C : Fin 32) (p q : Fin 128) (g : Fin 4) (d : Fin 128)

/-- A row of the part that is normalised. -/
def vr (k : Fin 512) : EReal := x0 (ix2 r (cv k))

/-- The logistic function. -/
def sg (z : EReal) : EReal := Ideal.div 1 (1 + Ideal.exp (-z))

theorem ref_xc : val_main_v8 (F := Ideal) x0 (ix2 r j) = xc (vr x0 r) j := by
  pointwise [val_main_v8, val_main_v7, val_main_v6, val_main_v5, val_main_v4, val_main_v3, val_main_v1, val_main_cst, val_main_cst_0, xc, vr, cv]

theorem ref_var : val_main_v15 (F := Ideal) x0 (ix2 r 0) = var (vr x0 r) := by
  pointwise [val_main_v15, val_main_v14, val_main_v13, val_main_v12, val_main_v11, val_main_v10, val_main_v9, ref_xc, val_main_cst_1, val_main_cst_2, val_main_cst_3, var]

theorem ref_rs : val_main_v16 (F := Ideal) x0 (ix2 r 0) = rs (vr x0 r) := by
  pointwise [val_main_v16, ref_var, rs]

theorem ref_xh : val_main_v21 (F := Ideal) x0 (ix2 r j) = xh (vr x0 r) j := by
  pointwise [val_main_v21, val_main_v20, ref_rs, ref_xc, xh]

/-- The layer norm. -/
def ln : EReal := xh (vr x0 r) j * x1 (ix1 j) + x2 (ix1 j)

theorem ref_ln : val_main_v27 (F := Ideal) x0 x1 x2 (ix2 r j) = ln x0 x1 x2 r j := by
  pointwise [val_main_v27, val_main_v26, val_main_v25, val_main_v24, val_main_v23, val_main_v22, ref_xh, ln]

theorem ref_ln4 : val_main_v28 (F := Ideal) x0 x1 x2 (ix4 C p g d) = ln x0 x1 x2 (cr C p) (gc g d) := by
  rw [← ref_ln]
  pointwise [val_main_v28, cr, gc]

/-- The mixing of a chunk's rows in one group of channels. -/
def mix : EReal := (∑ q, x3 (ix3 g p q) * ln x0 x1 x2 (cr C q) (gc g d)) + x4 (ix2 g p)

theorem ref_mix : val_main_v35 (F := Ideal) x0 x1 x2 x3 x4 (ix2 (cr C p) (gc g d)) = mix x0 x1 x2 x3 x4 C p g d := by
  have h : val_main_v35 (F := Ideal) x0 x1 x2 x3 x4 (ix2 (cr C p) (gc g d)) = val_main_v34 (F := Ideal) x0 x1 x2 x3 x4 (ix4 C p g d) := by
    pointwise [val_main_v35, cr, gc]
  rw [h]
  pointwise [val_main_v34, val_main_v33, val_main_v32, val_main_v31, val_main_v30, val_main_v29, ref_ln4, mix]
  exact congrArg (· + _) (Finset.sum_congr rfl fun k _ => mul_comm _ _)

/-- The mixed value's gradient. -/
def dm : EReal := x5 (ix2 r j) * x0 (ix2 r (cu j)) * (x0 (ix2 r (cz j)) * sg (x0 (ix2 r (cz j))))

theorem ref_dm : val_main_v42 (F := Ideal) x0 x5 (ix2 r j) = dm x0 x5 r j := by
  refine Eq.trans ?_ (mul_left_comm (x0 (ix2 r (cu j))) (x5 (ix2 r j)) (x0 (ix2 r (cz j)) * sg (x0 (ix2 r (cz j))))) |>.trans (mul_assoc _ _ _).symm
  pointwise [val_main_v42, val_main_v40, val_main_v37_0, val_main_v37_2, val_main_call0_v4, val_main_call0_v3, val_main_call0_v2, val_main_call0_v1, val_main_call0_v0,
    val_main_call0_cst, val_main_call0_cst_0, val_main_v0, val_main_v2, sg, cu, cz]

theorem ref_dm4 : val_main_v44 (F := Ideal) x0 x5 (ix4 C p g d) = dm x0 x5 (cr C p) (gc g d) := by
  rw [← ref_dm]
  pointwise [val_main_v44, cr, gc]

/-- The layer norm's gradient. -/
def dl : EReal := ∑ p, x3 (ix3 g p q) * dm x0 x5 (cr C p) (gc g d)

theorem ref_dl : val_main_v53 (F := Ideal) x0 x3 x5 (ix2 (cr C q) (gc g d)) = dl x0 x3 x5 C q g d := by
  have h : val_main_v53 (F := Ideal) x0 x3 x5 (ix2 (cr C q) (gc g d)) = val_main_v52 (F := Ideal) x0 x3 x5 (ix4 C q g d) := by
    pointwise [val_main_v53, cr, gc]
  rw [h]
  pointwise [val_main_v52, val_main_v51, val_main_v49, ref_dm4, dl]
  exact Finset.sum_congr rfl fun k _ => mul_comm _ _

/-! ## The results -/

/-- The gated value's gradient. -/
theorem ref_du : val_main_v86 (F := Ideal) x0 x1 x2 x3 x4 x5 (ix2 (cr C p) (cu (gc g d)))
    = x5 (ix2 (cr C p) (gc g d)) * (x0 (ix2 (cr C p) (cz (gc g d))) * sg (x0 (ix2 (cr C p) (cz (gc g d))))) * mix x0 x1 x2 x3 x4 C p g d := by
  have h : val_main_v86 (F := Ideal) x0 x1 x2 x3 x4 x5 (ix2 (cr C p) (cu (gc g d))) = val_main_v43 (F := Ideal) x0 x1 x2 x3 x4 x5 (ix2 (cr C p) (gc g d)) := by
    have hj : (gc g d).val < 512 := (gc g d).isLt
    pointwise [val_main_v86, val_main_v85, cu]
  rw [h]
  pointwise [val_main_v43, ref_mix, val_main_v40, val_main_v37_0, val_main_v37_2, val_main_call0_v4, val_main_call0_v3, val_main_call0_v2, val_main_call0_v1, val_main_call0_v0,
    val_main_call0_cst, val_main_call0_cst_0, val_main_v2, sg, cz]

/-- The gate's gradient. -/
theorem ref_dz : val_main_v86 (F := Ideal) x0 x1 x2 x3 x4 x5 (ix2 (cr C p) (cz (gc g d)))
    = (fun z y : EReal => y * sg z + z * y * (sg z * (1 - sg z))) (x0 (ix2 (cr C p) (cz (gc g d))))
        (x0 (ix2 (cr C p) (cu (gc g d))) * mix x0 x1 x2 x3 x4 C p g d * x5 (ix2 (cr C p) (gc g d))) := by
  have h : val_main_v86 (F := Ideal) x0 x1 x2 x3 x4 x5 (ix2 (cr C p) (cz (gc g d))) = val_main_v41 (F := Ideal) x0 x1 x2 x3 x4 x5 (ix2 (cr C p) (gc g d)) := by
    have hj : (gc g d).val < 512 := (gc g d).isLt
    pointwise [val_main_v86, val_main_v85, cz]
    rw [dif_neg (by omega), dif_neg (by omega)]
    refine congrArg (fun n => val_main_v41 (F := Ideal) x0 x1 x2 x3 x4 x5 (ix2 (cr C p) n)) (Fin.ext ?_)
    show 1024 + (gc g d).val - 512 - 512 = _; omega
  rw [h]
  pointwise [val_main_v41, val_main_call1_v0, val_main_call1_v1, val_main_call1_v2, val_main_v39, val_main_v36, ref_mix, val_main_v37_1, val_main_v37_2, val_main_call0_v7,
    val_main_call0_v6, val_main_call0_v4, val_main_call0_v3, val_main_call0_v2, val_main_call0_v1, val_main_call0_v0,
    val_main_call0_cst, val_main_call0_cst_0, val_main_call0_cst_1, val_main_v0, val_main_v2, sg, cu, cz]

/-- The layer norm's gradient times the gain: a row. -/
def ar (k : Fin 512) : EReal := val_main_v53 (F := Ideal) x0 x3 x5 (ix2 r k) * x1 (ix1 k)

theorem ref_a : val_main_v61 (F := Ideal) x0 x1 x3 x5 (ix2 r j) = ar x0 x1 x3 x5 r j := by
  pointwise [val_main_v61, val_main_v60, val_main_v22, ar]

theorem ref_kv : val_main_v71 (F := Ideal) x0 x1 x3 x5 (ix1 r) = kv (vr x0 r) (ar x0 x1 x3 x5 r) := by
  pointwise [val_main_v71, val_main_v70, val_main_v69, val_main_v68, val_main_v65, val_main_v64, val_main_v63, ref_xc, ref_a, val_main_v19, val_main_v18, val_main_v17,
    ref_rs, ref_var, val_main_cst_4, val_main_cst_11, val_main_cst_12, val_main_cst_13, kv]
  rw [← ref_rs, ← ref_var]
  exact Fin.sum_univ_one _

theorem ref_dc : val_main_v76 (F := Ideal) x0 x1 x3 x5 (ix2 r j) = dc (vr x0 r) (ar x0 x1 x3 x5 r) j := by
  pointwise [val_main_v76, val_main_v75, val_main_v74, val_main_v73, val_main_v72, val_main_v67, val_main_v66, ref_kv, ref_a, ref_xc, ref_rs, dc]

/-- The norm's input's gradient. -/
theorem ref_dv : val_main_v86 (F := Ideal) x0 x1 x2 x3 x4 x5 (ix2 r (cv j))
    = dc (vr x0 r) (ar x0 x1 x3 x5 r) j + Ideal.div (∑ k, -dc (vr x0 r) (ar x0 x1 x3 x5 r) k) (Ideal.ofBits .f32 0x44000000#32) := by
  have h : val_main_v86 (F := Ideal) x0 x1 x2 x3 x4 x5 (ix2 r (cv j)) = val_main_v84 (F := Ideal) x0 x1 x3 x5 (ix2 r j) := by
    have hj : j.val < 512 := j.isLt
    pointwise [val_main_v86, val_main_v85, cv]
  rw [h]
  pointwise [val_main_v84, val_main_v83, val_main_v82, val_main_v81, val_main_v80, val_main_v79, val_main_v78, val_main_v77, ref_dc, val_main_cst_14, val_main_cst_15, val_main_cst_16]
  rw [Fin.sum_univ_one]

/-- The mixing weights' gradient: a sum over the chunks and the group's channels. -/
theorem ref_dw : val_main_v50 (F := Ideal) x0 x1 x2 x5 (ix3 g p q)
    = ∑ C : Fin 32, ∑ d : Fin 128, dm x0 x5 (cr C p) (gc g d) * ln x0 x1 x2 (cr C q) (gc g d) := by
  pointwise [val_main_v50, val_main_v49, ref_dm4, ref_ln4]

/-- The mixing bias's gradient. -/
theorem ref_db : val_main_v87 (F := Ideal) x0 x5 (ix3 g p 0) = ∑ C : Fin 32, ∑ d : Fin 128, dm x0 x5 (cr C p) (gc g d) := by
  pointwise [val_main_v87, val_main_v48, val_main_v47, val_main_v46, val_main_v45, val_main_cst_5, val_main_cst_6]
  rw [sum_outer, Fin.sum_univ_one, Fin.sum_univ_one]
  pointwise [sum_outer, ref_dm4]

/-- The norm's gain's gradient. -/
theorem ref_dg : val_main_v88 (F := Ideal) x0 x3 x5 (ix2 0 j) = ∑ r, xh (vr x0 r) j * val_main_v53 (F := Ideal) x0 x3 x5 (ix2 r j) := by
  pointwise [val_main_v88, val_main_v62, val_main_v59, val_main_v58, val_main_v57, ref_xh, val_main_cst_9, val_main_cst_10]
  rw [Fin.sum_univ_one]

/-- The norm's bias's gradient. -/
theorem ref_dn : val_main_v89 (F := Ideal) x0 x3 x5 (ix2 0 j) = ∑ r, val_main_v53 (F := Ideal) x0 x3 x5 (ix2 r j) := by
  pointwise [val_main_v89, val_main_v56, val_main_v55, val_main_v54, val_main_cst_7, val_main_cst_8]
  rw [Fin.sum_univ_one]

end Cert.GmlpRefIdeal.Entry
-- ==== Proof.AttnRef.lean ====
/-
  The gradients of the attention's core, as the reference computes them, at one query row of one head and one key.
-/
module

public import proofs.«01_k».proof.Proof.Gen.AttnRefIdeal.Read
public import proofs.«01_k».proof.Proof.Softmax
public import Idealize.ShloMosaic.Lib.Pipeline.ValueKit

@[expose] public section

set_option maxRecDepth 16384

noncomputable section

namespace Cert.AttnRefIdeal.Point

open Cert.AttnRefIdeal Cert.AttnRefIdeal.Gen Cert.AttnRefIdeal.Read
open Idealize.ShloMosaic Idealize.ShloMosaic.TcCoe Idealize.SL.Sem

/-- The factor of the scores: one eighth. -/
theorem lit_scale : Ideal.ofBits .f32 0x3E000000#32 = ((1 / 8 : ℝ) : EReal) := by
  simp [Ideal.ofBits, Ideal.ieee, -EReal.coe_mul]; norm_num

/-- The factor of the scores. -/
abbrev scale : EReal := Ideal.ofBits .f32 0x3E000000#32

/-- Query head `j` of group `g`. -/
def head (g : Fin 2) (j : Fin 4) : Fin 8 := ⟨g.val * 4 + j.val, by omega⟩

/-- Column `d` of that head. -/
def col (g : Fin 2) (j : Fin 4) (d : Fin 64) : Fin 512 := ⟨g.val * 256 + j.val * 64 + d.val, by omega⟩

variable (q : Vec Ideal S4096x8x64 .f32) (k : Vec Ideal S4096x2x64 .f32) (pa : Vec Ideal S4096x1280 .f32) (dy : Vec Ideal S4096x512 .f32)
  (g : Fin 2) (j : Fin 4) (i n : Fin 4096) (d : Fin 64)

/-- The value of key `n`. -/
def val : EReal := pa (ix2 n ⟨640 + (g.val * 64 + d.val), by omega⟩)

/-- A score. -/
def score : EReal := (∑ d : Fin 64, q (ix3 i (head g j) d) * k (ix3 n g d)) * scale

/-- The maximum of a row's scores. -/
def top : EReal := Finset.univ.fold max ⊥ fun n : Fin 4096 => score q k g j i n

/-- The exponential of a score. -/
def expo : EReal := Ideal.exp (score q k g j i n - top q k g j i)

/-- The sum of a row's exponentials. -/
def total : EReal := ∑ n : Fin 4096, expo q k g j i n

/-- A probability. -/
def prob : EReal := Ideal.div (expo q k g j i n) (total q k g j i)

/-- The product's cotangent. -/
def cot (i : Fin 4096) (n : Fin 512) : EReal := val_main_v45 (F := Ideal) pa dy (ix2 i n)

/-- A row's mean of the values. -/
def out : EReal := ∑ n : Fin 4096, prob q k g j i n * val pa g n d

/-- A score's cotangent before the factor: the probability by what its cotangent exceeds the row's mean by. -/
def slope : EReal := prob q k g j i n
  * ((∑ d : Fin 64, cot pa dy i (col g j d) * val pa g n d) - ∑ d : Fin 64, cot pa dy i (col g j d) * out q k pa g j i d)

theorem ref_q : val_main_v6 (F := Ideal) q (ix4 g j i d) = q (ix3 i (head g j) d) := by
  pointwise [val_main_v6, val_main_v5, head]

theorem ref_v : val_main_v8 (F := Ideal) pa (ix3 g n d) = val pa g n d := by
  unfold val; pointwise [val_main_v8, val_main_v4, val_main_v2]

theorem ref_score : val_main_v11 (F := Ideal) q k (ix4 g j i n) = score q k g j i n := by
  unfold score
  have h := fun d => ref_q q g j i d
  pointwise [val_main_v11, val_main_v10, val_main_v9, val_main_cst, h, val_main_v7]

theorem ref_top : val_main_v12 (F := Ideal) q k (ix3 g j i) = top q k g j i := by
  unfold top; rw [← Alg.lit_bot]
  have h := fun n => ref_score q k g j i n
  pointwise [val_main_v12, val_main_cst_0, h]

theorem ref_exp : val_main_v32 (F := Ideal) q k (ix4 g j i n) = expo q k g j i n := by
  have h1 : val_main_v19 (F := Ideal) q k (ix3 g j i) = top q k g j i := by
    rw [← ref_top, val_main_v19_apply]
    have : val_main_v18 (F := Ideal) (ix3 g j i) = (⊥ : EReal) := by rw [← Alg.lit_bot]; rfl
    rw [this]; exact max_eq_right bot_le
  unfold expo; rw [← h1, ← ref_score]; pointwise [val_main_v32, val_main_v31, val_main_v30, val_main_v29]

theorem ref_total : val_main_v33 (F := Ideal) q k (ix3 g j i) = total q k g j i := by
  unfold total
  have h := fun n => ref_exp q k g j i n
  pointwise [val_main_v33, val_main_cst_8, h]

theorem ref_p : val_main_v36 (F := Ideal) q k (ix4 g j i n) = prob q k g j i n := by
  unfold prob; rw [← ref_exp, ← ref_total]; pointwise [val_main_v36, val_main_v35, val_main_v34]

/-- A row's mean of the values, in its column of the heads' array. -/
theorem ref_o : val_main_v42 (F := Ideal) q k pa (ix2 i (col g j d)) = out q k pa g j i d := by
  have h1 : val_main_v42 (F := Ideal) q k pa (ix2 i (col g j d)) = val_main_v40 (F := Ideal) q k pa (ix4 g j i d) := by
    pointwise [val_main_v42, val_main_v41, col]
  have h2 := fun n => ref_p q k g j i n
  have h3 := fun n => ref_v pa g n d
  rw [h1]; unfold out; pointwise [val_main_v40, h2, h3]

theorem ref_do : val_main_v47 (F := Ideal) pa dy (ix4 g j i d) = cot pa dy i (col g j d) := by
  unfold cot; pointwise [val_main_v47, val_main_v46, col]

theorem ref_dp : val_main_v50 (F := Ideal) pa dy (ix4 g j i n) = ∑ d : Fin 64, cot pa dy i (col g j d) * val pa g n d := by
  have h2 := fun d => ref_do pa dy g j i d
  have h3 := fun d => ref_v pa g n d
  pointwise [val_main_v50, h2, h3]

/-- The score's cotangent as the quotient's derivative writes it. -/
theorem ref_ds : val_main_v64 (F := Ideal) q k pa dy (ix4 g j i n)
    = (Ideal.div (val_main_v50 (F := Ideal) pa dy (ix4 g j i n)) (total q k g j i)
        + -∑ n : Fin 4096, val_main_v50 (F := Ideal) pa dy (ix4 g j i n)
          * Ideal.div 1 (total q k g j i * total q k g j i) * expo q k g j i n)
        * expo q k g j i n * scale := by
  have h1 : val_main_v54 (F := Ideal) q k pa dy (ix3 g j i) = ∑ n : Fin 4096, val_main_v50 (F := Ideal) pa dy (ix4 g j i n)
      * Ideal.div 1 (total q k g j i * total q k g j i) * expo q k g j i n := by
    rw [← Ideal.ofBits_one_f32]
    have he := fun n => ref_exp q k g j i n
    have ht := ref_total q k g j i
    pointwise [val_main_v54, val_main_cst_10, val_main_v53, val_main_v52, val_main_v51, val_main_v39, val_main_v38, val_main_v37, val_main_v34, val_main_cst_9, he, ht]
  have h2 : val_main_v59 (F := Ideal) q k pa dy (ix3 g j i) = -val_main_v54 (F := Ideal) q k pa dy (ix3 g j i) := by
    pointwise [val_main_v59, val_main_v56, val_main_v55, val_main_cst_11]
    exact Fin.sum_univ_one (M := EReal) _
  rw [← h1, ← h2, ← ref_total, ← ref_exp]
  pointwise [val_main_v64, val_main_v63, val_main_cst_12, val_main_v62, val_main_v61, val_main_v60, val_main_v58, val_main_v57, val_main_v34]

variable (hq : ∀ i, ∃ r : ℝ, q i = (r : EReal)) (hk : ∀ i, ∃ r : ℝ, k i = (r : EReal)) (hpa : ∀ i, ∃ r : ℝ, pa i = (r : EReal))
  (hdy : ∀ i, ∃ r : ℝ, dy i = (r : EReal))

include hq hk in
/-- A score of finite arguments is finite. -/
theorem score_real : ∃ r : ℝ, score q k g j i n = (r : EReal) := by
  choose a ha using hq
  choose b hb using hk
  refine ⟨(∑ d : Fin 64, a (ix3 i (head g j) d) * b (ix3 n g d)) * (1 / 8), ?_⟩
  unfold score
  rw [scale, lit_scale, EReal.coe_mul, ← Alg.sum_coe]
  simp only [ha, hb, EReal.coe_mul]

include hpa hdy in
/-- The product's cotangent at finite arguments is finite. -/
theorem cot_real (n : Fin 512) : ∃ r : ℝ, cot pa dy i n = (r : EReal) := by
  obtain ⟨z, hz⟩ := hpa (ix2 i ⟨768 + n.val, by omega⟩)
  obtain ⟨y, hy⟩ := hdy (ix2 i n)
  obtain ⟨s, hs⟩ := Alg.logistic_coe z
  refine ⟨y * (z * s), ?_⟩
  unfold cot
  rw [EReal.coe_mul, EReal.coe_mul, ← hy, ← hs, ← hz, ← Ideal.ofBits_one_f32]
  pointwise [val_main_v45, val_main_v43, val_main_call0_v5, val_main_call0_v4, val_main_call0_v3, val_main_call0_v2, val_main_call0_v1,
    val_main_call0_v0, val_main_call0_cst, val_main_call0_cst_0, val_main_v3]

include hq hk in
/-- The maximum of finite scores is finite. -/
theorem top_real : ∃ r : ℝ, top q k g j i = (r : EReal) := by
  choose s hs using fun n => score_real q k g j i n hq hk
  unfold top; simp only [hs]; exact Alg.fold_max_coe (n := 4095) s

include hq hk hpa hdy in
/-- The score's cotangent is the slope by the factor. -/
theorem ds_eq : val_main_v64 (F := Ideal) q k pa dy (ix4 g j i n) = slope q k pa dy g j i n * scale := by
  choose s hs using fun n => score_real q k g j i n hq hk
  choose w hw using fun d => cot_real pa dy i hpa hdy (col g j d)
  choose b hb using hpa
  obtain ⟨M, hM⟩ := top_real q k g j i hq hk
  have hv : ∀ n d, val pa g n d = ((b (ix2 n ⟨640 + (g.val * 64 + d.val), by omega⟩) : ℝ) : EReal) := fun n d => hb _
  rw [ref_ds]
  refine congrArg (· * scale) ?_
  unfold slope
  simp only [ref_dp, out, prob, hw, hv]
  exact (Alg.softmax_grad (n := 4095) s M w (fun n d => b (ix2 n ⟨640 + (g.val * 64 + d.val), by omega⟩)) n
    (fun n => expo q k g j i n) _ (fun n => by rw [expo, hs, hM]) rfl).symm

include hq hk in
/-- The exponential of a score less the logarithm of the row's sum is the probability. -/
theorem prob_eq : Ideal.exp (score q k g j i n - (top q k g j i + Ideal.log (total q k g j i))) = prob q k g j i n := by
  choose s hs using fun n => score_real q k g j i n hq hk
  obtain ⟨M, hM⟩ := top_real q k g j i hq hk
  have he : ∀ n, expo q k g j i n = ((Real.exp (s n - M) : ℝ) : EReal) := fun n => by
    rw [expo, hs, hM, ← EReal.coe_sub, Ideal.exp_coe]
  have hpos : 0 < ∑ n : Fin 4096, Real.exp (s n - M) := Finset.sum_pos (fun n _ => Real.exp_pos _) Finset.univ_nonempty
  have hT : total q k g j i = ((∑ n : Fin 4096, Real.exp (s n - M) : ℝ) : EReal) := by
    unfold total; simp only [he]; exact Alg.sum_coe _ _
  rw [prob, he, hT, hs, hM, Ideal.log_coe, if_neg (not_le.mpr hpos), ← EReal.coe_add, ← EReal.coe_sub, Ideal.exp_coe,
    Ideal.div_coe hpos.ne', ← EReal.coe_mul, EReal.coe_eq_coe_iff, ← sub_sub, Real.exp_sub, Real.exp_log hpos, div_eq_mul_one_div]

/-! ## The three results -/

include hq hk hpa hdy in
/-- The queries' gradient. -/
theorem ref_dq : val_main_v66 (F := Ideal) q k pa dy (ix4 g j i d) = (∑ n : Fin 4096, slope q k pa dy g j i n * k (ix3 n g d)) * scale := by
  have h := fun n => ds_eq q k pa dy g j i n hq hk hpa hdy
  rw [scale, lit_scale, Alg.sum_mul_coe (by norm_num), ← lit_scale]
  trans ∑ n : Fin 4096, slope q k pa dy g j i n * scale * k (ix3 n g d)
  · pointwise [val_main_v66, h, val_main_v7]
  · exact Finset.sum_congr rfl fun n _ => mul_right_comm (_ : EReal) _ _

include hq hk hpa hdy in
/-- The keys' gradient. -/
theorem ref_dk : val_main_v65 (F := Ideal) q k pa dy (ix3 g n d)
    = ∑ i : Fin 4096, ∑ j : Fin 4, q (ix3 i (head g j) d) * scale * slope q k pa dy g j i n := by
  have h := fun j i => ds_eq q k pa dy g j i n hq hk hpa hdy
  have h2 := fun j i => ref_q q g j i d
  rw [Finset.sum_comm]
  trans ∑ j : Fin 4, ∑ i : Fin 4096, slope q k pa dy g j i n * scale * q (ix3 i (head g j) d)
  · pointwise [val_main_v65, h, h2]
  · exact Finset.sum_congr rfl fun j _ => Finset.sum_congr rfl fun n _ =>
      (mul_assoc (_ : EReal) _ _).trans ((mul_comm (_ : EReal) _).trans (congrArg (· * _) (mul_comm (_ : EReal) _)))

/-- The values' gradient. -/
theorem ref_dv : val_main_v48 (F := Ideal) q k pa dy (ix3 g d n)
    = ∑ i : Fin 4096, ∑ j : Fin 4, cot pa dy i (col g j d) * prob q k g j i n := by
  have h := fun j i => ref_p q k g j i n
  have h2 := fun j i => ref_do pa dy g j i d
  rw [Finset.sum_comm]
  pointwise [val_main_v48, h, h2]

end Cert.AttnRefIdeal.Point
-- ==== Proof.AttnRows.lean ====
/-
  What the attention's backward body computes of a block of 256 query rows for one head: scores, probabilities, the scores' cotangents, and the
  parts of the three gradients, each against the reference at the block's rows.
-/
module

public import proofs.«01_k».proof.Proof.Gen.AttnIdeal.Frame
public import proofs.«01_k».proof.Proof.AttnRef

@[expose] public section

set_option maxRecDepth 16384

noncomputable section

namespace Cert.AttnIdeal.Rows

open Cert.AttnIdeal Cert.AttnIdeal.Gen Cert.AttnRefIdeal.Read Cert.AttnRefIdeal.Point
open Idealize.ShloMosaic Idealize.ShloMosaic.TcCoe Idealize.SL.Sem

/-- Column `b` of group `g`. -/
def gcol (g : Fin 2) (b : Fin 256) : Fin 512 := ⟨g.val * 256 + b.val, by omega⟩

/-- The column of the projected rows that gates it. -/
def zcol (g : Fin 2) (b : Fin 256) : Fin 1280 := ⟨768 + (gcol g b).val, by omega⟩

variable (q : Vec Ideal S4096x8x64 .f32) (k : Vec Ideal S4096x2x64 .f32) (pa : Vec Ideal S4096x1280 .f32) (dy : Vec Ideal S4096x512 .f32)
  (hq : ∀ i, ∃ r : ℝ, q i = (r : EReal)) (hk : ∀ i, ∃ r : ℝ, k i = (r : EReal)) (hpa : ∀ i, ∃ r : ℝ, pa i = (r : EReal))
  (hdy : ∀ i, ∃ r : ℝ, dy i = (r : EReal))
  (row : Fin 256 → Fin 4096) (g : Fin 2) (j : Fin 4)
  (Z : Vec Ideal S256x256 .bf16) (Y O : Vec Ideal S256x256 .f32) (DO DOO DOT : FVec Ideal S256x256 .f32)
  (Q : Vec Ideal S256x64 .bf16) (QT : Vec Ideal S64x256 .bf16) (K : FVec Ideal S4096x64 .bf16) (KT VT : FVec Ideal S64x4096 .bf16) (L : Vec Ideal S1x256x1 .f32)
  (S D : FVec Ideal S256x4096 .f32) (P : FVec Ideal S256x4096 .f32) (R : FVec Ideal S256x4096 .bf16)
  (hZ : ∀ z : S256x256.Idx, Z z = pa (ix2 (row (z 0)) (zcol g (z 1))))
  (hY : ∀ z : S256x256.Idx, Y z = dy (ix2 (row (z 0)) (gcol g (z 1))))
  (hO : ∀ z : S256x256.Idx, O z = val_main_v42 (F := Ideal) q k pa (ix2 (row (z 0)) (gcol g (z 1))))
  (hDO : ∀ z : S256x256.Idx, DO z = cot pa dy (row (z 0)) (gcol g (z 1)))
  (hDOO : ∀ z : S256x256.Idx, DOO z = cot pa dy (row (z 0)) (gcol g (z 1)) * val_main_v42 (F := Ideal) q k pa (ix2 (row (z 0)) (gcol g (z 1))))
  (hDOT : ∀ z : S256x256.Idx, DOT z = cot pa dy (row (z 1)) (gcol g (z 0)))
  (hQ : ∀ z : S256x64.Idx, Q z = q (ix3 (row (z 0)) (head g j) (z 1)) * scale)
  (hQT : ∀ z : S64x256.Idx, QT z = q (ix3 (row (z 1)) (head g j) (z 0)) * scale)
  (hK : ∀ z : S4096x64.Idx, K z = k (ix3 (z 0) g (z 1)))
  (hKT : ∀ z : S64x4096.Idx, KT z = k (ix3 (z 1) g (z 0)))
  (hVT : ∀ z : S64x4096.Idx, VT z = val pa g (z 1) (z 0))
  (hL : ∀ z : S1x256x1.Idx, L z = top q k g j (row (z 1)) + Ideal.log (total q k g j (row (z 1))))
  (hS : ∀ z : S256x4096.Idx, S z = score q k g j (row (z 0)) (z 1))
  (hD : ∀ z : S256x4096.Idx, D z = ∑ d : Fin 64, cot pa dy (row (z 0)) (col g j d) * val pa g (z 1) d)
  (hP : ∀ z : S256x4096.Idx, P z = prob q k g j (row (z 0)) (z 1))
  (hR : ∀ z : S256x4096.Idx, R z = slope q k pa dy g j (row (z 0)) (z 1))
  (o : ℕ) (ho : o = j.val * 64) (hs : S256x256.Slices ![0, o] S256x64) (hs' : S256x256.Slices ![o, 0] S64x256)

include hZ hY in
/-- The product's cotangent. -/
theorem do_point (z : S256x256.Idx) : k0_pay5 (F := Ideal) Z Y z = cot pa dy (row (z 0)) (gcol g (z 1)) := by
  unfold cot
  trans dy (ix2 (row (z 0)) (gcol g (z 1))) * (pa (ix2 (row (z 0)) (zcol g (z 1)))
    * Ideal.div (Ideal.ofBits .f32 0x3F800000#32) (Ideal.ofBits .f32 0x3F800000#32 + Ideal.exp (-pa (ix2 (row (z 0)) (zcol g (z 1))))))
  · pointwise [k0_pay5, hZ, hY, zcol]
    refine congrArg (_ * ·) (congrArg (_ * ·) ?_)
    rw [Alg.lit_half]; exact Alg.half_tanh _
  · pointwise [val_main_v45, val_main_v43, val_main_call0_v5, val_main_call0_v4, val_main_call0_v3, val_main_call0_v2, val_main_call0_v1,
      val_main_call0_v0, val_main_call0_cst, val_main_call0_cst_0, val_main_v3, zcol]

include hZ hY hO in
/-- The product's cotangent by the product. -/
theorem doo_point (z : S256x256.Idx) : k0_pay6 (F := Ideal) Z Y O z
    = cot pa dy (row (z 0)) (gcol g (z 1)) * val_main_v42 (F := Ideal) q k pa (ix2 (row (z 0)) (gcol g (z 1))) := by
  have h := do_point pa dy row g Z Y hZ hY
  pointwise [k0_pay6, h, hO]

include hZ hY in
/-- The product's cotangent, transposed. -/
theorem dot_point (z : S256x256.Idx) : k0_pay7 (F := Ideal) Z Y z = cot pa dy (row (z 1)) (gcol g (z 0)) := by
  have h := do_point pa dy row g Z Y hZ hY
  pointwise [k0_pay7, h]

include hQ hKT in
/-- The scores. -/
theorem score_point (z : S256x4096.Idx) : k0_pay13 (F := Ideal) KT Q z = score q k g j (row (z 0)) (z 1) := by
  unfold score
  rw [scale, lit_scale, Alg.sum_mul_coe (by norm_num), ← lit_scale]
  trans ∑ d : Fin 64, q (ix3 (row (z 0)) (head g j) d) * scale * k (ix3 (z 1) g d)
  · pointwise [k0_pay13, hQ, hKT]
  · exact Finset.sum_congr rfl fun n _ => mul_right_comm (_ : EReal) _ _

include ho in
theorem gcol_col (d : Fin 64) (h) : gcol g ⟨o + d.val, h⟩ = col g j d := by
  subst ho; exact Fin.ext (by simp only [gcol, col]; omega)

include hDO hVT ho in
/-- The probabilities' cotangents. -/
theorem dp_point (z : S256x4096.Idx) : matmul (F := Ideal) dot_S256x64_S64x4096_S256x4096_1_0_0_1_n_n none
      (truncf .bf16 (extractStridedSlice S256x64 ![0, o] DO hs) bitsLt_bf16_f32) VT (constant S256x4096 .f32 0x00000000#32) z
    = ∑ d : Fin 64, cot pa dy (row (z 0)) (col g j d) * val pa g (z 1) d := by
  have e := gcol_col g j o ho
  pointwise [hDO, hVT, e]

include hq hk hS hL in
/-- The probabilities. -/
theorem p_point (z : S256x4096.Idx) : k0_pay15 (F := Ideal) S L z = prob q k g j (row (z 0)) (z 1) := by
  refine Eq.trans ?_ (prob_eq q k g j _ _ hq hk)
  pointwise [k0_pay15, hS, hL]

include hP hD hDOO ho in
/-- The scores' cotangents. -/
theorem ds_point (z : S256x4096.Idx) : truncf (F := Ideal) .bf16 (mulf P (subf D (broadcastTo S256x4096
      (shapeCast S256x1 (multiReduction .add [1] S256 (extractStridedSlice S256x64 ![0, o] DOO hs) 0x00000000#32 reduces_S256x64_S256 (.inl rfl) rfl) shapeCasts_S256_S256x1)
      broadcasts_S256x1_S256x4096))) bitsLt_bf16_f32 z
    = slope q k pa dy g j (row (z 0)) (z 1) := by
  unfold Cert.AttnRefIdeal.Point.slope
  have e := gcol_col g j o ho
  have e' := fun i d => ref_o q k pa g j i d
  pointwise [hP, hD, hDOO, e, e']

include hR hK in
/-- The queries' gradient. -/
theorem dq_point (z : S256x64.Idx) : matmul (F := Ideal) dot_S256x4096_S4096x64_S256x64_1_0_0_1_n_n none R K (constant S256x64 .f32 0x00000000#32) z
    = ∑ n : Fin 4096, slope q k pa dy g j (row (z 0)) n * k (ix3 n g (z 1)) := by
  pointwise [hR, hK]

variable (A : Vec Ideal S1x64x4096 .f32)

include hR hQT in
/-- The rows' part of the keys' gradient. -/
theorem dk_point (z : S1x64x4096.Idx) : shapeCast S1x64x4096 (addf (F := Ideal) (show FVec Ideal S64x4096 .f32 from shapeCast S64x4096 A shapeCasts_S1x64x4096_S64x4096)
      (matmul dot_S64x256_S256x4096_S64x4096_1_0_0_1_n_n none (show FVec Ideal S64x256 .bf16 from shapeCast S64x256 QT shapeCasts_S64x256_S64x256) R (constant S64x4096 .f32 0x00000000#32)))
      shapeCasts_S64x4096_S1x64x4096 z
    = A z + ∑ a : Fin 256, q (ix3 (row a) (head g j) (z 1)) * scale * slope q k pa dy g j (row a) (z 2) := by
  pointwise [hR, hQT]

include hP hDOT ho in
/-- The rows' part of the values' gradient. -/
theorem dv_point (z : S1x64x4096.Idx) : shapeCast S1x64x4096 (addf (F := Ideal) (show FVec Ideal S64x4096 .f32 from shapeCast S64x4096 A shapeCasts_S1x64x4096_S64x4096)
      (matmul dot_S64x256_S256x4096_S64x4096_1_0_0_1_n_n none (truncf .bf16 (extractStridedSlice S64x256 ![o, 0] DOT hs') bitsLt_bf16_f32)
        (truncf .bf16 P bitsLt_bf16_f32) (constant S64x4096 .f32 0x00000000#32)))
      shapeCasts_S64x4096_S1x64x4096 z
    = A z + ∑ a : Fin 256, cot pa dy (row a) (col g j (z 1)) * prob q k g j (row a) (z 2) := by
  have e := gcol_col g j o ho
  pointwise [hP, hDOT, e]

end Cert.AttnIdeal.Rows
-- ==== Proof.AttnHost.lean ====
/-
  The arrays that the host prepares for the attention's backward kernel, at a place: the scaled queries, the keys, the values and the gate in the
  kernel's layouts, the means of the values, and the logarithms of the rows' sums of exponentials.
-/
module

public import proofs.«01_k».proof.Proof.Gen.AttnIdeal.Frame
public import proofs.«01_k».proof.Proof.AttnRef

@[expose] public section

set_option maxRecDepth 16384

noncomputable section

namespace Cert.AttnIdeal.Host

open Cert.AttnIdeal Cert.AttnIdeal.Gen Cert.AttnRefIdeal.Read Cert.AttnRefIdeal.Point
open Idealize.ShloMosaic Idealize.ShloMosaic.TcCoe Idealize.SL.Sem

variable (m : (ℓ : Loc nD τ sig) → Buf (Elt Ideal) ℓ) (c : Dev nD) (g : Fin 2) (j : Fin 4) (i n : Fin 4096) (d : Fin 64)

/-- The queries, the keys, the projected rows and the cotangent on a device. -/
abbrev aq : Vec Ideal S4096x8x64 .f32 := m ((c : Thread nD τ).loc main_arg0)
abbrev ak : Vec Ideal S4096x2x64 .f32 := m ((c : Thread nD τ).loc main_arg1)
abbrev ap : Vec Ideal S4096x1280 .f32 := m ((c : Thread nD τ).loc main_arg2)
abbrev ay : Vec Ideal S4096x512 .f32 := m ((c : Thread nD τ).loc main_arg3)

/-- The scaled queries with the heads side by side. -/
def qs : Vec Ideal S4096x512 .f32 := mulf (F := Ideal) (shapeCast S4096x512 (aq m c) shapeCasts_S4096x8x64_S4096x512)
  (broadcastInDim S4096x512 ![] bcast_S_S4096x512 (constant S_ .f32 0x3E000000#32))

theorem qs_at : qs m c (ix2 i (col g j d)) = aq m c (ix3 i (head g j) d) * scale := by
  pointwise [qs, col, head]
  exact congrArg (fun h => aq m c (ix3 i h d) * scale) (Fin.ext (by show (g.val * 256 + j.val * 64 + d.val) / 64 = g.val * 4 + j.val; omega))

/-- The queries. -/
theorem host_q : V m c main_v44 (ix2 i (col g j d)) = aq m c (ix3 i (head g j) d) * scale := by
  have h : V m c main_v44 = truncf (F := Ideal) (s := S4096x512) .bf16 (qs m c) bitsLt_bf16_f32 := by
    show StableHlo.after hostOps0 _ (Proc.devRef .tc main_v44) = _
    after_results <;> rfl
  rw [h]; exact qs_at m c g j i d

/-- The queries, transposed. -/
theorem host_qT : V m c main_v46 (ix2 (col g j d) i) = aq m c (ix3 i (head g j) d) * scale := by
  have h : V m c main_v46 = truncf (F := Ideal) .bf16 (transpose S512x4096 [1, 0] (qs m c) transposes_S4096x512_S512x4096_1_0) bitsLt_bf16_f32 := by
    show StableHlo.after hostOps0 _ (Proc.devRef .tc main_v46) = _
    after_results <;> rfl
  rw [h, ← qs_at m c g j i d]; pointwise

/-- The keys with the heads side by side. -/
def ks : Vec Ideal S4096x128 .f32 := shapeCast S4096x128 (ak m c) shapeCasts_S4096x2x64_S4096x128

/-- The keys, head by head. -/
theorem host_k : V m c main_v43 (ix3 g n d) = ak m c (ix3 n g d) := by
  have h : V m c main_v43 = truncf (F := Ideal) (s := S2x4096x64) .bf16 (concatenate S2x4096x64 0
      [⟨S1x4096x64, broadcastInDim S1x4096x64 ![1, 2] bcast_S4096x64_S1x4096x64_1_2 (extractStridedSlice S4096x64 ![0, 0] (ks m c) slices_S4096x128_S4096x64_0_0)⟩,
       ⟨S1x4096x64, broadcastInDim S1x4096x64 ![1, 2] bcast_S4096x64_S1x4096x64_1_2 (extractStridedSlice S4096x64 ![0, 64] (ks m c) slices_S4096x128_S4096x64_0_64)⟩]
      concatenates_S1x4096x64_S1x4096x64_S2x4096x64_d0) bitsLt_bf16_f32 := by
    show StableHlo.after hostOps0 _ (Proc.devRef .tc main_v43) = _
    after_results <;> rfl
  rw [h]
  fin_cases g
  · pointwise [ks]
    have h1 : (⟨d.val / 64, by omega⟩ : Fin 2) = 0 := Fin.ext (by show d.val / 64 = 0; omega)
    have h2 : (⟨d.val % 64, by omega⟩ : Fin 64) = d := Fin.ext (by show d.val % 64 = d.val; omega)
    exact congrArg₂ (fun a b => ak m c (ix3 n a b)) h1 h2
  · pointwise [ks]
    have h1 : (⟨(64 + d.val) / 64, by omega⟩ : Fin 2) = 1 := Fin.ext (by show (64 + d.val) / 64 = 1; omega)
    exact congrArg (fun a => ak m c (ix3 n a d)) h1

/-- The keys, transposed. -/
theorem host_kT : V m c main_v48 (ix2 ⟨g.val * 64 + d.val, by omega⟩ n) = ak m c (ix3 n g d) := by
  have h : V m c main_v48 = truncf (F := Ideal) .bf16 (transpose S128x4096 [1, 0] (ks m c) transposes_S4096x128_S128x4096_1_0) bitsLt_bf16_f32 := by
    show StableHlo.after hostOps0 _ (Proc.devRef .tc main_v48) = _
    after_results <;> rfl
  rw [h]; pointwise [ks]

/-- The values, transposed. -/
theorem host_vT : V m c main_v50 (ix2 ⟨g.val * 64 + d.val, by omega⟩ n) = val (ap m c) g n d := by
  have h : V m c main_v50 = truncf (F := Ideal) .bf16 (transpose S128x4096 [1, 0] (extractStridedSlice S4096x128 ![0, 640] (ap m c) slices_S4096x1280_S4096x128_0_640)
      transposes_S4096x128_S128x4096_1_0) bitsLt_bf16_f32 := by
    show StableHlo.after hostOps0 _ (Proc.devRef .tc main_v50) = _
    after_results <;> rfl
  rw [h]; unfold val; pointwise

/-- The projected rows. -/
theorem host_pa : V m c main_v51 = (fun z => ap m c z) := by
  have h : V m c main_v51 = truncf (F := Ideal) (s := S4096x1280) .bf16 (ap m c) bitsLt_bf16_f32 := by
    show StableHlo.after hostOps0 _ (Proc.devRef .tc main_v51) = _
    after_results <;> rfl
  rw [h]; rfl

/-- The means of the values are the reference's. -/
theorem host_o : V m c main_v22 = val_main_v42 (F := Ideal) (aq m c) (ak m c) (ap m c) := by
  show StableHlo.after hostOps0 _ (Proc.devRef .tc main_v22) = _
  after_results <;> rfl

/-- The maxima of the rows' scores. -/
abbrev mx : FVec Ideal S2x4x4096 .f32 := val_main_v12 (F := Ideal) (aq m c) (ak m c)

/-- The sums of the rows' exponentials. -/
def sm : FVec Ideal S2x4x4096 .f32 := Host.reduceAdd (F := Ideal) (Host.exp (F := Ideal) (subf (F := Ideal) (val_main_v11 (F := Ideal) (aq m c) (ak m c))
    (broadcastInDim S2x4x4096x4096 ![0, 1, 2, 3] bcast_S2x4x4096x1_S2x4x4096x4096_0_1_2_3
      (broadcastInDim S2x4x4096x1 ![0, 1, 2] bcast_S2x4x4096_S2x4x4096x1_0_1_2 (mx m c))))) (constant S_ .f32 0x00000000#32)
  reducesTo_S2x4x4096x4096_S2x4x4096_d3 h_S_

theorem sm_at : sm m c (ix3 g j i) = total (aq m c) (ak m c) g j i := by
  have h := fun n => ref_score (aq m c) (ak m c) g j i n
  have hm := ref_top (aq m c) (ak m c) g j i
  unfold total expo
  pointwise [sm, h, hm]

/-- A logarithm of a row's sum from the row's maximum and the sum less the maximum. -/
def lg (A B : FVec Ideal S2x4x4096 .f32) : FVec Ideal S2x4096x4 .f32 := transpose S2x4096x4 [0, 2, 1] (shapeCast S2x4x4096
  (addf (F := Ideal) (broadcastInDim S2x4x4096x1 ![0, 1, 2] bcast_S2x4x4096_S2x4x4096x1_0_1_2 A)
    (Host.log (F := Ideal) (broadcastInDim S2x4x4096x1 ![0, 1, 2] bcast_S2x4x4096_S2x4x4096x1_0_1_2 B))) shapeCasts_S2x4x4096x1_S2x4x4096) transposes_S2x4x4096_S2x4096x4_0_2_1

theorem lg_at (A B : FVec Ideal S2x4x4096 .f32) : lg A B (ix3 g i j) = A (ix3 g j i) + Ideal.log (B (ix3 g j i)) := by
  pointwise [lg]

theorem host_ls : V m c main_v33 = lg (mx m c) (sm m c) := by
  show StableHlo.after hostOps0 _ (Proc.devRef .tc main_v33) = _
  after_results <;> rfl

/-- The logarithms of the rows' sums of exponentials of the scores. -/
theorem host_lse : V m c main_v33 (ix3 g i j) = top (aq m c) (ak m c) g j i + Ideal.log (total (aq m c) (ak m c) g j i) := by
  rw [host_ls, lg_at, sm_at, ← ref_top]

end Cert.AttnIdeal.Host
-- ==== Proof.AttnPoint.lean ====
/-
  One grid point of the attention's backward kernel: the blocks that it reads of the arrays, and what it computes of them for each of the four
  heads of its group, against the reference.
-/
module

public import proofs.«01_k».proof.Proof.AttnRows
public import proofs.«01_k».proof.Proof.AttnHost
public import Idealize.ShloMosaic.Lib.Pipeline.ValueKit
public import Idealize.ShloMosaic.Lib.Pipeline.ReadBack

@[expose] public section

set_option maxRecDepth 16384

noncomputable section

namespace Cert.AttnIdeal.Whole

open Cert.AttnIdeal Cert.AttnIdeal.Gen Cert.AttnRefIdeal.Read Cert.AttnRefIdeal.Point Cert.AttnIdeal.Rows Cert.AttnIdeal.Host
open Idealize.ShloMosaic Idealize.ShloMosaic.TcCoe Idealize.SL.Sem

/-! ## What a point reads -/

variable (m : (ℓ : Loc nD τ sig) → Buf (Elt Ideal) ℓ) (ρ : Dev nD → PrngReg)

/-- The block indices of the windows. -/
theorem idx : ∀ t : Fin cfg0.N, win0_0.index t = ![t.val % 16, t.val / 16] ∧ win0_1.index t = ![t.val / 16, t.val % 16] ∧ win0_2.index t = ![t.val / 16, 0, 0]
    ∧ win0_3.index t = ![t.val / 16, 0] ∧ win0_4.index t = ![t.val / 16, 0] ∧ win0_5.index t = ![t.val % 16, 3 + t.val / 16]
    ∧ win0_6.index t = ![t.val % 16, t.val / 16] ∧ win0_7.index t = ![t.val / 16, t.val % 16, 0] ∧ win0_8.index t = ![t.val % 16, t.val / 16]
    ∧ win0_9.index t = ![t.val % 16, t.val / 16] ∧ win0_10.index t = ![t.val / 16, 0, 0] ∧ win0_11.index t = ![t.val / 16, 0, 0] :=
  (by decide +kernel : ∀ t : Fin grid0.N, _)

theorem lt32 (t : Fin cfg0.N) : t.val < 32 := t.isLt

/-- The group of heads of a point. -/
def grp (t : Fin cfg0.N) : Fin 2 := ⟨t.val / 16, by have := lt32 t; omega⟩

/-- The row of the array that a row of point `t`'s block is. -/
def row (t : Fin cfg0.N) (i : Fin 256) : Fin 4096 := ⟨t.val % 16 * 256 + i.val, by omega⟩

section Blocks
variable (c : Dev nD) (t : Fin cfg0.N)

theorem blk_q (z : S256x256.Idx) : iblk m c 0 t z = V m c main_v44 (ix2 (row t (z 0)) (gcol (grp t) (z 1))) := by
  blk_point [iblk, idx t, row, gcol, grp]

theorem blk_qT (z : S256x256.Idx) : iblk m c 1 t z = V m c main_v46 (ix2 (gcol (grp t) (z 0)) (row t (z 1))) := by
  blk_point [iblk, idx t, row, gcol, grp]

theorem blk_k (z : S1x4096x64.Idx) : iblk m c 2 t z = V m c main_v43 (ix3 (grp t) (z 1) (z 2)) := by
  blk_point [iblk, idx t, grp]

theorem blk_kT (z : S64x4096.Idx) : iblk m c 3 t z = V m c main_v48 (ix2 ⟨(grp t).val * 64 + (z 0).val, by have : (z 0).val < 64 := (z 0).isLt; omega⟩ (z 1)) := by
  blk_point [iblk, idx t, grp]

theorem blk_vT (z : S64x4096.Idx) : iblk m c 4 t z = V m c main_v50 (ix2 ⟨(grp t).val * 64 + (z 0).val, by have : (z 0).val < 64 := (z 0).isLt; omega⟩ (z 1)) := by
  blk_point [iblk, idx t, grp]

theorem blk_pa (z : S256x256.Idx) : iblk m c 5 t z = ap m c (ix2 (row t (z 0)) (zcol (grp t) (z 1))) := by
  refine Eq.trans (b := V m c main_v51 (ix2 (row t (z 0)) (zcol (grp t) (z 1)))) ?_ (congrFun (host_pa m c) _)
  blk_point [iblk, idx t, row, zcol, gcol, grp]

theorem blk_o (z : S256x256.Idx) : iblk m c 6 t z = val_main_v42 (F := Ideal) (aq m c) (ak m c) (ap m c) (ix2 (row t (z 0)) (gcol (grp t) (z 1))) := by
  refine Eq.trans (b := V m c main_v22 (ix2 (row t (z 0)) (gcol (grp t) (z 1)))) ?_ (congrFun (host_o m c) _)
  blk_point [iblk, idx t, row, gcol, grp]

theorem blk_l (X : Vec Ideal S2x4096x4 .f32) (hX : V m c main_v33 = X) (z : S1x256x4.Idx) : iblk m c 7 t z = X (ix3 (grp t) (row t (z 1)) (z 2)) := by
  have h : V m c (Pipeline.arrRef spec0 7) = X := hX
  unfold iblk
  rw [h]
  refine congrArg X ?_
  blk_ext [idx t, row, grp] <;> simp [Pipeline.WinKind.off]

theorem blk_dy (z : S256x256.Idx) : iblk m c 8 t z = ay m c (ix2 (row t (z 0)) (gcol (grp t) (z 1))) := by
  refine Eq.trans ?_ (congrFun (V_main_arg3 m c) _)
  blk_point [iblk, idx t, row, gcol, grp]

end Blocks

/-! ## Loads of a part -/

theorem ld2 {n w a b : ℕ} {e : EltTy} (X : Vec Ideal ⟨2, ![n, w]⟩ e) (r o : ℕ) (inb : ∀ x : Fin 2, (![r, o] : Fin 2 → ℕ) x + (![a, b] : Fin 2 → ℕ) x ≤ (⟨2, ![n, w]⟩ : Shape).size x)
    (z : (⟨2, ![a, b]⟩ : Shape).Idx) :
    View.ld (Val := Elt Ideal) X (Rect.unit (s := ⟨2, ![n, w]⟩) ![r, o] ![a, b] inb) z
      = X (ix2 (n0 := n) (n1 := w) ⟨r + (z 0).val, by have h : (z 0).val < a := (z 0).isLt; have h' : r + a ≤ n := inb 0; omega⟩
        ⟨o + (z 1).val, by have h : (z 1).val < b := (z 1).isLt; have h' : o + b ≤ w := inb 1; omega⟩) := by
  refine congrArg X (funext fun x => Fin.ext ((Rect.idx_unit_val _ _ _ _ _).trans ?_))
  fin_cases x <;> simp

theorem ld3 (X : Vec Ideal S1x256x4 .f32) (j : Fin 4) (inb : ∀ x : Fin 3, (![0, 0, j.val] : Fin 3 → ℕ) x + (![1, 256, 1] : Fin 3 → ℕ) x ≤ S1x256x4.size x)
    (z : S1x256x1.Idx) : View.ld (Val := Elt Ideal) X (Rect.unit (s := S1x256x4) ![0, 0, j.val] ![1, 256, 1] inb) z = X (ix3 0 (z 1) j) := by
  have h0 : (z 0).val < 1 := (z 0).isLt
  have h2 : (z 2).val < 1 := (z 2).isLt
  refine congrArg X (funext fun x => Fin.ext ((Rect.idx_unit_val _ _ _ _ _).trans ?_))
  fin_cases x <;> simp <;> omega

/-- The logarithms of the rows' sums of exponentials. -/
def lse (c : Dev nD) : Vec Ideal S2x4096x4 .f32 := fun z => top (aq m c) (ak m c) (z 0) (z 2) (z 1) + Ideal.log (total (aq m c) (ak m c) (z 0) (z 2) (z 1))

theorem host_lse' (c : Dev nD) : V m c main_v33 = lse m c := by
  funext z
  have hz : z = ix3 (z 0) (z 1) (z 2) := by blk_ext
  generalize hX : V m c main_v33 = X
  have h := fun g i j => (congrFun hX (ix3 g i j)).symm.trans (host_lse m c g j i)
  rw [hz]; exact h _ _ _

/-! ## One head of a point -/

section Head
variable (c : Dev nD) (t : Fin cfg0.N) (j : Fin 4) (o : ℕ) (ho : o = j.val * 64)
  (iq : ∀ x : Fin 2, (![0, o] : Fin 2 → ℕ) x + (![256, 64] : Fin 2 → ℕ) x ≤ S256x256.size x)
  (it : ∀ x : Fin 2, (![o, 0] : Fin 2 → ℕ) x + (![64, 256] : Fin 2 → ℕ) x ≤ S256x256.size x)
  (il : ∀ x : Fin 3, (![0, 0, j.val] : Fin 3 → ℕ) x + (![1, 256, 1] : Fin 3 → ℕ) x ≤ S1x256x4.size x)
  (hs : S256x256.Slices ![0, o] S256x64) (hs' : S256x256.Slices ![o, 0] S64x256)

/-- The scores. -/
def SS : FVec Ideal S256x4096 .f32 := k0_pay13 (F := Ideal) (k0_pay9 (iblk m c 3 t)) (View.ld (Val := Elt Ideal) (iblk m c 0 t) (Rect.unit (s := S256x256) ![0, o] ![256, 64] iq))

/-- The probabilities' cotangents. -/
def DD : FVec Ideal S256x4096 .f32 := matmul (F := Ideal) dot_S256x64_S64x4096_S256x4096_1_0_0_1_n_n none
  (truncf .bf16 (extractStridedSlice S256x64 ![0, o] (k0_pay5 (F := Ideal) (iblk m c 5 t) (iblk m c 8 t)) hs) bitsLt_bf16_f32) (k0_pay10 (F := Ideal) (iblk m c 4 t))
  (constant S256x4096 .f32 0x00000000#32)

/-- The probabilities. -/
def PP : FVec Ideal S256x4096 .f32 := k0_pay15 (F := Ideal) (SS m c t o iq) (View.ld (Val := Elt Ideal) (iblk m c 7 t) (Rect.unit (s := S1x256x4) ![0, 0, j.val] ![1, 256, 1] il))

/-- The scores' cotangents. -/
def RR : FVec Ideal S256x4096 .bf16 := truncf (F := Ideal) .bf16 (mulf (PP m c t j o iq il) (subf (DD m c t o hs) (broadcastTo S256x4096
      (shapeCast S256x1 (multiReduction .add [1] S256 (extractStridedSlice S256x64 ![0, o] (k0_pay6 (F := Ideal) (iblk m c 5 t) (iblk m c 8 t) (iblk m c 6 t)) hs) 0x00000000#32
        reduces_S256x64_S256 (.inl rfl) rfl) shapeCasts_S256_S256x1)
      broadcasts_S256x1_S256x4096))) bitsLt_bf16_f32

/-- The queries' gradient. -/
def DQ : FVec Ideal S256x64 .f32 := matmul (F := Ideal) dot_S256x4096_S4096x64_S256x64_1_0_0_1_n_n none (RR m c t j o iq il hs) (k0_pay8 (F := Ideal) (iblk m c 2 t))
  (constant S256x64 .f32 0x00000000#32)

/-- The keys' gradient with the rows' part added. -/
def DK (A : Vec Ideal S1x64x4096 .f32) : Vec Ideal S1x64x4096 .f32 :=
  shapeCast S1x64x4096 (addf (F := Ideal) (show FVec Ideal S64x4096 .f32 from shapeCast S64x4096 A shapeCasts_S1x64x4096_S64x4096)
    (matmul dot_S64x256_S256x4096_S64x4096_1_0_0_1_n_n none
      (show FVec Ideal S64x256 .bf16 from shapeCast S64x256 (View.ld (Val := Elt Ideal) (iblk m c 1 t) (Rect.unit (s := S256x256) ![o, 0] ![64, 256] it)) shapeCasts_S64x256_S64x256)
      (RR m c t j o iq il hs) (constant S64x4096 .f32 0x00000000#32)))
    shapeCasts_S64x4096_S1x64x4096

/-- The values' gradient with the rows' part added. -/
def DV (A : Vec Ideal S1x64x4096 .f32) : Vec Ideal S1x64x4096 .f32 :=
  shapeCast S1x64x4096 (addf (F := Ideal) (show FVec Ideal S64x4096 .f32 from shapeCast S64x4096 A shapeCasts_S1x64x4096_S64x4096)
    (matmul dot_S64x256_S256x4096_S64x4096_1_0_0_1_n_n none (truncf .bf16 (extractStridedSlice S64x256 ![o, 0] (k0_pay7 (F := Ideal) (iblk m c 5 t) (iblk m c 8 t)) hs') bitsLt_bf16_f32)
      (truncf .bf16 (PP m c t j o iq il) bitsLt_bf16_f32) (constant S64x4096 .f32 0x00000000#32)))
    shapeCasts_S64x4096_S1x64x4096

/-- The arguments that the claim is about are finite. -/
def Fin4 : Prop := (∀ i, ∃ r : ℝ, aq m c i = (r : EReal)) ∧ (∀ i, ∃ r : ℝ, ak m c i = (r : EReal)) ∧ (∀ i, ∃ r : ℝ, ap m c i = (r : EReal)) ∧ (∀ i, ∃ r : ℝ, ay m c i = (r : EReal))

variable (hf : Fin4 m c)

include ho in
theorem q_at (z : S256x64.Idx) : View.ld (Val := Elt Ideal) (iblk m c 0 t) (Rect.unit (s := S256x256) ![0, o] ![256, 64] iq) z
    = aq m c (ix3 (row t (z 0)) (head (grp t) j) (z 1)) * scale := by
  refine (ld2 (n := 256) (w := 256) (a := 256) (b := 64) (e := .bf16) (iblk m c 0 t) 0 o iq z).trans ((blk_q m c t _).trans ?_)
  refine Eq.trans (b := V m c main_v44 (ix2 (row t (z 0)) (col (grp t) j (z 1)))) ?_ (host_q m c _ _ _ _)
  refine congrArg₂ (fun a b => V m c main_v44 (ix2 a b)) ?_ (gcol_col (grp t) j o ho (z 1) _)
  exact congrArg (row t) (Fin.ext (Nat.zero_add _))

include ho in
theorem qT_at (z : S64x256.Idx) : View.ld (Val := Elt Ideal) (iblk m c 1 t) (Rect.unit (s := S256x256) ![o, 0] ![64, 256] it) z
    = aq m c (ix3 (row t (z 1)) (head (grp t) j) (z 0)) * scale := by
  refine (ld2 (n := 256) (w := 256) (a := 64) (b := 256) (e := .bf16) (iblk m c 1 t) o 0 it z).trans ((blk_qT m c t _).trans ?_)
  refine Eq.trans (b := V m c main_v46 (ix2 (col (grp t) j (z 0)) (row t (z 1)))) ?_ (host_qT m c _ _ _ _)
  refine congrArg₂ (fun a b => V m c main_v46 (ix2 a b)) (gcol_col (grp t) j o ho (z 0) _) ?_
  exact congrArg (row t) (Fin.ext (Nat.zero_add _))

theorem k_at (z : S4096x64.Idx) : k0_pay8 (F := Ideal) (iblk m c 2 t) z = ak m c (ix3 (z 0) (grp t) (z 1)) := by
  have h := fun z : S1x4096x64.Idx => (blk_k m c t z).trans (host_k m c (grp t) (z 1) (z 2))
  pointwise [k0_pay8, h]

theorem kT_at (z : S64x4096.Idx) : k0_pay9 (F := Ideal) (iblk m c 3 t) z = ak m c (ix3 (z 1) (grp t) (z 0)) := by
  have h := fun z : S64x4096.Idx => (blk_kT m c t z).trans (host_kT m c (grp t) (z 1) (z 0))
  pointwise [k0_pay9, h]

theorem vT_at (z : S64x4096.Idx) : k0_pay10 (F := Ideal) (iblk m c 4 t) z = val (ap m c) (grp t) (z 1) (z 0) := by
  have h := fun z : S64x4096.Idx => (blk_vT m c t z).trans (host_vT m c (grp t) (z 1) (z 0))
  pointwise [k0_pay10, h]

theorem l_at (z : S1x256x1.Idx) : View.ld (Val := Elt Ideal) (iblk m c 7 t) (Rect.unit (s := S1x256x4) ![0, 0, j.val] ![1, 256, 1] il) z
    = top (aq m c) (ak m c) (grp t) j (row t (z 1)) + Ideal.log (total (aq m c) (ak m c) (grp t) j (row t (z 1))) :=
  (ld3 (iblk m c 7 t) j il z).trans (blk_l m c t (lse m c) (host_lse' m c) _)

include ho in
theorem SS_at (z : S256x4096.Idx) : SS m c t o iq z = score (aq m c) (ak m c) (grp t) j (row t (z 0)) (z 1) :=
  score_point _ _ (row t) (grp t) j _ _ (q_at m c t j o ho iq) (kT_at m c t) z

include ho in
theorem DD_at (z : S256x4096.Idx) : DD m c t o hs z = ∑ d : Fin 64, cot (ap m c) (ay m c) (row t (z 0)) (col (grp t) j d) * val (ap m c) (grp t) (z 1) d :=
  dp_point _ _ (row t) (grp t) j _ _ (do_point _ _ (row t) (grp t) _ _ (blk_pa m c t) (blk_dy m c t)) (vT_at m c t) o ho hs z

include ho hf in
theorem PP_at (z : S256x4096.Idx) : PP m c t j o iq il z = prob (aq m c) (ak m c) (grp t) j (row t (z 0)) (z 1) :=
  p_point _ _ hf.1 hf.2.1 (row t) (grp t) j _ _ (l_at m c t j il) (SS_at m c t j o ho iq) z

include ho hf in
theorem RR_at (z : S256x4096.Idx) : RR m c t j o iq il hs z = slope (aq m c) (ak m c) (ap m c) (ay m c) (grp t) j (row t (z 0)) (z 1) :=
  ds_point _ _ _ _ (row t) (grp t) j _ _ _ (doo_point _ _ _ _ (row t) (grp t) _ _ _ (blk_pa m c t) (blk_dy m c t) (blk_o m c t))
    (DD_at m c t j o ho hs) (PP_at m c t j o ho iq il hf) o ho hs z

include ho hf in
theorem DQ_at (z : S256x64.Idx) : DQ m c t j o iq il hs z
    = ∑ n : Fin 4096, slope (aq m c) (ak m c) (ap m c) (ay m c) (grp t) j (row t (z 0)) n * ak m c (ix3 n (grp t) (z 1)) :=
  dq_point _ _ _ _ (row t) (grp t) j _ _ (k_at m c t) (RR_at m c t j o ho iq il hs hf) z

include ho hf in
theorem DK_at (A : Vec Ideal S1x64x4096 .f32) (z : S1x64x4096.Idx) : DK m c t j o iq it il hs A z
    = A z + ∑ a : Fin 256, aq m c (ix3 (row t a) (head (grp t) j) (z 1)) * scale * slope (aq m c) (ak m c) (ap m c) (ay m c) (grp t) j (row t a) (z 2) :=
  dk_point _ _ _ _ (row t) (grp t) j _ _ (qT_at m c t j o ho it) (RR_at m c t j o ho iq il hs hf) A z

include ho hf in
theorem DV_at (A : Vec Ideal S1x64x4096 .f32) (z : S1x64x4096.Idx) : DV m c t j o iq il hs' A z
    = A z + ∑ a : Fin 256, cot (ap m c) (ay m c) (row t a) (col (grp t) j (z 1)) * prob (aq m c) (ak m c) (grp t) j (row t a) (z 2) :=
  dv_point _ _ _ _ (row t) (grp t) j _ _ (dot_point _ _ (row t) (grp t) _ _ (blk_pa m c t) (blk_dy m c t)) (PP_at m c t j o ho iq il hf) o ho hs' A z

end Head

end Cert.AttnIdeal.Whole
-- ==== Proof.GmlpPoint.lean ====
/-
  What a grid point of the gated branch's backward call computes: 256 rows are two chunks of 128, and each chunk is worked in four
  groups of 128 channels.
-/
module

public import proofs.«01_k».proof.Proof.GmlpRef
public import proofs.«01_k».proof.Proof.Gen.GmlpIdeal.Frame
public import proofs.«01_k».proof.Proof.AttnPoint
public import Idealize.ShloMosaic.Lib.Pipeline.ReadBack

@[expose] public section

set_option maxRecDepth 16384

noncomputable section

namespace Cert.GmlpIdeal.Point

open Cert.GmlpIdeal Cert.GmlpIdeal.Gen Cert.GmlpIdeal.Rows
open Idealize.ShloMosaic Idealize.ShloMosaic.TcCoe Idealize.SL.Sem

variable (m : (ℓ : Loc nD τ sig) → Buf (Elt Ideal) ℓ) (c : Dev nD) (t : Fin cfg0.N) (n : Fin 2) (g : Fin 4)

/-! ## The pieces of the blocks -/

theorem inbU (x : Fin 2) : (![n.val * 128, g.val * 128] : Fin 2 → ℕ) x + (![128, 128] : Fin 2 → ℕ) x ≤ S256x1536.size x := by fin_cases x <;> simp <;> omega
theorem inbZ (x : Fin 2) : (![n.val * 128, 1024 + g.val * 128] : Fin 2 → ℕ) x + (![128, 128] : Fin 2 → ℕ) x ≤ S256x1536.size x := by fin_cases x <;> simp <;> omega
theorem inbV (x : Fin 2) : (![0, 512] : Fin 2 → ℕ) x + (![256, 512] : Fin 2 → ℕ) x ≤ S256x1536.size x := by fin_cases x <;> simp
theorem inbY (x : Fin 2) : (![n.val * 128, g.val * 128] : Fin 2 → ℕ) x + (![128, 128] : Fin 2 → ℕ) x ≤ S256x512.size x := by fin_cases x <;> simp <;> omega
theorem inbW (x : Fin 3) : (![g.val, 0, 0] : Fin 3 → ℕ) x + (![1, 128, 128] : Fin 3 → ℕ) x ≤ S4x128x128.size x := by fin_cases x <;> simp <;> omega
theorem inbB (x : Fin 3) : (![g.val, 0, 0] : Fin 3 → ℕ) x + (![1, 128, 1] : Fin 3 → ℕ) x ≤ S4x128x1.size x := by fin_cases x <;> simp <;> omega

/-- The gated values, the gates, the cotangents, the mixing weights and biases of a chunk's group. -/
def U : Vec Ideal S128x128 .bf16 := View.ld (iblk m c 0 t) (Rect.unit (s := S256x1536) ![n.val * 128, g.val * 128] ![128, 128] (inbU n g))
def Z : Vec Ideal S128x128 .bf16 := View.ld (iblk m c 0 t) (Rect.unit (s := S256x1536) ![n.val * 128, 1024 + g.val * 128] ![128, 128] (inbZ n g))
def Y : Vec Ideal S128x128 .f32 := View.ld (iblk m c 5 t) (Rect.unit (s := S256x512) ![n.val * 128, g.val * 128] ![128, 128] (inbY n g))
def W : Vec Ideal S1x128x128 .f32 := View.ld (iblk m c 3 t) (Rect.unit (s := S4x128x128) ![g.val, 0, 0] ![1, 128, 128] (inbW g))
def B : Vec Ideal S1x128x1 .f32 := View.ld (iblk m c 4 t) (Rect.unit (s := S4x128x1) ![g.val, 0, 0] ![1, 128, 1] (inbB g))

/-- The normalised part of the rows. -/
def XV : Vec Ideal S256x512 .bf16 := View.ld (iblk m c 0 t) (Rect.unit (s := S256x1536) ![0, 512] ![256, 512] inbV)

/-- The layer norm, and a chunk's group of it. -/
def LN : FVec Ideal S256x512 .bf16 := k0_pay9 (F := Ideal) (XV m c t) (iblk m c 1 t) (iblk m c 2 t)
theorem slices : S256x512.Slices ![n.val * 128, g.val * 128] S128x128 :=
  (by decide +kernel : ∀ n : Fin 2, ∀ g : Fin 4, S256x512.Slices ![n.val * 128, g.val * 128] S128x128) n g
def LB : FVec Ideal S128x128 .bf16 := extractStridedSlice S128x128 ![n.val * 128, g.val * 128] (LN m c t) (slices n g)

/-- The mixing, before its bias. -/
def MM : FVec Ideal S128x128 .f32 := matmul dot_S128x128_S128x128_S128x128_1_0_0_1_n_n none (k0_pay10 (F := Ideal) (W m c t g)) (LB m c t n g) (constant S128x128 .f32 0x00000000#32)

/-- The gradients of the gated values, of the gates and of the mixed values. -/
def DU : FVec Ideal S128x128 .bf16 := k0_pay20 (F := Ideal) (MM m c t n g) (k0_pay13 (B m c t g)) (Z m c t n g) (Y m c t n g)
def DZ : FVec Ideal S128x128 .bf16 := k0_pay21 (F := Ideal) (MM m c t n g) (k0_pay13 (B m c t g)) (Z m c t n g) (U m c t n g) (Y m c t n g)
def DM : FVec Ideal S128x128 .bf16 := k0_pay22 (F := Ideal) (Z m c t n g) (U m c t n g) (Y m c t n g)

/-- The mixing weights' and biases' gradients, added to what is there. -/
def DW (X : Vec Ideal S1x128x128 .f32) : FVec Ideal S1x128x128 .f32 :=
  k0_pay24 (F := Ideal) (k0_pay23 (LB m c t n g) (Z m c t n g) (U m c t n g) (Y m c t n g) X)
def DB (X : Vec Ideal S1x128x1 .f32) : FVec Ideal S1x128x1 .f32 := k0_pay25 (F := Ideal) (k0_pay19 (Z m c t n g) (U m c t n g) (Y m c t n g)) X

/-- The layer norm's gradient: a chunk's group, and all. -/
def DLB : FVec Ideal S128x128 .f32 := k0_pay26 (F := Ideal) (k0_pay10 (W m c t g)) (DM m c t n g)
def DL : Vec Ideal S256x512 .f32 := View.canon (Val := Elt Ideal) (s := S256x512) (e := .f32)
  [⟨Rect.unit ![128, 384] ![128, 128] (inbY 1 3), DLB m c t 1 3⟩, ⟨Rect.unit ![0, 384] ![128, 128] (inbY 0 3), DLB m c t 0 3⟩,
   ⟨Rect.unit ![128, 256] ![128, 128] (inbY 1 2), DLB m c t 1 2⟩, ⟨Rect.unit ![0, 256] ![128, 128] (inbY 0 2), DLB m c t 0 2⟩,
   ⟨Rect.unit ![128, 128] ![128, 128] (inbY 1 1), DLB m c t 1 1⟩, ⟨Rect.unit ![0, 128] ![128, 128] (inbY 0 1), DLB m c t 0 1⟩,
   ⟨Rect.unit ![128, 0] ![128, 128] (inbY 1 0), DLB m c t 1 0⟩, ⟨Rect.unit ![0, 0] ![128, 128] (inbY 0 0), DLB m c t 0 0⟩]

/-- The norm's input's gradient. -/
def DX : FVec Ideal S256x512 .bf16 := k0_pay1 (F := Ideal) (k0_pay7 (XV m c t)) (k0_pay8 (XV m c t)) (k0_pay131 (DL m c t) (iblk m c 1 t))
  (k0_pay132 (DL m c t) (iblk m c 1 t)) (Scalar.ofBits .f32 0x44000000#32)

/-- The joint gradient's block. -/
def OUT : Vec Ideal S256x1536 .bf16 := View.canon (Val := Elt Ideal) (s := S256x1536) (e := .bf16)
  [⟨Rect.unit ![0, 512] ![256, 512] inbV, DX m c t⟩,
   ⟨Rect.unit ![128, 1024 + 384] ![128, 128] (inbZ 1 3), DZ m c t 1 3⟩, ⟨Rect.unit ![128, 384] ![128, 128] (inbU 1 3), DU m c t 1 3⟩,
   ⟨Rect.unit ![0, 1024 + 384] ![128, 128] (inbZ 0 3), DZ m c t 0 3⟩, ⟨Rect.unit ![0, 384] ![128, 128] (inbU 0 3), DU m c t 0 3⟩,
   ⟨Rect.unit ![128, 1024 + 256] ![128, 128] (inbZ 1 2), DZ m c t 1 2⟩, ⟨Rect.unit ![128, 256] ![128, 128] (inbU 1 2), DU m c t 1 2⟩,
   ⟨Rect.unit ![0, 1024 + 256] ![128, 128] (inbZ 0 2), DZ m c t 0 2⟩, ⟨Rect.unit ![0, 256] ![128, 128] (inbU 0 2), DU m c t 0 2⟩,
   ⟨Rect.unit ![128, 1024 + 128] ![128, 128] (inbZ 1 1), DZ m c t 1 1⟩, ⟨Rect.unit ![128, 128] ![128, 128] (inbU 1 1), DU m c t 1 1⟩,
   ⟨Rect.unit ![0, 1024 + 128] ![128, 128] (inbZ 0 1), DZ m c t 0 1⟩, ⟨Rect.unit ![0, 128] ![128, 128] (inbU 0 1), DU m c t 0 1⟩,
   ⟨Rect.unit ![128, 1024] ![128, 128] (inbZ 1 0), DZ m c t 1 0⟩, ⟨Rect.unit ![128, 0] ![128, 128] (inbU 1 0), DU m c t 1 0⟩,
   ⟨Rect.unit ![0, 1024] ![128, 128] (inbZ 0 0), DZ m c t 0 0⟩, ⟨Rect.unit ![0, 0] ![128, 128] (inbU 0 0), DU m c t 0 0⟩]

/-- A load of the whole scratch reads what the stores left. -/
theorem read_all {sig : RefSig} {κ : Kind} {sp : Space} (v : View sig κ sp S256x512 .f32) (L : List (View.Piece (Elt Ideal) S256x512 .f32))
    (inb : ∀ x : Fin 2, (![0, 0] : Fin 2 → ℕ) x + (![256, 512] : Fin 2 → ℕ) x ≤ S256x512.size x) :
    v.readCov L (Rect.unit (s := S256x512) ![0, 0] ![256, 512] inb).toLoadRect = View.canon L := by
  rw [View.readCov_eq_canon']
  refine funext fun j => congrArg (View.canon L) (funext fun a => Fin.ext ((Rect.idx_unit_val _ _ _ _ _).trans ?_))
  fin_cases a <;> simp

/-- The first point, and the others, leave that block. -/
theorem out_A (h : t.val % 16 = 0) : (outsAt0 m c t.val t.isLt).1 = OUT m c t := by
  rw [outsAt0_A m c t h]
  frame_out
  rw [read_all]
  rfl

theorem out_B (h : ¬t.val % 16 = 0) : (outsAt0 m c t.val t.isLt).1 = OUT m c t := by
  rw [outsAt0_B m c t h]
  frame_out
  rw [read_all]
  rfl

/-- A group of the accumulated gradients. -/
def WX (X : Vec Ideal S4x128x128 .f32) : Vec Ideal S1x128x128 .f32 := View.ld X (Rect.unit (s := S4x128x128) ![g.val, 0, 0] ![1, 128, 128] (inbW g))
def BX (X : Vec Ideal S4x128x1 .f32) : Vec Ideal S1x128x1 .f32 := View.ld X (Rect.unit (s := S4x128x1) ![g.val, 0, 0] ![1, 128, 1] (inbB g))

/-- The stores into the mixing weights' gradient: each group's two chunks. -/
def WS (X : Vec Ideal S4x128x128 .f32) (L : List (View.Piece (Elt Ideal) S4x128x128 .f32)) : List (View.Piece (Elt Ideal) S4x128x128 .f32) :=
  ⟨Rect.unit ![3, 0, 0] ![1, 128, 128] (inbW 3), DW m c t 1 3 (DW m c t 0 3 (WX 3 X))⟩ :: ⟨Rect.unit ![3, 0, 0] ![1, 128, 128] (inbW 3), DW m c t 0 3 (WX 3 X)⟩
  :: ⟨Rect.unit ![2, 0, 0] ![1, 128, 128] (inbW 2), DW m c t 1 2 (DW m c t 0 2 (WX 2 X))⟩ :: ⟨Rect.unit ![2, 0, 0] ![1, 128, 128] (inbW 2), DW m c t 0 2 (WX 2 X)⟩
  :: ⟨Rect.unit ![1, 0, 0] ![1, 128, 128] (inbW 1), DW m c t 1 1 (DW m c t 0 1 (WX 1 X))⟩ :: ⟨Rect.unit ![1, 0, 0] ![1, 128, 128] (inbW 1), DW m c t 0 1 (WX 1 X)⟩
  :: ⟨Rect.unit ![0, 0, 0] ![1, 128, 128] (inbW 0), DW m c t 1 0 (DW m c t 0 0 (WX 0 X))⟩ :: ⟨Rect.unit ![0, 0, 0] ![1, 128, 128] (inbW 0), DW m c t 0 0 (WX 0 X)⟩ :: L

/-- The same of the mixing biases' gradient. -/
def BS (X : Vec Ideal S4x128x1 .f32) (L : List (View.Piece (Elt Ideal) S4x128x1 .f32)) : List (View.Piece (Elt Ideal) S4x128x1 .f32) :=
  ⟨Rect.unit ![3, 0, 0] ![1, 128, 1] (inbB 3), DB m c t 1 3 (DB m c t 0 3 (BX 3 X))⟩ :: ⟨Rect.unit ![3, 0, 0] ![1, 128, 1] (inbB 3), DB m c t 0 3 (BX 3 X)⟩
  :: ⟨Rect.unit ![2, 0, 0] ![1, 128, 1] (inbB 2), DB m c t 1 2 (DB m c t 0 2 (BX 2 X))⟩ :: ⟨Rect.unit ![2, 0, 0] ![1, 128, 1] (inbB 2), DB m c t 0 2 (BX 2 X)⟩
  :: ⟨Rect.unit ![1, 0, 0] ![1, 128, 1] (inbB 1), DB m c t 1 1 (DB m c t 0 1 (BX 1 X))⟩ :: ⟨Rect.unit ![1, 0, 0] ![1, 128, 1] (inbB 1), DB m c t 0 1 (BX 1 X)⟩
  :: ⟨Rect.unit ![0, 0, 0] ![1, 128, 1] (inbB 0), DB m c t 1 0 (DB m c t 0 0 (BX 0 X))⟩ :: ⟨Rect.unit ![0, 0, 0] ![1, 128, 1] (inbB 0), DB m c t 0 0 (BX 0 X)⟩ :: L

theorem dw_A (h : t.val % 16 = 0) : ∃ L, (outsAt0 m c t.val t.isLt).2.1 = View.canon (WS m c t (k0_pay2 (F := Ideal)) L) := by
  rw [outsAt0_A m c t h]
  frame_out
  simp (discharger := decide) only [View.readCov_cons_toLoadRect, View.readCov_skip, View.readCov_fill]
  exact ⟨_, rfl⟩

theorem dw_B (h : ¬t.val % 16 = 0) : ∃ L, (outsAt0 m c t.val t.isLt).2.1 = View.canon (WS m c t (outsAt0 m c (t.val - 1) (by omega)).2.1 L) := by
  rw [outsAt0_B m c t h]
  frame_out
  simp only [View.readCov_cons_toLoadRect]
  exact ⟨_, rfl⟩

theorem db_A (h : t.val % 16 = 0) : ∃ L, (outsAt0 m c t.val t.isLt).2.2.1 = View.canon (BS m c t (k0_pay3 (F := Ideal)) L) := by
  rw [outsAt0_A m c t h]
  frame_out
  simp (discharger := decide) only [View.readCov_cons_toLoadRect, View.readCov_skip, View.readCov_fill]
  exact ⟨_, rfl⟩

theorem db_B (h : ¬t.val % 16 = 0) : ∃ L, (outsAt0 m c t.val t.isLt).2.2.1 = View.canon (BS m c t (outsAt0 m c (t.val - 1) (by omega)).2.2.1 L) := by
  rw [outsAt0_B m c t h]
  frame_out
  simp only [View.readCov_cons_toLoadRect]
  exact ⟨_, rfl⟩

/-- The norm's gain's and bias's gradients, added to what is there. -/
theorem dg_A (h : t.val % 16 = 0) : (outsAt0 m c t.val t.isLt).2.2.2.1 = k0_pay129 (F := Ideal) (k0_pay8 (XV m c t)) (DL m c t) (k0_pay4 (F := Ideal)) := by
  rw [outsAt0_A m c t h]
  frame_out
  rw [read_all]
  rfl

theorem dg_B (h : ¬t.val % 16 = 0) : (outsAt0 m c t.val t.isLt).2.2.2.1
    = k0_pay129 (F := Ideal) (k0_pay8 (XV m c t)) (DL m c t) (outsAt0 m c (t.val - 1) (by omega)).2.2.2.1 := by
  rw [outsAt0_B m c t h]
  frame_out
  rw [read_all]
  rfl

theorem dn_A (h : t.val % 16 = 0) : (outsAt0 m c t.val t.isLt).2.2.2.2 = k0_pay130 (F := Ideal) (DL m c t) (k0_pay5 (F := Ideal)) := by
  rw [outsAt0_A m c t h]
  frame_out
  rw [read_all]
  rfl

theorem dn_B (h : ¬t.val % 16 = 0) : (outsAt0 m c t.val t.isLt).2.2.2.2 = k0_pay130 (F := Ideal) (DL m c t) (outsAt0 m c (t.val - 1) (by omega)).2.2.2.2 := by
  rw [outsAt0_B m c t h]
  frame_out
  rw [read_all]
  rfl

end Cert.GmlpIdeal.Point
-- ==== Proof.GmlpHost.lean ====
/-
  The arrays that the gated branch's backward call is given, and the blocks of them that a grid point reads.
-/
module

public import proofs.«01_k».proof.Proof.GmlpPoint

@[expose] public section

set_option maxRecDepth 16384

noncomputable section

namespace Cert.GmlpIdeal.Host

open Cert.GmlpIdeal Cert.GmlpIdeal.Gen Cert.GmlpIdeal.Rows Cert.GmlpIdeal.Point
open Cert.AttnIdeal.Whole (ld2)
open Cert.GmlpRefIdeal.Entry (cr gc cu cv cz vr sg ln mix dm dl ar)
open Idealize.ShloMosaic Idealize.ShloMosaic.TcCoe Idealize.SL.Sem

variable (m : (ℓ : Loc nD τ sig) → Buf (Elt Ideal) ℓ) (c : Dev nD) (t : Fin cfg0.N)

/-- The arguments on a device. -/
abbrev a0 : Vec Ideal S4096x1536 .f32 := m ((c : Thread nD τ).loc main_arg0)
abbrev a1 : Vec Ideal S512 .f32 := m ((c : Thread nD τ).loc main_arg1)
abbrev a2 : Vec Ideal S512 .f32 := m ((c : Thread nD τ).loc main_arg2)
abbrev a3 : Vec Ideal S4x128x128 .f32 := m ((c : Thread nD τ).loc main_arg3)
abbrev a4 : Vec Ideal S4x128 .f32 := m ((c : Thread nD τ).loc main_arg4)
abbrev a5 : Vec Ideal S4096x512 .f32 := m ((c : Thread nD τ).loc main_arg5)

/-- The joint input, the gain, the bias and the mixing biases as the call takes them. -/
theorem host_p : V m c main_v0 = a0 m c := by
  have h : V m c main_v0 = truncf (F := Ideal) (s := S4096x1536) .bf16 (a0 m c) bitsLt_bf16_f32 := by
    show StableHlo.after hostOps0 _ (Proc.devRef .tc main_v0) = _
    after_results <;> rfl
  rw [h]; rfl

theorem host_g (k : Fin 512) : V m c main_v1 (ix2 0 k) = a1 m c (ix1 k) := by
  have h : V m c main_v1 = shapeCast (α := Ideal .f32) S1x512 (a1 m c) shapeCasts_S512_S1x512 := by
    show StableHlo.after hostOps0 _ (Proc.devRef .tc main_v1) = _
    after_results <;> rfl
  rw [h]; pointwise []

theorem host_b (k : Fin 512) : V m c main_v2 (ix2 0 k) = a2 m c (ix1 k) := by
  have h : V m c main_v2 = shapeCast (α := Ideal .f32) S1x512 (a2 m c) shapeCasts_S512_S1x512 := by
    show StableHlo.after hostOps0 _ (Proc.devRef .tc main_v2) = _
    after_results <;> rfl
  rw [h]; pointwise []

theorem host_s (g : Fin 4) (p : Fin 128) : V m c main_v3 (ix3 g p 0) = a4 m c (ix2 g p) := by
  have h : V m c main_v3 = broadcastInDim S4x128x1 ![0, 1] bcast_S4x128_S4x128x1_0_1 (a4 m c) := by
    show StableHlo.after hostOps0 _ (Proc.devRef .tc main_v3) = _
    after_results <;> rfl
  rw [h]; pointwise []

/-- The block indices of the windows. -/
theorem idx : ∀ t : Fin cfg0.N, win0_0.index t = ![t.val, 0] ∧ win0_1.index t = ![0, 0] ∧ win0_2.index t = ![0, 0] ∧ win0_3.index t = ![0, 0, 0]
    ∧ win0_4.index t = ![0, 0, 0] ∧ win0_5.index t = ![t.val, 0] ∧ win0_6.index t = ![t.val, 0] ∧ win0_7.index t = ![0, 0, 0]
    ∧ win0_8.index t = ![0, 0, 0] ∧ win0_9.index t = ![0, 0] ∧ win0_10.index t = ![0, 0] :=
  (by decide +kernel : ∀ t : Fin grid0.N, _)

/-- There are sixteen points. -/
theorem lt16 (t : Fin cfg0.N) : t.val < 16 := t.isLt

/-- The row of the array that a row of point `t`'s block is, and the chunk. -/
def row (a : Fin 256) : Fin 4096 := ⟨t.val * 256 + a.val, by have := lt16 t; omega⟩
def chunk (n : Fin 2) : Fin 32 := ⟨t.val * 2 + n.val, by have := lt16 t; omega⟩

theorem blk_p (z : S256x1536.Idx) : iblk m c 0 t z = a0 m c (ix2 (row t (z 0)) (z 1)) := by
  refine Eq.trans (b := V m c main_v0 (ix2 (row t (z 0)) (z 1))) ?_ (congrFun (host_p m c) _)
  blk_point [iblk, idx t, row]
theorem blk_g (k : Fin 512) : iblk m c 1 t (ix2 0 k) = a1 m c (ix1 k) := by
  refine Eq.trans (b := V m c main_v1 (ix2 0 k)) ?_ (host_g m c k)
  blk_point [iblk, idx t]
theorem blk_b (k : Fin 512) : iblk m c 2 t (ix2 0 k) = a2 m c (ix1 k) := by
  refine Eq.trans (b := V m c main_v2 (ix2 0 k)) ?_ (host_b m c k)
  blk_point [iblk, idx t]
theorem host_w : V m c main_arg3 = a3 m c := by
  show StableHlo.after hostOps0 _ (Proc.devRef .tc main_arg3) = _
  after_results <;> rfl
theorem host_y : V m c main_arg5 = a5 m c := by
  show StableHlo.after hostOps0 _ (Proc.devRef .tc main_arg5) = _
  after_results <;> rfl
theorem blk_w (z : S4x128x128.Idx) : iblk m c 3 t z = a3 m c z := by
  refine Eq.trans (b := V m c main_arg3 z) ?_ (congrFun (host_w m c) _)
  blk_point [iblk, idx t]
theorem blk_s (g : Fin 4) (p : Fin 128) : iblk m c 4 t (ix3 g p 0) = a4 m c (ix2 g p) := by
  refine Eq.trans (b := V m c main_v3 (ix3 g p 0)) ?_ (host_s m c g p)
  blk_point [iblk, idx t]
theorem blk_y (z : S256x512.Idx) : iblk m c 5 t z = a5 m c (ix2 (row t (z 0)) (z 1)) := by
  refine Eq.trans (b := V m c main_arg5 (ix2 (row t (z 0)) (z 1))) ?_ (congrFun (host_y m c) _)
  blk_point [iblk, idx t, row]

end Cert.GmlpIdeal.Host
-- ==== Proof.GmlpEntry.lean ====
/-
  A grid point's pieces are the reference's entries.
-/
module

public import proofs.«01_k».proof.Proof.GmlpHost

@[expose] public section

set_option maxRecDepth 16384

noncomputable section

namespace Cert.GmlpIdeal.Entry

open Cert.GmlpIdeal Cert.GmlpIdeal.Gen Cert.GmlpIdeal.Rows Cert.GmlpIdeal.Point Cert.GmlpIdeal.Host
open Cert.AttnIdeal.Whole (ld2)
open Cert.GmlpRefIdeal.Read (val_main_v53 val_main_v86)
open Cert.GmlpRefIdeal.Entry (cr gc cu cv cz vr sg ln mix dm dl ar ref_dl ref_du ref_dz ref_dv)
open Idealize.ShloMosaic Idealize.ShloMosaic.TcCoe Idealize.SL.Sem

variable (m : (ℓ : Loc nD τ sig) → Buf (Elt Ideal) ℓ) (c : Dev nD) (t : Fin cfg0.N) (n : Fin 2) (g : Fin 4) (a : Fin 256) (k : Fin 512) (p q d : Fin 128)

/-! ## The layer norm -/

/-- A row's normalised part. -/
theorem XV_at : XV m c t (ix2 a k) = vr (a0 m c) (row t a) k := by
  refine (ld2 (n := 256) (w := 1536) (a := 256) (b := 512) (e := .bf16) _ 0 512 inbV _).trans ((blk_p m c t _).trans ?_)
  exact congrArg (fun r => a0 m c (ix2 (row t r) _)) (Fin.ext (Nat.zero_add _))

theorem xc_at : k0_pay6 (F := Ideal) (XV m c t) (ix2 a k) = xc (vr (a0 m c) (row t a)) k := by
  pointwise [k0_pay6, XV_at, xc]

theorem rs_at : k0_pay7 (F := Ideal) (XV m c t) (ix2 a 0) = rs (vr (a0 m c) (row t a)) := by
  pointwise [k0_pay7, xc_at, rs, var]

theorem xh_at : k0_pay8 (F := Ideal) (XV m c t) (ix2 a k) = xh (vr (a0 m c) (row t a)) k := by
  pointwise [k0_pay8, xc_at, rs_at, xh]

theorem LN_at : LN m c t (ix2 a k) = ln (a0 m c) (a1 m c) (a2 m c) (row t a) k := by
  pointwise [LN, k0_pay9, xh_at, blk_g, blk_b, ln]

/-- Row `p` of chunk `n` of the block. -/
def br : Fin 256 := ⟨n.val * 128 + p.val, by omega⟩

theorem row_br : row t (br n p) = cr (chunk t n) p := Fin.ext (by simp only [row, br, cr, chunk]; omega)

theorem LB_at : LB m c t n g (ix2 q d) = ln (a0 m c) (a1 m c) (a2 m c) (cr (chunk t n) q) (gc g d) := by
  rw [← row_br, ← LN_at]
  pointwise [LB, br, gc]

/-! ## The loaded pieces -/

theorem U_at : U m c t n g (ix2 p d) = a0 m c (ix2 (cr (chunk t n) p) (cu (gc g d))) := by
  rw [← row_br]
  exact (ld2 (n := 256) (w := 1536) (a := 128) (b := 128) (e := .bf16) _ (n.val * 128) (g.val * 128) (inbU n g) _).trans (blk_p m c t _)

theorem Z_at : Z m c t n g (ix2 p d) = a0 m c (ix2 (cr (chunk t n) p) (cz (gc g d))) := by
  rw [← row_br]
  refine (ld2 (n := 256) (w := 1536) (a := 128) (b := 128) (e := .bf16) _ (n.val * 128) (1024 + g.val * 128) (inbZ n g) _).trans ((blk_p m c t _).trans ?_)
  exact congrArg (fun k => a0 m c (ix2 _ k)) (Fin.ext (Nat.add_assoc _ _ _))

theorem Y_at : Y m c t n g (ix2 p d) = a5 m c (ix2 (cr (chunk t n) p) (gc g d)) := by
  rw [← row_br]
  exact (ld2 (n := 256) (w := 512) (a := 128) (b := 128) (e := .f32) _ (n.val * 128) (g.val * 128) (inbY n g) _).trans (blk_y m c t _)

/-- A group of an array of four groups. -/
theorem WX_at (X : Vec Ideal S4x128x128 .f32) : WX g X (ix3 0 p q) = X (ix3 g p q) := by
  refine congrArg X (funext fun x => Fin.ext ((Rect.idx_unit_val _ _ _ _ _).trans ?_))
  fin_cases x <;> simp

theorem BX_at (X : Vec Ideal S4x128x1 .f32) : BX g X (ix3 0 p 0) = X (ix3 g p 0) := by
  refine congrArg X (funext fun x => Fin.ext ((Rect.idx_unit_val _ _ _ _ _).trans ?_))
  fin_cases x <;> simp

theorem W_at : W m c t g (ix3 0 p q) = a3 m c (ix3 g p q) := (WX_at g p q _).trans (blk_w m c t _)
theorem B_at : B m c t g (ix3 0 p 0) = a4 m c (ix2 g p) := (BX_at g p _).trans (blk_s m c t g p)

/-! ## What is computed from them -/

/-- The mixing. -/
theorem mix_at : k0_pay14 (F := Ideal) (MM m c t n g) (k0_pay13 (B m c t g)) (ix2 p d) = mix (a0 m c) (a1 m c) (a2 m c) (a3 m c) (a4 m c) (chunk t n) p g d := by
  pointwise [k0_pay14, k0_pay13, MM, k0_pay10, W_at, B_at, LB_at, mix]

/-- The logistic function, and the gate times it. -/
theorem sg_at : k0_pay17 (F := Ideal) (Z m c t n g) (ix2 p d) = sg (a0 m c (ix2 (cr (chunk t n) p) (cz (gc g d)))) := by
  rw [sg, ← Alg.half_tanh, ← Alg.lit_half]
  pointwise [k0_pay17, k0_pay15, Z_at]

theorem DU_at : DU m c t n g (ix2 p d) = val_main_v86 (F := Ideal) (a0 m c) (a1 m c) (a2 m c) (a3 m c) (a4 m c) (a5 m c) (ix2 (cr (chunk t n) p) (cu (gc g d))) := by
  rw [ref_du, mul_right_comm]
  pointwise [DU, k0_pay20, k0_pay18, k0_pay15, mix_at, sg_at, Z_at, Y_at]

theorem dm_at : k0_pay19 (F := Ideal) (Z m c t n g) (U m c t n g) (Y m c t n g) (ix2 p d) = dm (a0 m c) (a5 m c) (cr (chunk t n) p) (gc g d) := by
  pointwise [k0_pay19, k0_pay18, k0_pay16, k0_pay15, sg_at, Z_at, U_at, Y_at, dm]

theorem DM_at : DM m c t n g (ix2 p d) = dm (a0 m c) (a5 m c) (cr (chunk t n) p) (gc g d) := by
  pointwise [DM, k0_pay22, dm_at]

/-- A chunk's part of the mixing weights' gradient and of the biases'. -/
theorem DW_at (X : Vec Ideal S1x128x128 .f32) : DW m c t n g X (ix3 0 p q)
    = X (ix3 0 p q) + ∑ d, dm (a0 m c) (a5 m c) (cr (chunk t n) p) (gc g d) * ln (a0 m c) (a1 m c) (a2 m c) (cr (chunk t n) q) (gc g d) := by
  have h : ∀ d, k0_pay22 (F := Ideal) (Z m c t n g) (U m c t n g) (Y m c t n g) (ix2 p d) = _ := fun d => DM_at m c t n g p d
  pointwise [DW, k0_pay24, k0_pay23, h, LB_at]

theorem DB_at (X : Vec Ideal S1x128x1 .f32) : DB m c t n g X (ix3 0 p 0) = X (ix3 0 p 0) + ∑ d, dm (a0 m c) (a5 m c) (cr (chunk t n) p) (gc g d) := by
  pointwise [DB, k0_pay25, dm_at]

theorem DLB_at : DLB m c t n g (ix2 q d) = val_main_v53 (F := Ideal) (a0 m c) (a3 m c) (a5 m c) (ix2 (cr (chunk t n) q) (gc g d)) := by
  rw [ref_dl]
  pointwise [DLB, k0_pay26, k0_pay10, W_at, DM_at, dl]

/-! ## Real arguments -/

/-- The arguments are real. -/
structure Fin6 : Prop where
  p : ∀ i, ∃ r : ℝ, a0 m c i = (r : EReal)
  g : ∀ i, ∃ r : ℝ, a1 m c i = (r : EReal)
  b : ∀ i, ∃ r : ℝ, a2 m c i = (r : EReal)
  w : ∀ i, ∃ r : ℝ, a3 m c i = (r : EReal)
  s : ∀ i, ∃ r : ℝ, a4 m c i = (r : EReal)
  y : ∀ i, ∃ r : ℝ, a5 m c i = (r : EReal)

/-- Sums and products of reals are real. -/
theorem mul_real {x y : EReal} (hx : ∃ r : ℝ, x = (r : EReal)) (hy : ∃ r : ℝ, y = (r : EReal)) : ∃ r : ℝ, x * y = (r : EReal) := by
  obtain ⟨u, rfl⟩ := hx; obtain ⟨v, rfl⟩ := hy; exact ⟨u * v, (EReal.coe_mul u v).symm⟩
theorem add_real {x y : EReal} (hx : ∃ r : ℝ, x = (r : EReal)) (hy : ∃ r : ℝ, y = (r : EReal)) : ∃ r : ℝ, x + y = (r : EReal) := by
  obtain ⟨u, rfl⟩ := hx; obtain ⟨v, rfl⟩ := hy; exact ⟨u + v, (EReal.coe_add u v).symm⟩
theorem sums_real {N : ℕ} {f : Fin N → EReal} (h : ∀ k, ∃ r : ℝ, f k = (r : EReal)) : ∃ r : ℝ, ∑ k, f k = (r : EReal) := by
  choose F hF using h
  exact ⟨∑ k, F k, by simp only [hF]; exact sum_real F⟩

section Reals
variable (hf : Fin6 m c) (r : Fin 4096) (C : Fin 32)
include hf

theorem ln_real : ∃ x : ℝ, ln (a0 m c) (a1 m c) (a2 m c) r k = (x : EReal) := by
  have hv : ∀ k, ∃ x : ℝ, vr (a0 m c) r k = (x : EReal) := fun k => hf.p _
  refine add_real (mul_real (mul_real ?_ (rs_real _)) (hf.g _)) (hf.b _)
  obtain ⟨s, hs⟩ := sums_real hv
  obtain ⟨x, hx⟩ := hv k
  exact ⟨x - s * (1 / 512), by rw [xc, hx, hs, div_512, ← EReal.coe_sub]⟩

theorem mix_real : ∃ x : ℝ, mix (a0 m c) (a1 m c) (a2 m c) (a3 m c) (a4 m c) C p g d = (x : EReal) :=
  add_real (sums_real fun q => mul_real (hf.w _) (ln_real m c _ hf _)) (hf.s _)

theorem sg_real : ∃ x : ℝ, sg (a0 m c (ix2 r (cz k))) = (x : EReal) := by
  obtain ⟨z, hz⟩ := hf.p (ix2 r (cz k))
  rw [hz]
  exact Alg.logistic_coe z

theorem dm_real : ∃ x : ℝ, dm (a0 m c) (a5 m c) r k = (x : EReal) :=
  mul_real (mul_real (hf.y _) (hf.p _)) (mul_real (hf.p _) (sg_real m c k hf r))

theorem dl_real : ∃ x : ℝ, val_main_v53 (F := Ideal) (a0 m c) (a3 m c) (a5 m c) (ix2 r k) = (x : EReal) := by
  obtain ⟨C, q, rfl⟩ : ∃ C q, r = cr C q := ⟨⟨r.val / 128, by omega⟩, ⟨r.val % 128, by omega⟩, Fin.ext (by simp only [cr]; omega)⟩
  obtain ⟨g, d, rfl⟩ : ∃ g d, k = gc g d := ⟨⟨k.val / 128, by omega⟩, ⟨k.val % 128, by omega⟩, Fin.ext (by simp only [gc]; omega)⟩
  rw [ref_dl]
  exact sums_real fun p => mul_real (hf.w _) (dm_real m c _ hf _)

/-- The gate's gradient. -/
theorem DZ_at : DZ m c t n g (ix2 p d) = val_main_v86 (F := Ideal) (a0 m c) (a1 m c) (a2 m c) (a3 m c) (a4 m c) (a5 m c) (ix2 (cr (chunk t n) p) (cz (gc g d))) := by
  have h : DZ m c t n g (ix2 p d) = a5 m c (ix2 (cr (chunk t n) p) (gc g d)) * a0 m c (ix2 (cr (chunk t n) p) (cu (gc g d)))
      * mix (a0 m c) (a1 m c) (a2 m c) (a3 m c) (a4 m c) (chunk t n) p g d
      * (sg (a0 m c (ix2 (cr (chunk t n) p) (cz (gc g d)))) * (1 + a0 m c (ix2 (cr (chunk t n) p) (cz (gc g d))) * (1 - sg (a0 m c (ix2 (cr (chunk t n) p) (cz (gc g d))))))) := by
    rw [← Ideal.ofBits_one_f32]
    pointwise [DZ, k0_pay21, k0_pay16, k0_pay15, mix_at, sg_at, Z_at, U_at, Y_at]
  rw [h, ref_dz]
  obtain ⟨y, hy⟩ := hf.y (ix2 (cr (chunk t n) p) (gc g d))
  obtain ⟨u, hu⟩ := hf.p (ix2 (cr (chunk t n) p) (cu (gc g d)))
  obtain ⟨z, hz⟩ := hf.p (ix2 (cr (chunk t n) p) (cz (gc g d)))
  obtain ⟨x, hx⟩ := mix_real m c g p d hf (chunk t n)
  obtain ⟨s, hs⟩ := Alg.logistic_coe z
  simp only [sg, hy, hu, hz, hx, hs]
  rw [mul_comm (y : EReal), mul_right_comm (u : EReal), ← EReal.coe_mul, ← EReal.coe_mul]
  exact Alg.silu_grad (u * x * y) z s

end Reals

/-! ## All rows and channels of the block -/

/-- The store of one block of the layer norm's gradient. -/
def pl (n : Fin 2) (g : Fin 4) : View.Piece (Elt Ideal) S256x512 .f32 := ⟨Rect.unit ![n.val * 128, g.val * 128] ![128, 128] (inbY n g), DLB m c t n g⟩

/-- The layer norm's gradient. -/
theorem DL_at : DL m c t (ix2 a k) = val_main_v53 (F := Ideal) (a0 m c) (a3 m c) (a5 m c) (ix2 (row t a) k) := by
  have e : ∀ n g (x : S128x128.Idx), DLB m c t n g x
      = (fun z : S256x512.Idx => val_main_v53 (F := Ideal) (a0 m c) (a3 m c) (a5 m c) (ix2 (row t (z 0)) (z 1))) ((Rect.unit (s := S256x512) ![n.val * 128, g.val * 128] ![128, 128] (inbY n g)).emb x) := fun n g x => by
    obtain ⟨q, d, rfl⟩ : ∃ q d : Fin 128, x = ix2 q d := ⟨x 0, x 1, by blk_ext⟩
    rw [DLB_at, ← row_br]
    refine congrArg (val_main_v53 (F := Ideal) (a0 m c) (a3 m c) (a5 m c)) ?_
    blk_ext [row, br, gc]
  refine View.canon_append_of_piecesOf (fun z : S256x512.Idx => val_main_v53 (F := Ideal) (a0 m c) (a3 m c) (a5 m c) (ix2 (row t (z 0)) (z 1))) []
    [pl m c t 1 3, pl m c t 0 3, pl m c t 1 2, pl m c t 0 2, pl m c t 1 1, pl m c t 0 1, pl m c t 1 0, pl m c t 0 0]
    ⟨e 1 3, e 0 3, e 1 2, e 0 2, e 1 1, e 0 1, e 1 0, e 0 0, trivial⟩ (ix2 a k) ?_
  obtain ⟨n, g, h⟩ : ∃ (n : Fin 2) (g : Fin 4), n.val * 128 ≤ a.val ∧ a.val < n.val * 128 + 128 ∧ g.val * 128 ≤ k.val ∧ k.val < g.val * 128 + 128 :=
    ⟨⟨a.val / 128, by omega⟩, ⟨k.val / 128, by omega⟩, by dsimp only; omega⟩
  refine ⟨pl m c t n g, ?_, ?_⟩
  · fin_cases n <;> fin_cases g <;> simp
  · unfold pl
    mem_blk
    intro x; fin_cases x <;> simp <;> omega

/-- The norm's input's gradient. -/
theorem DX_at (hf : Fin6 m c) : DX m c t (ix2 a k)
    = val_main_v86 (F := Ideal) (a0 m c) (a1 m c) (a2 m c) (a3 m c) (a4 m c) (a5 m c) (ix2 (row t a) (cv k)) := by
  rw [ref_dv, ← dx_eq (vr (a0 m c) (row t a)) (ar (a0 m c) (a1 m c) (a3 m c) (a5 m c) (row t a)) (fun k => hf.p _) (fun k => mul_real (dl_real m c k hf _) (hf.g _))]
  pointwise [DX, k0_pay1, k0_pay131, k0_pay132, DL_at, blk_g, xh_at, rs_at, dx, ar]

/-- The stores of the joint gradient's columns: the norm's input's, a block's gate's, a block's other half's. -/
def pv : View.Piece (Elt Ideal) S256x1536 .bf16 := ⟨Rect.unit ![0, 512] ![256, 512] inbV, DX m c t⟩
def pz (n : Fin 2) (g : Fin 4) : View.Piece (Elt Ideal) S256x1536 .bf16 := ⟨Rect.unit ![n.val * 128, 1024 + g.val * 128] ![128, 128] (inbZ n g), DZ m c t n g⟩
def pu (n : Fin 2) (g : Fin 4) : View.Piece (Elt Ideal) S256x1536 .bf16 := ⟨Rect.unit ![n.val * 128, g.val * 128] ![128, 128] (inbU n g), DU m c t n g⟩

/-- The joint gradient's block. -/
theorem OUT_at (hf : Fin6 m c) (z : S256x1536.Idx) : OUT m c t z
    = val_main_v86 (F := Ideal) (a0 m c) (a1 m c) (a2 m c) (a3 m c) (a4 m c) (a5 m c) (ix2 (row t (z 0)) (z 1)) := by
  have ev : ∀ x : S256x512.Idx, DX m c t x = (fun z : S256x1536.Idx => val_main_v86 (F := Ideal) (a0 m c) (a1 m c) (a2 m c) (a3 m c) (a4 m c) (a5 m c)
      (ix2 (row t (z 0)) (z 1))) ((Rect.unit (s := S256x1536) ![0, 512] ![256, 512] inbV).emb x) := fun x => by
    obtain ⟨q, d, rfl⟩ : ∃ (q : Fin 256) (d : Fin 512), x = ix2 q d := ⟨x 0, x 1, by blk_ext⟩
    rw [DX_at m c t _ _ hf]
    refine congrArg (val_main_v86 (F := Ideal) (a0 m c) (a1 m c) (a2 m c) (a3 m c) (a4 m c) (a5 m c)) ?_
    blk_ext [row, cv]
  have ez : ∀ n g (x : S128x128.Idx), DZ m c t n g x = (fun z : S256x1536.Idx => val_main_v86 (F := Ideal) (a0 m c) (a1 m c) (a2 m c) (a3 m c) (a4 m c) (a5 m c)
      (ix2 (row t (z 0)) (z 1))) ((Rect.unit (s := S256x1536) ![n.val * 128, 1024 + g.val * 128] ![128, 128] (inbZ n g)).emb x) := fun n g x => by
    obtain ⟨q, d, rfl⟩ : ∃ q d : Fin 128, x = ix2 q d := ⟨x 0, x 1, by blk_ext⟩
    rw [DZ_at m c t n g q d hf, ← row_br]
    refine congrArg (val_main_v86 (F := Ideal) (a0 m c) (a1 m c) (a2 m c) (a3 m c) (a4 m c) (a5 m c)) ?_
    blk_ext [row, br, gc, cz]
  have eu : ∀ n g (x : S128x128.Idx), DU m c t n g x = (fun z : S256x1536.Idx => val_main_v86 (F := Ideal) (a0 m c) (a1 m c) (a2 m c) (a3 m c) (a4 m c) (a5 m c)
      (ix2 (row t (z 0)) (z 1))) ((Rect.unit (s := S256x1536) ![n.val * 128, g.val * 128] ![128, 128] (inbU n g)).emb x) := fun n g x => by
    obtain ⟨q, d, rfl⟩ : ∃ q d : Fin 128, x = ix2 q d := ⟨x 0, x 1, by blk_ext⟩
    rw [DU_at m c t n g q d, ← row_br]
    refine congrArg (val_main_v86 (F := Ideal) (a0 m c) (a1 m c) (a2 m c) (a3 m c) (a4 m c) (a5 m c)) ?_
    blk_ext [row, br, gc, cu]
  refine View.canon_append_of_piecesOf (fun z : S256x1536.Idx => val_main_v86 (F := Ideal) (a0 m c) (a1 m c) (a2 m c) (a3 m c) (a4 m c) (a5 m c)
      (ix2 (row t (z 0)) (z 1))) []
    [pv m c t, pz m c t 1 3, pu m c t 1 3, pz m c t 0 3, pu m c t 0 3, pz m c t 1 2, pu m c t 1 2, pz m c t 0 2, pu m c t 0 2,
    pz m c t 1 1, pu m c t 1 1, pz m c t 0 1, pu m c t 0 1, pz m c t 1 0, pu m c t 1 0, pz m c t 0 0, pu m c t 0 0]
    ⟨ev, ez 1 3, eu 1 3, ez 0 3, eu 0 3, ez 1 2, eu 1 2, ez 0 2, eu 0 2, ez 1 1, eu 1 1, ez 0 1, eu 0 1, ez 1 0, eu 1 0, ez 0 0, eu 0 0, trivial⟩ z ?_
  obtain ⟨a, k, rfl⟩ : ∃ (a : Fin 256) (k : Fin 1536), z = ix2 a k := ⟨z 0, z 1, by blk_ext⟩
  by_cases hv : 512 ≤ k.val ∧ k.val < 1024
  · refine ⟨pv m c t, by simp, ?_⟩
    unfold pv
    mem_blk
    intro x; fin_cases x <;> simp <;> omega
  obtain ⟨n, g, h⟩ : ∃ (n : Fin 2) (g : Fin 4), n.val * 128 ≤ a.val ∧ a.val < n.val * 128 + 128 ∧ g.val * 128 ≤ k.val % 512 ∧ k.val % 512 < g.val * 128 + 128 :=
    ⟨⟨a.val / 128, by omega⟩, ⟨k.val % 512 / 128, by omega⟩, by dsimp only; omega⟩
  by_cases hu : k.val < 512
  · refine ⟨pu m c t n g, ?_, ?_⟩
    · fin_cases n <;> fin_cases g <;> simp
    · unfold pu
      mem_blk
      intro x; fin_cases x <;> simp <;> omega
  · refine ⟨pz m c t n g, ?_, ?_⟩
    · fin_cases n <;> fin_cases g <;> simp
    · unfold pz
      mem_blk
      intro x; fin_cases x <;> simp <;> omega

end Cert.GmlpIdeal.Entry
-- ==== Proof.GmlpValue.lean ====
/-
  The gradients of the gMLP's spatial gate, result by result. The joint gradient's blocks fill its array; the weights', the
  biases' and the norm's two gradients are sums over all chunks or rows, which the points add up one after another.
-/
module

public import proofs.«01_k».proof.Proof.GmlpEntry
public import proofs.«01_k».proof.Proof.Gen.GmlpIdeal.Value

@[expose] public section

set_option maxRecDepth 16384

noncomputable section

namespace Cert.GmlpIdeal.Whole

open Cert.GmlpIdeal Cert.GmlpIdeal.Gen Cert.GmlpIdeal.Entry Cert.GmlpIdeal.Rows Cert.GmlpIdeal.Point Cert.GmlpIdeal.Host
open Cert.AttnIdeal.Whole (ld2)
open Cert.GmlpRefIdeal.Read (val_main_v50 val_main_v53 val_main_v86 val_main_v87 val_main_v88 val_main_v89)
open Cert.GmlpRefIdeal.Entry (cr gc cu cv cz vr sg ln mix dm dl ar ref_dw ref_db ref_dg ref_dn)
open Idealize.ShloMosaic Idealize.ShloMosaic.TcCoe Idealize.SL.Sem

variable (m : (ℓ : Loc nD τ sig) → Buf (Elt Ideal) ℓ) (ρ : Dev nD → PrngReg) (c : Dev nD) (t : Fin cfg0.N) (n : Fin 2) (g : Fin 4) (a : Fin 256) (k : Fin 512) (p q d : Fin 128)

/-! ## One point's share of the sums -/

/-- Of two stores into each group's slice the later one stays. -/
theorem canon_four {s : Shape} {e : EltTy} (R : Fin 4 → Rect s) (v v' : ∀ g, (R g).shape.Idx → Elt Ideal e) (L : List (View.Piece (Elt Ideal) s e)) (g : Fin 4)
    (x : (R g).shape.Idx) (hn : ∀ g', g ≠ g' → (R g).emb x ∉ (R g').set) :
    View.canon (⟨R 3, v 3⟩ :: ⟨R 3, v' 3⟩ :: ⟨R 2, v 2⟩ :: ⟨R 2, v' 2⟩ :: ⟨R 1, v 1⟩ :: ⟨R 1, v' 1⟩ :: ⟨R 0, v 0⟩ :: ⟨R 0, v' 0⟩ :: L) ((R g).emb x) = v g x := by
  have s : ∀ g' (_ : g ≠ g') w w' (M : List (View.Piece (Elt Ideal) s e)), View.canon (⟨R g', w⟩ :: ⟨R g', w'⟩ :: M) ((R g).emb x) = View.canon M ((R g).emb x) :=
    fun g' hg w w' M => (View.canon_cons_of_not_mem _ _ (hn g' hg)).trans (View.canon_cons_of_not_mem _ _ (hn g' hg))
  rcases (by omega : g = 3 ∨ g = 2 ∨ g = 1 ∨ g = 0) with rfl | rfl | rfl | rfl
  · exact View.canon_cons_emb _ _ _ _
  · rw [s 3 (by decide)]; exact View.canon_cons_emb _ _ _ _
  · rw [s 3 (by decide), s 2 (by decide)]; exact View.canon_cons_emb _ _ _ _
  · rw [s 3 (by decide), s 2 (by decide), s 1 (by decide)]; exact View.canon_cons_emb _ _ _ _

/-- Four groups' slices of the mixing weights. -/
theorem canon_ws' (v v' : Fin 4 → Vec Ideal S1x128x128 .f32) (L : List (View.Piece (Elt Ideal) S4x128x128 .f32)) (g : Fin 4) (p q : Fin 128) :
    View.canon (⟨Rect.unit (s := S4x128x128) ![3, 0, 0] ![1, 128, 128] (inbW 3), v 3⟩ :: ⟨Rect.unit (s := S4x128x128) ![3, 0, 0] ![1, 128, 128] (inbW 3), v' 3⟩
      :: ⟨Rect.unit (s := S4x128x128) ![2, 0, 0] ![1, 128, 128] (inbW 2), v 2⟩ :: ⟨Rect.unit (s := S4x128x128) ![2, 0, 0] ![1, 128, 128] (inbW 2), v' 2⟩
      :: ⟨Rect.unit (s := S4x128x128) ![1, 0, 0] ![1, 128, 128] (inbW 1), v 1⟩ :: ⟨Rect.unit (s := S4x128x128) ![1, 0, 0] ![1, 128, 128] (inbW 1), v' 1⟩
      :: ⟨Rect.unit (s := S4x128x128) ![0, 0, 0] ![1, 128, 128] (inbW 0), v 0⟩ :: ⟨Rect.unit (s := S4x128x128) ![0, 0, 0] ![1, 128, 128] (inbW 0), v' 0⟩ :: L)
      (ix3 g p q) = v g (ix3 0 p q) := by
  have e : (ix3 g p q : S4x128x128.Idx) = (Rect.unit (s := S4x128x128) ![g.val, 0, 0] ![1, 128, 128] (inbW g)).emb (ix3 0 p q) := by blk_ext
  rw [e]
  refine canon_four (fun g => Rect.unit (s := S4x128x128) ![g.val, 0, 0] ![1, 128, 128] (inbW g)) v v' L g (ix3 0 p q) fun g' hg => ?_
  rw [← e]
  mem_blk
  intro hx
  have := hx 0
  simp at this
  omega

/-- The stores into the mixing weights' gradient. -/
theorem canon_ws (X : Vec Ideal S4x128x128 .f32) (L) (g p q) : View.canon (WS m c t X L) (ix3 g p q)
    = DW m c t 1 g (DW m c t 0 g (WX g X)) (ix3 0 p q) :=
  canon_ws' (fun g => DW m c t 1 g (DW m c t 0 g (WX g X))) (fun g => DW m c t 0 g (WX g X)) L g p q

/-- The stores into the mixing biases' gradient. -/
theorem canon_bs (X : Vec Ideal S4x128x1 .f32) (L) (g p) : View.canon (BS m c t X L) (ix3 g p 0)
    = DB m c t 1 g (DB m c t 0 g (BX g X)) (ix3 0 p 0) := by
  have e : (ix3 g p 0 : S4x128x1.Idx) = (Rect.unit (s := S4x128x1) ![g.val, 0, 0] ![1, 128, 1] (inbB g)).emb (ix3 0 p 0) := by blk_ext
  rw [e]
  refine canon_four (fun g => Rect.unit (s := S4x128x1) ![g.val, 0, 0] ![1, 128, 1] (inbB g)) (fun g => DB m c t 1 g (DB m c t 0 g (BX g X)))
    (fun g => DB m c t 0 g (BX g X)) L g (ix3 0 p 0) fun g' hg => ?_
  rw [← e]
  mem_blk
  intro hx
  have := hx 0
  simp at this
  omega

/-- A chunk's share of the mixing weights' gradient. -/
def sw (C : Fin 32) (g : Fin 4) (p q : Fin 128) : EReal :=
  ∑ d, dm (a0 m c) (a5 m c) (cr C p) (gc g d) * ln (a0 m c) (a1 m c) (a2 m c) (cr C q) (gc g d)
/-- Of the mixing biases'. -/
def sb (C : Fin 32) (g : Fin 4) (p : Fin 128) : EReal := ∑ d, dm (a0 m c) (a5 m c) (cr C p) (gc g d)
/-- A row's share of the norm's scale's. -/
def sr (r : Fin 4096) (k : Fin 512) : EReal := xh (vr (a0 m c) r) k * val_main_v53 (F := Ideal) (a0 m c) (a3 m c) (a5 m c) (ix2 r k)
/-- Of the norm's shift's. -/
def sn (r : Fin 4096) (k : Fin 512) : EReal := val_main_v53 (F := Ideal) (a0 m c) (a3 m c) (a5 m c) (ix2 r k)

/-- A point adds its two chunks' shares. -/
theorem ws_at (X : Vec Ideal S4x128x128 .f32) (L) (z : S4x128x128.Idx) : View.canon (WS m c t X L) z
    = X z + ∑ n, sw m c (chunk t n) (z 0) (z 1) (z 2) := by
  obtain ⟨g, p, q, rfl⟩ : ∃ (g : Fin 4) (p q : Fin 128), z = ix3 g p q := ⟨z 0, z 1, z 2, by blk_ext⟩
  rw [canon_ws, DW_at, DW_at, WX_at, Fin.sum_univ_two, ← add_assoc]
  rfl

theorem bs_at (X : Vec Ideal S4x128x1 .f32) (L) (z : S4x128x1.Idx) : View.canon (BS m c t X L) z
    = X z + ∑ n, sb m c (chunk t n) (z 0) (z 1) := by
  obtain ⟨g, p, rfl⟩ : ∃ (g : Fin 4) (p : Fin 128), z = ix3 g p 0 := ⟨z 0, z 1, by blk_ext⟩
  rw [canon_bs, DB_at, DB_at, BX_at, Fin.sum_univ_two, ← add_assoc]
  rfl

/-- A point adds its rows' shares. -/
theorem gs_at (X : Vec Ideal S1x512 .f32) (z : S1x512.Idx) : k0_pay129 (F := Ideal) (k0_pay8 (XV m c t)) (DL m c t) X z
    = X z + ∑ a, sr m c (row t a) (z 1) := by
  pointwise [k0_pay129, DL_at, xh_at]
  exact congrArg (_ + ·) (Finset.sum_congr rfl fun a _ => mul_comm (_ : EReal) _)

theorem ns_at (X : Vec Ideal S1x512 .f32) (z : S1x512.Idx) : k0_pay130 (F := Ideal) (DL m c t) X z
    = X z + ∑ a, sn m c (row t a) (z 1) := by
  pointwise [k0_pay130, DL_at]
  rfl

/-- What the accumulators start from. -/
theorem zero_w (z) : k0_pay2 (F := Ideal) z = 0 := by pointwise [k0_pay2]
theorem zero_b (z) : k0_pay3 (F := Ideal) z = 0 := by pointwise [k0_pay3]
theorem zero_g (z) : k0_pay4 (F := Ideal) z = 0 := by pointwise [k0_pay4]
theorem zero_n (z) : k0_pay5 (F := Ideal) z = 0 := by pointwise [k0_pay5]

/-- Sums over all chunks and all rows, point by point. -/
theorem sum_chunks (f : Fin 32 → EReal) : ∑ t : Fin cfg0.N, ∑ n, f (chunk t n) = ∑ C, f C := (Fin.sum_univ_tiles (M := EReal) 16 2 rfl f).symm
theorem sum_rows (f : Fin 4096 → EReal) : ∑ t : Fin cfg0.N, ∑ a, f (row t a) = ∑ r, f r := (Fin.sum_univ_tiles (M := EReal) 16 256 rfl f).symm

/-- The joint gradient. -/
theorem dp_value (hf : Fin6 m c) : (dats m 0 c).arrAt 6 cfg0.N
    = val_main_v86 (F := Ideal) (a0 m c) (a1 m c) (a2 m c) (a3 m c) (a4 m c) (a5 m c) := by
  refine (dats m 0 c).arrAt_eq_of_covers 6 _ (by decide +kernel) fun t hfl z => ?_
  blk_simp
  have h : (outsAt0 m c t.val t.isLt).1 = OUT m c t := by
    by_cases h : t.val % 16 = 0
    · exact out_A m c t h
    · exact out_B m c t h
  rw [after0_6, h, OUT_at m c t hf]
  refine congrArg (val_main_v86 (F := Ideal) (a0 m c) (a1 m c) (a2 m c) (a3 m c) (a4 m c) (a5 m c)) ?_
  blk_ext [idx t, row] <;> simp [Pipeline.WinKind.off]

/-- The mixing weights' gradient. -/
theorem dw_value : (dats m 0 c).arrAt 7 cfg0.N = val_main_v50 (F := Ideal) (a0 m c) (a1 m c) (a2 m c) (a5 m c) := by
  refine (dats m 0 c).arrAt_eq_of_after_last 7 t0_15 (by decide +kernel) _ fun z => ?_
  blk_simp
  rw [after0_7, Pipeline.eq_sum_fin_of_reset_step_apply_last (fun n h => (outsAt0 m c n h).2.1) 16 (fun _ => 0)
    (fun t z => ∑ n, sw m c (chunk t n) (z 0) (z 1) (z 2))
    (fun t h j => by
      obtain ⟨L, hL⟩ := dw_A m c t h
      rw [hL, ws_at, zero_w])
    (fun t h j => by
      obtain ⟨L, hL⟩ := dw_B m c t h
      rw [hL, ws_at])
    (le_of_eq N_0) t0_15 rfl _, zero_add]
  refine (sum_chunks fun C => sw m c C _ _ _).trans ?_
  refine (ref_dw _ _ _ _ _ _ _).symm.trans (congrArg (val_main_v50 (F := Ideal) (a0 m c) (a1 m c) (a2 m c) (a5 m c)) ?_)
  blk_ext [idx t0_15] <;> simp [Pipeline.WinKind.off]

/-- The mixing biases' gradient. -/
theorem db_value : (dats m 0 c).arrAt 8 cfg0.N = val_main_v87 (F := Ideal) (a0 m c) (a5 m c) := by
  refine (dats m 0 c).arrAt_eq_of_after_last 8 t0_15 (by decide +kernel) _ fun z => ?_
  blk_simp
  rw [after0_8, Pipeline.eq_sum_fin_of_reset_step_apply_last (fun n h => (outsAt0 m c n h).2.2.1) 16 (fun _ => 0)
    (fun t z => ∑ n, sb m c (chunk t n) (z 0) (z 1))
    (fun t h j => by
      obtain ⟨L, hL⟩ := db_A m c t h
      rw [hL, bs_at, zero_b])
    (fun t h j => by
      obtain ⟨L, hL⟩ := db_B m c t h
      rw [hL, bs_at])
    (le_of_eq N_0) t0_15 rfl _, zero_add]
  refine (sum_chunks fun C => sb m c C _ _).trans ?_
  refine (ref_db _ _ _ _).symm.trans (congrArg (val_main_v87 (F := Ideal) (a0 m c) (a5 m c)) ?_)
  blk_ext [idx t0_15] <;> simp [Pipeline.WinKind.off]

/-- The norm's scale's gradient. -/
theorem dg_value : (dats m 0 c).arrAt 9 cfg0.N = val_main_v88 (F := Ideal) (a0 m c) (a3 m c) (a5 m c) := by
  refine (dats m 0 c).arrAt_eq_of_after_last 9 t0_15 (by decide +kernel) _ fun z => ?_
  blk_simp
  rw [after0_9, Pipeline.eq_sum_fin_of_reset_step_apply_last (fun n h => (outsAt0 m c n h).2.2.2.1) 16 (fun _ => 0)
    (fun t z => ∑ a, sr m c (row t a) (z 1))
    (fun t h j => by rw [dg_A m c t h, gs_at, zero_g])
    (fun t h j => by rw [dg_B m c t h, gs_at])
    (le_of_eq N_0) t0_15 rfl _, zero_add]
  refine (sum_rows fun r => sr m c r _).trans ?_
  refine (ref_dg _ _ _ _).symm.trans (congrArg (val_main_v88 (F := Ideal) (a0 m c) (a3 m c) (a5 m c)) ?_)
  blk_ext [idx t0_15] <;> simp [Pipeline.WinKind.off]

/-- The norm's shift's gradient. -/
theorem dn_value : (dats m 0 c).arrAt 10 cfg0.N = val_main_v89 (F := Ideal) (a0 m c) (a3 m c) (a5 m c) := by
  refine (dats m 0 c).arrAt_eq_of_after_last 10 t0_15 (by decide +kernel) _ fun z => ?_
  blk_simp
  rw [after0_10, Pipeline.eq_sum_fin_of_reset_step_apply_last (fun n h => (outsAt0 m c n h).2.2.2.2) 16 (fun _ => 0)
    (fun t z => ∑ a, sn m c (row t a) (z 1))
    (fun t h j => by rw [dn_A m c t h, ns_at, zero_n])
    (fun t h j => by rw [dn_B m c t h, ns_at])
    (le_of_eq N_0) t0_15 rfl _, zero_add]
  refine (sum_rows fun r => sn m c r _).trans ?_
  refine (ref_dn _ _ _ _).symm.trans (congrArg (val_main_v89 (F := Ideal) (a0 m c) (a3 m c) (a5 m c)) ?_)
  blk_ext [idx t0_15] <;> simp [Pipeline.WinKind.off]

/-- The run read at the five results and the arguments. -/
theorem run_value (hf : ∀ c : Dev nD, Fin6 m c) : θ_run defs (onTc (τ := τ) (main (F := Ideal))) ⟨m, fun _ => 0, ρ⟩ (fun r => ∀ c : Dev nD,
      r.2.mem ((c.tc : Thread nD τ).loc main_v4_0) = val_main_v86 (F := Ideal) (a0 m c) (a1 m c) (a2 m c) (a3 m c) (a4 m c) (a5 m c)
      ∧ r.2.mem ((c.tc : Thread nD τ).loc main_v4_1) = val_main_v50 (F := Ideal) (a0 m c) (a1 m c) (a2 m c) (a5 m c)
      ∧ r.2.mem ((c.tc : Thread nD τ).loc main_v4_2) = val_main_v87 (F := Ideal) (a0 m c) (a5 m c)
      ∧ r.2.mem ((c.tc : Thread nD τ).loc main_v4_3) = val_main_v88 (F := Ideal) (a0 m c) (a3 m c) (a5 m c)
      ∧ r.2.mem ((c.tc : Thread nD τ).loc main_v4_4) = val_main_v89 (F := Ideal) (a0 m c) (a3 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (dp_value m c (hf c)), (h c).2.1.trans (dw_value m c), (h c).2.2.1.trans (db_value m c),
    (h c).2.2.2.1.trans (dg_value m c), (h c).2.2.2.2.1.trans (dn_value m c), (h c).2.2.2.2.2⟩)
    (Cert.GmlpIdeal.Value.run_blocks m ρ)

end Cert.GmlpIdeal.Whole
-- ==== Proof.GmlpClaims.lean ====
/-
  The claims about the gated spatial branch, backward: the kernel's frame, the reference's frame, and that both compute the same five
  gradients over the extended reals where the arguments are finite.
-/
module

public import proofs.«01_k».proof.Defs
public import proofs.«01_k».proof.Proof.GmlpValue
public import proofs.«01_k».proof.Proof.Gen.GmlpRefIdeal.Read
public import proofs.«01_k».proof.Proof.Gen.Gmlp
public import Idealize.ShloMosaic.Lib.Quiescent

@[expose] public section

set_option maxRecDepth 16384

noncomputable section

namespace Cert.Proof.Gmlp

open Idealize.ShloMosaic Idealize.ShloMosaic.TcCoe Idealize.SL.Sem

attribute [local instance] Cert.Gmlp.Gen.facts Cert.GmlpIdeal.Gen.facts Cert.GmlpRefIdeal.Gen.facts

/-- The printed kernel's frame, from the one generated run at machine floats. -/
theorem frame_kernel : Cert.quiescent_Gmlp := fun m ρ _ =>
  cast (by sl_kernel_rfl) (Cert.GmlpIdeal.Gen.frame (F := Bits) m ρ)
/-- The same run over the reals. -/
theorem frame_ideal : Cert.quiescent_GmlpIdeal := fun m ρ _ => Cert.GmlpIdeal.Gen.frame (F := Ideal) m ρ
/-- The reference, host operations only, leaves its arguments and has no semaphore. -/
theorem frame_reference : Cert.quiescent_GmlpRefIdeal := fun m ρ _ =>
  (θ_run Cert.GmlpRefIdeal.defs _ _).mono (fun r h => ⟨fun c => (h c).2.2.2.2.2, sem_eq_zero_of_no_sems (by decide) r.2⟩)
    (Cert.GmlpRefIdeal.Value.run (F := Ideal) m ρ)
/-- What the precondition's text asks of shapes. -/
theorem pre_facts : Cert.Pre_finite_gmlp.Facts := ⟨by decide, by decide, by decide, by decide, by decide⟩

attribute [local instance] pre_facts

/-- The run over the reals, where the arguments are finite. -/
theorem frame_ideal_finite : Cert.quiescent_GmlpIdeal_pre_finite_gmlp := fun m ρ _ => Cert.GmlpIdeal.Gen.frame (F := Ideal) m ρ
/-- The reference's, where they are finite. -/
theorem frame_reference_finite : Cert.quiescent_GmlpRefIdeal_pre_finite_gmlp := fun m ρ _ => frame_reference m ρ trivial

/-- The precondition says that the arguments' entries are reals. -/
theorem finite (m) (h : Cert.Pre_GmlpIdeal_finite_gmlp m) (c : Dev Cert.GmlpIdeal.nD) : Cert.GmlpIdeal.Entry.Fin6 m c :=
  ⟨Alg.finite_of _ _ (fun _ => rfl) (h c).1, Alg.finite_of _ _ (fun _ => rfl) (h c).2.1, Alg.finite_of _ _ (fun _ => rfl) (h c).2.2.1,
    Alg.finite_of _ _ (fun _ => rfl) (h c).2.2.2.1, Alg.finite_of _ _ (fun _ => rfl) (h c).2.2.2.2.1, Alg.finite_of _ _ (fun _ => rfl) (h c).2.2.2.2.2⟩

/-- The reference's five results are the kernel's. -/
theorem algebraic : Cert.algebraic_GmlpIdeal_GmlpRefIdeal_pre_finite_gmlp := by
  pair_intro
  · run_from Cert.GmlpIdeal.Whole.run_value m g (finite m hpre)
  · refine (θ_run Cert.GmlpRefIdeal.defs _ _).mono (fun r h c => ?_) (Cert.GmlpRefIdeal.Value.run (F := Ideal) m' g')
    obtain ⟨e0, e1, e2, e3, e4, e5⟩ := hagree c
    refine ⟨((h c).1.trans (Cert.GmlpRefIdeal.Read.val_main_v86_eq (F := Ideal) m' c)).trans ?_,
      ((h c).2.1.trans (Cert.GmlpRefIdeal.Read.val_main_v50_eq (F := Ideal) _ _ _ _)).trans ?_,
      ((h c).2.2.1.trans (Cert.GmlpRefIdeal.Read.val_main_v87_eq (F := Ideal) _ _)).trans ?_,
      ((h c).2.2.2.1.trans (Cert.GmlpRefIdeal.Read.val_main_v88_eq (F := Ideal) _ _ _)).trans ?_,
      ((h c).2.2.2.2.1.trans (Cert.GmlpRefIdeal.Read.val_main_v89_eq (F := Ideal) _ _ _)).trans ?_, (h c).2.2.2.2.2⟩
    · exact congr (congr (congr (congr (congr (congrArg (Cert.GmlpRefIdeal.Read.val_main_v86 (F := Ideal)) e0) e1) e2) e3) e4) e5
    · exact congr (congr (congr (congrArg (Cert.GmlpRefIdeal.Read.val_main_v50 (F := Ideal)) e0) e1) e2) e5
    · exact congrArg₂ (Cert.GmlpRefIdeal.Read.val_main_v87 (F := Ideal)) e0 e5
    · exact congr (congr (congrArg (Cert.GmlpRefIdeal.Read.val_main_v88 (F := Ideal)) e0) e3) e5
    · exact congr (congr (congrArg (Cert.GmlpRefIdeal.Read.val_main_v89 (F := Ideal)) e0) e3) e5

end Cert.Proof.Gmlp
-- ==== Proof.AttnValue.lean ====
/-
  The gradients of the attention. A grid point takes 256 query rows through the four heads of one group and adds the rows' part of the keys' and
  values' gradients to the group's block of the result.
-/
module

public import proofs.«01_k».proof.Proof.AttnPoint

@[expose] public section

set_option maxRecDepth 16384

noncomputable section

namespace Cert.AttnIdeal.Whole

open Cert.AttnIdeal Cert.AttnIdeal.Gen Cert.AttnRefIdeal.Read Cert.AttnRefIdeal.Point Cert.AttnIdeal.Rows Cert.AttnIdeal.Host
open Idealize.ShloMosaic Idealize.ShloMosaic.TcCoe Idealize.SL.Sem

/-! ## Four stores of 64 columns -/

/-- The place of a block's column in the whole. -/
abbrev at4 (k : Fin 4) (z : S256x64.Idx) : S256x256.Idx :=
  ix2 (z 0) ⟨k.val * 64 + (z 1).val, by have : (z 1).val < 64 := (z 1).isLt; omega⟩

theorem inb4 (k : Fin 4) (a : Fin 2) : (![0, k.val * 64] : Fin 2 → ℕ) a + (![256, 64] : Fin 2 → ℕ) a ≤ S256x256.size a := by
  fin_cases a <;> simp; omega

/-- A store of 64 columns. -/
abbrev piece (k : Fin 4) (A : Vec Ideal S256x64 .f32) : View.Piece (Elt Ideal) S256x256 .f32 :=
  ⟨Rect.unit (s := S256x256) ![0, k.val * 64] ![256, 64] (inb4 k), A⟩

theorem piece_of (k : Fin 4) (A : Vec Ideal S256x64 .f32) (f : Vec Ideal S256x256 .f32) (hA : ∀ z, A z = f (at4 k z))
    (x : (piece k A).1.shape.Idx) : (piece k A).2 x = f ((piece k A).1.emb x) := by
  refine (hA x).trans (congrArg f (funext fun a => Fin.ext ?_))
  refine Eq.trans ?_ (Rect.idx_unit_val _ _ (inb4 k) _ _).symm
  fin_cases a <;> simp [at4]

theorem piece_mem (k : Fin 4) (A : Vec Ideal S256x64 .f32) (z : S256x256.Idx) (h : (z 1).val / 64 = k.val) : z ∈ (piece k A).1.set := by
  mem_blk
  have h0 : (z 0).val < 256 := (z 0).isLt
  intro a; fin_cases a <;> simp <;> omega

/-- Four stores of 64 columns each leave the array that they are the columns of. -/
theorem canon_cols (f : Vec Ideal S256x256 .f32) {A0 A1 A2 A3 : Vec Ideal S256x64 .f32} (h3 : ∀ z, A3 z = f (at4 3 z)) (h2 : ∀ z, A2 z = f (at4 2 z))
    (h1 : ∀ z, A1 z = f (at4 1 z)) (h0 : ∀ z, A0 z = f (at4 0 z)) :
    View.canon [piece 3 A3, piece 2 A2, piece 1 A1, piece 0 A0] = f := by
  funext z
  refine View.canon_append_of_piecesOf f [] [piece 3 A3, piece 2 A2, piece 1 A1, piece 0 A0]
    ⟨piece_of _ _ f h3, piece_of _ _ f h2, piece_of _ _ f h1, piece_of _ _ f h0, trivial⟩ z ?_
  have hz : (z 1).val < 256 := (z 1).isLt
  obtain ⟨k, hk⟩ : ∃ k : Fin 4, (z 1).val / 64 = k.val := ⟨⟨(z 1).val / 64, by omega⟩, rfl⟩
  fin_cases k
  · exact ⟨piece 0 A0, by simp, piece_mem _ _ _ hk⟩
  · exact ⟨piece 1 A1, by simp, piece_mem _ _ _ hk⟩
  · exact ⟨piece 2 A2, by simp, piece_mem _ _ _ hk⟩
  · exact ⟨piece 3 A3, by simp, piece_mem _ _ _ hk⟩

/-! ## The gradients as whole arrays -/

variable (m : (ℓ : Loc nD τ sig) → Buf (Elt Ideal) ℓ) (ρ : Dev nD → PrngReg) (c : Dev nD)

/-- The queries' gradient before the factor, at a row of a head. -/
def dqr (g : Fin 2) (j : Fin 4) (i : Fin 4096) (d : Fin 64) : EReal :=
  ∑ n : Fin 4096, slope (aq m c) (ak m c) (ap m c) (ay m c) g j i n * ak m c (ix3 n g d)

/-- The queries' gradient before the factor, with the heads side by side. -/
def dqa : Vec Ideal S4096x512 .f32 := fun z =>
  dqr m c ⟨(z 1).val / 256, by have : (z 1).val < 512 := (z 1).isLt; omega⟩ ⟨(z 1).val % 256 / 64, by omega⟩ (z 0) ⟨(z 1).val % 64, by omega⟩

theorem dqa_at (g : Fin 2) (j : Fin 4) (i : Fin 4096) (d : Fin 64) : dqa m c (ix2 i (col g j d)) = dqr m c g j i d := by
  have e1 : (⟨(col g j d).val / 256, by omega⟩ : Fin 2) = g := Fin.ext (by simp only [col]; omega)
  have e2 : (⟨(col g j d).val % 256 / 64, by omega⟩ : Fin 4) = j := Fin.ext (by simp only [col]; omega)
  have e3 : (⟨(col g j d).val % 64, by omega⟩ : Fin 64) = d := Fin.ext (by simp only [col]; omega)
  show dqr m c ⟨(col g j d).val / 256, _⟩ ⟨(col g j d).val % 256 / 64, _⟩ i ⟨(col g j d).val % 64, _⟩ = _
  rw [e1, e2, e3]

/-- What row `i` adds to the keys' gradient. -/
def tk (i : Fin 4096) (g : Fin 2) (d : Fin 64) (n : Fin 4096) (j : Fin 4) : EReal :=
  aq m c (ix3 i (head g j) d) * scale * slope (aq m c) (ak m c) (ap m c) (ay m c) g j i n

/-- What row `i` adds to the values' gradient. -/
def tv (i : Fin 4096) (g : Fin 2) (d : Fin 64) (n : Fin 4096) (j : Fin 4) : EReal :=
  cot (ap m c) (ay m c) i (col g j d) * prob (aq m c) (ak m c) g j i n

/-- The keys' and values' gradients, transposed: the sums over the rows and heads. -/
def dka : Vec Ideal S2x64x4096 .f32 := fun z => ∑ i : Fin 4096, ∑ j : Fin 4, tk m c i (z 0) (z 1) (z 2) j
def dva : Vec Ideal S2x64x4096 .f32 := fun z => ∑ i : Fin 4096, ∑ j : Fin 4, tv m c i (z 0) (z 1) (z 2) j

/-- A block's parts of the four heads, added one after the other. -/
theorem sum_heads (A : EReal) (f : Fin 256 → Fin 4 → EReal) :
    A + ∑ a, f a 0 + ∑ a, f a 1 + ∑ a, f a 2 + ∑ a, f a 3 = A + ∑ a, ∑ j, f a j := by
  rw [Finset.sum_comm, Fin.sum_univ_four]
  simp only [add_assoc]

/-! ## The bodies' values head by head -/

section Body
variable (t : Fin cfg0.N)

/-- What the body stores for the queries' gradient. -/
theorem pay_dq : k0_pay17 (F := Ideal) (k0_pay6 (iblk m c 5 t) (iblk m c 8 t) (iblk m c 6 t)) (k0_pay8 (iblk m c 2 t))
      (k0_pay11 (iblk m c 3 t) (View.ld (iblk m c 0 t) (Rect.unit ![0, 0] ![256, 64] inb_S256x256_S256x64_0_0)))
      (k0_pay12 (iblk m c 5 t) (iblk m c 8 t) (iblk m c 4 t)) (View.ld (iblk m c 7 t) (Rect.unit ![0, 0, 0] ![1, 256, 1] inb_S1x256x4_S1x256x1_0_0_0))
    = DQ m c t 0 0 inb_S256x256_S256x64_0_0 inb_S1x256x4_S1x256x1_0_0_0 slices_S256x256_o0_0_S256x64 := rfl
theorem pay_dq1 : k0_pay25 (F := Ideal) (k0_pay6 (iblk m c 5 t) (iblk m c 8 t) (iblk m c 6 t)) (k0_pay8 (iblk m c 2 t))
      (k0_pay13 (k0_pay9 (iblk m c 3 t)) (View.ld (iblk m c 0 t) (Rect.unit ![0, 64] ![256, 64] inb_S256x256_S256x64_0_64)))
      (k0_pay14 (k0_pay5 (iblk m c 5 t) (iblk m c 8 t)) (k0_pay10 (iblk m c 4 t))) (View.ld (iblk m c 7 t) (Rect.unit ![0, 0, 1] ![1, 256, 1] inb_S1x256x4_S1x256x1_0_0_1))
    = DQ m c t 1 64 inb_S256x256_S256x64_0_64 inb_S1x256x4_S1x256x1_0_0_1 slices_S256x256_o0_64_S256x64 := rfl
theorem pay_dq2 : k0_pay32 (F := Ideal) (k0_pay6 (iblk m c 5 t) (iblk m c 8 t) (iblk m c 6 t)) (k0_pay8 (iblk m c 2 t))
      (k0_pay21 (k0_pay9 (iblk m c 3 t)) (View.ld (iblk m c 0 t) (Rect.unit ![0, 128] ![256, 64] inb_S256x256_S256x64_0_128)))
      (k0_pay22 (k0_pay5 (iblk m c 5 t) (iblk m c 8 t)) (k0_pay10 (iblk m c 4 t))) (View.ld (iblk m c 7 t) (Rect.unit ![0, 0, 2] ![1, 256, 1] inb_S1x256x4_S1x256x1_0_0_2))
    = DQ m c t 2 128 inb_S256x256_S256x64_0_128 inb_S1x256x4_S1x256x1_0_0_2 slices_S256x256_o0_128_S256x64 := rfl
theorem pay_dq3 : k0_pay38 (F := Ideal) (k0_pay6 (iblk m c 5 t) (iblk m c 8 t) (iblk m c 6 t)) (k0_pay8 (iblk m c 2 t))
      (k0_pay28 (k0_pay9 (iblk m c 3 t)) (View.ld (iblk m c 0 t) (Rect.unit ![0, 192] ![256, 64] inb_S256x256_S256x64_0_192)))
      (k0_pay29 (k0_pay5 (iblk m c 5 t) (iblk m c 8 t)) (k0_pay10 (iblk m c 4 t))) (View.ld (iblk m c 7 t) (Rect.unit ![0, 0, 3] ![1, 256, 1] inb_S1x256x4_S1x256x1_0_0_3))
    = DQ m c t 3 192 inb_S256x256_S256x64_0_192 inb_S1x256x4_S1x256x1_0_0_3 slices_S256x256_o0_192_S256x64 := rfl

variable (A : Vec Ideal S1x64x4096 .f32)

/-- What the body leaves of the keys' gradient over `A`. -/
def DK4 : Vec Ideal S1x64x4096 .f32 :=
  DK m c t 3 192 inb_S256x256_S256x64_0_192 inb_S256x256_S64x256_192_0 inb_S1x256x4_S1x256x1_0_0_3 slices_S256x256_o0_192_S256x64
    (DK m c t 2 128 inb_S256x256_S256x64_0_128 inb_S256x256_S64x256_128_0 inb_S1x256x4_S1x256x1_0_0_2 slices_S256x256_o0_128_S256x64
      (DK m c t 1 64 inb_S256x256_S256x64_0_64 inb_S256x256_S64x256_64_0 inb_S1x256x4_S1x256x1_0_0_1 slices_S256x256_o0_64_S256x64
        (DK m c t 0 0 inb_S256x256_S256x64_0_0 inb_S256x256_S64x256_0_0 inb_S1x256x4_S1x256x1_0_0_0 slices_S256x256_o0_0_S256x64 A)))

/-- What the body leaves of the values' gradient over `A`. -/
def DV4 : Vec Ideal S1x64x4096 .f32 :=
  DV m c t 3 192 inb_S256x256_S256x64_0_192 inb_S1x256x4_S1x256x1_0_0_3 slices_S256x256_o192_0_S64x256
    (DV m c t 2 128 inb_S256x256_S256x64_0_128 inb_S1x256x4_S1x256x1_0_0_2 slices_S256x256_o128_0_S64x256
      (DV m c t 1 64 inb_S256x256_S256x64_0_64 inb_S1x256x4_S1x256x1_0_0_1 slices_S256x256_o64_0_S64x256
        (DV m c t 0 0 inb_S256x256_S256x64_0_0 inb_S1x256x4_S1x256x1_0_0_0 slices_S256x256_o0_0_S64x256 A)))

variable (hf : Fin4 m c)

include hf in
theorem DK4_at (z : S1x64x4096.Idx) : DK4 m c t A z = A z + ∑ a : Fin 256, ∑ j : Fin 4, tk m c (row t a) (grp t) (z 1) (z 2) j := by
  rw [DK4, DK_at m c t 3 192 rfl _ _ _ _ hf, DK_at m c t 2 128 rfl _ _ _ _ hf, DK_at m c t 1 64 rfl _ _ _ _ hf, DK_at m c t 0 0 rfl _ _ _ _ hf]
  exact sum_heads (A z) fun a j => tk m c (row t a) (grp t) (z 1) (z 2) j

include hf in
theorem DV4_at (z : S1x64x4096.Idx) : DV4 m c t A z = A z + ∑ a : Fin 256, ∑ j : Fin 4, tv m c (row t a) (grp t) (z 1) (z 2) j := by
  rw [DV4, DV_at m c t 3 192 rfl _ _ _ hf, DV_at m c t 2 128 rfl _ _ _ hf, DV_at m c t 1 64 rfl _ _ _ hf, DV_at m c t 0 0 rfl _ _ _ hf]
  exact sum_heads (A z) fun a j => tv m c (row t a) (grp t) (z 1) (z 2) j

theorem dk_reset (h : t.val % 16 = 0) : (outsAt0 m c t.val t.isLt).2.1 = DK4 m c t (k0_pay3 (F := Ideal)) := by
  rw [outsAt0_A m c t h]
  frame_out
  rfl

theorem dv_reset (h : t.val % 16 = 0) : (outsAt0 m c t.val t.isLt).2.2 = DV4 m c t (k0_pay4 (F := Ideal)) := by
  rw [outsAt0_A m c t h]
  frame_out
  rfl

theorem dk_step (h : ¬t.val % 16 = 0) : (outsAt0 m c t.val t.isLt).2.1 = DK4 m c t (outsAt0 m c (t.val - 1) (Nat.lt_of_le_of_lt (Nat.sub_le _ _) t.isLt)).2.1 := by
  rw [outsAt0_B m c t h]
  frame_out
  rfl

theorem dv_step (h : ¬t.val % 16 = 0) : (outsAt0 m c t.val t.isLt).2.2 = DV4 m c t (outsAt0 m c (t.val - 1) (Nat.lt_of_le_of_lt (Nat.sub_le _ _) t.isLt)).2.2 := by
  rw [outsAt0_B m c t h]
  frame_out
  rfl

end Body

/-! ## The three results -/

variable (hf : Fin4 m c)

include hf in
/-- The queries' gradient: a point leaves its rows and its group's columns of it. -/
theorem dq_value : (dats m 0 c).arrAt 9 cfg0.N = dqa m c := by
  refine (dats m 0 c).arrAt_eq_of_covers 9 _ (by decide +kernel) fun t _ y => ?_
  blk_simp
  rw [after0_9]
  have hA : ∀ (k : Fin 4) o ho iq il hs z, DQ m c t k o iq il hs z = (fun z : S256x256.Idx => dqa m c (ix2 (row t (z 0)) (gcol (grp t) (z 1)))) (at4 k z) :=
    fun k o ho iq il hs z => by
      refine (DQ_at m c t k o ho _ _ _ hf z).trans ((dqa_at m c (grp t) k (row t (z 0)) (z 1)).symm.trans ?_)
      exact congrArg (fun n => dqa m c (ix2 (row t (z 0)) n)) (gcol_col (grp t) k _ rfl (z 1) _).symm
  have h3 := fun z => (congrFun (pay_dq3 m c t) z).trans (hA 3 192 rfl _ _ _ z)
  have h2 := fun z => (congrFun (pay_dq2 m c t) z).trans (hA 2 128 rfl _ _ _ z)
  have h1 := fun z => (congrFun (pay_dq1 m c t) z).trans (hA 1 64 rfl _ _ _ z)
  have h0 := fun z => (congrFun (pay_dq m c t) z).trans (hA 0 0 rfl _ _ _ z)
  trans dqa m c (ix2 (row t (y 0)) (gcol (grp t) (y 1)))
  · by_cases h : t.val % 16 = 0
    · rw [outsAt0_A m c t h]
      frame_out
      exact congrFun (canon_cols (fun z : S256x256.Idx => dqa m c (ix2 (row t (z 0)) (gcol (grp t) (z 1)))) h3 h2 h1 h0) y
    · rw [outsAt0_B m c t h]
      frame_out
      exact congrFun (canon_cols (fun z : S256x256.Idx => dqa m c (ix2 (row t (z 0)) (gcol (grp t) (z 1)))) h3 h2 h1 h0) y
  · refine congrArg _ ?_
    blk_ext [idx t, row, gcol, grp] <;> simp [Pipeline.WinKind.off]

/-- Row `a` of the block of point `n`, and the point's group. -/
def rowN (n : ℕ) (a : Fin 256) : Fin 4096 := ⟨n % 16 * 256 + a.val, by omega⟩
def grpN (n : ℕ) : Fin 2 := ⟨n / 16 % 2, by omega⟩

/-- The sum of a group's sixteen blocks' parts is the sum over all rows. -/
theorem sum_blocks (t : Fin cfg0.N) (f : Fin 4096 → Fin 2 → EReal) :
    ∑ k ∈ Finset.range (15 + 1), ∑ a, f (rowN (16 * (t.val / 16) + k) a) (grpN (16 * (t.val / 16) + k)) = ∑ i, f i (grp t) := by
  have ht := lt32 t
  rw [Finset.sum_range, Fin.sum_univ_tiles (M := EReal) 16 256 rfl]
  refine Finset.sum_congr rfl fun k _ => Finset.sum_congr rfl fun a _ => ?_
  have e1 : rowN (16 * (t.val / 16) + k.val) a = ⟨k.val * 256 + a.val, by omega⟩ := Fin.ext (by simp only [rowN]; omega)
  have e2 : grpN (16 * (t.val / 16) + k.val) = grp t := Fin.ext (by simp only [grpN, grp]; omega)
  rw [e1, e2]

theorem flush10 : ∀ t : Fin cfg0.N, (cfg0.win 10).flush t = true → t.val % 16 = 15 := by decide +kernel
theorem flush11 : ∀ t : Fin cfg0.N, (cfg0.win 11).flush t = true → t.val % 16 = 15 := by decide +kernel

theorem rowN_eq (t : Fin cfg0.N) (a : Fin 256) : row t a = rowN t.val a := rfl
theorem grpN_eq (t : Fin cfg0.N) : grp t = grpN t.val := Fin.ext (by have := lt32 t; simp only [grpN, grp]; omega)

include hf in
/-- The keys' gradient: a group's last point leaves the sum over all rows. -/
theorem dk_value : (dats m 0 c).arrAt 10 cfg0.N = dka m c := by
  refine (dats m 0 c).arrAt_eq_of_covers 10 _ (by decide +kernel) fun t hfl y => ?_
  blk_simp
  rw [after0_10, Pipeline.eq_sum_of_reset_step_apply_of_mod (fun n h => (outsAt0 m c n h).2.1) 16 (fun _ => 0)
    (fun n (z : S1x64x4096.Idx) => ∑ a : Fin 256, ∑ j : Fin 4, tk m c (rowN n a) (grpN n) (z 1) (z 2) j)
    (fun t h z => by
      refine (congrFun (dk_reset m c t h) z).trans ((DK4_at m c t _ hf z).trans ?_)
      rw [grpN_eq]
      refine congrArg (· + _) ?_
      pointwise [k0_pay3])
    (fun t h z => by
      refine (congrFun (dk_step m c t h) z).trans ((DK4_at m c t _ hf z).trans ?_)
      rw [grpN_eq]; rfl)
    t (flush10 t hfl) _, zero_add]
  refine (sum_blocks t fun i g => ∑ j : Fin 4, tk m c i g (y 1) (y 2) j).trans ?_
  show dka m c (ix3 (grp t) (y 1) (y 2)) = _
  refine congrArg _ ?_
  blk_ext [idx t, grp] <;> simp [Pipeline.WinKind.off]

include hf in
/-- The values' gradient, likewise. -/
theorem dv_value : (dats m 0 c).arrAt 11 cfg0.N = dva m c := by
  refine (dats m 0 c).arrAt_eq_of_covers 11 _ (by decide +kernel) fun t hfl y => ?_
  blk_simp
  rw [after0_11, Pipeline.eq_sum_of_reset_step_apply_of_mod (fun n h => (outsAt0 m c n h).2.2) 16 (fun _ => 0)
    (fun n (z : S1x64x4096.Idx) => ∑ a : Fin 256, ∑ j : Fin 4, tv m c (rowN n a) (grpN n) (z 1) (z 2) j)
    (fun t h z => by
      refine (congrFun (dv_reset m c t h) z).trans ((DV4_at m c t _ hf z).trans ?_)
      rw [grpN_eq]
      refine congrArg (· + _) ?_
      pointwise [k0_pay4])
    (fun t h z => by
      refine (congrFun (dv_step m c t h) z).trans ((DV4_at m c t _ hf z).trans ?_)
      rw [grpN_eq]; rfl)
    t (flush11 t hfl) _, zero_add]
  refine (sum_blocks t fun i g => ∑ j : Fin 4, tv m c i g (y 1) (y 2) j).trans ?_
  show dva m c (ix3 (grp t) (y 1) (y 2)) = _
  refine congrArg _ ?_
  blk_ext [idx t, grp] <;> simp [Pipeline.WinKind.off]

/-! ## The host's lines after the kernel -/

theorem tail_dq : Pipeline.afterTail₀ cfgs (dats m) 0 (V0 m) [hostOps1] c main_v55
    = shapeCast S4096x8x64 (mulf (F := Ideal) ((dats m 0 c).arrAt 9 cfg0.N) (broadcastInDim S4096x512 ![] bcast_S_S4096x512 (constant S_ .f32 0x3E000000#32))) shapeCasts_S4096x512_S4096x8x64 := by
  have h : Pipeline.withArrays spec0 c (V0 m c) (fun w => (dats m 0 c).arrAt w cfg0.N) (Proc.devRef .tc main_v52_0) = (dats m 0 c).arrAt 9 cfg0.N :=
    Pipeline.withArrays_arr spec0 (by decide) c _ _ 9
  rw [← h]
  show StableHlo.after hostOps1 _ (Proc.devRef .tc main_v55) = _
  after_results <;> rfl

theorem tail_dk : Pipeline.afterTail₀ cfgs (dats m) 0 (V0 m) [hostOps1] c main_v56
    = transpose S4096x2x64 [2, 0, 1] ((dats m 0 c).arrAt 10 cfg0.N) transposes_S2x64x4096_S4096x2x64_2_0_1 := by
  have h : Pipeline.withArrays spec0 c (V0 m c) (fun w => (dats m 0 c).arrAt w cfg0.N) (Proc.devRef .tc main_v52_1) = (dats m 0 c).arrAt 10 cfg0.N :=
    Pipeline.withArrays_arr spec0 (by decide) c _ _ 10
  rw [← h]
  show StableHlo.after hostOps1 _ (Proc.devRef .tc main_v56) = _
  after_results <;> rfl

theorem tail_dv : Pipeline.afterTail₀ cfgs (dats m) 0 (V0 m) [hostOps1] c main_v57
    = transpose S4096x2x64 [2, 0, 1] ((dats m 0 c).arrAt 11 cfg0.N) transposes_S2x64x4096_S4096x2x64_2_0_1 := by
  have h : Pipeline.withArrays spec0 c (V0 m c) (fun w => (dats m 0 c).arrAt w cfg0.N) (Proc.devRef .tc main_v52_2) = (dats m 0 c).arrAt 11 cfg0.N :=
    Pipeline.withArrays_arr spec0 (by decide) c _ _ 11
  rw [← h]
  show StableHlo.after hostOps1 _ (Proc.devRef .tc main_v57) = _
  after_results <;> rfl

/-! ## The results against the reference -/

theorem head_split (h : Fin 8) : ∃ (g : Fin 2) (j : Fin 4), h = head g j :=
  ⟨⟨h.val / 4, by omega⟩, ⟨h.val % 4, by omega⟩, Fin.ext (by simp only [head]; omega)⟩

theorem split_dq (X : FVec Ideal S4096x512 .f32) (i : Fin 4096) (g : Fin 2) (j : Fin 4) (d : Fin 64) :
    shapeCast S4096x8x64 (mulf (F := Ideal) X (broadcastInDim S4096x512 ![] bcast_S_S4096x512 (constant S_ .f32 0x3E000000#32))) shapeCasts_S4096x512_S4096x8x64
      (ix3 i (head g j) d) = X (ix2 i (col g j d)) * scale := by
  pointwise
  refine congrArg (fun n => X (ix2 i n) * scale) (Fin.ext ?_)
  simp only [head, col]; omega

theorem ref_split (q : Vec Ideal S4096x8x64 .f32) (k : Vec Ideal S4096x2x64 .f32) (pa : Vec Ideal S4096x1280 .f32) (dy : Vec Ideal S4096x512 .f32)
    (i : Fin 4096) (g : Fin 2) (j : Fin 4) (d : Fin 64) :
    val_main_v70 (F := Ideal) q k pa dy (ix3 i (head g j) d) = val_main_v66 (F := Ideal) q k pa dy (ix4 g j i d) := by
  pointwise [val_main_v70, val_main_v69, head]

include hf in
theorem dq_ref : Pipeline.afterTail₀ cfgs (dats m) 0 (V0 m) [hostOps1] c main_v55 = val_main_v70 (F := Ideal) (aq m c) (ak m c) (ap m c) (ay m c) := by
  rw [tail_dq, dq_value m c hf]
  funext z
  obtain ⟨g, j, hz⟩ := head_split (z 1)
  have e : z = ix3 (z 0) (head g j) (z 2) := by rw [← hz]; blk_ext
  rw [e]
  refine (split_dq _ _ g j _).trans (Eq.trans ?_ (ref_split _ _ _ _ _ g j _).symm)
  exact (congrArg (· * scale) (dqa_at m c g j (z 0) (z 2))).trans (ref_dq _ _ _ _ g j (z 0) (z 2) hf.1 hf.2.1 hf.2.2.1 hf.2.2.2).symm

include hf in
theorem dk_ref : Pipeline.afterTail₀ cfgs (dats m) 0 (V0 m) [hostOps1] c main_v56 = val_main_v68 (F := Ideal) (aq m c) (ak m c) (ap m c) (ay m c) := by
  rw [tail_dk, dk_value m c hf]
  funext z
  trans dka m c (ix3 (z 1) (z 2) (z 0))
  · pointwise
  · refine Eq.trans (ref_dk _ _ _ _ (z 1) (z 0) (z 2) hf.1 hf.2.1 hf.2.2.1 hf.2.2.2).symm ?_
    pointwise [val_main_v68]

include hf in
theorem dv_ref : Pipeline.afterTail₀ cfgs (dats m) 0 (V0 m) [hostOps1] c main_v57 = val_main_v67 (F := Ideal) (aq m c) (ak m c) (ap m c) (ay m c) := by
  rw [tail_dv, dv_value m c hf]
  funext z
  trans dva m c (ix3 (z 1) (z 2) (z 0))
  · pointwise
  · refine Eq.trans (ref_dv _ _ _ _ (z 1) (z 0) (z 2)).symm ?_
    pointwise [val_main_v67, val_main_v49]

/-- The whole run: the three results hold the reference's gradients, and the arguments are as they were. -/
theorem run_value (hf : ∀ c : Dev nD, Fin4 m c) : θ_run defs (onTc (τ := τ) (main (F := Ideal))) ⟨m, fun _ => 0, ρ⟩ (fun r => ∀ c : Dev nD,
      r.2.mem ((c.tc : Thread nD τ).loc main_v55) = val_main_v70 (F := Ideal) (aq m c) (ak m c) (ap m c) (ay m c)
      ∧ r.2.mem ((c.tc : Thread nD τ).loc main_v56) = val_main_v68 (F := Ideal) (aq m c) (ak m c) (ap m c) (ay m c)
      ∧ r.2.mem ((c.tc : Thread nD τ).loc main_v57) = val_main_v67 (F := Ideal) (aq m c) (ak m c) (ap m c) (ay m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).2 main_v55 (Pipeline.mem_restRefs_of main_v55 (by decide) (by decide))).trans (dq_ref m c (hf c)),
     ((h.1 c).2 main_v56 (Pipeline.mem_restRefs_of main_v56 (by decide) (by decide))).trans (dk_ref m c (hf c)),
     ((h.1 c).2 main_v57 (Pipeline.mem_restRefs_of main_v57 (by decide) (by decide))).trans (dv_ref m c (hf c)), h.2 c⟩)
    (θ_run_and (Gen.run_main m ρ) (Gen.unchanged m ρ))

end Cert.AttnIdeal.Whole
-- ==== Proof.AttnClaims.lean ====
/-
  The claims about the attention, backward: the kernel's frame, the reference's frame, and that both compute the same three gradients over the
  extended reals where the arguments are finite.
-/
module

public import proofs.«01_k».proof.Defs
public import proofs.«01_k».proof.Proof.AttnValue
public import proofs.«01_k».proof.Proof.Gen.Attn
public import Idealize.ShloMosaic.Lib.Quiescent

@[expose] public section

set_option maxRecDepth 16384

noncomputable section

namespace Cert.Proof.Attn

open Idealize.ShloMosaic Idealize.ShloMosaic.TcCoe Idealize.SL.Sem

attribute [local instance] Cert.Attn.Gen.facts Cert.AttnIdeal.Gen.facts Cert.AttnRefIdeal.Gen.facts

/-- The printed kernel's frame, from the one generated run at machine floats. -/
theorem frame_kernel : Cert.quiescent_Attn := fun m ρ _ =>
  cast (by sl_kernel_rfl) (Cert.AttnIdeal.Gen.frame (F := Bits) m ρ)
/-- The same run over the reals. -/
theorem frame_ideal : Cert.quiescent_AttnIdeal := fun m ρ _ => Cert.AttnIdeal.Gen.frame (F := Ideal) m ρ
/-- The reference, host operations only, leaves its arguments and has no semaphore. -/
theorem frame_reference : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run (F := Ideal) m ρ)
/-- What the precondition's text asks of shapes. -/
theorem pre_facts : Cert.Pre_finite_attn.Facts := ⟨by decide, by decide, by decide, by decide⟩

attribute [local instance] pre_facts

/-- The run over the reals, where the arguments are finite. -/
theorem frame_ideal_finite : Cert.quiescent_AttnIdeal_pre_finite_attn := fun m ρ _ => Cert.AttnIdeal.Gen.frame (F := Ideal) m ρ
/-- The reference's, where they are finite. -/
theorem frame_reference_finite : Cert.quiescent_AttnRefIdeal_pre_finite_attn := fun m ρ _ => frame_reference m ρ trivial

/-- The precondition says that the four arguments' entries are reals. -/
theorem finite (m) (h : Cert.Pre_AttnIdeal_finite_attn m) (c : Dev Cert.AttnIdeal.nD) : Cert.AttnIdeal.Whole.Fin4 m c :=
  ⟨Alg.finite_of _ _ (fun _ => rfl) (h c).1, Alg.finite_of _ _ (fun _ => rfl) (h c).2.1, Alg.finite_of _ _ (fun _ => rfl) (h c).2.2.1,
    Alg.finite_of _ _ (fun _ => rfl) (h c).2.2.2⟩

/-- The reference's three results are the kernel's. -/
theorem algebraic : Cert.algebraic_AttnIdeal_AttnRefIdeal_pre_finite_attn := by
  pair_intro
  · run_from Cert.AttnIdeal.Whole.run_value m g (finite m hpre)
  · refine (θ_run Cert.AttnRefIdeal.defs _ _).mono (fun r h c => ?_) (Cert.AttnRefIdeal.Value.run (F := Ideal) m' g')
    obtain ⟨e0, e1, e2, e3⟩ := hagree c
    refine ⟨((h c).1.trans (Cert.AttnRefIdeal.Read.val_main_v70_eq (F := Ideal) m' c)).trans ?_,
      ((h c).2.1.trans (Cert.AttnRefIdeal.Read.val_main_v68_eq (F := Ideal) m' c)).trans ?_,
      ((h c).2.2.1.trans (Cert.AttnRefIdeal.Read.val_main_v67_eq (F := Ideal) _ _ _ _)).trans ?_, (h c).2.2.2⟩
    · rw [e0, e1, e2, e3]
    · rw [e0, e1, e2, e3]
    · rw [e0, e1, e2, e3]

end Cert.Proof.Attn
-- ==== Proof.Online.lean ====
/-
  A softmax taken in two chunks: the second chunk's maximum rescales what the first one summed.
-/
module

public import proofs.«01_k».proof.Proof.Softmax

@[expose] public section

noncomputable section

namespace Cert.Alg

open Idealize.ShloMosaic

/-- Key `n` of the first chunk, and of the second. -/
def lo (n : Fin 2048) : Fin 4096 := ⟨n.val, by omega⟩
def hi (n : Fin 2048) : Fin 4096 := ⟨2048 + n.val, by omega⟩

/-- A sum over the keys, chunk by chunk. -/
theorem sum_chunks {M : Type} [AddCommMonoid M] (f : Fin 4096 → M) : ∑ n, f n = ∑ n, f (lo n) + ∑ n, f (hi n) :=
  Fin.sum_univ_add (a := 2048) (b := 2048) f

/-- A maximum over the keys, chunk by chunk. -/
theorem max_chunks (f : Fin 4096 → EReal) : Finset.univ.fold max ⊥ f
    = max (Finset.univ.fold max ⊥ fun n => f (lo n)) (Finset.univ.fold max ⊥ fun n => f (hi n)) := by
  have key : ∀ b : EReal, Finset.univ.fold max ⊥ f ≤ b
      ↔ max (Finset.univ.fold max ⊥ fun n => f (lo n)) (Finset.univ.fold max ⊥ fun n => f (hi n)) ≤ b := fun b => by
    simp only [max_le_iff, Finset.fold_max_le, bot_le, true_and, Finset.mem_univ, forall_true_left]
    constructor
    · exact fun h => ⟨fun n => h _, fun n => h _⟩
    · intro h n
      by_cases hn : n.val < 2048
      · exact h.1 ⟨n.val, hn⟩
      · have e : n = hi ⟨n.val - 2048, by omega⟩ := Fin.ext (by simp only [hi]; omega)
        rw [e]; exact h.2 _
  exact le_antisymm ((key _).2 le_rfl) ((key _).1 le_rfl)

variable (s v : Fin 4096 → ℝ) (m M : ℝ)

/-- The exponentials' sum. -/
theorem online_sum : (∑ n : Fin 2048, Ideal.exp ((s (lo n) : EReal) - m)) * Ideal.exp ((m : EReal) - M) + ∑ n : Fin 2048, Ideal.exp ((s (hi n) : EReal) - M)
    = ∑ n : Fin 4096, Ideal.exp ((s n : EReal) - M) := by
  simp only [← EReal.coe_sub, Ideal.exp_coe, sum_coe, ← EReal.coe_mul, ← EReal.coe_add]
  rw [EReal.coe_eq_coe_iff, sum_chunks, Finset.sum_mul]
  refine congrArg (· + _) (Finset.sum_congr rfl fun n _ => ?_)
  rw [← Real.exp_add]; exact congrArg Real.exp (by ring)

/-- The values' sum weighted with the exponentials. -/
theorem online_mean : (∑ n : Fin 2048, (v (lo n) : EReal) * Ideal.exp ((s (lo n) : EReal) - m)) * Ideal.exp ((m : EReal) - M)
      + ∑ n : Fin 2048, (v (hi n) : EReal) * Ideal.exp ((s (hi n) : EReal) - M)
    = ∑ n : Fin 4096, (v n : EReal) * Ideal.exp ((s n : EReal) - M) := by
  simp only [← EReal.coe_sub, Ideal.exp_coe, ← EReal.coe_mul, sum_coe, ← EReal.coe_add]
  rw [EReal.coe_eq_coe_iff, sum_chunks, Finset.sum_mul]
  refine congrArg (· + _) (Finset.sum_congr rfl fun n _ => ?_)
  rw [mul_assoc, ← Real.exp_add]; exact congrArg (v _ * Real.exp ·) (by ring)

/-- Dividing the weighted sum is weighting with the quotients. -/
theorem div_mean (T : ℝ) (hT : T ≠ 0) : Ideal.div (∑ n : Fin 4096, (v n : EReal) * (s n : EReal)) (T : EReal)
    = ∑ n : Fin 4096, Ideal.div (s n : EReal) (T : EReal) * (v n : EReal) := by
  simp only [Ideal.div_coe hT, ← EReal.coe_mul, sum_coe]
  rw [EReal.coe_eq_coe_iff, Finset.sum_mul]
  exact Finset.sum_congr rfl fun n _ => by ring

end Cert.Alg
-- ==== Proof.AttnFwdRef.lean ====
/-
  The attention's forward results, as the reference computes them, at one row of one head.
-/
module

public import proofs.«01_k».proof.Proof.Gen.AttnFwdRefIdeal.Read
public import proofs.«01_k».proof.Proof.AttnRef
public import proofs.«01_k».proof.Proof.Online

@[expose] public section

set_option maxRecDepth 16384

noncomputable section

namespace Cert.AttnFwdRefIdeal.Point

open Cert.AttnFwdRefIdeal Cert.AttnFwdRefIdeal.Gen Cert.AttnFwdRefIdeal.Read
open Cert.AttnRefIdeal.Point (head col val score top expo total prob out scale lit_scale)
open Idealize.ShloMosaic Idealize.ShloMosaic.TcCoe Idealize.SL.Sem

variable (q : Vec Ideal S4096x8x64 .f32) (k : Vec Ideal S4096x2x64 .f32) (pa : Vec Ideal S4096x1280 .f32)
  (g : Fin 2) (j : Fin 4) (i n : Fin 4096) (d : Fin 64)

theorem ref_score : val_main_v11 (F := Ideal) q k (ix4 g j i n) = score q k g j i n :=
  (congrFun (show val_main_v11 (F := Ideal) q k = Cert.AttnRefIdeal.Read.val_main_v11 (F := Ideal) q k from rfl) _).trans
    (Cert.AttnRefIdeal.Point.ref_score q k g j i n)

theorem ref_top : val_main_v26 (F := Ideal) q k (ix3 g j i) = top q k g j i :=
  (congrFun (show val_main_v26 (F := Ideal) q k = Cert.AttnRefIdeal.Read.val_main_v12 (F := Ideal) q k from rfl) _).trans
    (Cert.AttnRefIdeal.Point.ref_top q k g j i)

theorem ref_total : val_main_v31 (F := Ideal) q k (ix3 g j i) = total q k g j i := by
  have h := fun n => ref_score q k g j i n
  have hm := ref_top q k g j i
  unfold Cert.AttnRefIdeal.Point.total Cert.AttnRefIdeal.Point.expo
  pointwise [val_main_v31, val_main_cst_4, val_main_v30, val_main_v29, val_main_v28, val_main_v27, h, hm]

/-- The rows' means of the values are those that the gradient's reference takes. -/
theorem ref_o : val_main_v25 (F := Ideal) q k pa (ix2 i (col g j d)) = out q k pa g j i d :=
  (congrFun (show val_main_v25 (F := Ideal) q k pa = Cert.AttnRefIdeal.Read.val_main_v42 (F := Ideal) q k pa from rfl) _).trans
    (Cert.AttnRefIdeal.Point.ref_o q k pa g j i d)

/-- A logarithm of a row's sum from the row's maximum and the sum less the maximum. -/
def lg (A B : FVec Ideal S2x4x4096 .f32) : FVec Ideal S2x4096x4 .f32 := transpose S2x4096x4 [0, 2, 1] (shapeCast S2x4x4096
  (addf (F := Ideal) (broadcastInDim S2x4x4096x1 ![0, 1, 2] bcast_S2x4x4096_S2x4x4096x1_0_1_2 A)
    (Host.log (F := Ideal) (broadcastInDim S2x4x4096x1 ![0, 1, 2] bcast_S2x4x4096_S2x4x4096x1_0_1_2 B))) shapeCasts_S2x4x4096x1_S2x4x4096) transposes_S2x4x4096_S2x4096x4_0_2_1

theorem lg_at (A B : FVec Ideal S2x4x4096 .f32) : lg A B (ix3 g i j) = A (ix3 g j i) + Ideal.log (B (ix3 g j i)) := by
  pointwise [lg]

/-- The logarithm of a row's sum of exponentials. -/
theorem ref_lse : val_main_v36 (F := Ideal) q k (ix3 g i j) = top q k g j i + Ideal.log (total q k g j i) := by
  rw [← ref_top, ← ref_total]
  exact (congrFun (show val_main_v36 (F := Ideal) q k = lg (val_main_v26 (F := Ideal) q k) (val_main_v31 (F := Ideal) q k) from rfl) _).trans (lg_at g j i _ _)

/-- The gated means. -/
theorem ref_y (n : Fin 512) : val_main_v39 (F := Ideal) q k pa (ix2 i n) = val_main_v25 (F := Ideal) q k pa (ix2 i n)
    * (pa (ix2 i ⟨768 + n.val, by omega⟩) * Ideal.div (Ideal.ofBits .f32 0x3F800000#32)
      (Ideal.ofBits .f32 0x3F800000#32 + Ideal.exp (-pa (ix2 i ⟨768 + n.val, by omega⟩)))) := by
  pointwise [val_main_v39, val_main_v38, val_main_v37, val_main_call0_v5, val_main_call0_v4, val_main_call0_v3, val_main_call0_v2,
    val_main_call0_v1, val_main_call0_v0, val_main_call0_cst, val_main_call0_cst_0, val_main_v3]

end Cert.AttnFwdRefIdeal.Point
-- ==== Proof.AttnFwdRows.lean ====
/-
  What the attention's forward kernel computes of its blocks for one head, keys in two chunks of 2048, against the reference.
-/
module

public import proofs.«01_k».proof.Proof.Gen.AttnFwdIdeal.Frame
public import proofs.«01_k».proof.Proof.AttnFwdRef
public import Idealize.ShloMosaic.Lib.Pipeline.ValueKit

@[expose] public section

set_option maxRecDepth 16384

noncomputable section

namespace Cert.AttnFwdIdeal.Rows

open Cert.AttnFwdIdeal Cert.AttnFwdIdeal.Gen Cert.Alg
open Cert.AttnRefIdeal.Point (head col val score top expo total prob out scale score_real top_real)
open Idealize.ShloMosaic Idealize.ShloMosaic.TcCoe Idealize.SL.Sem

/-- The means of a head from the two chunks of its keys and values and its queries. -/
def HO (K0 K1 : Vec Ideal S1x2048x64 .bf16) (V0 V1 : Vec Ideal S64x2048 .bf16) (Q : Vec Ideal S64x512 .bf16) : FVec Ideal S64x512 .f32 :=
  k0_pay15 (k0_pay6 K0 Q) (k0_pay8 K0 Q V0) (k0_pay10 K0 Q K1 Q) (k0_pay11 K0 Q K1 Q) V1

/-- The logarithms of the rows' sums of exponentials of a head. -/
def HL (K0 K1 : Vec Ideal S1x2048x64 .bf16) (Q : Vec Ideal S64x512 .bf16) : FVec Ideal S1x512 .f32 :=
  k0_pay13 (k0_pay6 K0 Q) (k0_pay9 K0 Q K1 Q) (k0_pay10 K0 Q K1 Q) (k0_pay11 K0 Q K1 Q)

variable (q : Vec Ideal S4096x8x64 .f32) (k : Vec Ideal S4096x2x64 .f32) (pa : Vec Ideal S4096x1280 .f32)
  (hq : ∀ i, ∃ r : ℝ, q i = (r : EReal)) (hk : ∀ i, ∃ r : ℝ, k i = (r : EReal)) (hpa : ∀ i, ∃ r : ℝ, pa i = (r : EReal))
  (row : Fin 512 → Fin 4096) (g : Fin 2) (j : Fin 4)
  (K0 K1 : Vec Ideal S1x2048x64 .bf16) (V0 V1 : Vec Ideal S64x2048 .bf16) (Q : Vec Ideal S64x512 .bf16)
  (hQ : ∀ z : S64x512.Idx, Q z = q (ix3 (row (z 1)) (head g j) (z 0)) * scale)
  (hK0 : ∀ z : S1x2048x64.Idx, K0 z = k (ix3 (lo (z 1)) g (z 2)))
  (hK1 : ∀ z : S1x2048x64.Idx, K1 z = k (ix3 (hi (z 1)) g (z 2)))
  (hV0 : ∀ z : S64x2048.Idx, V0 z = val pa g (lo (z 1)) (z 0))
  (hV1 : ∀ z : S64x2048.Idx, V1 z = val pa g (hi (z 1)) (z 0))

/-- The maximum of the first chunk's scores. -/
def m0 (i : Fin 4096) : EReal := Finset.univ.fold max ⊥ fun n : Fin 2048 => score q k g j i (lo n)

include hQ in
theorem score_point (K : Vec Ideal S1x2048x64 .bf16) (key : Fin 2048 → Fin 4096) (hK : ∀ z : S1x2048x64.Idx, K z = k (ix3 (key (z 1)) g (z 2)))
    (z : S2048x512.Idx) : k0_pay2 (F := Ideal) K Q z = score q k g j (row (z 1)) (key (z 0)) := by
  unfold Cert.AttnRefIdeal.Point.score
  rw [scale, Cert.AttnRefIdeal.Point.lit_scale, Alg.sum_mul_coe (by norm_num), ← Cert.AttnRefIdeal.Point.lit_scale]
  trans ∑ d : Fin 64, k (ix3 (key (z 0)) g d) * (q (ix3 (row (z 1)) (head g j) d) * scale)
  · pointwise [k0_pay2, hQ, hK]
  · exact Finset.sum_congr rfl fun n _ => (mul_comm (_ : EReal) _).trans (mul_right_comm (_ : EReal) _ _)

include hQ hK0 in
theorem m0_point (z : S1x512.Idx) : k0_pay4 (F := Ideal) K0 Q z = m0 q k g j (row (z 1)) := by
  have h := fun z => score_point q k row g j Q hQ K0 lo hK0 z
  unfold m0; rw [← Alg.lit_bot]
  pointwise [k0_pay4, h]

include hQ hK0 in
theorem p0_point (z : S2048x512.Idx) : k0_pay5 (F := Ideal) K0 Q z = Ideal.exp (score q k g j (row (z 1)) (lo (z 0)) - m0 q k g j (row (z 1))) := by
  have h := fun z => score_point q k row g j Q hQ K0 lo hK0 z
  have h0 := fun z => m0_point q k row g j K0 Q hQ hK0 z
  pointwise [k0_pay5, h, h0]

include hQ hK0 in
theorem l0_point (z : S1x512.Idx) : k0_pay6 (F := Ideal) K0 Q z
    = ∑ n : Fin 2048, Ideal.exp (score q k g j (row (z 1)) (lo n) - m0 q k g j (row (z 1))) := by
  have h := fun z => p0_point q k row g j K0 Q hQ hK0 z
  pointwise [k0_pay6, h]

include hQ hK0 hV0 in
theorem o0_point (z : S64x512.Idx) : k0_pay8 (F := Ideal) K0 Q V0 z
    = ∑ n : Fin 2048, val pa g (lo n) (z 0) * Ideal.exp (score q k g j (row (z 1)) (lo n) - m0 q k g j (row (z 1))) := by
  have h := fun z => p0_point q k row g j K0 Q hQ hK0 z
  pointwise [k0_pay8, h, hV0]

include hQ hK0 hK1 in
theorem top_point (z : S1x512.Idx) : k0_pay9 (F := Ideal) K0 Q K1 Q z = top q k g j (row (z 1)) := by
  have h := fun z => score_point q k row g j Q hQ K1 hi hK1 z
  have h0 := fun z => m0_point q k row g j K0 Q hQ hK0 z
  have e := max_chunks fun n => score q k g j (row (z 1)) n
  unfold Cert.AttnRefIdeal.Point.top
  rw [e]
  trans max (m0 q k g j (row (z 1))) (Finset.univ.fold max (Ideal.ofBits .f32 0xFF800000#32) fun n : Fin 2048 => score q k g j (row (z 1)) (hi n))
  · have h' : ∀ z, k0_pay3 (F := Ideal) K1 Q z = score q k g j (row (z 1)) (hi (z 0)) := h
    pointwise [k0_pay9, h', h0]
  · rw [Alg.lit_bot]; rfl

include hQ hK0 hK1 in
theorem alpha_point (z : S1x512.Idx) : k0_pay10 (F := Ideal) K0 Q K1 Q z = Ideal.exp (m0 q k g j (row (z 1)) - top q k g j (row (z 1))) := by
  have h := fun z => top_point q k row g j K0 K1 Q hQ hK0 hK1 z
  have h0 := fun z => m0_point q k row g j K0 Q hQ hK0 z
  pointwise [k0_pay10, h, h0]

include hQ hK0 hK1 in
theorem p1_point (z : S2048x512.Idx) : k0_pay11 (F := Ideal) K0 Q K1 Q z = expo q k g j (row (z 1)) (hi (z 0)) := by
  have h' : ∀ z, k0_pay3 (F := Ideal) K1 Q z = score q k g j (row (z 1)) (hi (z 0)) := fun z => score_point q k row g j Q hQ K1 hi hK1 z
  have h0 := fun z => top_point q k row g j K0 K1 Q hQ hK0 hK1 z
  unfold Cert.AttnRefIdeal.Point.expo
  pointwise [k0_pay11, h', h0]

include hq hk in
/-- The first chunk's maximum is finite. -/
theorem m0_real (i : Fin 4096) : ∃ r : ℝ, m0 q k g j i = (r : EReal) := by
  choose s hs using fun n => score_real q k g j i n hq hk
  unfold m0; simp only [hs]; exact Alg.fold_max_coe (n := 2047) fun n => s (lo n)

include hq hk hQ hK0 hK1 in
/-- The exponentials' sum. -/
theorem total_point (z : S1x512.Idx) : k0_pay12 (F := Ideal) (k0_pay6 K0 Q) (k0_pay10 K0 Q K1 Q) (k0_pay11 K0 Q K1 Q) z = total q k g j (row (z 1)) := by
  have h1 := fun z => l0_point q k row g j K0 Q hQ hK0 z
  have h2 := fun z => alpha_point q k row g j K0 K1 Q hQ hK0 hK1 z
  have h3 := fun z => p1_point q k row g j K0 K1 Q hQ hK0 hK1 z
  choose s hs using fun n => score_real q k g j (row (z 1)) n hq hk
  obtain ⟨M, hM⟩ := top_real q k g j (row (z 1)) hq hk
  obtain ⟨m, hm⟩ := m0_real q k hq hk g j (row (z 1))
  trans (∑ n : Fin 2048, Ideal.exp (score q k g j (row (z 1)) (lo n) - m0 q k g j (row (z 1)))) * Ideal.exp (m0 q k g j (row (z 1)) - top q k g j (row (z 1)))
    + ∑ n : Fin 2048, expo q k g j (row (z 1)) (hi n)
  · generalize k0_pay6 (F := Ideal) K0 Q = A at *
    generalize k0_pay10 (F := Ideal) K0 Q K1 Q = B at *
    generalize k0_pay11 (F := Ideal) K0 Q K1 Q = C at *
    pointwise [k0_pay12, h1, h2, h3]
  · unfold Cert.AttnRefIdeal.Point.total Cert.AttnRefIdeal.Point.expo
    simp only [hs, hM, hm]
    exact online_sum s m M

include hq hk hQ hK0 hK1 in
/-- The logarithms of the rows' sums. -/
theorem HL_point (z : S1x512.Idx) : HL K0 K1 Q z = top q k g j (row (z 1)) + Ideal.log (total q k g j (row (z 1))) := by
  have h1 := fun z => total_point q k hq hk row g j K0 K1 Q hQ hK0 hK1 z
  have h2 := fun z => top_point q k row g j K0 K1 Q hQ hK0 hK1 z
  unfold HL
  generalize k0_pay9 (F := Ideal) K0 Q K1 Q = B at *
  pointwise [k0_pay13, h1, h2]

include hq hk hpa hQ hK0 hK1 hV0 hV1 in
/-- The means. -/
theorem HO_point (z : S64x512.Idx) : HO K0 K1 V0 V1 Q z = out q k pa g j (row (z 1)) (z 0) := by
  have h0 := fun z => total_point q k hq hk row g j K0 K1 Q hQ hK0 hK1 z
  have h1 := fun z => o0_point q k pa row g j K0 V0 Q hQ hK0 hV0 z
  have h2 := fun z => alpha_point q k row g j K0 K1 Q hQ hK0 hK1 z
  have h3 := fun z => p1_point q k row g j K0 K1 Q hQ hK0 hK1 z
  choose s hs using fun n => score_real q k g j (row (z 1)) n hq hk
  obtain ⟨M, hM⟩ := top_real q k g j (row (z 1)) hq hk
  obtain ⟨m, hm⟩ := m0_real q k hq hk g j (row (z 1))
  choose v hv using fun n : Fin 4096 => show ∃ r : ℝ, val pa g n (z 0) = (r : EReal) from hpa _
  trans Ideal.div ((∑ n : Fin 2048, val pa g (lo n) (z 0) * Ideal.exp (score q k g j (row (z 1)) (lo n) - m0 q k g j (row (z 1))))
      * Ideal.exp (m0 q k g j (row (z 1)) - top q k g j (row (z 1))) + ∑ n : Fin 2048, val pa g (hi n) (z 0) * expo q k g j (row (z 1)) (hi n))
    (total q k g j (row (z 1)))
  · unfold HO
    generalize k0_pay6 (F := Ideal) K0 Q = A at *
    generalize k0_pay8 (F := Ideal) K0 Q V0 = D at *
    generalize k0_pay10 (F := Ideal) K0 Q K1 Q = B at *
    generalize k0_pay11 (F := Ideal) K0 Q K1 Q = C at *
    pointwise [k0_pay15, h0, h1, h2, h3, hV1]
  · have he : ∀ n, expo q k g j (row (z 1)) n = ((Real.exp (s n - M) : ℝ) : EReal) := fun n => by
      rw [Cert.AttnRefIdeal.Point.expo, hs, hM, ← EReal.coe_sub, Ideal.exp_coe]
    have hpos : 0 < ∑ n : Fin 4096, Real.exp (s n - M) := Finset.sum_pos (fun n _ => Real.exp_pos _) Finset.univ_nonempty
    have hT : total q k g j (row (z 1)) = ((∑ n : Fin 4096, Real.exp (s n - M) : ℝ) : EReal) := by
      unfold Cert.AttnRefIdeal.Point.total; simp only [he]; exact Alg.sum_coe _ _
    unfold Cert.AttnRefIdeal.Point.out Cert.AttnRefIdeal.Point.prob
    rw [hT]
    simp only [hv, he]
    rw [← div_mean _ _ _ hpos.ne']
    refine congrArg (Ideal.div · _) ?_
    have h := online_mean s v m M
    simp only [hs, hM, hm, ← EReal.coe_sub, Ideal.exp_coe] at h ⊢
    exact h

end Cert.AttnFwdIdeal.Rows
-- ==== Proof.AttnFwdHost.lean ====
/-
  The arrays that the attention's forward call is given, and the blocks of them that a grid point reads.
-/
module

public import proofs.«01_k».proof.Proof.AttnFwdRows
public import proofs.«01_k».proof.Proof.AttnPoint
public import Idealize.ShloMosaic.Lib.Pipeline.ReadBack

@[expose] public section

set_option maxRecDepth 16384

noncomputable section

namespace Cert.AttnFwdIdeal.Host

open Cert.AttnFwdIdeal Cert.AttnFwdIdeal.Gen Cert.AttnFwdIdeal.Rows Cert.Alg
open Cert.AttnRefIdeal.Point (head col val score top expo total prob out scale)
open Cert.AttnIdeal.Whole (ld2)
open Idealize.ShloMosaic Idealize.ShloMosaic.TcCoe Idealize.SL.Sem

variable (m : (ℓ : Loc nD τ sig) → Buf (Elt Ideal) ℓ) (c : Dev nD) (g : Fin 2) (j : Fin 4) (i n : Fin 4096) (d : Fin 64)

/-- The queries, the keys and the projected rows on a device. -/
abbrev aq : Vec Ideal S4096x8x64 .f32 := m ((c : Thread nD τ).loc main_arg0)
abbrev ak : Vec Ideal S4096x2x64 .f32 := m ((c : Thread nD τ).loc main_arg1)
abbrev ap : Vec Ideal S4096x1280 .f32 := m ((c : Thread nD τ).loc main_arg2)

/-- The scaled queries with the heads side by side. -/
def qs : Vec Ideal S4096x512 .f32 := mulf (F := Ideal) (shapeCast S4096x512 (aq m c) shapeCasts_S4096x8x64_S4096x512)
  (broadcastInDim S4096x512 ![] bcast_S_S4096x512 (constant S_ .f32 0x3E000000#32))

/-- The queries, transposed. -/
theorem host_qT : V m c main_v11 (ix2 (col g j d) i) = aq m c (ix3 i (head g j) d) * scale := by
  have h : V m c main_v11 = truncf (F := Ideal) .bf16 (transpose S512x4096 [1, 0] (qs m c) transposes_S4096x512_S512x4096_1_0) bitsLt_bf16_f32 := by
    show StableHlo.after hostOps0 _ (Proc.devRef .tc main_v11) = _
    after_results <;> rfl
  rw [h]; pointwise [qs, col, head]
  exact congrArg (fun h => aq m c (ix3 i h d) * scale) (Fin.ext (by show (g.val * 256 + j.val * 64 + d.val) / 64 = g.val * 4 + j.val; omega))

/-- The keys with the heads side by side. -/
def ks : Vec Ideal S4096x128 .f32 := shapeCast S4096x128 (ak m c) shapeCasts_S4096x2x64_S4096x128

/-- The keys, head by head. -/
theorem host_k : V m c main_v9 (ix3 g n d) = ak m c (ix3 n g d) := by
  have h : V m c main_v9 = truncf (F := Ideal) (s := S2x4096x64) .bf16 (concatenate S2x4096x64 0
      [⟨S1x4096x64, broadcastInDim S1x4096x64 ![1, 2] bcast_S4096x64_S1x4096x64_1_2 (extractStridedSlice S4096x64 ![0, 0] (ks m c) slices_S4096x128_S4096x64_0_0)⟩,
       ⟨S1x4096x64, broadcastInDim S1x4096x64 ![1, 2] bcast_S4096x64_S1x4096x64_1_2 (extractStridedSlice S4096x64 ![0, 64] (ks m c) slices_S4096x128_S4096x64_0_64)⟩]
      concatenates_S1x4096x64_S1x4096x64_S2x4096x64_d0) bitsLt_bf16_f32 := by
    show StableHlo.after hostOps0 _ (Proc.devRef .tc main_v9) = _
    after_results <;> rfl
  rw [h]
  fin_cases g
  · pointwise [ks]
    have h1 : (⟨d.val / 64, by omega⟩ : Fin 2) = 0 := Fin.ext (by show d.val / 64 = 0; omega)
    have h2 : (⟨d.val % 64, by omega⟩ : Fin 64) = d := Fin.ext (by show d.val % 64 = d.val; omega)
    exact congrArg₂ (fun a b => ak m c (ix3 n a b)) h1 h2
  · pointwise [ks]
    have h1 : (⟨(64 + d.val) / 64, by omega⟩ : Fin 2) = 1 := Fin.ext (by show (64 + d.val) / 64 = 1; omega)
    exact congrArg (fun a => ak m c (ix3 n a d)) h1

/-- The values, transposed. -/
theorem host_vT : V m c main_v14 (ix2 ⟨g.val * 64 + d.val, by omega⟩ n) = val (ap m c) g n d := by
  have h : V m c main_v14 = truncf (F := Ideal) .bf16 (transpose S128x4096 [1, 0] (extractStridedSlice S4096x128 ![0, 640] (ap m c) slices_S4096x1280_S4096x128_0_640)
      transposes_S4096x128_S128x4096_1_0) bitsLt_bf16_f32 := by
    show StableHlo.after hostOps0 _ (Proc.devRef .tc main_v14) = _
    after_results <;> rfl
  rw [h]; unfold Cert.AttnRefIdeal.Point.val; pointwise

/-- The projected rows. -/
theorem host_pa : V m c main_v15 = (fun z => ap m c z) := by
  have h : V m c main_v15 = truncf (F := Ideal) (s := S4096x1280) .bf16 (ap m c) bitsLt_bf16_f32 := by
    show StableHlo.after hostOps0 _ (Proc.devRef .tc main_v15) = _
    after_results <;> rfl
  rw [h]; rfl

/-! ## Blocks -/

/-- The block indices of the windows. -/
theorem idx : ∀ t : Fin cfg0.N, win0_0.index t = ![0, t.val] ∧ win0_1.index t = ![0, 0, 0] ∧ win0_2.index t = ![0, 0] ∧ win0_3.index t = ![t.val, 0]
    ∧ win0_4.index t = ![t.val, 0] ∧ win0_5.index t = ![0, t.val, 0] ∧ win0_6.index t = ![t.val, 0] :=
  (by decide +kernel : ∀ t : Fin grid0.N, _)

theorem lt8 (t : Fin cfg0.N) : t.val < 8 := t.isLt

/-- The row of the array that a row of point `t`'s block is. -/
def row (t : Fin cfg0.N) (i : Fin 512) : Fin 4096 := ⟨t.val * 512 + i.val, by have := lt8 t; omega⟩

variable (t : Fin cfg0.N)

theorem blk_qT (z : S512x512.Idx) : iblk m c 0 t z = V m c main_v11 (ix2 (z 0) (row t (z 1))) := by
  blk_point [iblk, idx t, row]

theorem blk_k (z : S2x4096x64.Idx) : iblk m c 1 t z = V m c main_v9 z := by
  blk_point [iblk, idx t]

theorem blk_vT (z : S128x4096.Idx) : iblk m c 2 t z = V m c main_v14 z := by
  blk_point [iblk, idx t]

theorem blk_pa (z : S512x1280.Idx) : iblk m c 3 t z = ap m c (ix2 (row t (z 0)) (z 1)) := by
  refine Eq.trans (b := V m c main_v15 (ix2 (row t (z 0)) (z 1))) ?_ (congrFun (host_pa m c) _)
  blk_point [iblk, idx t, row]

/-! ## Loads -/

/-- A load of one chunk of a key head. -/
theorem ldk (X : Vec Ideal S2x4096x64 .bf16) (gn r : ℕ) (hg : gn = g.val) (inb : ∀ x : Fin 3, (![gn, r, 0] : Fin 3 → ℕ) x + (![1, 2048, 64] : Fin 3 → ℕ) x ≤ S2x4096x64.size x)
    (z : S1x2048x64.Idx) : View.ld (Val := Elt Ideal) X (Rect.unit (s := S2x4096x64) ![gn, r, 0] ![1, 2048, 64] inb) z
      = X (ix3 g ⟨r + (z 1).val, by have h : (z 1).val < 2048 := (z 1).isLt; have h' : r + 2048 ≤ 4096 := inb 1; omega⟩ (z 2)) := by
  have h0 : (z 0).val < 1 := (z 0).isLt
  refine congrArg X (funext fun x => Fin.ext ((Rect.idx_unit_val _ _ _ _ _).trans ?_))
  fin_cases x <;> simp <;> omega

section Head
variable (o gn vo : ℕ) (ho : o = g.val * 256 + j.val * 64) (hg : gn = g.val) (hv : vo = g.val * 64)
  (iq : ∀ x : Fin 2, (![o, 0] : Fin 2 → ℕ) x + (![64, 512] : Fin 2 → ℕ) x ≤ S512x512.size x)
  (ik0 : ∀ x : Fin 3, (![gn, 0, 0] : Fin 3 → ℕ) x + (![1, 2048, 64] : Fin 3 → ℕ) x ≤ S2x4096x64.size x)
  (ik1 : ∀ x : Fin 3, (![gn, 2048, 0] : Fin 3 → ℕ) x + (![1, 2048, 64] : Fin 3 → ℕ) x ≤ S2x4096x64.size x)
  (iv0 : ∀ x : Fin 2, (![vo, 0] : Fin 2 → ℕ) x + (![64, 2048] : Fin 2 → ℕ) x ≤ S128x4096.size x)
  (iv1 : ∀ x : Fin 2, (![vo, 2048] : Fin 2 → ℕ) x + (![64, 2048] : Fin 2 → ℕ) x ≤ S128x4096.size x)
  (x0 : Vec Ideal S512x512 .bf16) (x1 : Vec Ideal S2x4096x64 .bf16) (x2 : Vec Ideal S128x4096 .bf16)

/-- The means of a head, of a point's blocks. -/
def MO : FVec Ideal S64x512 .f32 := HO (View.ld (Val := Elt Ideal) x1 (Rect.unit (s := S2x4096x64) ![gn, 0, 0] ![1, 2048, 64] ik0))
  (View.ld (Val := Elt Ideal) x1 (Rect.unit (s := S2x4096x64) ![gn, 2048, 0] ![1, 2048, 64] ik1))
  (View.ld (Val := Elt Ideal) x2 (Rect.unit (s := S128x4096) ![vo, 0] ![64, 2048] iv0)) (View.ld (Val := Elt Ideal) x2 (Rect.unit (s := S128x4096) ![vo, 2048] ![64, 2048] iv1))
  (View.ld (Val := Elt Ideal) x0 (Rect.unit (s := S512x512) ![o, 0] ![64, 512] iq))

/-- The logarithms of a head's sums of exponentials. -/
def ML : FVec Ideal S1x512 .f32 := HL (View.ld (Val := Elt Ideal) x1 (Rect.unit (s := S2x4096x64) ![gn, 0, 0] ![1, 2048, 64] ik0))
  (View.ld (Val := Elt Ideal) x1 (Rect.unit (s := S2x4096x64) ![gn, 2048, 0] ![1, 2048, 64] ik1))
  (View.ld (Val := Elt Ideal) x0 (Rect.unit (s := S512x512) ![o, 0] ![64, 512] iq))

include ho in
theorem q_at (z : S64x512.Idx) : View.ld (Val := Elt Ideal) (iblk m c 0 t) (Rect.unit (s := S512x512) ![o, 0] ![64, 512] iq) z
    = aq m c (ix3 (row t (z 1)) (head g j) (z 0)) * scale := by
  refine (ld2 (n := 512) (w := 512) (a := 64) (b := 512) (e := .bf16) (iblk m c 0 t) o 0 iq z).trans ((blk_qT m c t _).trans ?_)
  refine Eq.trans (b := V m c main_v11 (ix2 (col g j (z 0)) (row t (z 1)))) ?_ (host_qT m c _ _ _ _)
  refine congrArg₂ (fun a b => V m c main_v11 (ix2 a b)) ?_ ?_
  · subst ho; exact Fin.ext rfl
  · exact congrArg (row t) (Fin.ext (Nat.zero_add _))

include hg in
theorem k0_at (z : S1x2048x64.Idx) : View.ld (Val := Elt Ideal) (iblk m c 1 t) (Rect.unit (s := S2x4096x64) ![gn, 0, 0] ![1, 2048, 64] ik0) z
    = ak m c (ix3 (lo (z 1)) g (z 2)) := by
  refine (ldk g (iblk m c 1 t) gn 0 hg ik0 z).trans ((blk_k m c t _).trans ((host_k m c g _ (z 2)).trans ?_))
  exact congrArg (fun a => ak m c (ix3 a g (z 2))) (Fin.ext (Nat.zero_add _))

include hg in
theorem k1_at (z : S1x2048x64.Idx) : View.ld (Val := Elt Ideal) (iblk m c 1 t) (Rect.unit (s := S2x4096x64) ![gn, 2048, 0] ![1, 2048, 64] ik1) z
    = ak m c (ix3 (hi (z 1)) g (z 2)) :=
  (ldk g (iblk m c 1 t) gn 2048 hg ik1 z).trans ((blk_k m c t _).trans (host_k m c g _ (z 2)))

include hv in
theorem v0_at (z : S64x2048.Idx) : View.ld (Val := Elt Ideal) (iblk m c 2 t) (Rect.unit (s := S128x4096) ![vo, 0] ![64, 2048] iv0) z
    = val (ap m c) g (lo (z 1)) (z 0) := by
  subst hv
  refine (ld2 (n := 128) (w := 4096) (a := 64) (b := 2048) (e := .bf16) (iblk m c 2 t) (g.val * 64) 0 iv0 z).trans ((blk_vT m c t _).trans ?_)
  refine (host_vT m c g _ (z 0)).trans ?_
  exact congrArg (fun a => val (ap m c) g a (z 0)) (Fin.ext (Nat.zero_add _))

include hv in
theorem v1_at (z : S64x2048.Idx) : View.ld (Val := Elt Ideal) (iblk m c 2 t) (Rect.unit (s := S128x4096) ![vo, 2048] ![64, 2048] iv1) z
    = val (ap m c) g (hi (z 1)) (z 0) := by
  subst hv
  exact (ld2 (n := 128) (w := 4096) (a := 64) (b := 2048) (e := .bf16) (iblk m c 2 t) (g.val * 64) 2048 iv1 z).trans
    ((blk_vT m c t _).trans (host_vT m c g _ (z 0)))

/-- The arguments that the claim is about are finite. -/
def Fin3 : Prop := (∀ i, ∃ r : ℝ, aq m c i = (r : EReal)) ∧ (∀ i, ∃ r : ℝ, ak m c i = (r : EReal)) ∧ (∀ i, ∃ r : ℝ, ap m c i = (r : EReal))

variable (hf : Fin3 m c)

include hf ho hg hv in
theorem MO_at (z : S64x512.Idx) : MO o gn vo iq ik0 ik1 iv0 iv1 (iblk m c 0 t) (iblk m c 1 t) (iblk m c 2 t) z
    = out (aq m c) (ak m c) (ap m c) g j (row t (z 1)) (z 0) :=
  HO_point _ _ _ hf.1 hf.2.1 hf.2.2 (row t) g j _ _ _ _ _ (q_at m c g j t o ho iq) (k0_at m c g t gn hg ik0) (k1_at m c g t gn hg ik1)
    (v0_at m c g t vo hv iv0) (v1_at m c g t vo hv iv1) z

include hf ho hg in
theorem ML_at (z : S1x512.Idx) : ML o gn iq ik0 ik1 (iblk m c 0 t) (iblk m c 1 t) z
    = top (aq m c) (ak m c) g j (row t (z 1)) + Ideal.log (total (aq m c) (ak m c) g j (row t (z 1))) :=
  HL_point _ _ hf.1 hf.2.1 (row t) g j _ _ _ (q_at m c g j t o ho iq) (k0_at m c g t gn hg ik0) (k1_at m c g t gn hg ik1) z

end Head

end Cert.AttnFwdIdeal.Host
-- ==== Proof.AttnFwdPoint.lean ====
/-
  What a grid point of the attention's forward call stores: for each pair of heads the means side by side, and gated, and for each group the
  logarithms of its heads' sums of exponentials.
-/
module

public import proofs.«01_k».proof.Proof.AttnFwdHost
public import proofs.«01_k».proof.Proof.AttnFwdRef

@[expose] public section

set_option maxRecDepth 16384

noncomputable section

namespace Cert.AttnFwdIdeal.Host

open Cert.AttnFwdIdeal Cert.AttnFwdIdeal.Gen Cert.AttnFwdIdeal.Rows Cert.Alg Cert.AttnFwdRefIdeal.Read Cert.AttnFwdRefIdeal.Point
open Cert.AttnRefIdeal.Point (head col val score top expo total prob out scale)
open Cert.AttnIdeal.Whole (ld2)
open Idealize.ShloMosaic Idealize.ShloMosaic.TcCoe Idealize.SL.Sem

/-- Two heads' means, side by side. -/
def PR (A B : FVec Ideal S64x512 .f32) : FVec Ideal S512x128 .f32 := transpose S512x128 [1, 0]
  (concatenate S128x512 0 [⟨S64x512, A⟩, ⟨S64x512, B⟩] concatenates_S64x512_S64x512_S128x512_d0) transposes_S128x512_p1_0_S512x128

theorem PR_at (X : Fin 512 → Fin 128 → EReal) (A B : FVec Ideal S64x512 .f32)
    (hA : ∀ z, A z = X (z 1) ⟨(z 0).val, by have : (z 0).val < 64 := (z 0).isLt; omega⟩)
    (hB : ∀ z, B z = X (z 1) ⟨64 + (z 0).val, by have : (z 0).val < 64 := (z 0).isLt; omega⟩) (z : S512x128.Idx) : PR A B z = X (z 0) (z 1) := by
  have h1 : (z 1).val < 128 := (z 1).isLt
  by_cases h : (z 1).val < 64
  · pointwise [PR, hA, hB, h]
  · pointwise [PR, hA, hB, h]
    refine congrArg (X (z 0)) (Fin.ext ?_)
    show 64 + ((z 1).val - 64) = (z 1).val
    omega

/-- The means, gated. -/
def GY (P : FVec Ideal S512x128 .f32) (G : Vec Ideal S512x128 .bf16) : FVec Ideal S512x128 .bf16 := k0_pay80 (F := Ideal) P G

theorem GY_at (P : FVec Ideal S512x128 .f32) (G : Vec Ideal S512x128 .bf16) (z : S512x128.Idx) : GY P G z
    = P z * (G z * Ideal.div (Ideal.ofBits .f32 0x3F800000#32) (Ideal.ofBits .f32 0x3F800000#32 + Ideal.exp (-G z))) := by
  pointwise [GY, k0_pay80]
  refine congrArg (_ * ·) (congrArg (_ * ·) ?_)
  rw [Alg.lit_half]; exact Alg.half_tanh _

/-- The heads' logarithms, a column for each. -/
def LT (L : Fin 8 → FVec Ideal S1x512 .f32) : FVec Ideal S512x8 .f32 := transpose S512x8 [1, 0]
  (concatenate S8x512 0 [⟨S1x512, L 0⟩, ⟨S1x512, L 1⟩, ⟨S1x512, L 2⟩, ⟨S1x512, L 3⟩, ⟨S1x512, L 4⟩, ⟨S1x512, L 5⟩, ⟨S1x512, L 6⟩, ⟨S1x512, L 7⟩]
    concatenates_S1x512_S1x512_S1x512_S1x512_S1x512_S1x512_S1x512_S1x512_S8x512_d0) transposes_S8x512_p1_0_S512x8

theorem LT_at (L : Fin 8 → FVec Ideal S1x512 .f32) (i : Fin 512) (h : Fin 8) : LT L (ix2 i h) = L h (ix2 0 i) := by
  fin_cases h <;> pointwise [LT]

/-- The first group's columns. -/
def L0 (X : FVec Ideal S512x8 .f32) : FVec Ideal S1x512x4 .f32 :=
  shapeCast S1x512x4 (extractStridedSlice S512x4 ![0, 0] X slices_S512x8_o0_0_S512x4) shapeCasts_S512x4_S1x512x4

theorem L0_at (X : FVec Ideal S512x8 .f32) (z : S1x512x4.Idx) : L0 X z = X (ix2 (z 1) (head 0 (z 2))) := by
  have h0 : (z 0).val < 1 := (z 0).isLt
  pointwise [L0, head]

theorem L1_at (X : FVec Ideal S512x8 .f32) (z : S1x512x4.Idx) : k0_pay1 (F := Ideal) X z = X (ix2 (z 1) (head 1 (z 2))) := by
  have h0 : (z 0).val < 1 := (z 0).isLt
  pointwise [k0_pay1, head]

/-! ## The payloads -/

section Pay
variable (x0 : Vec Ideal S512x512 .bf16) (x1 : Vec Ideal S2x4096x64 .bf16) (x2 : Vec Ideal S128x4096 .bf16) (x3 : Vec Ideal S512x1280 .bf16)

/-- The means of the pairs of heads. -/
abbrev P0 : FVec Ideal S512x128 .f32 := PR (MO 0 0 0 inb_S512x512_S64x512_0_0 inb_S2x4096x64_S1x2048x64_0_0_0 inb_S2x4096x64_S1x2048x64_0_2048_0 inb_S128x4096_S64x2048_0_0 inb_S128x4096_S64x2048_0_2048 x0 x1 x2)
  (MO 64 0 0 inb_S512x512_S64x512_64_0 inb_S2x4096x64_S1x2048x64_0_0_0 inb_S2x4096x64_S1x2048x64_0_2048_0 inb_S128x4096_S64x2048_0_0 inb_S128x4096_S64x2048_0_2048 x0 x1 x2)
abbrev P1 : FVec Ideal S512x128 .f32 := PR (MO 128 0 0 inb_S512x512_S64x512_128_0 inb_S2x4096x64_S1x2048x64_0_0_0 inb_S2x4096x64_S1x2048x64_0_2048_0 inb_S128x4096_S64x2048_0_0 inb_S128x4096_S64x2048_0_2048 x0 x1 x2)
  (MO 192 0 0 inb_S512x512_S64x512_192_0 inb_S2x4096x64_S1x2048x64_0_0_0 inb_S2x4096x64_S1x2048x64_0_2048_0 inb_S128x4096_S64x2048_0_0 inb_S128x4096_S64x2048_0_2048 x0 x1 x2)
abbrev P2 : FVec Ideal S512x128 .f32 := PR (MO 256 1 64 inb_S512x512_S64x512_256_0 inb_S2x4096x64_S1x2048x64_1_0_0 inb_S2x4096x64_S1x2048x64_1_2048_0 inb_S128x4096_S64x2048_64_0 inb_S128x4096_S64x2048_64_2048 x0 x1 x2)
  (MO 320 1 64 inb_S512x512_S64x512_320_0 inb_S2x4096x64_S1x2048x64_1_0_0 inb_S2x4096x64_S1x2048x64_1_2048_0 inb_S128x4096_S64x2048_64_0 inb_S128x4096_S64x2048_64_2048 x0 x1 x2)
abbrev P3 : FVec Ideal S512x128 .f32 := PR (MO 384 1 64 inb_S512x512_S64x512_384_0 inb_S2x4096x64_S1x2048x64_1_0_0 inb_S2x4096x64_S1x2048x64_1_2048_0 inb_S128x4096_S64x2048_64_0 inb_S128x4096_S64x2048_64_2048 x0 x1 x2)
  (MO 448 1 64 inb_S512x512_S64x512_448_0 inb_S2x4096x64_S1x2048x64_1_0_0 inb_S2x4096x64_S1x2048x64_1_2048_0 inb_S128x4096_S64x2048_64_0 inb_S128x4096_S64x2048_64_2048 x0 x1 x2)

theorem pay_P0 : k0_pay27 (F := Ideal) (k0_pay110 x0 x1 x2 x3) (k0_pay111 x0 x1 x2 x3) (k0_pay112 x0 x1 x2 x3) (k0_pay113 x0 x1 x2 x3)
    (k0_pay115 x0 x1 x2 x3) (k0_pay116 x0 x1 x2 x3) (View.ld x2 r0_5) = P0 x0 x1 x2 := rfl
theorem pay_P1 : k0_pay53 (F := Ideal) (k0_pay122 x0 x1 x2 x3) (k0_pay124 x0 x1 x2 x3) (k0_pay125 x0 x1 x2 x3) (k0_pay126 x0 x1 x2 x3)
    (k0_pay128 x0 x1 x2 x3) (View.ld x2 r0_5) = P1 x0 x1 x2 := rfl
theorem pay_P2 : k0_pay140 (F := Ideal) x0 x1 x2 x3 = P2 x0 x1 x2 := rfl
theorem pay_P3 : k0_pay101 (F := Ideal) (k0_pay146 x0 x1 x2 x3) (k0_pay147 x0 x1 x2 x3) (k0_pay149 x0 x1 x2 x3) (k0_pay150 x0 x1 x2 x3)
    (k0_pay151 x0 x1 x2 x3) (View.ld x2 r0_17) = P3 x0 x1 x2 := rfl

/-- The logarithms of the eight heads. -/
abbrev LS (h : Fin 8) : FVec Ideal S1x512 .f32 := match h with
  | 0 => ML 0 0 inb_S512x512_S64x512_0_0 inb_S2x4096x64_S1x2048x64_0_0_0 inb_S2x4096x64_S1x2048x64_0_2048_0 x0 x1
  | 1 => ML 64 0 inb_S512x512_S64x512_64_0 inb_S2x4096x64_S1x2048x64_0_0_0 inb_S2x4096x64_S1x2048x64_0_2048_0 x0 x1
  | 2 => ML 128 0 inb_S512x512_S64x512_128_0 inb_S2x4096x64_S1x2048x64_0_0_0 inb_S2x4096x64_S1x2048x64_0_2048_0 x0 x1
  | 3 => ML 192 0 inb_S512x512_S64x512_192_0 inb_S2x4096x64_S1x2048x64_0_0_0 inb_S2x4096x64_S1x2048x64_0_2048_0 x0 x1
  | 4 => ML 256 1 inb_S512x512_S64x512_256_0 inb_S2x4096x64_S1x2048x64_1_0_0 inb_S2x4096x64_S1x2048x64_1_2048_0 x0 x1
  | 5 => ML 320 1 inb_S512x512_S64x512_320_0 inb_S2x4096x64_S1x2048x64_1_0_0 inb_S2x4096x64_S1x2048x64_1_2048_0 x0 x1
  | 6 => ML 384 1 inb_S512x512_S64x512_384_0 inb_S2x4096x64_S1x2048x64_1_0_0 inb_S2x4096x64_S1x2048x64_1_2048_0 x0 x1
  | 7 => ML 448 1 inb_S512x512_S64x512_448_0 inb_S2x4096x64_S1x2048x64_1_0_0 inb_S2x4096x64_S1x2048x64_1_2048_0 x0 x1

theorem pay_L : k0_pay103 (F := Ideal) (k0_pay109 x0 x1 x2 x3) (k0_pay117 x0 x1 x2 x3) (k0_pay120 x0 x1 x2 x3) (k0_pay127 x0 x1 x2 x3)
    (k0_pay133 x0 x1 x2 x3) (k0_pay138 x0 x1 x2 x3) (k0_pay145 x0 x1 x2 x3) (k0_pay148 x0 x1 x2 x3) (k0_pay152 x0 x1 x2 x3) = LT (LS x0 x1) := rfl

end Pay

end Cert.AttnFwdIdeal.Host
-- ==== Proof.AttnFwdValue.lean ====
/-
  The results of the attention's forward call: the means of the values, the logarithms of the sums of exponentials, and the gated means.
-/
module

public import proofs.«01_k».proof.Proof.AttnFwdPoint

@[expose] public section

set_option maxRecDepth 16384

noncomputable section

namespace Cert.AttnFwdIdeal.Host

open Cert.AttnFwdIdeal Cert.AttnFwdIdeal.Gen Cert.AttnFwdIdeal.Rows Cert.Alg Cert.AttnFwdRefIdeal.Read Cert.AttnFwdRefIdeal.Point
open Cert.AttnRefIdeal.Point (head col val score top expo total prob out scale)
open Cert.AttnIdeal.Whole (ld2)
open Idealize.ShloMosaic Idealize.ShloMosaic.TcCoe Idealize.SL.Sem

/-! ## Four stores of 128 columns -/

/-- The column of a pair's column in the whole. -/
def pcol (p : Fin 4) (n : Fin 128) : Fin 512 := ⟨p.val * 128 + n.val, by omega⟩

theorem inbP (p : Fin 4) (a : Fin 2) : (![0, p.val * 128] : Fin 2 → ℕ) a + (![512, 128] : Fin 2 → ℕ) a ≤ S512x512.size a := by
  fin_cases a <;> simp; omega

/-- A store of 128 columns. -/
abbrev piece {e : EltTy} (p : Fin 4) (A : Vec Ideal S512x128 e) : View.Piece (Elt Ideal) S512x512 e :=
  ⟨Rect.unit (s := S512x512) ![0, p.val * 128] ![512, 128] (inbP p), A⟩

theorem piece_of {e : EltTy} (p : Fin 4) (A : Vec Ideal S512x128 e) (f : Vec Ideal S512x512 e) (hA : ∀ z, A z = f (ix2 (z 0) (pcol p (z 1))))
    (x : (piece p A).1.shape.Idx) : (piece p A).2 x = f ((piece p A).1.emb x) := by
  refine (hA x).trans (congrArg f (funext fun a => Fin.ext ?_))
  refine Eq.trans ?_ (Rect.idx_unit_val _ _ (inbP p) _ _).symm
  fin_cases a <;> simp [pcol]

theorem piece_mem {e : EltTy} (p : Fin 4) (A : Vec Ideal S512x128 e) (z : S512x512.Idx) (h : (z 1).val / 128 = p.val) : z ∈ (piece p A).1.set := by
  mem_blk
  have h0 : (z 0).val < 512 := (z 0).isLt
  intro a; fin_cases a <;> simp <;> omega

/-- Four stores of 128 columns each leave the array that they are the columns of. -/
theorem canon_cols {e : EltTy} (f : Vec Ideal S512x512 e) {A0 A1 A2 A3 : Vec Ideal S512x128 e} (h0 : ∀ z, A0 z = f (ix2 (z 0) (pcol 0 (z 1))))
    (h1 : ∀ z, A1 z = f (ix2 (z 0) (pcol 1 (z 1)))) (h2 : ∀ z, A2 z = f (ix2 (z 0) (pcol 2 (z 1)))) (h3 : ∀ z, A3 z = f (ix2 (z 0) (pcol 3 (z 1)))) :
    View.canon [piece 3 A3, piece 2 A2, piece 1 A1, piece 0 A0] = f := by
  funext z
  refine View.canon_append_of_piecesOf f [] [piece 3 A3, piece 2 A2, piece 1 A1, piece 0 A0]
    ⟨piece_of _ _ f h3, piece_of _ _ f h2, piece_of _ _ f h1, piece_of _ _ f h0, trivial⟩ z ?_
  have hz : (z 1).val < 512 := (z 1).isLt
  obtain ⟨k, hk⟩ : ∃ k : Fin 4, (z 1).val / 128 = k.val := ⟨⟨(z 1).val / 128, by omega⟩, rfl⟩
  fin_cases k
  · exact ⟨piece 0 A0, by simp, piece_mem _ _ _ hk⟩
  · exact ⟨piece 1 A1, by simp, piece_mem _ _ _ hk⟩
  · exact ⟨piece 2 A2, by simp, piece_mem _ _ _ hk⟩
  · exact ⟨piece 3 A3, by simp, piece_mem _ _ _ hk⟩

/-! ## Two stores of one group each -/

theorem inbG (g : Fin 2) (a : Fin 3) : (![g.val, 0, 0] : Fin 3 → ℕ) a + (![1, 512, 4] : Fin 3 → ℕ) a ≤ S2x512x4.size a := by
  fin_cases a <;> simp; omega

/-- A store of one group. -/
abbrev gpiece (g : Fin 2) (A : Vec Ideal S1x512x4 .f32) : View.Piece (Elt Ideal) S2x512x4 .f32 :=
  ⟨Rect.unit (s := S2x512x4) ![g.val, 0, 0] ![1, 512, 4] (inbG g), A⟩

theorem gpiece_of (g : Fin 2) (A : Vec Ideal S1x512x4 .f32) (f : Vec Ideal S2x512x4 .f32) (hA : ∀ z, A z = f (ix3 g (z 1) (z 2)))
    (x : (gpiece g A).1.shape.Idx) : (gpiece g A).2 x = f ((gpiece g A).1.emb x) := by
  refine (hA x).trans (congrArg f (funext fun a => Fin.ext ?_))
  refine Eq.trans ?_ (Rect.idx_unit_val _ _ (inbG g) _ _).symm
  have h0 : (x 0).val < 1 := (x 0).isLt
  fin_cases a <;> simp <;> omega

theorem gpiece_mem (g : Fin 2) (A : Vec Ideal S1x512x4 .f32) (z : S2x512x4.Idx) (h : (z 0).val = g.val) : z ∈ (gpiece g A).1.set := by
  mem_blk
  have h1 : (z 1).val < 512 := (z 1).isLt
  have h2 : (z 2).val < 4 := (z 2).isLt
  intro a; fin_cases a <;> simp <;> omega

/-- Two stores of one group each leave the array that they are the groups of. -/
theorem canon_groups (f : Vec Ideal S2x512x4 .f32) {A0 A1 : Vec Ideal S1x512x4 .f32} (h0 : ∀ z, A0 z = f (ix3 0 (z 1) (z 2)))
    (h1 : ∀ z, A1 z = f (ix3 1 (z 1) (z 2))) : View.canon [gpiece 1 A1, gpiece 0 A0] = f := by
  funext z
  refine View.canon_append_of_piecesOf f [] [gpiece 1 A1, gpiece 0 A0] ⟨gpiece_of _ _ f h1, gpiece_of _ _ f h0, trivial⟩ z ?_
  obtain ⟨k, hk⟩ : ∃ k : Fin 2, (z 0).val = k.val := ⟨z 0, rfl⟩
  fin_cases k
  · exact ⟨gpiece 0 A0, by simp, gpiece_mem _ _ _ hk⟩
  · exact ⟨gpiece 1 A1, by simp, gpiece_mem _ _ _ hk⟩

/-! ## A point's stores -/

variable (m : (ℓ : Loc nD τ sig) → Buf (Elt Ideal) ℓ) (ρ : Dev nD → PrngReg) (c : Dev nD) (t : Fin cfg0.N) (hf : Fin3 m c)

/-- The reference's means, logarithms and gated means. -/
abbrev RO : Vec Ideal S4096x512 .f32 := val_main_v25 (F := Ideal) (aq m c) (ak m c) (ap m c)
abbrev RL : Vec Ideal S2x4096x4 .f32 := val_main_v36 (F := Ideal) (aq m c) (ak m c)
abbrev RY : Vec Ideal S4096x512 .bf16 := val_main_v39 (F := Ideal) (aq m c) (ak m c) (ap m c)

section Pair
variable (p : Fin 4) (g : Fin 2) (j j' : Fin 4) (o o' gn vo : ℕ) (ho : o = g.val * 256 + j.val * 64) (ho' : o' = g.val * 256 + j'.val * 64)
  (hg : gn = g.val) (hv : vo = g.val * 64) (hp : o = p.val * 128) (hp' : o' = p.val * 128 + 64)
  (iq : ∀ x : Fin 2, (![o, 0] : Fin 2 → ℕ) x + (![64, 512] : Fin 2 → ℕ) x ≤ S512x512.size x)
  (iq' : ∀ x : Fin 2, (![o', 0] : Fin 2 → ℕ) x + (![64, 512] : Fin 2 → ℕ) x ≤ S512x512.size x)
  (ik0 : ∀ x : Fin 3, (![gn, 0, 0] : Fin 3 → ℕ) x + (![1, 2048, 64] : Fin 3 → ℕ) x ≤ S2x4096x64.size x)
  (ik1 : ∀ x : Fin 3, (![gn, 2048, 0] : Fin 3 → ℕ) x + (![1, 2048, 64] : Fin 3 → ℕ) x ≤ S2x4096x64.size x)
  (iv0 : ∀ x : Fin 2, (![vo, 0] : Fin 2 → ℕ) x + (![64, 2048] : Fin 2 → ℕ) x ≤ S128x4096.size x)
  (iv1 : ∀ x : Fin 2, (![vo, 2048] : Fin 2 → ℕ) x + (![64, 2048] : Fin 2 → ℕ) x ≤ S128x4096.size x)

include hf ho ho' hg hv hp hp' in
/-- A pair's means are the pair's columns of the point's rows of the reference's means. -/
theorem pair_at (z : S512x128.Idx) : PR (MO o gn vo iq ik0 ik1 iv0 iv1 (iblk m c 0 t) (iblk m c 1 t) (iblk m c 2 t))
    (MO o' gn vo iq' ik0 ik1 iv0 iv1 (iblk m c 0 t) (iblk m c 1 t) (iblk m c 2 t)) z = RO m c (ix2 (row t (z 0)) (pcol p (z 1))) := by
  refine PR_at (fun a n => RO m c (ix2 (row t a) (pcol p n))) _ _ (fun x => ?_) (fun x => ?_) z
  · refine (MO_at m c g j t o gn vo ho hg hv iq ik0 ik1 iv0 iv1 hf x).trans ((ref_o (aq m c) (ak m c) (ap m c) g j (row t (x 1)) (x 0)).symm.trans ?_)
    refine congrArg (fun n => RO m c (ix2 (row t (x 1)) n)) (Fin.ext ?_)
    show g.val * 256 + j.val * 64 + (x 0).val = p.val * 128 + (x 0).val
    omega
  · refine (MO_at m c g j' t o' gn vo ho' hg hv iq' ik0 ik1 iv0 iv1 hf x).trans ((ref_o (aq m c) (ak m c) (ap m c) g j' (row t (x 1)) (x 0)).symm.trans ?_)
    refine congrArg (fun n => RO m c (ix2 (row t (x 1)) n)) (Fin.ext ?_)
    show g.val * 256 + j'.val * 64 + (x 0).val = p.val * 128 + (64 + (x 0).val)
    omega

/-- A pair's gated means are the pair's columns of the point's rows of the reference's. -/
theorem gated_at (P : FVec Ideal S512x128 .f32) (hP : ∀ z, P z = RO m c (ix2 (row t (z 0)) (pcol p (z 1)))) (w : ℕ) (hw : w = 768 + p.val * 128)
    (ip : ∀ x : Fin 2, (![0, w] : Fin 2 → ℕ) x + (![512, 128] : Fin 2 → ℕ) x ≤ S512x1280.size x) (z : S512x128.Idx) :
    GY P (View.ld (Val := Elt Ideal) (iblk m c 3 t) (Rect.unit (s := S512x1280) ![0, w] ![512, 128] ip)) z = RY m c (ix2 (row t (z 0)) (pcol p (z 1))) := by
  have hG : View.ld (Val := Elt Ideal) (iblk m c 3 t) (Rect.unit (s := S512x1280) ![0, w] ![512, 128] ip) z
      = ap m c (ix2 (row t (z 0)) ⟨768 + (pcol p (z 1)).val, by have := (pcol p (z 1)).isLt; omega⟩) := by
    refine (ld2 (n := 512) (w := 1280) (a := 512) (b := 128) (e := .bf16) (iblk m c 3 t) 0 w ip z).trans ((blk_pa m c t _).trans ?_)
    refine congrArg₂ (fun a b => ap m c (ix2 (row t a) b)) (Fin.ext (Nat.zero_add _)) (Fin.ext ?_)
    show w + (z 1).val = 768 + (p.val * 128 + (z 1).val)
    omega
  refine (GY_at _ _ z).trans ?_
  rw [hP z, hG]
  exact (ref_y (aq m c) (ak m c) (ap m c) (row t (z 0)) (pcol p (z 1))).symm

end Pair

include hf in
theorem P0_at (z : S512x128.Idx) : P0 (iblk m c 0 t) (iblk m c 1 t) (iblk m c 2 t) z = RO m c (ix2 (row t (z 0)) (pcol 0 (z 1))) :=
  pair_at m c t hf 0 0 0 1 0 64 0 0 rfl rfl rfl rfl rfl rfl _ _ _ _ _ _ z
include hf in
theorem P1_at (z : S512x128.Idx) : P1 (iblk m c 0 t) (iblk m c 1 t) (iblk m c 2 t) z = RO m c (ix2 (row t (z 0)) (pcol 1 (z 1))) :=
  pair_at m c t hf 1 0 2 3 128 192 0 0 rfl rfl rfl rfl rfl rfl _ _ _ _ _ _ z
include hf in
theorem P2_at (z : S512x128.Idx) : P2 (iblk m c 0 t) (iblk m c 1 t) (iblk m c 2 t) z = RO m c (ix2 (row t (z 0)) (pcol 2 (z 1))) :=
  pair_at m c t hf 2 1 0 1 256 320 1 64 rfl rfl rfl rfl rfl rfl _ _ _ _ _ _ z
include hf in
theorem P3_at (z : S512x128.Idx) : P3 (iblk m c 0 t) (iblk m c 1 t) (iblk m c 2 t) z = RO m c (ix2 (row t (z 0)) (pcol 3 (z 1))) :=
  pair_at m c t hf 3 1 2 3 384 448 1 64 rfl rfl rfl rfl rfl rfl _ _ _ _ _ _ z

include hf in
/-- The heads' logarithms are the point's rows of the reference's. -/
theorem LS_at (i : Fin 512) (g : Fin 2) (j : Fin 4) : LT (LS (iblk m c 0 t) (iblk m c 1 t)) (ix2 i (head g j)) = RL m c (ix3 g (row t i) j) := by
  refine (LT_at _ i (head g j)).trans (Eq.trans ?_ (ref_lse (aq m c) (ak m c) g j (row t i)).symm)
  fin_cases g <;> fin_cases j
  · exact ML_at m c 0 0 t 0 0 rfl rfl _ _ _ hf _
  · exact ML_at m c 0 1 t 64 0 rfl rfl _ _ _ hf _
  · exact ML_at m c 0 2 t 128 0 rfl rfl _ _ _ hf _
  · exact ML_at m c 0 3 t 192 0 rfl rfl _ _ _ hf _
  · exact ML_at m c 1 0 t 256 1 rfl rfl _ _ _ hf _
  · exact ML_at m c 1 1 t 320 1 rfl rfl _ _ _ hf _
  · exact ML_at m c 1 2 t 384 1 rfl rfl _ _ _ hf _
  · exact ML_at m c 1 3 t 448 1 rfl rfl _ _ _ hf _

/-! ## The whole arrays -/

include hf in
/-- The means. -/
theorem o_value : (dats m 0 c).arrAt 4 cfg0.N = RO m c := by
  refine (dats m 0 c).arrAt_eq_of_covers 4 _ (by decide +kernel) fun t _ y => ?_
  blk_simp
  rw [after0_4]
  trans RO m c (ix2 (row t (y 0)) (y 1))
  · refine congrFun (canon_cols (fun z : S512x512.Idx => RO m c (ix2 (row t (z 0)) (z 1)))
      (fun z => (congrFun (pay_P0 _ _ _ (iblk m c 3 t)) z).trans (P0_at m c t hf z)) (fun z => (congrFun (pay_P1 _ _ _ (iblk m c 3 t)) z).trans (P1_at m c t hf z))
      (fun z => (congrFun (pay_P2 _ _ _ (iblk m c 3 t)) z).trans (P2_at m c t hf z)) (fun z => (congrFun (pay_P3 _ _ _ (iblk m c 3 t)) z).trans (P3_at m c t hf z))) y
  · refine congrArg _ ?_
    blk_ext [idx t, row] <;> simp [Pipeline.WinKind.off]

include hf in
/-- The logarithms of the sums of exponentials. -/
theorem l_value : (dats m 0 c).arrAt 5 cfg0.N = RL m c := by
  refine (dats m 0 c).arrAt_eq_of_covers 5 _ (by decide +kernel) fun t _ y => ?_
  blk_simp
  rw [after0_5]
  trans RL m c (ix3 (y 0) (row t (y 1)) (y 2))
  · refine congrFun (canon_groups (fun z : S2x512x4.Idx => RL m c (ix3 (z 0) (row t (z 1)) (z 2))) (fun z => ?_) (fun z => ?_)) y
    · exact (congrFun (congrArg L0 (pay_L _ _ (iblk m c 2 t) (iblk m c 3 t))) z).trans ((L0_at _ z).trans (LS_at m c t hf (z 1) 0 (z 2)))
    · exact (congrFun (congrArg (k0_pay1 (F := Ideal)) (pay_L _ _ (iblk m c 2 t) (iblk m c 3 t))) z).trans ((L1_at _ z).trans (LS_at m c t hf (z 1) 1 (z 2)))
  · refine congrArg _ ?_
    blk_ext [idx t, row] <;> simp [Pipeline.WinKind.off]

include hf in
/-- The gated means. -/
theorem y_value : (dats m 0 c).arrAt 6 cfg0.N = RY m c := by
  refine (dats m 0 c).arrAt_eq_of_covers 6 _ (by decide +kernel) fun t _ y => ?_
  blk_simp
  rw [after0_6]
  trans RY m c (ix2 (row t (y 0)) (y 1))
  · refine congrFun (canon_cols (fun z : S512x512.Idx => RY m c (ix2 (row t (z 0)) (z 1)))
      (fun z => (congrFun (congrArg (GY · _) (pay_P0 _ _ _ (iblk m c 3 t))) z).trans (gated_at m c t 0 _ (P0_at m c t hf) 768 rfl _ z))
      (fun z => (congrFun (congrArg (GY · _) (pay_P1 _ _ _ (iblk m c 3 t))) z).trans (gated_at m c t 1 _ (P1_at m c t hf) 896 rfl _ z))
      (fun z => (congrFun (congrArg (GY · _) (pay_P2 _ _ _ (iblk m c 3 t))) z).trans (gated_at m c t 2 _ (P2_at m c t hf) 1024 rfl _ z))
      (fun z => (congrFun (congrArg (GY · _) (pay_P3 _ _ _ (iblk m c 3 t))) z).trans (gated_at m c t 3 _ (P3_at m c t hf) 1152 rfl _ z))) y
  · refine congrArg _ ?_
    blk_ext [idx t, row] <;> simp [Pipeline.WinKind.off]

/-- The whole run: the three results hold the reference's, and the arguments are as they were. -/
theorem run_value (hf : ∀ c : Dev nD, Fin3 m c) : θ_run defs (onTc (τ := τ) (main (F := Ideal))) ⟨m, fun _ => 0, ρ⟩ (fun r => ∀ c : Dev nD,
      r.2.mem ((c.tc : Thread nD τ).loc main_v16_0) = RO m c
      ∧ r.2.mem ((c.tc : Thread nD τ).loc main_v16_1) = RL m c
      ∧ r.2.mem ((c.tc : Thread nD τ).loc main_v16_2) = RY m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).1 4).trans (o_value m c (hf c)), ((h.1 c).1 5).trans (l_value m c (hf c)), ((h.1 c).1 6).trans (y_value m c (hf c)), h.2 c⟩)
    (θ_run_and (Gen.run_main m ρ) (Gen.unchanged m ρ))

end Cert.AttnFwdIdeal.Host
-- ==== Proof.AttnFwdClaims.lean ====
/-
  The claims about the attention, forward: the kernel's frame, the reference's frame, and that both compute the same means, logarithms and gated
  means over the extended reals where the arguments are finite.
-/
module

public import proofs.«01_k».proof.Defs
public import proofs.«01_k».proof.Proof.AttnFwdValue
public import proofs.«01_k».proof.Proof.Gen.AttnFwd
public import Idealize.ShloMosaic.Lib.Quiescent

@[expose] public section

set_option maxRecDepth 16384

noncomputable section

namespace Cert.Proof.AttnFwd

open Idealize.ShloMosaic Idealize.ShloMosaic.TcCoe Idealize.SL.Sem

attribute [local instance] Cert.AttnFwd.Gen.facts Cert.AttnFwdIdeal.Gen.facts Cert.AttnFwdRefIdeal.Gen.facts

/-- The printed kernel's frame, from the one generated run at machine floats. -/
theorem frame_kernel : Cert.quiescent_AttnFwd := fun m ρ _ =>
  cast (by sl_kernel_rfl) (Cert.AttnFwdIdeal.Gen.frame (F := Bits) m ρ)
/-- The same run over the reals. -/
theorem frame_ideal : Cert.quiescent_AttnFwdIdeal := fun m ρ _ => Cert.AttnFwdIdeal.Gen.frame (F := Ideal) m ρ
/-- The reference, host operations only, leaves its arguments and has no semaphore. -/
theorem frame_reference : Cert.quiescent_AttnFwdRefIdeal := fun m ρ _ =>
  (θ_run Cert.AttnFwdRefIdeal.defs _ _).mono (fun r h => ⟨fun c => (h c).2.2.2, sem_eq_zero_of_no_sems (by decide) r.2⟩)
    (Cert.AttnFwdRefIdeal.Value.run (F := Ideal) m ρ)
/-- What the precondition's text asks of shapes. -/
theorem pre_facts : Cert.Pre_finite_attnfwd.Facts := ⟨by decide, by decide, by decide⟩

attribute [local instance] pre_facts

/-- The run over the reals, where the arguments are finite. -/
theorem frame_ideal_finite : Cert.quiescent_AttnFwdIdeal_pre_finite_attnfwd := fun m ρ _ => Cert.AttnFwdIdeal.Gen.frame (F := Ideal) m ρ
/-- The reference's, where they are finite. -/
theorem frame_reference_finite : Cert.quiescent_AttnFwdRefIdeal_pre_finite_attnfwd := fun m ρ _ => frame_reference m ρ trivial

/-- The precondition says that the three arguments' entries are reals. -/
theorem finite (m) (h : Cert.Pre_AttnFwdIdeal_finite_attnfwd m) (c : Dev Cert.AttnFwdIdeal.nD) : Cert.AttnFwdIdeal.Host.Fin3 m c :=
  ⟨Alg.finite_of _ _ (fun _ => rfl) (h c).1, Alg.finite_of _ _ (fun _ => rfl) (h c).2.1, Alg.finite_of _ _ (fun _ => rfl) (h c).2.2⟩

/-- The reference's three results are the kernel's. -/
theorem algebraic : Cert.algebraic_AttnFwdIdeal_AttnFwdRefIdeal_pre_finite_attnfwd := by
  pair_intro
  · run_from Cert.AttnFwdIdeal.Host.run_value m g (finite m hpre)
  · refine (θ_run Cert.AttnFwdRefIdeal.defs _ _).mono (fun r h c => ?_) (Cert.AttnFwdRefIdeal.Value.run (F := Ideal) m' g')
    obtain ⟨e0, e1, e2⟩ := hagree c
    refine ⟨((h c).1.trans (Cert.AttnFwdRefIdeal.Read.val_main_v25_eq (F := Ideal) _ _ _)).trans ?_,
      ((h c).2.1.trans (Cert.AttnFwdRefIdeal.Read.val_main_v36_eq (F := Ideal) _ _)).trans ?_,
      ((h c).2.2.1.trans (Cert.AttnFwdRefIdeal.Read.val_main_v39_eq (F := Ideal) _ _ _)).trans ?_, (h c).2.2.2⟩
    · rw [e0, e1, e2]
    · rw [e0, e1]
    · rw [e0, e1, e2]

end Cert.Proof.AttnFwd
-- ==== Proof.PrepRows.lean ====
/-
  What a grid point of the normalisation's and rotation's backward call computes from 128 columns, two heads' worth: the sums over a head's 64
  columns, the exchange of neighbouring groups of 16 columns, the gradient of the norm's input, and the gain's.
-/
module

public import proofs.«01_k».proof.Proof.Gen.PrepIdeal.Skeleton
public import proofs.«01_k».proof.Proof.Reals
public import Idealize.ShloMosaic.Lib.Pipeline.ValueKit
public import Idealize.ShloMosaic.Lib.IdealHost

@[expose] public section

set_option maxRecDepth 16384

noncomputable section

namespace Cert.PrepIdeal.Rows

open Cert.PrepIdeal Cert.PrepIdeal.Gen
open Idealize.ShloMosaic Idealize.ShloMosaic.TcCoe Idealize.SL.Sem

/-- The column of a column's head. -/
def hcol (n : Fin 128) (k : Fin 64) : Fin 128 := ⟨n.val / 64 * 64 + k.val, by omega⟩

/-- The column whose group of 16 is exchanged with a column's. -/
def sw (n : Fin 128) : Fin 128 := if n.val % 32 < 16 then ⟨(n.val + 16) % 128, by omega⟩ else ⟨(n.val + 112) % 128, by omega⟩

/-- The columns' numbers. -/
def lane : IVec S512x128 32 := iota .tc S512x128 32 [1] iota_S512x128_d1_w32

/-- The columns of the first head. -/
def low : IVec S512x128 1 := cmpi .slt lane (broadcast S512x128 64#32)

/-- The columns' numbers, entry by entry. -/
theorem lane_at (z : S512x128.Idx) : lane z = BitVec.ofNat 32 (z 1).val := by
  pointwise [lane]

theorem low_at (z : S512x128.Idx) : low z = if (z 1).val < 64 then 1#1 else 0#1 := by
  pointwise [low, lane_at]
  exact (by decide : ∀ n : Fin 128, IntOp.cmpi .slt (BitVec.ofNat 32 n.val) 64#32 = if n.val < 64 then 1#1 else 0#1) (z 1)

/-- The sums over a head's columns. -/
def HS (V : FVec Ideal S512x128 .f32) : FVec Ideal S512x128 .f32 := select low
  (broadcastTo S512x128 (shapeCast S512x1 (shapeCast S512x1 (multiReduction .add [1] S512 (select low V (broadcast S512x128 (Scalar.ofBits .f32 0x00000000#32)))
    0x00000000#32 reduces_S512x128_S512 (.inl rfl) rfl) shapeCasts_S512_S512x1) shapeCasts_S512x1_S512x1) broadcasts_S512x1_S512x128)
  (broadcastTo S512x128 (shapeCast S512x1 (shapeCast S512x1 (multiReduction .add [1] S512 (select low (broadcast S512x128 (Scalar.ofBits .f32 0x00000000#32)) V)
    0x00000000#32 reduces_S512x128_S512 (.inl rfl) rfl) shapeCasts_S512_S512x1) shapeCasts_S512x1_S512x1) broadcasts_S512x1_S512x128)

/-- It sums the 64 columns of the entry's head. -/
theorem HS_at (V : FVec Ideal S512x128 .f32) (z : S512x128.Idx) : HS V z = ∑ k : Fin 64, V (ix2 (z 0) (hcol (z 1) k)) := by
  have h1 : (z 1).val < 128 := (z 1).isLt
  pointwise [HS, low_at]
  by_cases h : (z 1).val < 64
  · have e : ∀ k : Fin 64, hcol (z 1) k = ⟨k.val, by omega⟩ := fun k => Fin.ext (by show (z 1).val / 64 * 64 + k.val = k.val; omega)
    simp [h, e, Scalar.select]
  · have e : ∀ k : Fin 64, hcol (z 1) k = ⟨64 + k.val, by omega⟩ := fun k => Fin.ext (by show (z 1).val / 64 * 64 + k.val = 64 + k.val; omega)
    simp [h, e, Scalar.select]

/-- The exchange's mask: the first 16 of each 32 columns. -/
def swm : IVec S512x128 1 := cmpi .slt (select (andi (xori (cmpi .slt (remsi lane (broadcast S512x128 (Scalar.select (Scalar.cmpi .eq 32#32 0#32) 1#32 32#32)))
    (broadcast S512x128 0#32)) (broadcastTo S512x128 (broadcast S512x128 (Scalar.cmpi .slt (Scalar.select (Scalar.cmpi .eq 32#32 0#32) 1#32 32#32) 0#32))
      broadcasts_S512x128_S512x128)) (cmpi .ne (remsi lane (broadcast S512x128 (Scalar.select (Scalar.cmpi .eq 32#32 0#32) 1#32 32#32))) (broadcast S512x128 0#32)))
  (addi (remsi lane (broadcast S512x128 (Scalar.select (Scalar.cmpi .eq 32#32 0#32) 1#32 32#32))) (broadcast S512x128 (Scalar.select (Scalar.cmpi .eq 32#32 0#32) 1#32 32#32)))
  (remsi lane (broadcast S512x128 (Scalar.select (Scalar.cmpi .eq 32#32 0#32) 1#32 32#32)))) (broadcast S512x128 16#32)

/-- The exchange's mask at a column's number. -/
def swf (w : BitVec 32) : BitVec 1 := IntOp.cmpi .slt (Scalar.select (IntOp.andi (IntOp.xori (IntOp.cmpi .slt (IntOp.remsi .vector w 32#32) 0#32) 0#1)
  (IntOp.cmpi .ne (IntOp.remsi .vector w 32#32) 0#32)) (IntOp.addi (IntOp.remsi .vector w 32#32) 32#32) (IntOp.remsi .vector w 32#32)) 16#32

theorem swf_eq : ∀ n : Fin 128, swf (BitVec.ofNat 32 n.val) = if n.val % 32 < 16 then 1#1 else 0#1 := by decide +kernel

theorem swm_at (z : S512x128.Idx) : swm z = if (z 1).val % 32 < 16 then 1#1 else 0#1 := by
  refine Eq.trans ?_ (swf_eq (z 1))
  pointwise [swm, swf, lane_at]
  rfl

/-- Neighbouring groups of 16 columns exchanged. -/
def SW (V : FVec Ideal S512x128 .f32) : FVec Ideal S512x128 .f32 :=
  select swm (dynamicRotate 1 112#32 none V rotates_S512x128_d1) (dynamicRotate 1 16#32 none V rotates_S512x128_d1)

/-- The exchange, entry by entry. -/
theorem SW_at (V : FVec Ideal S512x128 .f32) (z : S512x128.Idx) : SW V z = V (ix2 (z 0) (sw (z 1))) := by
  have h1 : (z 1).val < 128 := (z 1).isLt
  pointwise [SW, swm_at]
  by_cases h : (z 1).val % 32 < 16
  · simp [h, sw, Scalar.select]
  · simp [h, sw, Scalar.select]

section Norm
variable (X : FVec Ideal S512x128 .f32) (C S D : FVec Ideal S512x128 .f32) (G : FVec Ideal S1x128 .f32)

/-- The reciprocal of a head's root mean square. -/
def RS : FVec Ideal S512x128 .f32 := rsqrt (addf (mulf (HS (mulf X X)) (broadcast S512x128 (Scalar.ofBits .f32 0x3C800000#32)))
  (broadcast S512x128 (Scalar.ofBits .f32 0x358637BD#32)))

/-- The normalised input. -/
def XH : FVec Ideal S512x128 .f32 := mulf X (RS X)

/-- The rotation's gradient. -/
def DN : FVec Ideal S512x128 .f32 := addf (mulf D C) (SW (mulf D S))

/-- The gradient by the gain. -/
def GD : FVec Ideal S512x128 .f32 := mulf (DN C S D) (broadcastTo S512x128 G broadcasts_S1x128_S512x128)

/-- The norm's input's gradient. -/
def DX : FVec Ideal S512x128 .bf16 := truncf .bf16 (mulf (RS X) (subf (GD C S D G)
  (mulf (XH X) (mulf (HS (mulf (GD C S D G) (XH X))) (broadcast S512x128 (Scalar.ofBits .f32 0x3C800000#32)))))) bitsLt_bf16_f32

/-- The gain's gradient, added to what is there. -/
def DG (A : Vec Ideal S1x128 .f32) : FVec Ideal S1x128 .f32 := addf (shapeCast S1x128 A shapeCasts_S1x128_S1x128)
  (shapeCast S1x128 (multiReduction .add [0] S128 (mulf (DN C S D) (XH X)) 0x00000000#32 reduces_S512x128_S128 (.inl rfl) rfl) shapeCasts_S128_S1x128)

/-- A head's column in the pair's 128. -/
def pc (h : Fin 2) (d : Fin 64) : Fin 128 := ⟨h.val * 64 + d.val, by omega⟩

theorem hcol_pc (h : Fin 2) (d k : Fin 64) : hcol (pc h d) k = pc h k := Fin.ext (by simp only [hcol, pc]; omega)

theorem lit_64 : Ideal.ofBits .f32 0x42800000#32 = ((64 : ℝ) : EReal) := by
  simp [Ideal.ofBits, Ideal.ieee, -EReal.coe_mul]; norm_num
theorem lit_inv64 : Ideal.ofBits .f32 0x3C800000#32 = ((1 / 64 : ℝ) : EReal) := by
  simp [Ideal.ofBits, Ideal.ieee, -EReal.coe_mul]; norm_num

theorem mul_inv64 (x : EReal) : x * Ideal.ofBits .f32 0x3C800000#32 = Ideal.div x ((64 : ℝ) : EReal) := by
  rw [lit_inv64, Ideal.div_coe (by norm_num)]

variable (a : Fin 512) (h : Fin 2) (d : Fin 64)

theorem DN_at (z : S512x128.Idx) : DN C S D z = D z * C z + D (ix2 (z 0) (sw (z 1))) * S (ix2 (z 0) (sw (z 1))) := by
  pointwise [DN, SW_at]

/-- The reciprocal of the root mean square of a row of numbers. -/
def rs (x : Fin 64 → EReal) : EReal := Ideal.rsqrt (Ideal.div (∑ k, x k * x k) ((64 : ℝ) : EReal) + Ideal.ofBits .f32 0x358637BD#32)

theorem RS_at : RS X (ix2 a (pc h d)) = rs (fun k => X (ix2 a (pc h k))) := by
  pointwise [RS, HS_at, hcol_pc, mul_inv64, rs]

theorem XH_at : XH X (ix2 a (pc h d)) = X (ix2 a (pc h d)) * rs (fun k => X (ix2 a (pc h k))) := by
  pointwise [XH, RS_at]

theorem GD_at : GD C S D G (ix2 a (pc h d)) = DN C S D (ix2 a (pc h d)) * G (ix2 0 (pc h d)) := by
  pointwise [GD]

/-- The norm's input's gradient in the form of the chain rule. -/
theorem DX_at : DX X C S D G (ix2 a (pc h d)) = (fun (x A : Fin 64 → EReal) (v : EReal) =>
      A d * Ideal.rsqrt v + x d * Ideal.div ((∑ k, x k * A k) * (((-(1 / 2) : ℝ) : EReal) * Ideal.div (Ideal.rsqrt v) v)) ((64 : ℝ) : EReal)
        + Ideal.div ((∑ k, x k * A k) * (((-(1 / 2) : ℝ) : EReal) * Ideal.div (Ideal.rsqrt v) v)) ((64 : ℝ) : EReal) * x d)
      (fun k => X (ix2 a (pc h k))) (fun k => DN C S D (ix2 a (pc h k)) * G (ix2 0 (pc h k)))
      (Ideal.div (∑ k, X (ix2 a (pc h k)) * X (ix2 a (pc h k))) ((64 : ℝ) : EReal) + Ideal.ofBits .f32 0x358637BD#32) := by
  obtain ⟨e, he, hl⟩ := Alg.lit_eps
  refine Eq.trans ?_ (Alg.rms_grad 64 e (by norm_num) he (fun k => X (ix2 a (pc h k))) (fun k => DN C S D (ix2 a (pc h k)) * G (ix2 0 (pc h k))) d
    _ (rs (fun k => X (ix2 a (pc h k)))) (by rw [hl]) rfl)
  pointwise [DX, RS_at, HS_at, hcol_pc, mul_inv64, XH_at, GD_at]

/-- The gain's gradient, entry by entry. -/
theorem DG_at (A : Vec Ideal S1x128 .f32) : DG X C S D A (ix2 0 (pc h d)) = A (ix2 0 (pc h d))
    + ∑ a : Fin 512, DN C S D (ix2 a (pc h d)) * (X (ix2 a (pc h d)) * rs (fun k => X (ix2 a (pc h k)))) := by
  pointwise [DG, XH_at]

/-- The printed computations are these. -/
theorem pay_X (B : Vec Ideal S512x128 .bf16) : k0_pay66 (F := Ideal) (k0_pay58 B) (k0_pay62 lane B) (k0_pay63 lane B) (k0_pay64 lane) = XH (k0_pay58 B) := rfl

end Norm

end Cert.PrepIdeal.Rows
-- ==== Proof.PrepRef.lean ====
/-
  The gradients of the attention's norms, rotary positions and gate, as the reference computes them, at one entry.
-/
module

public import proofs.«01_k».proof.Proof.Gen.PrepRefIdeal.Read
public import proofs.«01_k».proof.Proof.AttnRef
public import Idealize.ShloMosaic.Lib.Pipeline.ValueKit

@[expose] public section

set_option maxRecDepth 16384

noncomputable section

namespace Cert.PrepRefIdeal.Point

open Cert.PrepRefIdeal Cert.PrepRefIdeal.Gen Cert.PrepRefIdeal.Read
open Idealize.ShloMosaic Idealize.ShloMosaic.TcCoe Idealize.SL.Sem

variable (pa : Vec Ideal S4096x1280 .f32) (qg kg : Vec Ideal S64 .f32) (dq : Vec Ideal S4096x8x64 .f32) (dk dv : Vec Ideal S4096x2x64 .f32)
  (dy : Vec Ideal S4096x512 .f32) (i : Fin 4096) (h : Fin 8) (g : Fin 2) (s : Fin 2) (f : Fin 16) (d : Fin 64)

/-- Channel `f` of half `e` of axis `s` in a head. -/
def ch (s e : Fin 2) (f : Fin 16) : Fin 64 := ⟨s.val * 32 + e.val * 16 + f.val, by omega⟩

/-- The queries' cotangent turned back: a channel of the first half of an axis. -/
theorem q_rope_0 : val_main_v248 (F := Ideal) dq (ix3 i h (ch s 0 f))
    = val_main_v182 (F := Ideal) dq (ix3 i h (ch s 0 f)) * val_main_v47 (F := Ideal) (ix3 i s f)
      + val_main_v182 (F := Ideal) dq (ix3 i h (ch s 1 f)) * val_main_v48 (F := Ideal) (ix3 i s f) := by
  have h0 : val_main_v248 (F := Ideal) dq (ix3 i h (ch s 0 f)) = val_main_v247 (F := Ideal) dq (ix5 i h s 0 f) := by
    pointwise [val_main_v248, ch]
    exact congrArg (fun e => val_main_v247 (F := Ideal) dq (ix5 i h s e f)) (Fin.ext (by show (s.val * 32 + f.val) / 16 % 2 = 0; omega))
  rw [h0, add_comm, ← zero_add (_ + _), ← Ideal.ofBits_zero .f32]
  pointwise [val_main_v247, val_main_v244, val_main_v246, val_main_v245, val_main_v242, val_main_v241, val_main_v240, val_main_v233, val_main_v232,
    val_main_v229, val_main_v228, val_main_v231, val_main_v230, val_main_v227, val_main_v54, val_main_v55, val_main_cst_31, ch]

/-- The queries' cotangent turned back: a channel of the second half of an axis. -/
theorem q_rope_1 : val_main_v248 (F := Ideal) dq (ix3 i h (ch s 1 f))
    = val_main_v182 (F := Ideal) dq (ix3 i h (ch s 1 f)) * val_main_v47 (F := Ideal) (ix3 i s f)
      + val_main_v182 (F := Ideal) dq (ix3 i h (ch s 0 f)) * -val_main_v48 (F := Ideal) (ix3 i s f) := by
  have h0 : val_main_v248 (F := Ideal) dq (ix3 i h (ch s 1 f)) = val_main_v247 (F := Ideal) dq (ix5 i h s 1 f) := by
    pointwise [val_main_v248, ch]
    exact congrArg (fun e => val_main_v247 (F := Ideal) dq (ix5 i h s e f)) (Fin.ext (by show (s.val * 32 + 16 + f.val) / 16 % 2 = 1; omega))
  rw [h0, mul_neg, ← neg_mul, ← add_zero (_ + _), ← Ideal.ofBits_zero .f32]
  pointwise [val_main_v247, val_main_v244, val_main_v246, val_main_v243, val_main_v239, val_main_v238, val_main_v237, val_main_v236, val_main_v235, val_main_v234,
    val_main_v229, val_main_v228, val_main_v231, val_main_v230, val_main_v227, val_main_v54, val_main_v55, val_main_cst_32, ch]

/-- The keys' cotangent turned back: a channel of the first half of an axis. -/
theorem k_rope_0 : val_main_v205 (F := Ideal) dk (ix3 i g (ch s 0 f))
    = dk (ix3 i g (ch s 0 f)) * val_main_v113 (F := Ideal) (ix3 i s f) + dk (ix3 i g (ch s 1 f)) * val_main_v114 (F := Ideal) (ix3 i s f) := by
  have h0 : val_main_v205 (F := Ideal) dk (ix3 i g (ch s 0 f)) = val_main_v204 (F := Ideal) dk (ix5 i g s 0 f) := by
    pointwise [val_main_v205, ch]
    exact congrArg (fun e => val_main_v204 (F := Ideal) dk (ix5 i g s e f)) (Fin.ext (by show (s.val * 32 + f.val) / 16 % 2 = 0; omega))
  rw [h0, add_comm, ← zero_add (_ + _), ← Ideal.ofBits_zero .f32]
  pointwise [val_main_v204, val_main_v201, val_main_v203, val_main_v202, val_main_v199, val_main_v198, val_main_v197, val_main_v190, val_main_v189,
    val_main_v186, val_main_v185, val_main_v188, val_main_v187, val_main_v184, val_main_v120, val_main_v121, val_main_cst_24, ch]

/-- The keys' cotangent turned back: a channel of the second half of an axis. -/
theorem k_rope_1 : val_main_v205 (F := Ideal) dk (ix3 i g (ch s 1 f))
    = dk (ix3 i g (ch s 1 f)) * val_main_v113 (F := Ideal) (ix3 i s f) + dk (ix3 i g (ch s 0 f)) * -val_main_v114 (F := Ideal) (ix3 i s f) := by
  have h0 : val_main_v205 (F := Ideal) dk (ix3 i g (ch s 1 f)) = val_main_v204 (F := Ideal) dk (ix5 i g s 1 f) := by
    pointwise [val_main_v205, ch]
    exact congrArg (fun e => val_main_v204 (F := Ideal) dk (ix5 i g s e f)) (Fin.ext (by show (s.val * 32 + 16 + f.val) / 16 % 2 = 1; omega))
  rw [h0, mul_neg, ← neg_mul, ← add_zero (_ + _), ← Ideal.ofBits_zero .f32]
  pointwise [val_main_v204, val_main_v201, val_main_v203, val_main_v200, val_main_v196, val_main_v195, val_main_v194, val_main_v193, val_main_v192, val_main_v191,
    val_main_v186, val_main_v185, val_main_v188, val_main_v187, val_main_v184, val_main_v120, val_main_v121, val_main_cst_25, ch]

/-- The queries turned: a channel of the first half of an axis. -/
theorem q_turn_0 : val_main_v69 (F := Ideal) pa qg (ix3 i h (ch s 0 f))
    = val_main_v20 (F := Ideal) pa qg (ix3 i h (ch s 0 f)) * val_main_v47 (F := Ideal) (ix3 i s f)
      - val_main_v20 (F := Ideal) pa qg (ix3 i h (ch s 1 f)) * val_main_v48 (F := Ideal) (ix3 i s f) := by
  have h0 : val_main_v69 (F := Ideal) pa qg (ix3 i h (ch s 0 f)) = val_main_v68 (F := Ideal) pa qg (ix5 i h s 0 f) := by
    pointwise [val_main_v69, ch]
    exact congrArg (fun e => val_main_v68 (F := Ideal) pa qg (ix5 i h s e f)) (Fin.ext (by show (s.val * 32 + f.val) / 16 % 2 = 0; omega))
  rw [h0]
  pointwise [val_main_v68, val_main_v66, val_main_v60, val_main_v57, val_main_v56, val_main_v59, val_main_v58, val_main_v50, val_main_v51, val_main_v52,
    val_main_v53, val_main_v49, val_main_v54, val_main_v55, ch]

/-- The queries turned: a channel of the second half of an axis. -/
theorem q_turn_1 : val_main_v69 (F := Ideal) pa qg (ix3 i h (ch s 1 f))
    = val_main_v20 (F := Ideal) pa qg (ix3 i h (ch s 1 f)) * val_main_v47 (F := Ideal) (ix3 i s f)
      + val_main_v20 (F := Ideal) pa qg (ix3 i h (ch s 0 f)) * val_main_v48 (F := Ideal) (ix3 i s f) := by
  have h0 : val_main_v69 (F := Ideal) pa qg (ix3 i h (ch s 1 f)) = val_main_v68 (F := Ideal) pa qg (ix5 i h s 1 f) := by
    pointwise [val_main_v69, ch]
    exact congrArg (fun e => val_main_v68 (F := Ideal) pa qg (ix5 i h s e f)) (Fin.ext (by show (s.val * 32 + 16 + f.val) / 16 % 2 = 1; omega))
  rw [h0]
  pointwise [val_main_v68, val_main_v67, val_main_v65, val_main_v62, val_main_v61, val_main_v64, val_main_v63, val_main_v50, val_main_v51, val_main_v52,
    val_main_v53, val_main_v49, val_main_v54, val_main_v55, ch]

/-! ## The gains' gradients -/

/-- A host's sum over the two leading axes of three. -/
theorem reduce_lead {n0 n1 : ℕ} (hr : (⟨3, ![n0, n1, 64]⟩ : Shape).ReducesTo [0, 1] S64) (v : (⟨3, ![n0, n1, 64]⟩ : Shape).Idx → EReal) (init : EReal) :
    Ideal.hostReduceAdd hr v init (ix1 d) = init + ∑ a : Fin n0, ∑ b : Fin n1, v (ix3 a b d) := by
  have fib : ∀ z : (⟨3, ![n0, n1, 64]⟩ : Shape).Idx, hr.drop z = ix1 d ↔ ∃ k : Fin n0 × Fin n1, (ix3 k.1 k.2 d : (⟨3, ![n0, n1, 64]⟩ : Shape).Idx) = z := by
    intro z
    constructor
    · intro e
      refine ⟨(z 0, z 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  refine congrArg (init + ·) ?_
  refine (Finset.sum_filter_eq_sum_of_fiber _ (fun k : Fin n0 × Fin n1 => (ix3 k.1 k.2 d : (⟨3, ![n0, n1, 64]⟩ : Shape).Idx))
    (fun _ _ e => Prod.ext (congrFun e 0) (congrFun e 1)) fib v).trans ?_
  simp only [Fintype.sum_prod_type]

/-- The gradient of the queries' gain. -/
theorem dg_q : val_main_v254 (F := Ideal) pa dq (ix1 d) = ∑ i : Fin 4096, ∑ h : Fin 8, val_main_v17 (F := Ideal) pa (ix3 i h d) * val_main_v248 (F := Ideal) dq (ix3 i h d) := by
  have h1 : val_main_v250 (F := Ideal) pa dq (ix1 d) = ∑ i : Fin 4096, ∑ h : Fin 8, val_main_v249 (F := Ideal) pa dq (ix3 i h d) := by
    unfold val_main_v250
    refine (reduce_lead d _ _ _).trans ((congrArg (· + _) ?_).trans (zero_add _))
    exact Ideal.ofBits_zero .f32
  unfold val_main_v254
  refine (reduce_lead d _ _ _).trans ((congrArg (· + _) (Ideal.ofBits_zero .f32)).trans ((zero_add _).trans ?_))
  refine (Fin.sum_univ_one (M := EReal) _).trans ((Fin.sum_univ_one (M := EReal) _).trans ?_)
  refine Eq.trans ?_ h1
  pointwise [val_main_v251]

/-- The gradient of the keys' gain. -/
theorem dg_k : val_main_v211 (F := Ideal) pa dk (ix1 d) = ∑ i : Fin 4096, ∑ g : Fin 2, val_main_v83 (F := Ideal) pa (ix3 i g d) * val_main_v205 (F := Ideal) dk (ix3 i g d) := by
  have h1 : val_main_v207 (F := Ideal) pa dk (ix1 d) = ∑ i : Fin 4096, ∑ g : Fin 2, val_main_v206 (F := Ideal) pa dk (ix3 i g d) := by
    unfold val_main_v207
    refine (reduce_lead d _ _ _).trans ((congrArg (· + _) ?_).trans (zero_add _))
    exact Ideal.ofBits_zero .f32
  unfold val_main_v211
  refine (reduce_lead d _ _ _).trans ((congrArg (· + _) (Ideal.ofBits_zero .f32)).trans ((zero_add _).trans ?_))
  refine (Fin.sum_univ_one (M := EReal) _).trans ((Fin.sum_univ_one (M := EReal) _).trans ?_)
  refine Eq.trans ?_ h1
  pointwise [val_main_v208]

/-! ## The projected rows' gradient -/

/-- The gradient of an RMS norm's input in the form of the chain rule: `x` the row, `A` the cotangent by the gain. -/
def chain (x A : Fin 64 → EReal) (v : EReal) : EReal :=
  A d * Ideal.rsqrt v + x d * Ideal.div ((∑ k, x k * A k) * (Ideal.ofBits .f32 0xBF000000#32 * Ideal.div (Ideal.rsqrt v) v)) (Ideal.ofBits .f32 0x42800000#32)
    + Ideal.div ((∑ k, x k * A k) * (Ideal.ofBits .f32 0xBF000000#32 * Ideal.div (Ideal.rsqrt v) v)) (Ideal.ofBits .f32 0x42800000#32) * x d

/-- The mean square of a row and the norm's small constant. -/
def msq (x : Fin 64 → EReal) : EReal := Ideal.div (∑ k, x k * x k) (Ideal.ofBits .f32 0x42800000#32) + Ideal.ofBits .f32 0x358637BD#32

/-- A query head's and a key head's columns of a row. -/
def qx : EReal := pa (ix2 i ⟨h.val * 64 + d.val, by omega⟩)
def kx : EReal := pa (ix2 i ⟨512 + (g.val * 64 + d.val), by omega⟩)

theorem q_x : val_main_v4 (F := Ideal) pa (ix3 i h d) = qx pa i h d := by pointwise [val_main_v4, val_main_v0, qx]
theorem k_x : val_main_v70 (F := Ideal) pa (ix3 i g d) = kx pa i g d := by
  pointwise [val_main_v70, val_main_v1, kx]
theorem q_ms : val_main_v11 (F := Ideal) pa (ix3 i h 0) = msq (qx pa i h) := by
  have hx := fun d => q_x pa i h d
  pointwise [val_main_v11, val_main_v10, val_main_v9, val_main_v8, val_main_v7, val_main_v6, val_main_v5, val_main_cst, val_main_cst_0, val_main_cst_1, hx, msq]
theorem k_ms : val_main_v77 (F := Ideal) pa (ix3 i g 0) = msq (kx pa i g) := by
  have hx := fun d => k_x pa i g d
  pointwise [val_main_v77, val_main_v76, val_main_v75, val_main_v74, val_main_v73, val_main_v72, val_main_v71, val_main_cst_5, val_main_cst_6, val_main_cst_7, hx, msq]

/-- The normed heads. -/
theorem q_n : val_main_v17 (F := Ideal) pa (ix3 i h d) = qx pa i h d * Ideal.rsqrt (msq (qx pa i h)) := by
  rw [← q_ms, ← q_x]; pointwise [val_main_v17, val_main_v16, val_main_v12]
theorem k_n : val_main_v83 (F := Ideal) pa (ix3 i g d) = kx pa i g d * Ideal.rsqrt (msq (kx pa i g)) := by
  rw [← k_ms, ← k_x]; pointwise [val_main_v83, val_main_v82, val_main_v78]

theorem dpa_q : val_main_v271 (F := Ideal) pa qg kg dq dk dv dy (ix2 i ⟨h.val * 64 + d.val, by omega⟩)
    = chain d (qx pa i h) (fun k => val_main_v248 (F := Ideal) dq (ix3 i h k) * qg (ix1 k)) (msq (qx pa i h)) := by
  have hx := fun d => q_x pa i h d
  have hm := q_ms pa i h
  have h1 : val_main_v269 (F := Ideal) pa qg dq (ix2 i ⟨h.val * 64 + d.val, by omega⟩)
      = chain d (qx pa i h) (fun k => val_main_v248 (F := Ideal) dq (ix3 i h k) * qg (ix1 k)) (msq (qx pa i h)) := by
    pointwise [val_main_v269, val_main_v268, val_main_v267, val_main_v266, val_main_v265, val_main_v264]
    have hs : val_main_v263 (F := Ideal) pa qg dq (ix2 i h) = val_main_v262 (F := Ideal) pa qg dq (ix3 i h 0) := by
      pointwise [val_main_v263, val_main_cst_37]
      exact Fin.sum_univ_one (M := EReal) _
    rw [hs]
    pointwise [val_main_v262, val_main_v261, val_main_cst_36, val_main_v260, val_main_v259, val_main_v258, val_main_v257, val_main_v256, val_main_cst_35,
      val_main_v255, val_main_v253, val_main_v252, val_main_v18, val_main_v15, val_main_v14, val_main_cst_2, val_main_v13, val_main_v12, hx, hm, chain]
  refine Eq.trans ?_ h1
  pointwise [val_main_v271, val_main_v270]
  rw [dif_pos (by omega)]

theorem dpa_k : val_main_v271 (F := Ideal) pa qg kg dq dk dv dy (ix2 i ⟨512 + (g.val * 64 + d.val), by omega⟩)
    = chain d (kx pa i g) (fun k => val_main_v205 (F := Ideal) dk (ix3 i g k) * kg (ix1 k)) (msq (kx pa i g)) := by
  have hx := fun d => k_x pa i g d
  have hm := k_ms pa i g
  have h1 : val_main_v226 (F := Ideal) pa kg dk (ix2 i ⟨g.val * 64 + d.val, by omega⟩)
      = chain d (kx pa i g) (fun k => val_main_v205 (F := Ideal) dk (ix3 i g k) * kg (ix1 k)) (msq (kx pa i g)) := by
    pointwise [val_main_v226, val_main_v225, val_main_v224, val_main_v223, val_main_v222, val_main_v221]
    have hs : val_main_v220 (F := Ideal) pa kg dk (ix2 i g) = val_main_v219 (F := Ideal) pa kg dk (ix3 i g 0) := by
      pointwise [val_main_v220, val_main_cst_30]
      exact Fin.sum_univ_one (M := EReal) _
    rw [hs]
    pointwise [val_main_v219, val_main_v218, val_main_cst_29, val_main_v217, val_main_v216, val_main_v215, val_main_v214, val_main_v213, val_main_cst_28,
      val_main_v212, val_main_v210, val_main_v209, val_main_v84, val_main_v81, val_main_v80, val_main_cst_8, val_main_v79, val_main_v78, hx, hm, chain]
  refine Eq.trans ?_ h1
  pointwise [val_main_v271, val_main_v270]
  rw [dif_pos (by omega)]

theorem dpa_v : val_main_v271 (F := Ideal) pa qg kg dq dk dv dy (ix2 i ⟨640 + (g.val * 64 + d.val), by omega⟩) = dv (ix3 i g d) := by
  have h1 : val_main_v183 (F := Ideal) dv (ix2 i ⟨g.val * 64 + d.val, by omega⟩) = dv (ix3 i g d) := by pointwise [val_main_v183]
  refine Eq.trans ?_ h1
  pointwise [val_main_v271, val_main_v270]
  rw [dif_neg (by omega), dif_neg (by omega), dif_pos (by omega)]
  refine congrArg (fun n => val_main_v183 (F := Ideal) dv (ix2 i n)) (Fin.ext ?_)
  show 640 + (g.val * 64 + d.val) - 512 - 128 = g.val * 64 + d.val; omega

theorem dpa_z (n : Fin 512) : val_main_v271 (F := Ideal) pa qg kg dq dk dv dy (ix2 i ⟨768 + n.val, by omega⟩)
    = val_main_v180 (F := Ideal) pa qg kg dy (ix2 i n) := by
  pointwise [val_main_v271, val_main_v270]
  rw [dif_neg (by omega), dif_neg (by omega), dif_neg (by omega)]
  refine congrArg (fun n => val_main_v180 (F := Ideal) pa qg kg dy (ix2 i n)) (Fin.ext ?_)
  show 768 + n.val - 512 - 128 - 128 = _; omega

/-! ## The gate's gradient -/

/-- The attention's output is that of its forward lines on the turned heads. -/
theorem ref_o : val_main_v174 (F := Ideal) pa qg kg = Cert.AttnRefIdeal.Read.val_main_v42 (F := Ideal) (val_main_v69 (F := Ideal) pa qg) (val_main_v135 (F := Ideal) pa kg) pa := rfl

/-- The keys turned: a channel of the first half of an axis. -/
theorem k_turn_0 : val_main_v135 (F := Ideal) pa kg (ix3 i g (ch s 0 f))
    = val_main_v86 (F := Ideal) pa kg (ix3 i g (ch s 0 f)) * val_main_v113 (F := Ideal) (ix3 i s f)
      - val_main_v86 (F := Ideal) pa kg (ix3 i g (ch s 1 f)) * val_main_v114 (F := Ideal) (ix3 i s f) := by
  have h0 : val_main_v135 (F := Ideal) pa kg (ix3 i g (ch s 0 f)) = val_main_v134 (F := Ideal) pa kg (ix5 i g s 0 f) := by
    pointwise [val_main_v135, ch]
    exact congrArg (fun e => val_main_v134 (F := Ideal) pa kg (ix5 i g s e f)) (Fin.ext (by show (s.val * 32 + f.val) / 16 % 2 = 0; omega))
  rw [h0]
  pointwise [val_main_v134, val_main_v132, val_main_v126, val_main_v123, val_main_v122, val_main_v125, val_main_v124, val_main_v116, val_main_v117, val_main_v118,
    val_main_v119, val_main_v115, val_main_v120, val_main_v121, ch]

/-- The keys turned: a channel of the second half of an axis. -/
theorem k_turn_1 : val_main_v135 (F := Ideal) pa kg (ix3 i g (ch s 1 f))
    = val_main_v86 (F := Ideal) pa kg (ix3 i g (ch s 1 f)) * val_main_v113 (F := Ideal) (ix3 i s f)
      + val_main_v86 (F := Ideal) pa kg (ix3 i g (ch s 0 f)) * val_main_v114 (F := Ideal) (ix3 i s f) := by
  have h0 : val_main_v135 (F := Ideal) pa kg (ix3 i g (ch s 1 f)) = val_main_v134 (F := Ideal) pa kg (ix5 i g s 1 f) := by
    pointwise [val_main_v135, ch]
    exact congrArg (fun e => val_main_v134 (F := Ideal) pa kg (ix5 i g s e f)) (Fin.ext (by show (s.val * 32 + 16 + f.val) / 16 % 2 = 1; omega))
  rw [h0]
  pointwise [val_main_v134, val_main_v133, val_main_v131, val_main_v128, val_main_v127, val_main_v130, val_main_v129, val_main_v116, val_main_v117, val_main_v118,
    val_main_v119, val_main_v115, val_main_v120, val_main_v121, ch]

/-- The keys' tables are the queries'. -/
theorem k_cos : val_main_v113 (F := Ideal) = val_main_v47 := rfl
theorem k_sin : val_main_v114 (F := Ideal) = val_main_v48 := rfl

/-- An angle of the tables is a real. -/
theorem angle_real : ∃ r : ℝ, val_main_v46 (F := Ideal) (ix3 i s f) = (r : EReal) := by
  have lt : Ideal.ofBits .f32 0x461C4000#32 = ((10000 : ℝ) : EReal) := by simp [Ideal.ofBits, Ideal.ieee, -EReal.coe_mul]; norm_num
  have ls : Ideal.ofBits .f32 0x41800000#32 = ((16 : ℝ) : EReal) := by simp [Ideal.ofBits, Ideal.ieee, -EReal.coe_mul]; norm_num
  obtain ⟨w, hw⟩ : ∃ r : ℝ, val_main_v33 (F := Ideal) (ix1 f) = (r : EReal) := by
    refine ⟨Real.rpow 10000 (-(((BitVec.ofNat 32 f.val).toInt : ℝ)) * (1 / 16)), ?_⟩
    rw [← Ideal.pow_coe_coe, EReal.coe_mul, ← lt, EReal.coe_neg]
    have := Ideal.div_coe (x := -(((BitVec.ofNat 32 f.val).toInt : ℝ) : EReal)) (y := 16) (by norm_num)
    rw [← this, ← ls]
    pointwise [val_main_v33, val_main_v32, val_main_v31, val_main_v30, val_main_v29, val_main_v28, val_main_cst_3, val_main_cst_4]
    rfl
  fin_cases s
  · refine ⟨((BitVec.ofNat 32 (i.val / 64)).toInt : ℝ) * w, ?_⟩
    rw [EReal.coe_mul, ← hw]
    pointwise [val_main_v46, val_main_v44, val_main_v38, val_main_v36, val_main_v37, val_main_v34, val_main_v35, val_main_v23, val_main_v22, val_main_v21]
    rfl
  · refine ⟨((BitVec.ofNat 32 (i.val % 64)).toInt : ℝ) * w, ?_⟩
    rw [EReal.coe_mul, ← hw]
    pointwise [val_main_v46, val_main_v45, val_main_v43, val_main_v41, val_main_v42, val_main_v39, val_main_v40, val_main_v27, val_main_v26, val_main_v25, val_main_v24]
    rfl

/-- A cosine and a sine of the tables are reals. -/
theorem cos_real : ∃ r : ℝ, val_main_v47 (F := Ideal) (ix3 i s f) = (r : EReal) := by
  obtain ⟨a, ha⟩ := angle_real i s f
  exact ⟨Real.cos a, by rw [← Ideal.cos_coe, ← ha]; pointwise [val_main_v47]⟩
theorem sin_real : ∃ r : ℝ, val_main_v48 (F := Ideal) (ix3 i s f) = (r : EReal) := by
  obtain ⟨a, ha⟩ := angle_real i s f
  exact ⟨Real.sin a, by rw [← Ideal.sin_coe, ← ha]; pointwise [val_main_v48]⟩

/-- The reciprocal of a root mean square is a real. -/
theorem rms_real (x : Fin 64 → EReal) : ∃ r : ℝ, Ideal.rsqrt (msq x) = (r : EReal) := by
  obtain ⟨e, he, hl⟩ := Alg.lit_eps
  have l64 : Ideal.ofBits .f32 0x42800000#32 = ((64 : ℝ) : EReal) := by simp [Ideal.ofBits, Ideal.ieee, -EReal.coe_mul]; norm_num
  unfold msq; rw [hl, l64]
  rcases Alg.mean_square 64 e (by norm_num) he x with hv | ⟨v, hv, hv'⟩
  · exact ⟨0, by rw [hv]; rfl⟩
  · exact ⟨(Real.sqrt v)⁻¹, by rw [hv', Ideal.rsqrt_coe, if_neg (not_lt.mpr hv.le), if_neg hv.ne']⟩

/-- Every channel is one of an axis and a half. -/
theorem ch_cases : ∃ s f, d = ch s 0 f ∨ d = ch s 1 f := by
  refine ⟨⟨d.val / 32, by omega⟩, ⟨d.val % 16, by omega⟩, ?_⟩
  by_cases hd : d.val % 32 < 16
  · exact .inl (Fin.ext (by simp [ch]; omega))
  · exact .inr (Fin.ext (by simp [ch]; omega))

variable (hpa : ∀ i, ∃ r : ℝ, pa i = (r : EReal)) (hqg : ∀ i, ∃ r : ℝ, qg i = (r : EReal)) (hkg : ∀ i, ∃ r : ℝ, kg i = (r : EReal))
  (hdy : ∀ i, ∃ r : ℝ, dy i = (r : EReal))

include hpa hqg in
/-- The turned queries of finite arguments are finite. -/
theorem q_real (z : S4096x8x64.Idx) : ∃ r : ℝ, val_main_v69 (F := Ideal) pa qg z = (r : EReal) := by
  obtain ⟨i, h, d, rfl⟩ : ∃ i h d, z = ix3 i h d := ⟨z 0, z 1, z 2, (ix3_eta z).symm⟩
  have hn : ∀ d, ∃ r : ℝ, val_main_v20 (F := Ideal) pa qg (ix3 i h d) = (r : EReal) := by
    intro d
    obtain ⟨x, hx⟩ := hpa (ix2 i ⟨h.val * 64 + d.val, by omega⟩)
    obtain ⟨r, hr⟩ := rms_real (qx pa i h)
    obtain ⟨y, hy⟩ := hqg (ix1 d)
    refine ⟨x * r * y, ?_⟩
    rw [EReal.coe_mul, EReal.coe_mul, ← hr, ← hy, ← hx]
    refine Eq.trans ?_ (congrArg (· * qg (ix1 d)) (q_n pa i h d))
    pointwise [val_main_v20, val_main_v19, val_main_v18]
  obtain ⟨s, f, rfl | rfl⟩ := ch_cases d
  all_goals
    obtain ⟨a, ha⟩ := hn (ch s 0 f)
    obtain ⟨b, hb⟩ := hn (ch s 1 f)
    obtain ⟨u, hu⟩ := cos_real i s f
    obtain ⟨v, hv⟩ := sin_real i s f
  · exact ⟨a * u - b * v, by rw [q_turn_0, ha, hb, hu, hv]; push_cast; rfl⟩
  · exact ⟨b * u + a * v, by rw [q_turn_1, ha, hb, hu, hv]; push_cast; rfl⟩

include hpa hkg in
/-- The turned keys of finite arguments are finite. -/
theorem k_real (z : S4096x2x64.Idx) : ∃ r : ℝ, val_main_v135 (F := Ideal) pa kg z = (r : EReal) := by
  obtain ⟨i, g, d, rfl⟩ : ∃ i g d, z = ix3 i g d := ⟨z 0, z 1, z 2, (ix3_eta z).symm⟩
  have hn : ∀ d, ∃ r : ℝ, val_main_v86 (F := Ideal) pa kg (ix3 i g d) = (r : EReal) := by
    intro d
    obtain ⟨x, hx⟩ := hpa (ix2 i ⟨512 + (g.val * 64 + d.val), by omega⟩)
    obtain ⟨r, hr⟩ := rms_real (kx pa i g)
    obtain ⟨y, hy⟩ := hkg (ix1 d)
    refine ⟨x * r * y, ?_⟩
    rw [EReal.coe_mul, EReal.coe_mul, ← hr, ← hy, ← hx]
    refine Eq.trans ?_ (congrArg (· * kg (ix1 d)) (k_n pa i g d))
    pointwise [val_main_v86, val_main_v85, val_main_v84]
  obtain ⟨s, f, rfl | rfl⟩ := ch_cases d
  all_goals
    obtain ⟨a, ha⟩ := hn (ch s 0 f)
    obtain ⟨b, hb⟩ := hn (ch s 1 f)
    obtain ⟨u, hu⟩ := cos_real i s f
    obtain ⟨v, hv⟩ := sin_real i s f
    rw [← k_cos] at hu
    rw [← k_sin] at hv
  · exact ⟨a * u - b * v, by rw [k_turn_0, ha, hb, hu, hv]; push_cast; rfl⟩
  · exact ⟨b * u + a * v, by rw [k_turn_1, ha, hb, hu, hv]; push_cast; rfl⟩

include hpa hqg hkg in
/-- The attention's output at finite arguments is finite. -/
theorem o_real (n : Fin 512) : ∃ r : ℝ, val_main_v174 (F := Ideal) pa qg kg (ix2 i n) = (r : EReal) := by
  obtain ⟨g, j, d, rfl⟩ : ∃ g j d, n = Cert.AttnRefIdeal.Point.col g j d :=
    ⟨⟨n.val / 256, by omega⟩, ⟨n.val % 256 / 64, by omega⟩, ⟨n.val % 64, by omega⟩, Fin.ext (by simp [Cert.AttnRefIdeal.Point.col]; omega)⟩
  have hq := q_real pa qg hpa hqg
  have hk := k_real pa kg hpa hkg
  rw [ref_o, Cert.AttnRefIdeal.Point.ref_o]
  generalize val_main_v69 (F := Ideal) pa qg = q at hq
  generalize val_main_v135 (F := Ideal) pa kg = k at hk
  choose s hs using fun n => Cert.AttnRefIdeal.Point.score_real q k g j i n hq hk
  obtain ⟨M, hM⟩ := Cert.AttnRefIdeal.Point.top_real q k g j i hq hk
  choose b hb using hpa
  have he : ∀ n, Cert.AttnRefIdeal.Point.expo q k g j i n = ((Real.exp (s n - M) : ℝ) : EReal) := fun n => by
    rw [Cert.AttnRefIdeal.Point.expo, hs, hM, ← EReal.coe_sub, Ideal.exp_coe]
  have hpos : 0 < ∑ n : Fin 4096, Real.exp (s n - M) := Finset.sum_pos (fun n _ => Real.exp_pos _) Finset.univ_nonempty
  have hT : Cert.AttnRefIdeal.Point.total q k g j i = ((∑ n : Fin 4096, Real.exp (s n - M) : ℝ) : EReal) := by
    unfold Cert.AttnRefIdeal.Point.total; simp only [he]; exact Alg.sum_coe _ _
  refine ⟨∑ n : Fin 4096, Real.exp (s n - M) * (1 / ∑ n : Fin 4096, Real.exp (s n - M)) * b (ix2 n ⟨640 + (g.val * 64 + d.val), by omega⟩), ?_⟩
  unfold Cert.AttnRefIdeal.Point.out Cert.AttnRefIdeal.Point.prob Cert.AttnRefIdeal.Point.val
  simp only [he, hT, hb, Ideal.div_coe hpos.ne', ← EReal.coe_mul]; exact Alg.sum_coe _ _

include hpa hqg hkg hdy in
/-- The gate's gradient in factored form. -/
theorem dz_eq (n : Fin 512) : val_main_v180 (F := Ideal) pa qg kg dy (ix2 i n)
    = (fun z : EReal => dy (ix2 i n) * val_main_v174 (F := Ideal) pa qg kg (ix2 i n)
        * (Ideal.div 1 (1 + Ideal.exp (-z)) * (1 + z * (1 - Ideal.div 1 (1 + Ideal.exp (-z)))))) (pa (ix2 i ⟨768 + n.val, by omega⟩)) := by
  obtain ⟨o, ho⟩ := o_real pa qg kg i hpa hqg hkg n
  obtain ⟨y, hy⟩ := hdy (ix2 i n)
  obtain ⟨z, hz⟩ := hpa (ix2 i ⟨768 + n.val, by omega⟩)
  obtain ⟨s, hs⟩ := Alg.logistic_coe z
  have hs' : val_main_v177_2 (F := Ideal) pa (ix2 i n) = (s : EReal) := by
    rw [← hs, ← hz, ← Ideal.ofBits_one_f32]
    pointwise [val_main_v177_2, val_main_call0_v4, val_main_call0_v3, val_main_call0_v2, val_main_call0_v1, val_main_call0_v0,
      val_main_call0_cst, val_main_call0_cst_0, val_main_v3]
  have hz' : val_main_v3 (F := Ideal) pa (ix2 i n) = (z : EReal) := by rw [← hz]; pointwise [val_main_v3]
  have h1 : val_main_v180 (F := Ideal) pa qg kg dy (ix2 i n)
      = val_main_v174 (F := Ideal) pa qg kg (ix2 i n) * dy (ix2 i n) * val_main_v177_2 (F := Ideal) pa (ix2 i n)
        + val_main_v3 (F := Ideal) pa (ix2 i n) * (val_main_v174 (F := Ideal) pa qg kg (ix2 i n) * dy (ix2 i n))
          * (val_main_v177_2 (F := Ideal) pa (ix2 i n) * (1 - val_main_v177_2 (F := Ideal) pa (ix2 i n))) := by
    rw [← Ideal.ofBits_one_f32]
    pointwise [val_main_v180, val_main_call1_v1, val_main_call1_v2, val_main_call1_v0, val_main_v179, val_main_v177_1, val_main_call0_v7,
      val_main_call0_v6, val_main_call0_cst_1]
  rw [h1, ho, hy, hz, hs', hz']
  simp only [hs]
  rw [mul_comm (o : EReal)]
  have := Alg.silu_grad (y * o) z s
  rw [EReal.coe_mul] at this
  exact this.symm

end Cert.PrepRefIdeal.Point
-- ==== Proof.PrepHost.lean ====
/-
  The arrays that the call for the gradients of the norms, rotary positions and gate is given, and the blocks of them that a grid point reads.
-/
module

public import proofs.«01_k».proof.Proof.PrepRows
public import proofs.«01_k».proof.Proof.Gen.PrepIdeal.Frame
public import proofs.«01_k».proof.Proof.PrepRef
public import proofs.«01_k».proof.Proof.AttnPoint
public import Idealize.ShloMosaic.Lib.Pipeline.ReadBack

@[expose] public section

set_option maxRecDepth 16384

noncomputable section

namespace Cert.PrepIdeal.Host

open Cert.PrepIdeal Cert.PrepIdeal.Gen Cert.PrepIdeal.Rows Cert.Alg
open Cert.PrepRefIdeal.Read (val_main_v20 val_main_v47 val_main_v48 val_main_v69 val_main_v86 val_main_v113 val_main_v114 val_main_v135 val_main_v174)
open Cert.PrepRefIdeal.Point (ch ch_cases q_turn_0 q_turn_1 k_turn_0 k_turn_1 k_cos k_sin ref_o)
open Idealize.ShloMosaic Idealize.ShloMosaic.TcCoe Idealize.SL.Sem

variable (m : (ℓ : Loc nD τ sig) → Buf (Elt Ideal) ℓ) (c : Dev nD)

/-- The arguments on a device. -/
abbrev ap : Vec Ideal S4096x1280 .f32 := m ((c : Thread nD τ).loc main_arg0)
abbrev aqg : Vec Ideal S64 .f32 := m ((c : Thread nD τ).loc main_arg1)
abbrev akg : Vec Ideal S64 .f32 := m ((c : Thread nD τ).loc main_arg2)
abbrev adq : Vec Ideal S4096x8x64 .f32 := m ((c : Thread nD τ).loc main_arg3)
abbrev adk : Vec Ideal S4096x2x64 .f32 := m ((c : Thread nD τ).loc main_arg4)
abbrev adv : Vec Ideal S4096x2x64 .f32 := m ((c : Thread nD τ).loc main_arg5)
abbrev ady : Vec Ideal S4096x512 .f32 := m ((c : Thread nD τ).loc main_arg6)

/-- The projected rows. -/
theorem host_pa : V m c main_v245 = (fun z => ap m c z) := by
  have h : V m c main_v245 = truncf (F := Ideal) (s := S4096x1280) .bf16 (ap m c) bitsLt_bf16_f32 := by
    show StableHlo.after hostOps0 _ (Proc.devRef .tc main_v245) = _
    after_results <;> rfl
  rw [h]; rfl

/-! ## The attention's output -/

/-- The angles' functions along each axis. -/
def ax0 (T : FVec Ideal S4096x2x16 .f32) : FVec Ideal S4096x16 .f32 :=
  shapeCast S4096x16 (extractStridedSlice S4096x1x16 ![0, 0, 0] T slices_S4096x2x16_S4096x1x16_0_0_0) shapeCasts_S4096x1x16_S4096x16
def ax1 (T : FVec Ideal S4096x2x16 .f32) : FVec Ideal S4096x16 .f32 :=
  shapeCast S4096x16 (extractStridedSlice S4096x1x16 ![0, 1, 0] T slices_S4096x2x16_S4096x1x16_0_1_0) shapeCasts_S4096x1x16_S4096x16

/-- The query heads turned, the quarters side by side. -/
def QT (N : FVec Ideal S4096x8x64 .f32) (C S : FVec Ideal S4096x2x16 .f32) : FVec Ideal S4096x8x64 .f32 :=
  concatenate S4096x8x64 2 [⟨S4096x8x16, subf (mulf (extractStridedSlice S4096x8x16 ![0, 0, 0] N slices_S4096x8x64_S4096x8x16_0_0_0) (broadcastInDim S4096x8x16 ![0, 1, 2] bcast_S4096x1x16_S4096x8x16_0_1_2 (broadcastInDim S4096x1x16 ![0, 2] bcast_S4096x16_S4096x1x16_0_2 (ax0 C))))
      (mulf (extractStridedSlice S4096x8x16 ![0, 0, 16] N slices_S4096x8x64_S4096x8x16_0_0_16) (broadcastInDim S4096x8x16 ![0, 1, 2] bcast_S4096x1x16_S4096x8x16_0_1_2 (broadcastInDim S4096x1x16 ![0, 2] bcast_S4096x16_S4096x1x16_0_2 (ax0 S))))⟩,
    ⟨S4096x8x16, addf (mulf (extractStridedSlice S4096x8x16 ![0, 0, 16] N slices_S4096x8x64_S4096x8x16_0_0_16) (broadcastInDim S4096x8x16 ![0, 1, 2] bcast_S4096x1x16_S4096x8x16_0_1_2 (broadcastInDim S4096x1x16 ![0, 2] bcast_S4096x16_S4096x1x16_0_2 (ax0 C))))
      (mulf (extractStridedSlice S4096x8x16 ![0, 0, 0] N slices_S4096x8x64_S4096x8x16_0_0_0) (broadcastInDim S4096x8x16 ![0, 1, 2] bcast_S4096x1x16_S4096x8x16_0_1_2 (broadcastInDim S4096x1x16 ![0, 2] bcast_S4096x16_S4096x1x16_0_2 (ax0 S))))⟩,
    ⟨S4096x8x16, subf (mulf (extractStridedSlice S4096x8x16 ![0, 0, 32] N slices_S4096x8x64_S4096x8x16_0_0_32) (broadcastInDim S4096x8x16 ![0, 1, 2] bcast_S4096x1x16_S4096x8x16_0_1_2 (broadcastInDim S4096x1x16 ![0, 2] bcast_S4096x16_S4096x1x16_0_2 (ax1 C))))
      (mulf (extractStridedSlice S4096x8x16 ![0, 0, 48] N slices_S4096x8x64_S4096x8x16_0_0_48) (broadcastInDim S4096x8x16 ![0, 1, 2] bcast_S4096x1x16_S4096x8x16_0_1_2 (broadcastInDim S4096x1x16 ![0, 2] bcast_S4096x16_S4096x1x16_0_2 (ax1 S))))⟩,
    ⟨S4096x8x16, addf (mulf (extractStridedSlice S4096x8x16 ![0, 0, 48] N slices_S4096x8x64_S4096x8x16_0_0_48) (broadcastInDim S4096x8x16 ![0, 1, 2] bcast_S4096x1x16_S4096x8x16_0_1_2 (broadcastInDim S4096x1x16 ![0, 2] bcast_S4096x16_S4096x1x16_0_2 (ax1 C))))
      (mulf (extractStridedSlice S4096x8x16 ![0, 0, 32] N slices_S4096x8x64_S4096x8x16_0_0_32) (broadcastInDim S4096x8x16 ![0, 1, 2] bcast_S4096x1x16_S4096x8x16_0_1_2 (broadcastInDim S4096x1x16 ![0, 2] bcast_S4096x16_S4096x1x16_0_2 (ax1 S))))⟩]
    concatenates_S4096x8x16_S4096x8x16_S4096x8x16_S4096x8x16_S4096x8x64_d2

/-- The key heads turned, the quarters side by side. -/
def KT (N : FVec Ideal S4096x2x64 .f32) (C S : FVec Ideal S4096x2x16 .f32) : FVec Ideal S4096x2x64 .f32 :=
  concatenate S4096x2x64 2 [⟨S4096x2x16, subf (mulf (extractStridedSlice S4096x2x16 ![0, 0, 0] N slices_S4096x2x64_S4096x2x16_0_0_0) (broadcastInDim S4096x2x16 ![0, 1, 2] bcast_S4096x1x16_S4096x2x16_0_1_2 (broadcastInDim S4096x1x16 ![0, 2] bcast_S4096x16_S4096x1x16_0_2 (ax0 C))))
      (mulf (extractStridedSlice S4096x2x16 ![0, 0, 16] N slices_S4096x2x64_S4096x2x16_0_0_16) (broadcastInDim S4096x2x16 ![0, 1, 2] bcast_S4096x1x16_S4096x2x16_0_1_2 (broadcastInDim S4096x1x16 ![0, 2] bcast_S4096x16_S4096x1x16_0_2 (ax0 S))))⟩,
    ⟨S4096x2x16, addf (mulf (extractStridedSlice S4096x2x16 ![0, 0, 16] N slices_S4096x2x64_S4096x2x16_0_0_16) (broadcastInDim S4096x2x16 ![0, 1, 2] bcast_S4096x1x16_S4096x2x16_0_1_2 (broadcastInDim S4096x1x16 ![0, 2] bcast_S4096x16_S4096x1x16_0_2 (ax0 C))))
      (mulf (extractStridedSlice S4096x2x16 ![0, 0, 0] N slices_S4096x2x64_S4096x2x16_0_0_0) (broadcastInDim S4096x2x16 ![0, 1, 2] bcast_S4096x1x16_S4096x2x16_0_1_2 (broadcastInDim S4096x1x16 ![0, 2] bcast_S4096x16_S4096x1x16_0_2 (ax0 S))))⟩,
    ⟨S4096x2x16, subf (mulf (extractStridedSlice S4096x2x16 ![0, 0, 32] N slices_S4096x2x64_S4096x2x16_0_0_32) (broadcastInDim S4096x2x16 ![0, 1, 2] bcast_S4096x1x16_S4096x2x16_0_1_2 (broadcastInDim S4096x1x16 ![0, 2] bcast_S4096x16_S4096x1x16_0_2 (ax1 C))))
      (mulf (extractStridedSlice S4096x2x16 ![0, 0, 48] N slices_S4096x2x64_S4096x2x16_0_0_48) (broadcastInDim S4096x2x16 ![0, 1, 2] bcast_S4096x1x16_S4096x2x16_0_1_2 (broadcastInDim S4096x1x16 ![0, 2] bcast_S4096x16_S4096x1x16_0_2 (ax1 S))))⟩,
    ⟨S4096x2x16, addf (mulf (extractStridedSlice S4096x2x16 ![0, 0, 48] N slices_S4096x2x64_S4096x2x16_0_0_48) (broadcastInDim S4096x2x16 ![0, 1, 2] bcast_S4096x1x16_S4096x2x16_0_1_2 (broadcastInDim S4096x1x16 ![0, 2] bcast_S4096x16_S4096x1x16_0_2 (ax1 C))))
      (mulf (extractStridedSlice S4096x2x16 ![0, 0, 32] N slices_S4096x2x64_S4096x2x16_0_0_32) (broadcastInDim S4096x2x16 ![0, 1, 2] bcast_S4096x1x16_S4096x2x16_0_1_2 (broadcastInDim S4096x1x16 ![0, 2] bcast_S4096x16_S4096x1x16_0_2 (ax1 S))))⟩]
    concatenates_S4096x2x16_S4096x2x16_S4096x2x16_S4096x2x16_S4096x2x64_d2

/-- The first axis's angles, and the second's. -/
theorem ax0_at (T : FVec Ideal S4096x2x16 .f32) (i : Fin 4096) (f : Fin 16) : ax0 T (ix2 i f) = T (ix3 i 0 f) := by pointwise [ax0]
theorem ax1_at (T : FVec Ideal S4096x2x16 .f32) (i : Fin 4096) (f : Fin 16) : ax1 T (ix2 i f) = T (ix3 i 1 f) := by pointwise [ax1]

/-- At one channel of each half of an axis. -/
theorem QT_at (N : FVec Ideal S4096x8x64 .f32) (C S : FVec Ideal S4096x2x16 .f32) (i : Fin 4096) (h : Fin 8) (s : Fin 2) (f : Fin 16) :
    QT N C S (ix3 i h (ch s 0 f)) = N (ix3 i h (ch s 0 f)) * C (ix3 i s f) - N (ix3 i h (ch s 1 f)) * S (ix3 i s f)
      ∧ QT N C S (ix3 i h (ch s 1 f)) = N (ix3 i h (ch s 1 f)) * C (ix3 i s f) + N (ix3 i h (ch s 0 f)) * S (ix3 i s f) := by
  have hf := f.isLt
  fin_cases s
  · constructor
    · pointwise [QT, ax0_at, ax1_at, ch]
    · pointwise [QT, ax0_at, ax1_at, ch]
  · constructor
    · pointwise [QT, ax0_at, ax1_at, ch]
      simp [show ¬(32 + f.val < 16) by omega, show ¬(32 + f.val - 16 < 16) by omega, show 32 + f.val - 16 - 16 = f.val by omega]
    · pointwise [QT, ax0_at, ax1_at, ch]
      simp [show ¬(48 + f.val < 16) by omega, show ¬(48 + f.val - 16 < 16) by omega, show ¬(48 + f.val - 16 - 16 < 16) by omega, show 48 + f.val - 16 - 16 - 16 = f.val by omega]

/-- At one channel of each half of an axis. -/
theorem KT_at (N : FVec Ideal S4096x2x64 .f32) (C S : FVec Ideal S4096x2x16 .f32) (i : Fin 4096) (g : Fin 2) (s : Fin 2) (f : Fin 16) :
    KT N C S (ix3 i g (ch s 0 f)) = N (ix3 i g (ch s 0 f)) * C (ix3 i s f) - N (ix3 i g (ch s 1 f)) * S (ix3 i s f)
      ∧ KT N C S (ix3 i g (ch s 1 f)) = N (ix3 i g (ch s 1 f)) * C (ix3 i s f) + N (ix3 i g (ch s 0 f)) * S (ix3 i s f) := by
  have hf := f.isLt
  fin_cases s
  · constructor
    · pointwise [KT, ax0_at, ax1_at, ch]
    · pointwise [KT, ax0_at, ax1_at, ch]
  · constructor
    · pointwise [KT, ax0_at, ax1_at, ch]
      simp [show ¬(32 + f.val < 16) by omega, show ¬(32 + f.val - 16 < 16) by omega, show 32 + f.val - 16 - 16 = f.val by omega]
    · pointwise [KT, ax0_at, ax1_at, ch]
      simp [show ¬(48 + f.val < 16) by omega, show ¬(48 + f.val - 16 < 16) by omega, show ¬(48 + f.val - 16 - 16 < 16) by omega, show 48 + f.val - 16 - 16 - 16 = f.val by omega]

/-- The turned queries are the reference's. -/
theorem host_q : V m c main_v141 = val_main_v69 (F := Ideal) (ap m c) (aqg m c) := by
  have h : V m c main_v141 = QT (val_main_v20 (F := Ideal) (ap m c) (aqg m c)) (val_main_v47 (F := Ideal)) (val_main_v48 (F := Ideal)) := by
    show StableHlo.after hostOps0 _ (Proc.devRef .tc main_v141) = _
    after_results <;> rfl
  rw [h]
  funext z
  obtain ⟨i, h, d, rfl⟩ : ∃ i h d, z = ix3 i h d := ⟨z 0, z 1, z 2, (ix3_eta z).symm⟩
  obtain ⟨s, f, rfl | rfl⟩ := ch_cases d
  · rw [q_turn_0]; exact (QT_at _ _ _ i h s f).1
  · rw [q_turn_1]; exact (QT_at _ _ _ i h s f).2

/-- The turned keys are the reference's. -/
theorem host_k : V m c main_v221 = val_main_v135 (F := Ideal) (ap m c) (akg m c) := by
  have h : V m c main_v221 = KT (val_main_v86 (F := Ideal) (ap m c) (akg m c)) (val_main_v113 (F := Ideal)) (val_main_v114 (F := Ideal)) := by
    show StableHlo.after hostOps0 _ (Proc.devRef .tc main_v221) = _
    after_results <;> rfl
  rw [h]
  funext z
  obtain ⟨i, g, d, rfl⟩ : ∃ i g d, z = ix3 i g d := ⟨z 0, z 1, z 2, (ix3_eta z).symm⟩
  obtain ⟨s, f, rfl | rfl⟩ := ch_cases d
  · rw [k_turn_0]; exact (KT_at _ _ _ i g s f).1
  · rw [k_turn_1]; exact (KT_at _ _ _ i g s f).2

set_option maxHeartbeats 4000000 in
/-- The attention's output is the reference's. -/
theorem host_o : V m c main_v244 = val_main_v174 (F := Ideal) (ap m c) (aqg m c) (akg m c) := by
  rw [ref_o, ← host_q, ← host_k]
  show StableHlo.after hostOps0 _ (Proc.devRef .tc main_v244) = Cert.AttnRefIdeal.Read.val_main_v42 (F := Ideal) (StableHlo.after hostOps0 _ (Proc.devRef .tc main_v141)) (StableHlo.after hostOps0 _ (Proc.devRef .tc main_v221)) _
  after_results
  rfl

/-! ## The tables and the gains -/

/-- Four quarters side by side, twice. -/
def TB (a b d e : FVec Ideal S4096x16 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x16, a⟩, ⟨S4096x16, b⟩, ⟨S4096x16, d⟩, ⟨S4096x16, e⟩]
      concatenates_S4096x16_S4096x16_S4096x16_S4096x16_S4096x64_d1) shapeCasts_S4096x64_S1x4096x1x64)) shapeCasts_S1x4096x2x64_S4096x128

/-- The table's value in each of a head's four quarters. -/
theorem TB_at (a b d e : FVec Ideal S4096x16 .f32) (i : Fin 4096) (hh : Fin 2) (f : Fin 16) :
    TB a b d e (ix2 i (pc hh (ch 0 0 f))) = a (ix2 i f) ∧ TB a b d e (ix2 i (pc hh (ch 0 1 f))) = b (ix2 i f)
      ∧ TB a b d e (ix2 i (pc hh (ch 1 0 f))) = d (ix2 i f) ∧ TB a b d e (ix2 i (pc hh (ch 1 1 f))) = e (ix2 i f) := by
  have hf := f.isLt
  refine ⟨?_, ?_, ?_, ?_⟩
  · pointwise [TB, ch, pc]
    simp [show (hh.val * 64 + f.val) % 64 = f.val by omega]
  · pointwise [TB, ch, pc]
    simp [show (hh.val * 64 + (16 + f.val)) % 64 = 16 + f.val by omega, show ¬(16 + f.val < 16) by omega, show 16 + f.val - 16 = f.val by omega]
  · pointwise [TB, ch, pc]
    simp [show (hh.val * 64 + (32 + f.val)) % 64 = 32 + f.val by omega, show ¬(32 + f.val < 16) by omega, show ¬(32 + f.val - 16 < 16) by omega,
      show 32 + f.val - 16 - 16 = f.val by omega]
  · pointwise [TB, ch, pc]
    simp [show (hh.val * 64 + (48 + f.val)) % 64 = 48 + f.val by omega, show ¬(48 + f.val < 16) by omega, show ¬(48 + f.val - 16 < 16) by omega,
      show ¬(48 + f.val - 16 - 16 < 16) by omega, show 48 + f.val - 16 - 16 - 16 = f.val by omega]

/-- The table of cosines. -/
theorem host_cs : V m c main_v50 = TB (ax0 (val_main_v47 (F := Ideal))) (ax0 (val_main_v47 (F := Ideal))) (ax1 (val_main_v47 (F := Ideal))) (ax1 (val_main_v47 (F := Ideal))) := by
  show StableHlo.after hostOps0 _ (Proc.devRef .tc main_v50) = _
  after_results <;> rfl

/-- The table of sines, with the sign of the gradient's turn. -/
theorem host_sn : V m c main_v53 = TB (Host.negf (F := Ideal) (φ := .f32) (ax0 (val_main_v48 (F := Ideal)))) (ax0 (val_main_v48 (F := Ideal)))
    (Host.negf (F := Ideal) (φ := .f32) (ax1 (val_main_v48 (F := Ideal)))) (ax1 (val_main_v48 (F := Ideal))) := by
  show StableHlo.after hostOps0 _ (Proc.devRef .tc main_v53) = _
  after_results <;> rfl

variable (i : Fin 4096) (h : Fin 8) (g : Fin 2) (d : Fin 64)

/-- The queries' gain, once per head of a pair. -/
theorem host_qg : V m c main_v57 (ix2 0 (pc g d)) = aqg m c (ix1 d) := by
  have h : V m c main_v57 = shapeCast S1x128 (broadcastInDim S1x1x2x64 ![0, 1, 2, 3] bcast_S1x1x1x64_S1x1x2x64_0_1_2_3
      (shapeCast S1x1x1x64 (shapeCast S1x64 (aqg m c) shapeCasts_S64_S1x64) shapeCasts_S1x64_S1x1x1x64)) shapeCasts_S1x1x2x64_S1x128 := by
    show StableHlo.after hostOps0 _ (Proc.devRef .tc main_v57) = _
    after_results <;> rfl
  rw [h]; pointwise [pc]

/-- The keys' gain, once per head. -/
theorem host_kg : V m c main_v61 (ix2 0 (pc g d)) = akg m c (ix1 d) := by
  have h : V m c main_v61 = shapeCast S1x128 (broadcastInDim S1x1x2x64 ![0, 1, 2, 3] bcast_S1x1x1x64_S1x1x2x64_0_1_2_3
      (shapeCast S1x1x1x64 (shapeCast S1x64 (akg m c) shapeCasts_S64_S1x64) shapeCasts_S1x64_S1x1x1x64)) shapeCasts_S1x1x2x64_S1x128 := by
    show StableHlo.after hostOps0 _ (Proc.devRef .tc main_v61) = _
    after_results <;> rfl
  rw [h]; pointwise [pc]

/-! ## The cotangents -/

theorem host_dq : V m c main_v246 (ix2 i ⟨h.val * 64 + d.val, by omega⟩) = adq m c (ix3 i h d) := by
  have h : V m c main_v246 = shapeCast S4096x512 (adq m c) shapeCasts_S4096x8x64_S4096x512 := by
    show StableHlo.after hostOps0 _ (Proc.devRef .tc main_v246) = _
    after_results <;> rfl
  rw [h]; pointwise

/-- The turned keys' cotangents, transposed. -/
theorem host_dk : V m c main_v248 (ix2 (pc g d) i) = adk m c (ix3 i g d) := by
  have h : V m c main_v248 = transpose S128x4096 [1, 0] (shapeCast S4096x128 (adk m c) shapeCasts_S4096x2x64_S4096x128) transposes_S4096x128_S128x4096_1_0 := by
    show StableHlo.after hostOps0 _ (Proc.devRef .tc main_v248) = _
    after_results <;> rfl
  rw [h]; pointwise [pc]

/-- The values' cotangents, transposed. -/
theorem host_dv : V m c main_v250 (ix2 (pc g d) i) = adv m c (ix3 i g d) := by
  have h : V m c main_v250 = transpose S128x4096 [1, 0] (shapeCast S4096x128 (adv m c) shapeCasts_S4096x2x64_S4096x128) transposes_S4096x128_S128x4096_1_0 := by
    show StableHlo.after hostOps0 _ (Proc.devRef .tc main_v250) = _
    after_results <;> rfl
  rw [h]; pointwise [pc]

/-- The output's cotangent is the argument. -/
theorem host_dy : V m c main_arg6 = ady m c := by
  show StableHlo.after hostOps0 _ (Proc.devRef .tc main_arg6) = _
  after_results <;> rfl

/-! ## Blocks -/

/-- The block indices of the windows. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, t.val] ∧ win0_7.index t = ![0, t.val]
    ∧ win0_8.index t = ![t.val, 0] ∧ win0_9.index t = ![t.val, 0] ∧ win0_10.index t = ![t.val, 0] ∧ win0_11.index t = ![0, 0] ∧ win0_12.index t = ![0, 0] :=
  (by decide +kernel : ∀ t : Fin grid0.N, _)

/-- There are eight points. -/
theorem lt8 (t : Fin cfg0.N) : t.val < 8 := t.isLt

/-- The row of the array that a row of point `t`'s block is. -/
def row (t : Fin cfg0.N) (i : Fin 512) : Fin 4096 := ⟨t.val * 512 + i.val, by have := lt8 t; omega⟩

variable (t : Fin cfg0.N)

/-- A point's block of the joint input, and then of each other array. -/
theorem blk_pa (z : S512x1280.Idx) : iblk m c 0 t z = ap m c (ix2 (row t (z 0)) (z 1)) := by
  refine Eq.trans (b := V m c main_v245 (ix2 (row t (z 0)) (z 1))) ?_ (congrFun (host_pa m c) _)
  blk_point [iblk, idx t, row]
theorem blk_cs (z : S512x128.Idx) : iblk m c 1 t z = V m c main_v50 (ix2 (row t (z 0)) (z 1)) := by blk_point [iblk, idx t, row]
theorem blk_sn (z : S512x128.Idx) : iblk m c 2 t z = V m c main_v53 (ix2 (row t (z 0)) (z 1)) := by blk_point [iblk, idx t, row]
theorem blk_qg (z : S1x128.Idx) : iblk m c 3 t z = V m c main_v57 z := by blk_point [iblk, idx t]
theorem blk_kg (z : S1x128.Idx) : iblk m c 4 t z = V m c main_v61 z := by blk_point [iblk, idx t]
theorem blk_dq (z : S512x512.Idx) : iblk m c 5 t z = V m c main_v246 (ix2 (row t (z 0)) (z 1)) := by blk_point [iblk, idx t, row]
theorem blk_dk (z : S128x512.Idx) : iblk m c 6 t z = V m c main_v248 (ix2 (z 0) (row t (z 1))) := by blk_point [iblk, idx t, row]
theorem blk_dv (z : S128x512.Idx) : iblk m c 7 t z = V m c main_v250 (ix2 (z 0) (row t (z 1))) := by blk_point [iblk, idx t, row]
theorem blk_dy (z : S512x512.Idx) : iblk m c 8 t z = V m c main_arg6 (ix2 (row t (z 0)) (z 1)) := by blk_point [iblk, idx t, row]
theorem blk_o (z : S512x512.Idx) : iblk m c 9 t z = V m c main_v244 (ix2 (row t (z 0)) (z 1)) := by blk_point [iblk, idx t, row]

end Cert.PrepIdeal.Host
-- ==== Proof.PrepPoint.lean ====
/-
  What a grid point of the call for the gradients of the norms, rotary positions and gate leaves in its blocks, column group by column group,
  against the reference.
-/
module

public import proofs.«01_k».proof.Proof.PrepHost

@[expose] public section

set_option maxRecDepth 16384

noncomputable section

namespace Cert.PrepIdeal.Point

open Cert.PrepIdeal Cert.PrepIdeal.Gen Cert.PrepIdeal.Rows Cert.PrepIdeal.Host
open Cert.AttnIdeal.Whole (ld2)
open Cert.PrepRefIdeal.Read (val_main_v17 val_main_v83 val_main_v47 val_main_v48 val_main_v113 val_main_v114 val_main_v174 val_main_v180 val_main_v182
  val_main_v181 val_main_v205 val_main_v248 val_main_v271)
open Cert.PrepRefIdeal.Point (ch ch_cases q_rope_0 q_rope_1 k_rope_0 k_rope_1 k_cos k_sin chain msq qx kx q_n k_n dpa_q dpa_k dpa_v dpa_z dz_eq)
open Idealize.ShloMosaic Idealize.ShloMosaic.TcCoe Idealize.SL.Sem

variable (m : (ℓ : Loc nD τ sig) → Buf (Elt Ideal) ℓ) (c : Dev nD) (t : Fin cfg0.N)

/-- A pair's columns among the queries', and in the block of all columns. -/
theorem inbQ (p : Fin 4) (x : Fin 2) : (![0, p.val * 128] : Fin 2 → ℕ) x + (![512, 128] : Fin 2 → ℕ) x ≤ S512x512.size x := by fin_cases x <;> simp; omega
theorem inbX (p : Fin 6) (x : Fin 2) : (![0, p.val * 128] : Fin 2 → ℕ) x + (![512, 128] : Fin 2 → ℕ) x ≤ S512x1280.size x := by fin_cases x <;> simp; omega

/-- The inputs of 128 columns. -/
def XP (p : Fin 6) : FVec Ideal S512x128 .f32 := k0_pay6 (F := Ideal) (View.ld (iblk m c 0 t) (Rect.unit (s := S512x1280) ![0, p.val * 128] ![512, 128] (inbX p)))
/-- The turned queries' cotangents of a pair of heads, scaled. -/
def DQ (p : Fin 4) : FVec Ideal S512x128 .f32 := k0_pay8 (F := Ideal) (View.ld (iblk m c 5 t) (Rect.unit (s := S512x512) ![0, p.val * 128] ![512, 128] (inbQ p)))
/-- The turned keys' cotangents. -/
def DK : FVec Ideal S512x128 .f32 := k0_pay60 (F := Ideal) (iblk m c 6 t)
/-- The tables of cosines and signed sines. -/
def CP : FVec Ideal S512x128 .f32 := k0_pay2 (F := Ideal) (iblk m c 1 t)
def SP : FVec Ideal S512x128 .f32 := k0_pay3 (F := Ideal) (iblk m c 2 t)
/-- The gains. -/
def GQ : FVec Ideal S1x128 .f32 := k0_pay7 (F := Ideal) (iblk m c 3 t)
def GK : FVec Ideal S1x128 .f32 := k0_pay59 (F := Ideal) (iblk m c 4 t)

/-- The four pairs among the six groups of columns. -/
def up (p : Fin 4) : Fin 6 := ⟨p.val, by omega⟩

/-- A pair's head. -/
def qh (p : Fin 4) (h : Fin 2) : Fin 8 := ⟨p.val * 2 + h.val, by omega⟩

variable (a : Fin 512) (p : Fin 4) (h : Fin 2) (d : Fin 64)

/-- A group's inputs are the joint input's columns. -/
theorem XP_at (p : Fin 6) (z : S512x128.Idx) : XP m c t p z = ap m c (ix2 (row t (z 0)) ⟨p.val * 128 + (z 1).val, by have h : (z 1).val < 128 := (z 1).isLt; omega⟩) := by
  refine Eq.trans (b := View.ld (iblk m c 0 t) (Rect.unit (s := S512x1280) ![0, p.val * 128] ![512, 128] (inbX p)) z) (by pointwise [XP, k0_pay6]) ?_
  refine (ld2 (n := 512) (w := 1280) (a := 512) (b := 128) (e := .bf16) _ 0 (p.val * 128) (inbX p) z).trans ((blk_pa m c t _).trans ?_)
  exact congrArg (fun r => ap m c (ix2 (row t r) _)) (Fin.ext (Nat.zero_add _))

/-- A key's cotangent. -/
theorem DK_at : DK m c t (ix2 a (pc h d)) = adk m c (ix3 (row t a) h d) := by
  refine Eq.trans ?_ (host_dk m c (row t a) h d)
  refine Eq.trans (b := iblk m c 6 t (ix2 (pc h d) a)) (by pointwise [DK, k0_pay60]) (blk_dk m c t _)

/-- The tables' blocks. -/
theorem CP_at (z : S512x128.Idx) : CP m c t z = V m c main_v50 (ix2 (row t (z 0)) (z 1)) := by
  refine Eq.trans (b := iblk m c 1 t z) (by pointwise [CP, k0_pay2]) (blk_cs m c t _)
theorem SP_at (z : S512x128.Idx) : SP m c t z = V m c main_v53 (ix2 (row t (z 0)) (z 1)) := by
  refine Eq.trans (b := iblk m c 2 t z) (by pointwise [SP, k0_pay3]) (blk_sn m c t _)
/-- The gains, per head. -/
theorem GQ_at : GQ m c t (ix2 0 (pc h d)) = aqg m c (ix1 d) := by
  refine Eq.trans (b := iblk m c 3 t (ix2 0 (pc h d))) (by pointwise [GQ, k0_pay7]) ((blk_qg m c t _).trans (host_qg m c h d))
theorem GK_at : GK m c t (ix2 0 (pc h d)) = akg m c (ix1 d) := by
  refine Eq.trans (b := iblk m c 4 t (ix2 0 (pc h d))) (by pointwise [GK, k0_pay59]) ((blk_kg m c t _).trans (host_kg m c h d))

/-- A query's input. -/
theorem XP_q : XP m c t (up p) (ix2 a (pc h d)) = qx (ap m c) (row t a) (qh p h) d := by
  refine (XP_at m c t _ _).trans (congrArg (fun n => ap m c (ix2 (row t a) n)) (Fin.ext ?_))
  show p.val * 128 + (h.val * 64 + d.val) = (p.val * 2 + h.val) * 64 + d.val; omega
/-- A key's input. -/
theorem XP_k : XP m c t 4 (ix2 a (pc h d)) = kx (ap m c) (row t a) h d := by
  refine (XP_at m c t _ _).trans (congrArg (fun n => ap m c (ix2 (row t a) n)) (Fin.ext ?_))
  show 4 * 128 + (h.val * 64 + d.val) = 512 + (h.val * 64 + d.val); omega

/-- A query's cotangent, scaled. -/
theorem DQ_q : DQ m c t p (ix2 a (pc h d)) = val_main_v182 (F := Ideal) (adq m c) (ix3 (row t a) (qh p h) d) := by
  have e : View.ld (Val := Elt Ideal) (iblk m c 5 t) (Rect.unit (s := S512x512) ![0, p.val * 128] ![512, 128] (inbQ p)) (ix2 a (pc h d)) = adq m c (ix3 (row t a) (qh p h) d) := by
    refine (ld2 (n := 512) (w := 512) (a := 512) (b := 128) (e := .f32) _ 0 (p.val * 128) (inbQ p) _).trans ((blk_dq m c t _).trans (Eq.trans ?_ (host_dq m c (row t a) (qh p h) d)))
    refine congrArg (V m c main_v246) (congrArg₂ ix2 (congrArg (row t) (Fin.ext (Nat.zero_add _))) (Fin.ext ?_))
    show p.val * 128 + (h.val * 64 + d.val) = (p.val * 2 + h.val) * 64 + d.val; omega
  have e2 : val_main_v182 (F := Ideal) (adq m c) (ix3 (row t a) (qh p h) d) = adq m c (ix3 (row t a) (qh p h) d) * Ideal.ofBits .f32 0x3E000000#32 := by
    pointwise [val_main_v182, val_main_v181, Cert.PrepRefIdeal.Read.val_main_cst_23]
  rw [e2, ← e]
  pointwise [DQ, k0_pay8]

variable (s : Fin 2) (f : Fin 16)

/-- The exchange of the halves of a turned pair of groups. -/
theorem sw_0 : sw (pc h (ch s 0 f)) = pc h (ch s 1 f) := by
  have e : (h.val * 64 + (s.val * 32 + 0 * 16 + f.val)) % 32 < 16 := by omega
  refine (if_pos e).trans (Fin.ext ?_)
  show (h.val * 64 + (s.val * 32 + 0 * 16 + f.val) + 16) % 128 = h.val * 64 + (s.val * 32 + 1 * 16 + f.val); omega
theorem sw_1 : sw (pc h (ch s 1 f)) = pc h (ch s 0 f) := by
  have e : ¬(h.val * 64 + (s.val * 32 + 1 * 16 + f.val)) % 32 < 16 := by omega
  refine (if_neg e).trans (Fin.ext ?_)
  show (h.val * 64 + (s.val * 32 + 1 * 16 + f.val) + 112) % 128 = h.val * 64 + (s.val * 32 + 0 * 16 + f.val); omega

/-- The cosine of both halves is the angle's. -/
theorem CP_ch (e : Fin 2) : CP m c t (ix2 a (pc h (ch s e f))) = val_main_v47 (F := Ideal) (ix3 (row t a) s f) := by
  refine (CP_at m c t _).trans ?_
  rw [host_cs]
  have T := TB_at (ax0 (val_main_v47 (F := Ideal))) (ax0 (val_main_v47 (F := Ideal))) (ax1 (val_main_v47 (F := Ideal))) (ax1 (val_main_v47 (F := Ideal))) (row t a) h f
  fin_cases s <;> fin_cases e
  · exact T.1.trans (ax0_at _ _ _)
  · exact T.2.1.trans (ax0_at _ _ _)
  · exact T.2.2.1.trans (ax1_at _ _ _)
  · exact T.2.2.2.trans (ax1_at _ _ _)

/-- The first half's sine is negated. -/
theorem SP_ch_0 : SP m c t (ix2 a (pc h (ch s 0 f))) = -val_main_v48 (F := Ideal) (ix3 (row t a) s f) := by
  refine (SP_at m c t _).trans ?_
  rw [host_sn]
  have T := TB_at (Host.negf (F := Ideal) (φ := .f32) (ax0 (val_main_v48 (F := Ideal)))) (ax0 (val_main_v48 (F := Ideal)))
    (Host.negf (F := Ideal) (φ := .f32) (ax1 (val_main_v48 (F := Ideal)))) (ax1 (val_main_v48 (F := Ideal))) (row t a) h f
  fin_cases s
  · exact T.1.trans (congrArg (- ·) (ax0_at _ _ _))
  · exact T.2.2.1.trans (congrArg (- ·) (ax1_at _ _ _))
theorem SP_ch_1 : SP m c t (ix2 a (pc h (ch s 1 f))) = val_main_v48 (F := Ideal) (ix3 (row t a) s f) := by
  refine (SP_at m c t _).trans ?_
  rw [host_sn]
  have T := TB_at (Host.negf (F := Ideal) (φ := .f32) (ax0 (val_main_v48 (F := Ideal)))) (ax0 (val_main_v48 (F := Ideal)))
    (Host.negf (F := Ideal) (φ := .f32) (ax1 (val_main_v48 (F := Ideal)))) (ax1 (val_main_v48 (F := Ideal))) (row t a) h f
  fin_cases s
  · exact T.2.1.trans (ax0_at _ _ _)
  · exact T.2.2.2.trans (ax1_at _ _ _)

/-- The rotation's gradient of the queries is the reference's. -/
theorem DN_q : DN (CP m c t) (SP m c t) (DQ m c t p) (ix2 a (pc h d)) = val_main_v248 (F := Ideal) (adq m c) (ix3 (row t a) (qh p h) d) := by
  refine (DN_at _ _ _ _).trans ?_
  obtain ⟨s, f, rfl | rfl⟩ := ch_cases d
  · rw [q_rope_0, ← DQ_q, ← DQ_q, ← CP_ch m c t a h s f 0, ← SP_ch_1 m c t a h s f]
    exact congrArg (fun n => _ + DQ m c t p (ix2 a n) * SP m c t (ix2 a n)) (sw_0 h s f)
  · rw [q_rope_1, ← DQ_q, ← DQ_q, ← CP_ch m c t a h s f 1, ← SP_ch_0 m c t a h s f]
    exact congrArg (fun n => _ + DQ m c t p (ix2 a n) * SP m c t (ix2 a n)) (sw_1 h s f)

/-- The rotation's gradient of the keys is the reference's. -/
theorem DN_k : DN (CP m c t) (SP m c t) (DK m c t) (ix2 a (pc h d)) = val_main_v205 (F := Ideal) (adk m c) (ix3 (row t a) h d) := by
  refine (DN_at _ _ _ _).trans ?_
  obtain ⟨s, f, rfl | rfl⟩ := ch_cases d
  · rw [k_rope_0, k_cos, k_sin, ← DK_at, ← DK_at, ← CP_ch m c t a h s f 0, ← SP_ch_1 m c t a h s f]
    exact congrArg (fun n => _ + DK m c t (ix2 a n) * SP m c t (ix2 a n)) (sw_0 h s f)
  · rw [k_rope_1, k_cos, k_sin, ← DK_at, ← DK_at, ← CP_ch m c t a h s f 1, ← SP_ch_0 m c t a h s f]
    exact congrArg (fun n => _ + DK m c t (ix2 a n) * SP m c t (ix2 a n)) (sw_1 h s f)

/-! ## The columns of the joint gradient -/

/-- The joint gradient's block. -/
def dpa : Vec Ideal S4096x1280 .f32 := val_main_v271 (F := Ideal) (ap m c) (aqg m c) (akg m c) (adq m c) (adk m c) (adv m c) (ady m c)

/-- The norms' gradient at a point, for a pair of query heads and for the two key heads. -/
def DXQ : FVec Ideal S512x128 .bf16 := DX (XP m c t (up p)) (CP m c t) (SP m c t) (DQ m c t p) (GQ m c t)
def DXK : FVec Ideal S512x128 .bf16 := DX (XP m c t 4) (CP m c t) (SP m c t) (DK m c t) (GK m c t)

/-- A pair's columns are the reference's. -/
theorem DXQ_at : DXQ m c t p (ix2 a (pc h d)) = dpa m c (ix2 (row t a) ⟨(qh p h).val * 64 + d.val, by omega⟩) := by
  refine (DX_at _ _ _ _ _ a h d).trans (Eq.trans ?_ (dpa_q (ap m c) (aqg m c) (akg m c) (adq m c) (adk m c) (adv m c) (ady m c) (row t a) (qh p h) d).symm)
  simp only [XP_q, DN_q, GQ_at, chain, msq, Alg.lit_neg_half, lit_64]

/-- The keys' columns are the reference's. -/
theorem DXK_at : DXK m c t (ix2 a (pc h d)) = dpa m c (ix2 (row t a) ⟨512 + (h.val * 64 + d.val), by omega⟩) := by
  refine (DX_at _ _ _ _ _ a h d).trans (Eq.trans ?_ (dpa_k (ap m c) (aqg m c) (akg m c) (adq m c) (adk m c) (adv m c) (ady m c) (row t a) h d).symm)
  simp only [XP_k, DN_k, GK_at, chain, msq, Alg.lit_neg_half, lit_64]

/-- The values' columns. -/
def DV : FVec Ideal S512x128 .bf16 := k0_pay74 (F := Ideal) (iblk m c 7 t)

/-- The values' columns are the reference's. -/
theorem DV_at : DV m c t (ix2 a (pc h d)) = dpa m c (ix2 (row t a) ⟨640 + (h.val * 64 + d.val), by omega⟩) := by
  refine Eq.trans ?_ (dpa_v (ap m c) (aqg m c) (akg m c) (adq m c) (adk m c) (adv m c) (ady m c) (row t a) h d).symm
  refine Eq.trans (b := iblk m c 7 t (ix2 (pc h d) a)) (by pointwise [DV, k0_pay74]) ((blk_dv m c t _).trans (host_dv m c (row t a) h d))

/-- The gate's columns are the last 512. -/
theorem inbZ (x : Fin 2) : (![0, 768] : Fin 2 → ℕ) x + (![512, 512] : Fin 2 → ℕ) x ≤ S512x1280.size x := by fin_cases x <;> simp

/-- The gate's inputs and gradient. -/
def ZP : Vec Ideal S512x512 .bf16 := View.ld (Val := Elt Ideal) (iblk m c 0 t) (Rect.unit (s := S512x1280) ![0, 768] ![512, 512] inbZ)
def DZ : FVec Ideal S512x512 .bf16 := k0_pay1 (F := Ideal) (k0_pay75 (ZP m c t)) (k0_pay76 (ZP m c t)) (k0_pay77 (F := Ideal)) (iblk m c 8 t) (iblk m c 9 t)

/-- The gate's inputs are the joint input's last columns. -/
theorem ZP_at (z : S512x512.Idx) : ZP m c t z = ap m c (ix2 (row t (z 0)) ⟨768 + (z 1).val, by have h : (z 1).val < 512 := (z 1).isLt; omega⟩) := by
  refine (ld2 (n := 512) (w := 1280) (a := 512) (b := 512) (e := .bf16) _ 0 768 inbZ z).trans ((blk_pa m c t _).trans ?_)
  exact congrArg (fun r => ap m c (ix2 (row t r) _)) (Fin.ext (Nat.zero_add _))

/-- The gate's gradient from its inputs, the cotangent and the attention's output. -/
theorem pay1_at (Z : Vec Ideal S512x512 .bf16) (Y O : Vec Ideal S512x512 .f32) (z : S512x512.Idx) :
    k0_pay1 (F := Ideal) (k0_pay75 Z) (k0_pay76 Z) (k0_pay77 (F := Ideal)) Y O z
      = (fun x : EReal => Y z * O z * (Ideal.div 1 (1 + Ideal.exp (-x)) * (1 + x * (1 - Ideal.div 1 (1 + Ideal.exp (-x)))))) (Z z) := by
  have e : ∀ x : EReal, Ideal.ofBits .f32 0x3F000000#32 * Ideal.tanh (Ideal.ofBits .f32 0x3F000000#32 * x) + Ideal.ofBits .f32 0x3F000000#32
      = Ideal.div 1 (1 + Ideal.exp (-x)) := fun x => by rw [Alg.lit_half, Alg.half_tanh]
  show _ = Y z * O z * (Ideal.div 1 (1 + Ideal.exp (-Z z)) * (1 + Z z * (1 - Ideal.div 1 (1 + Ideal.exp (-Z z)))))
  rw [← e]
  pointwise [k0_pay1, k0_pay75, k0_pay76, k0_pay77]

/-- The arguments that must be real: the joint input, the two gains, and the output's cotangent. -/
structure Fin4 : Prop where
  pa : ∀ i, ∃ r : ℝ, ap m c i = (r : EReal)
  qg : ∀ i, ∃ r : ℝ, aqg m c i = (r : EReal)
  kg : ∀ i, ∃ r : ℝ, akg m c i = (r : EReal)
  dy : ∀ i, ∃ r : ℝ, ady m c i = (r : EReal)

/-- The gate's columns are the reference's, where the arguments are real. -/
theorem DZ_at (hf : Fin4 m c) (n : Fin 512) : DZ m c t (ix2 a n) = dpa m c (ix2 (row t a) ⟨768 + n.val, by omega⟩) := by
  refine (pay1_at _ _ _ _).trans (Eq.trans ?_ (dpa_z (ap m c) (aqg m c) (akg m c) (adq m c) (adk m c) (adv m c) (ady m c) (row t a) n).symm)
  refine Eq.trans ?_ (dz_eq (ap m c) (aqg m c) (akg m c) (ady m c) (row t a) hf.pa hf.qg hf.kg hf.dy n).symm
  have hy : iblk m c 8 t (ix2 a n) = ady m c (ix2 (row t a) n) := (blk_dy m c t _).trans (congrFun (host_dy m c) _)
  have ho : iblk m c 9 t (ix2 a n) = val_main_v174 (F := Ideal) (ap m c) (aqg m c) (akg m c) (ix2 (row t a) n) := (blk_o m c t _).trans (congrFun (host_o m c) _)
  rw [ZP_at, hy, ho]; rfl

/-! ## The gains -/

/-- A point's part of the queries' gain's gradient, four pairs added in turn, and of the keys'. -/
def DGQ (A : Vec Ideal S1x128 .f32) : FVec Ideal S1x128 .f32 :=
  DG (XP m c t (up 3)) (CP m c t) (SP m c t) (DQ m c t 3) (DG (XP m c t (up 2)) (CP m c t) (SP m c t) (DQ m c t 2)
    (DG (XP m c t (up 1)) (CP m c t) (SP m c t) (DQ m c t 1) (DG (XP m c t (up 0)) (CP m c t) (SP m c t) (DQ m c t 0) A)))
def DGK (A : Vec Ideal S1x128 .f32) : FVec Ideal S1x128 .f32 := DG (XP m c t 4) (CP m c t) (SP m c t) (DK m c t) A

/-- A row's part, of one head. -/
def tq (i : Fin 4096) (n : Fin 8) : EReal := val_main_v17 (F := Ideal) (ap m c) (ix3 i n d) * val_main_v248 (F := Ideal) (adq m c) (ix3 i n d)
def tk (i : Fin 4096) (n : Fin 2) : EReal := val_main_v83 (F := Ideal) (ap m c) (ix3 i n d) * val_main_v205 (F := Ideal) (adk m c) (ix3 i n d)

/-- A pair's part of the queries' gain's gradient. -/
theorem DGq_at (A : Vec Ideal S1x128 .f32) : DG (XP m c t (up p)) (CP m c t) (SP m c t) (DQ m c t p) A (ix2 0 (pc h d))
    = A (ix2 0 (pc h d)) + ∑ a : Fin 512, tq m c d (row t a) (qh p h) := by
  refine (DG_at _ _ _ _ h d A).trans (congrArg (A (ix2 0 (pc h d)) + ·) (Finset.sum_congr rfl fun a _ => ?_))
  simp only [XP_q, DN_q, tq, q_n, rs, msq, lit_64]
  exact mul_comm _ _

/-- The keys' gain's part. -/
theorem DGK_at (A : Vec Ideal S1x128 .f32) : DGK m c t A (ix2 0 (pc h d)) = A (ix2 0 (pc h d)) + ∑ a : Fin 512, tk m c d (row t a) h := by
  refine (DG_at _ _ _ _ h d A).trans (congrArg (A (ix2 0 (pc h d)) + ·) (Finset.sum_congr rfl fun a _ => ?_))
  simp only [XP_k, DN_k, tk, k_n, rs, msq, lit_64]
  exact mul_comm _ _

/-- The queries' gain's part: four pairs. -/
theorem DGQ_at (A : Vec Ideal S1x128 .f32) : DGQ m c t A (ix2 0 (pc h d)) = A (ix2 0 (pc h d)) + ∑ a : Fin 512, ∑ p : Fin 4, tq m c d (row t a) (qh p h) := by
  refine (DGq_at m c t 3 h d _).trans ?_
  rw [DGq_at m c t 2 h d, DGq_at m c t 1 h d, DGq_at m c t 0 h d]
  simp only [Fin.sum_univ_four, Finset.sum_add_distrib, add_assoc]

end Cert.PrepIdeal.Point
-- ==== Proof.PrepValue.lean ====
/-
  The call for the gradients of the norms, rotary positions and gate: its three results against the reference's.
-/
module

public import proofs.«01_k».proof.Proof.PrepPoint

@[expose] public section

set_option maxRecDepth 16384

noncomputable section

namespace Cert.PrepIdeal.Whole

open Cert.PrepIdeal Cert.PrepIdeal.Gen Cert.PrepIdeal.Rows Cert.PrepIdeal.Host Cert.PrepIdeal.Point
open Cert.PrepRefIdeal.Read (val_main_v211 val_main_v254 val_main_v271)
open Cert.PrepRefIdeal.Point (dg_q dg_k)
open Idealize.ShloMosaic Idealize.ShloMosaic.TcCoe Idealize.SL.Sem

/-! ## Seven stores of columns -/

/-- The whole's place of 128 columns. -/
abbrev at6 (p : Fin 6) (z : S512x128.Idx) : S512x1280.Idx :=
  ix2 (z 0) ⟨p.val * 128 + (z 1).val, by have : (z 1).val < 128 := (z 1).isLt; omega⟩
abbrev atZ (z : S512x512.Idx) : S512x1280.Idx := ix2 (z 0) ⟨768 + (z 1).val, by have : (z 1).val < 512 := (z 1).isLt; omega⟩

/-- A store of 128 columns, and of the last 512. -/
abbrev piece (p : Fin 6) (A : Vec Ideal S512x128 .bf16) : View.Piece (Elt Ideal) S512x1280 .bf16 :=
  ⟨Rect.unit (s := S512x1280) ![0, p.val * 128] ![512, 128] (inbX p), A⟩
abbrev pieceZ (A : Vec Ideal S512x512 .bf16) : View.Piece (Elt Ideal) S512x1280 .bf16 :=
  ⟨Rect.unit (s := S512x1280) ![0, 768] ![512, 512] inbZ, A⟩

/-- A store writes the columns of an array. -/
theorem piece_of (p : Fin 6) (A : Vec Ideal S512x128 .bf16) (f : Vec Ideal S512x1280 .bf16) (hA : ∀ z, A z = f (at6 p z))
    (x : (piece p A).1.shape.Idx) : (piece p A).2 x = f ((piece p A).1.emb x) := by
  refine (hA x).trans (congrArg f (funext fun a => Fin.ext ?_))
  refine Eq.trans ?_ (Rect.idx_unit_val _ _ (inbX p) _ _).symm
  fin_cases a <;> simp [at6]
theorem pieceZ_of (A : Vec Ideal S512x512 .bf16) (f : Vec Ideal S512x1280 .bf16) (hA : ∀ z, A z = f (atZ z))
    (x : (pieceZ A).1.shape.Idx) : (pieceZ A).2 x = f ((pieceZ A).1.emb x) := by
  refine (hA x).trans (congrArg f (funext fun a => Fin.ext ?_))
  refine Eq.trans ?_ (Rect.idx_unit_val _ _ inbZ _ _).symm
  fin_cases a <;> simp [atZ]

/-- A column lies in its store. -/
theorem piece_mem (p : Fin 6) (A : Vec Ideal S512x128 .bf16) (z : S512x1280.Idx) (h : (z 1).val / 128 = p.val) : z ∈ (piece p A).1.set := by
  mem_blk
  have h0 : (z 0).val < 512 := (z 0).isLt
  intro a; fin_cases a <;> simp <;> omega
theorem pieceZ_mem (A : Vec Ideal S512x512 .bf16) (z : S512x1280.Idx) (h : 768 ≤ (z 1).val) : z ∈ (pieceZ A).1.set := by
  mem_blk
  have h0 : (z 0).val < 512 := (z 0).isLt
  have h1 : (z 1).val < 1280 := (z 1).isLt
  intro a; fin_cases a <;> simp <;> omega

/-- Six stores of 128 columns and one of 512 leave the array that they are the columns of. -/
theorem canon_cols (f : Vec Ideal S512x1280 .bf16) {A0 A1 A2 A3 A4 A5 : Vec Ideal S512x128 .bf16} {Z : Vec Ideal S512x512 .bf16}
    (h0 : ∀ z, A0 z = f (at6 0 z)) (h1 : ∀ z, A1 z = f (at6 1 z)) (h2 : ∀ z, A2 z = f (at6 2 z)) (h3 : ∀ z, A3 z = f (at6 3 z))
    (h4 : ∀ z, A4 z = f (at6 4 z)) (h5 : ∀ z, A5 z = f (at6 5 z)) (hZ : ∀ z, Z z = f (atZ z)) :
    View.canon [pieceZ Z, piece 5 A5, piece 4 A4, piece 3 A3, piece 2 A2, piece 1 A1, piece 0 A0] = f := by
  funext z
  refine View.canon_append_of_piecesOf f [] [pieceZ Z, piece 5 A5, piece 4 A4, piece 3 A3, piece 2 A2, piece 1 A1, piece 0 A0]
    ⟨pieceZ_of _ f hZ, piece_of _ _ f h5, piece_of _ _ f h4, piece_of _ _ f h3, piece_of _ _ f h2, piece_of _ _ f h1, piece_of _ _ f h0, trivial⟩ z ?_
  have hz : (z 1).val < 1280 := (z 1).isLt
  by_cases hl : 768 ≤ (z 1).val
  · exact ⟨pieceZ Z, by simp, pieceZ_mem _ _ hl⟩
  obtain ⟨k, hk⟩ : ∃ k : Fin 6, (z 1).val / 128 = k.val := ⟨⟨(z 1).val / 128, by omega⟩, rfl⟩
  fin_cases k
  · exact ⟨piece 0 A0, by simp, piece_mem _ _ _ hk⟩
  · exact ⟨piece 1 A1, by simp, piece_mem _ _ _ hk⟩
  · exact ⟨piece 2 A2, by simp, piece_mem _ _ _ hk⟩
  · exact ⟨piece 3 A3, by simp, piece_mem _ _ _ hk⟩
  · exact ⟨piece 4 A4, by simp, piece_mem _ _ _ hk⟩
  · exact ⟨piece 5 A5, by simp, piece_mem _ _ _ hk⟩

variable (m : (ℓ : Loc nD τ sig) → Buf (Elt Ideal) ℓ) (ρ : Dev nD → PrngReg) (c : Dev nD) (t : Fin cfg0.N)

/-- A column of 128 is a head's. -/
theorem pc_cases (n : Fin 128) : ∃ (h : Fin 2) (d : Fin 64), n = pc h d :=
  ⟨⟨n.val / 64, by omega⟩, ⟨n.val % 64, by omega⟩, Fin.ext (by simp only [pc]; omega)⟩

/-! ## The joint gradient -/

/-- A point's block of the joint gradient. -/
def blk (z : S512x1280.Idx) : EReal := dpa m c (ix2 (row t (z 0)) (z 1))

/-- The columns of a point's block, group by group. -/
theorem cols_q (p : Fin 4) (z : S512x128.Idx) : DXQ m c t p z = blk m c t (at6 (up p) z) := by
  obtain ⟨h, d, e⟩ := pc_cases (z 1)
  have e' : z = ix2 (z 0) (pc h d) := by rw [← e]; blk_ext
  rw [e']
  refine (DXQ_at m c t (z 0) p h d).trans (congrArg (fun n => dpa m c (ix2 (row t (z 0)) n)) (Fin.ext ?_))
  show (p.val * 2 + h.val) * 64 + d.val = p.val * 128 + (h.val * 64 + d.val); omega
theorem cols_k (z : S512x128.Idx) : DXK m c t z = blk m c t (at6 4 z) := by
  obtain ⟨h, d, e⟩ := pc_cases (z 1)
  have e' : z = ix2 (z 0) (pc h d) := by rw [← e]; blk_ext
  rw [e']
  exact DXK_at m c t (z 0) h d
theorem cols_v (z : S512x128.Idx) : DV m c t z = blk m c t (at6 5 z) := by
  obtain ⟨h, d, e⟩ := pc_cases (z 1)
  have e' : z = ix2 (z 0) (pc h d) := by rw [← e]; blk_ext
  rw [e']
  exact DV_at m c t (z 0) h d
theorem cols_z (hf : Fin4 m c) (z : S512x512.Idx) : DZ m c t z = blk m c t (atZ z) := by
  have e' : z = ix2 (z 0) (z 1) := by blk_ext
  rw [e']
  exact DZ_at m c t (z 0) hf (z 1)

/-- The stores of the first point, and of the others. -/
theorem pieces_A (h : t.val % 8 = 0) : (outsAt0 m c t.val t.isLt).1
    = View.canon [pieceZ (DZ m c t), piece 5 (DV m c t), piece 4 (DXK m c t), piece 3 (DXQ m c t 3), piece 2 (DXQ m c t 2), piece 1 (DXQ m c t 1), piece 0 (DXQ m c t 0)] := by
  rw [outsAt0_A m c t h]; frame_out; rfl
theorem pieces_B (h : ¬t.val % 8 = 0) : (outsAt0 m c t.val t.isLt).1
    = View.canon [pieceZ (DZ m c t), piece 5 (DV m c t), piece 4 (DXK m c t), piece 3 (DXQ m c t 3), piece 2 (DXQ m c t 2), piece 1 (DXQ m c t 1), piece 0 (DXQ m c t 0)] := by
  rw [outsAt0_B m c t h]; frame_out; rfl

/-- Every point leaves its block of the joint gradient. -/
theorem out_pa (hf : Fin4 m c) : (outsAt0 m c t.val t.isLt).1 = blk m c t := by
  refine Eq.trans ?_ (canon_cols (blk m c t) (cols_q m c t 0) (cols_q m c t 1) (cols_q m c t 2) (cols_q m c t 3) (cols_k m c t) (cols_v m c t) (cols_z m c t hf))
  by_cases h : t.val % 8 = 0
  · exact pieces_A m c t h
  · exact pieces_B m c t h

/-- The joint gradient is the reference's. -/
theorem dpa_value (hf : Fin4 m c) : (dats m 0 c).arrAt 10 cfg0.N = dpa m c := by
  refine (dats m 0 c).arrAt_eq_of_covers 10 _ (by decide +kernel) fun t _ y => ?_
  blk_simp
  rw [after0_10, out_pa m c t hf]
  refine congrArg (dpa m c) ?_
  blk_ext [idx t, row] <;> simp [Pipeline.WinKind.off]

/-! ## The gains' gradients -/

theorem dgq_reset (h : t.val % 8 = 0) : (outsAt0 m c t.val t.isLt).2.1 = DGQ m c t (k0_pay4 (F := Ideal)) := by
  rw [outsAt0_A m c t h]; frame_out; rfl
theorem dgq_step (h : ¬t.val % 8 = 0) : (outsAt0 m c t.val t.isLt).2.1
    = DGQ m c t (outsAt0 m c (t.val - 1) (Nat.lt_of_le_of_lt (Nat.sub_le _ _) t.isLt)).2.1 := by
  rw [outsAt0_B m c t h]; frame_out; rfl
theorem dgk_reset (h : t.val % 8 = 0) : (outsAt0 m c t.val t.isLt).2.2 = DGK m c t (k0_pay5 (F := Ideal)) := by
  rw [outsAt0_A m c t h]; frame_out; rfl
theorem dgk_step (h : ¬t.val % 8 = 0) : (outsAt0 m c t.val t.isLt).2.2
    = DGK m c t (outsAt0 m c (t.val - 1) (Nat.lt_of_le_of_lt (Nat.sub_le _ _) t.isLt)).2.2 := by
  rw [outsAt0_B m c t h]; frame_out; rfl

/-- Row `a` of point `n`'s blocks. -/
def rowN (n : ℕ) (a : Fin 512) : Fin 4096 := ⟨n % 8 * 512 + a.val, by omega⟩
/-- A block's row by the point's number. -/
theorem rowN_eq (a : Fin 512) : row t a = rowN t.val a := Fin.ext (by have := lt8 t; simp only [row, rowN]; omega)

/-- The sum of the eight points' parts is the sum over all rows. -/
theorem sum_blocks (h : t.val % 8 = 7) (f : Fin 4096 → EReal) :
    ∑ k ∈ Finset.range (7 + 1), ∑ a, f (rowN (8 * (t.val / 8) + k) a) = ∑ i, f i := by
  rw [Finset.sum_range, Fin.sum_univ_tiles (M := EReal) 8 512 rfl]
  refine Finset.sum_congr rfl fun k _ => Finset.sum_congr rfl fun a _ => congrArg f (Fin.ext ?_)
  simp only [rowN]; omega

/-- The head and the channel of a column. -/
def hd (n : Fin 128) : Fin 2 := ⟨n.val / 64, by omega⟩
def cn (n : Fin 128) : Fin 64 := ⟨n.val % 64, by omega⟩
theorem pc_eq (z : S1x128.Idx) : z = ix2 0 (pc (hd (z 1)) (cn (z 1))) := by
  have e : pc (hd (z 1)) (cn (z 1)) = z 1 := Fin.ext (by simp only [pc, hd, cn]; omega)
  rw [e]
  have h0 : (z 0).val < 1 := (z 0).isLt
  exact funext fun a => Fin.ext (by fin_cases a <;> simp)

/-- The gains' gradients in the kernel's layout: a column sums the rows, and the queries' also the four heads of its half. -/
def dgqa (z : S1x128.Idx) : EReal := ∑ i : Fin 4096, ∑ p : Fin 4, tq m c (cn (z 1)) i (qh p (hd (z 1)))
def dgka (z : S1x128.Idx) : EReal := ∑ i : Fin 4096, tk m c (cn (z 1)) i (hd (z 1))

/-- The gains' gradients are written out after the last point. -/
theorem flush11 : ∀ t : Fin cfg0.N, (cfg0.win 11).flush t = true → t.val % 8 = 7 := by decide +kernel
theorem flush12 : ∀ t : Fin cfg0.N, (cfg0.win 12).flush t = true → t.val % 8 = 7 := by decide +kernel

/-- A point's part at any column. -/
theorem part_q (A : Vec Ideal S1x128 .f32) (z : S1x128.Idx) :
    DGQ m c t A z = A z + ∑ a : Fin 512, ∑ p : Fin 4, tq m c (cn (z 1)) (rowN t.val a) (qh p (hd (z 1))) := by
  conv_lhs => rw [pc_eq z]
  refine (DGQ_at m c t (hd (z 1)) (cn (z 1)) A).trans ?_
  rw [← pc_eq z]; simp only [rowN_eq]
theorem part_k (A : Vec Ideal S1x128 .f32) (z : S1x128.Idx) :
    DGK m c t A z = A z + ∑ a : Fin 512, tk m c (cn (z 1)) (rowN t.val a) (hd (z 1)) := by
  conv_lhs => rw [pc_eq z]
  refine (DGK_at m c t (hd (z 1)) (cn (z 1)) A).trans ?_
  rw [← pc_eq z]; simp only [rowN_eq]

/-- The last point leaves the queries' gain's gradient. -/
theorem dgq_value : (dats m 0 c).arrAt 11 cfg0.N = dgqa m c := by
  refine (dats m 0 c).arrAt_eq_of_covers 11 _ (by decide +kernel) fun t hfl y => ?_
  blk_simp
  rw [after0_11, Pipeline.eq_sum_of_reset_step_apply_of_mod (fun n h => (outsAt0 m c n h).2.1) 8 (fun _ => 0)
    (fun n (z : S1x128.Idx) => ∑ a : Fin 512, ∑ p : Fin 4, tq m c (cn (z 1)) (rowN n a) (qh p (hd (z 1))))
    (fun t h z => by
      refine (congrFun (dgq_reset m c t h) z).trans ((part_q m c t _ z).trans (congrArg (· + _) ?_))
      pointwise [k0_pay4])
    (fun t h z => (congrFun (dgq_step m c t h) z).trans (part_q m c t _ z))
    t (flush11 t hfl) _, zero_add]
  refine (sum_blocks t (flush11 t hfl) fun i => ∑ p : Fin 4, tq m c (cn (y 1)) i (qh p (hd (y 1)))).trans ?_
  show dgqa m c y = _
  refine congrArg _ ?_
  blk_ext [idx t] <;> simp [Pipeline.WinKind.off]

/-- The last point leaves the keys' gain's gradient. -/
theorem dgk_value : (dats m 0 c).arrAt 12 cfg0.N = dgka m c := by
  refine (dats m 0 c).arrAt_eq_of_covers 12 _ (by decide +kernel) fun t hfl y => ?_
  blk_simp
  rw [after0_12, Pipeline.eq_sum_of_reset_step_apply_of_mod (fun n h => (outsAt0 m c n h).2.2) 8 (fun _ => 0)
    (fun n (z : S1x128.Idx) => ∑ a : Fin 512, tk m c (cn (z 1)) (rowN n a) (hd (z 1)))
    (fun t h z => by
      refine (congrFun (dgk_reset m c t h) z).trans ((part_k m c t _ z).trans (congrArg (· + _) ?_))
      pointwise [k0_pay5])
    (fun t h z => (congrFun (dgk_step m c t h) z).trans (part_k m c t _ z))
    t (flush12 t hfl) _, zero_add]
  refine (sum_blocks t (flush12 t hfl) fun i => tk m c (cn (y 1)) i (hd (y 1))).trans ?_
  show dgka m c y = _
  refine congrArg _ ?_
  blk_ext [idx t] <;> simp [Pipeline.WinKind.off]

/-! ## The host's lines after the kernel -/

/-- The two halves of a row of 128, added. -/
def halves (X : FVec Ideal S1x128 .f32) : FVec Ideal S64 .f32 :=
  addf (shapeCast S64 (extractStridedSlice S1x64 ![0, 0] X slices_S1x128_S1x64_0_0) shapeCasts_S1x64_S64)
    (shapeCast S64 (extractStridedSlice S1x64 ![0, 64] X slices_S1x128_S1x64_0_64) shapeCasts_S1x64_S64)

/-- A channel's two columns, added. -/
theorem halves_at (X : FVec Ideal S1x128 .f32) (d : Fin 64) : halves X (ix1 d) = X (ix2 0 (pc 0 d)) + X (ix2 0 (pc 1 d)) := by
  pointwise [halves, pc]

/-- The gains' gradients after the host's lines. -/
theorem tail_q : Pipeline.afterTail₀ cfgs (dats m) 0 (V0 m) [hostOps1] c main_v256 = halves ((dats m 0 c).arrAt 11 cfg0.N) := by
  have h : Pipeline.withArrays spec0 c (V0 m c) (fun w => (dats m 0 c).arrAt w cfg0.N) (Proc.devRef .tc main_v251_1) = (dats m 0 c).arrAt 11 cfg0.N :=
    Pipeline.withArrays_arr spec0 (by decide) c _ _ 11
  rw [← h]
  show StableHlo.after hostOps1 _ (Proc.devRef .tc main_v256) = _
  after_results <;> rfl
theorem tail_k : Pipeline.afterTail₀ cfgs (dats m) 0 (V0 m) [hostOps1] c main_v261 = halves ((dats m 0 c).arrAt 12 cfg0.N) := by
  have h : Pipeline.withArrays spec0 c (V0 m c) (fun w => (dats m 0 c).arrAt w cfg0.N) (Proc.devRef .tc main_v251_2) = (dats m 0 c).arrAt 12 cfg0.N :=
    Pipeline.withArrays_arr spec0 (by decide) c _ _ 12
  rw [← h]
  show StableHlo.after hostOps1 _ (Proc.devRef .tc main_v261) = _
  after_results <;> rfl

/-- The head and channel of a head's column. -/
theorem hd_pc (h : Fin 2) (d : Fin 64) : hd (pc h d) = h := Fin.ext (by simp only [hd, pc]; omega)
theorem cn_pc (h : Fin 2) (d : Fin 64) : cn (pc h d) = d := Fin.ext (by simp only [cn, pc]; omega)

/-- Eight heads are four pairs' first and second. -/
theorem sum_pairs (f : Fin 8 → EReal) : ∑ p : Fin 4, f (qh p 0) + ∑ p : Fin 4, f (qh p 1) = ∑ n, f n := by
  rw [← Finset.sum_add_distrib, Fin.sum_univ_tiles (M := EReal) 4 2 rfl]
  exact Finset.sum_congr rfl fun p _ => (Fin.sum_univ_two fun h => f (qh p h)).symm

/-- The kernel's gradients at a head's column. -/
theorem dgqa_pc (h : Fin 2) (d : Fin 64) : dgqa m c (ix2 0 (pc h d)) = ∑ i : Fin 4096, ∑ p : Fin 4, tq m c d i (qh p h) := by
  show ∑ i : Fin 4096, ∑ p : Fin 4, tq m c (cn (pc h d)) i (qh p (hd (pc h d))) = _
  rw [hd_pc, cn_pc]
theorem dgka_pc (h : Fin 2) (d : Fin 64) : dgka m c (ix2 0 (pc h d)) = ∑ i : Fin 4096, tk m c d i h := by
  show ∑ i : Fin 4096, tk m c (cn (pc h d)) i (hd (pc h d)) = _
  rw [hd_pc, cn_pc]

/-- The queries' gain's gradient is the reference's. -/
theorem dgq_ref : Pipeline.afterTail₀ cfgs (dats m) 0 (V0 m) [hostOps1] c main_v256 = val_main_v254 (F := Ideal) (ap m c) (adq m c) := by
  rw [tail_q, dgq_value]
  funext z
  obtain ⟨d, rfl⟩ : ∃ d : Fin 64, z = ix1 d := ⟨z 0, by blk_ext⟩
  refine (halves_at _ _).trans (Eq.trans ?_ (dg_q _ _ _).symm)
  rw [dgqa_pc, dgqa_pc, ← Finset.sum_add_distrib]
  exact Finset.sum_congr rfl fun i _ => sum_pairs (tq m c d i)

/-- The keys' gain's gradient is the reference's. -/
theorem dgk_ref : Pipeline.afterTail₀ cfgs (dats m) 0 (V0 m) [hostOps1] c main_v261 = val_main_v211 (F := Ideal) (ap m c) (adk m c) := by
  rw [tail_k, dgk_value]
  funext z
  obtain ⟨d, rfl⟩ : ∃ d : Fin 64, z = ix1 d := ⟨z 0, by blk_ext⟩
  refine (halves_at _ _).trans (Eq.trans ?_ (dg_k _ _ _).symm)
  rw [dgka_pc, dgka_pc, ← Finset.sum_add_distrib]
  exact Finset.sum_congr rfl fun i _ => (Fin.sum_univ_two (tk m c d i)).symm

/-- The whole run: the three results hold the reference's gradients, and the arguments are as they were. -/
theorem run_value (hf : ∀ c : Dev nD, Fin4 m c) : θ_run defs (onTc (τ := τ) (main (F := Ideal))) ⟨m, fun _ => 0, ρ⟩ (fun r => ∀ c : Dev nD,
      r.2.mem ((c.tc : Thread nD τ).loc main_v251_0)
        = val_main_v271 (F := Ideal) (ap m c) (aqg m c) (akg m c) (adq m c) (adk m c) (adv m c) (ady m c)
      ∧ r.2.mem ((c.tc : Thread nD τ).loc main_v256) = val_main_v254 (F := Ideal) (ap m c) (adq m c)
      ∧ r.2.mem ((c.tc : Thread nD τ).loc main_v261) = val_main_v211 (F := Ideal) (ap m c) (adk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h.1 c).1 10).trans (dpa_value m c (hf c)),
     ((h.1 c).2 main_v256 (Pipeline.mem_restRefs_of main_v256 (by decide) (by decide))).trans (dgq_ref m c),
     ((h.1 c).2 main_v261 (Pipeline.mem_restRefs_of main_v261 (by decide) (by decide))).trans (dgk_ref m c), h.2 c⟩)
    (θ_run_and (Gen.run_main m ρ) (Gen.unchanged m ρ))

end Cert.PrepIdeal.Whole
-- ==== Proof.PrepClaims.lean ====
/-
  The claims about the normalisation, rotation and gate, backward: the kernel's frame, the reference's frame, and that both compute the same three
  gradients over the extended reals where the joint input, the gains and the output's cotangent are finite.
-/
module

public import proofs.«01_k».proof.Defs
public import proofs.«01_k».proof.Proof.PrepValue
public import proofs.«01_k».proof.Proof.Gen.PrepIdeal.Frame
public import proofs.«01_k».proof.Proof.Gen.PrepRefIdeal.Read
public import proofs.«01_k».proof.Proof.Gen.Prep
public import Idealize.ShloMosaic.Lib.Quiescent

@[expose] public section

set_option maxRecDepth 16384

noncomputable section

namespace Cert.Proof.Prep

open Idealize.ShloMosaic Idealize.ShloMosaic.TcCoe Idealize.SL.Sem

attribute [local instance] Cert.Prep.Gen.facts Cert.PrepIdeal.Gen.facts Cert.PrepRefIdeal.Gen.facts

/-- The printed kernel's frame, from the one generated run at machine floats. -/
theorem frame_kernel : Cert.quiescent_Prep := fun m ρ _ =>
  cast (by sl_kernel_rfl) (Cert.PrepIdeal.Gen.frame (F := Bits) m ρ)
/-- The same run over the reals. -/
theorem frame_ideal : Cert.quiescent_PrepIdeal := fun m ρ _ => Cert.PrepIdeal.Gen.frame (F := Ideal) m ρ
/-- The reference, host operations only, leaves its arguments and has no semaphore. -/
theorem frame_reference : Cert.quiescent_PrepRefIdeal := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)
/-- What the precondition's text asks of shapes. -/
theorem pre_facts : Cert.Pre_finite_prep.Facts := ⟨by decide, by decide, by decide⟩

attribute [local instance] pre_facts

/-- The run over the reals, where the arguments are finite. -/
theorem frame_ideal_finite : Cert.quiescent_PrepIdeal_pre_finite_prep := fun m ρ _ => Cert.PrepIdeal.Gen.frame (F := Ideal) m ρ
/-- The reference's, where they are finite. -/
theorem frame_reference_finite : Cert.quiescent_PrepRefIdeal_pre_finite_prep := fun m ρ _ => frame_reference m ρ trivial

/-- The precondition says that the joint input's, the gains' and the output's cotangent's entries are reals. -/
theorem finite (m) (h : Cert.Pre_PrepIdeal_finite_prep m) (c : Dev Cert.PrepIdeal.nD) : Cert.PrepIdeal.Point.Fin4 m c :=
  ⟨Alg.finite_of _ _ (fun _ => rfl) (h c).1, Alg.finite_of _ _ (fun _ => rfl) (h c).2.1, Alg.finite_of _ _ (fun _ => rfl) (h c).2.2.1,
    Alg.finite_of _ _ (fun _ => rfl) (h c).2.2.2⟩

/-- The reference's three results are the kernel's. -/
theorem algebraic : Cert.algebraic_PrepIdeal_PrepRefIdeal_pre_finite_prep := by
  pair_intro
  · run_from Cert.PrepIdeal.Whole.run_value m g (finite m hpre)
  · refine (θ_run Cert.PrepRefIdeal.defs _ _).mono (fun r h c => ?_) (Cert.PrepRefIdeal.Value.run (F := Ideal) m' g')
    obtain ⟨e0, e1, e2, e3, e4, e5, e6⟩ := hagree c
    refine ⟨((h c).1.trans (Cert.PrepRefIdeal.Read.val_main_v271_eq (F := Ideal) _)).trans ?_,
      ((h c).2.1.trans (Cert.PrepRefIdeal.Read.val_main_v254_eq (F := Ideal) _)).trans ?_,
      ((h c).2.2.1.trans (Cert.PrepRefIdeal.Read.val_main_v211_eq (F := Ideal) _)).trans ?_, (h c).2.2.2⟩
    · exact congr (congr (congr (congr (congr (congr (congrArg (Cert.PrepRefIdeal.Read.val_main_v271 (F := Ideal)) e0) e1) e2) e3) e4) e5) e6
    · exact congrArg₂ (Cert.PrepRefIdeal.Read.val_main_v254 (F := Ideal)) e0 e3
    · exact congrArg₂ (Cert.PrepRefIdeal.Read.val_main_v211 (F := Ideal)) e0 e4

end Cert.Proof.Prep
-- ==== Proof.AdamwValue.lean ====
/-
  The sum of the devices' gradient parts and one optimiser step, over the reals: a grid point takes 512 rows of 128 weights,
  adds the eight devices' parts of their gradient and steps the two moments and the weights; the reference does the same
  to the four layers' arrays as a whole.
-/
module

public import proofs.«01_k».proof.Proof.Gen.AdamwIdeal.Value
public import proofs.«01_k».proof.Proof.Gen.AdamwRefIdeal.Read
public import Idealize.ShloMosaic.Lib.Pipeline.ValueKit

@[expose] public section

set_option maxRecDepth 16384

noncomputable section

namespace Cert.AdamwIdeal.Whole

open Cert.AdamwIdeal Cert.AdamwIdeal.Gen Cert.AdamwRefIdeal.Read
open Idealize.ShloMosaic Idealize.ShloMosaic.TcCoe Idealize.SL.Sem

/-! ## One weight -/

/-- The first moment after the step. -/
def mom1 (g u : EReal) : EReal := Ideal.ofBits .f32 0x3F666666#32 * u + Ideal.ofBits .f32 0x3DCCCCCD#32 * g
/-- The second moment after the step. -/
def mom2 (g v : EReal) : EReal := Ideal.ofBits .f32 0x3F7FBE77#32 * v + Ideal.ofBits .f32 0x3A83126F#32 * (g * g)
/-- The change of the weight. -/
def step (g w u v : EReal) : EReal :=
  Ideal.ofBits .f32 0xBA83126F#32 *
    (Ideal.div (Ideal.div (mom1 g u) (Ideal.ofBits .f32 0x3F26BD02#32))
        (Ideal.sqrt (Ideal.div (mom2 g v) (Ideal.ofBits .f32 0x3C231ACC#32)) + Ideal.ofBits .f32 0x322BCC77#32)
      + Ideal.ofBits .f32 0x3C23D70A#32 * w)

/-! ## The reference -/

section Ref
variable (P : Vec Ideal S8x4x4x128x128 .bf16) (w u v : Vec Ideal S4x4x128x128 .f32)

/-- The parts as rows of 128. -/
def parts : Vec Ideal S8x2048x128 .bf16 := shapeCast _ P shapeCasts_S8x4x4x128x128_S8x2048x128
/-- The weights or moments as rows of 128. -/
def rows : Vec Ideal S2048x128 .f32 := shapeCast _ w shapeCasts_S4x4x128x128_S2048x128

/-- The gradient is the sum of the parts. -/
theorem grad_ref (z : S2048x128.Idx) : val_main_v26 (F := Ideal) P z = ∑ k : Fin 8, parts P (ix3 k (z 0) (z 1)) := by
  pointwise [parts, val_main_v26, val_main_v1, val_main_v0, val_main_cst]

theorem mom1_ref (z : S2048x128.Idx) :
    val_main_v28 (F := Ideal) P u z = mom1 (val_main_v26 (F := Ideal) P z) (rows u z) := by
  pointwise [mom1, rows, val_main_v28, val_main_v26, val_main_v6, val_main_v5, val_main_v4, val_main_v3, val_main_v2,
    val_main_cst_0, val_main_cst_1]

theorem mom2_ref (z : S2048x128.Idx) :
    val_main_v29 (F := Ideal) P v z = mom2 (val_main_v26 (F := Ideal) P z) (rows v z) := by
  pointwise [mom2, rows, val_main_v29, val_main_v26, val_main_v12, val_main_v11, val_main_v10, val_main_v9, val_main_v8,
    val_main_v7, val_main_cst_2, val_main_cst_3]

theorem step_ref (z : S2048x128.Idx) :
    val_main_v27 (F := Ideal) P w u v z = step (val_main_v26 (F := Ideal) P z) (rows w z) (rows u z) (rows v z) := by
  pointwise [step, mom1, mom2, rows, val_main_v27, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v26, val_main_v6, val_main_v5, val_main_v4,
    val_main_v3, val_main_v2, val_main_cst_0, val_main_cst_1, val_main_cst_2, val_main_cst_3, val_main_cst_4, val_main_cst_5,
    val_main_cst_6, val_main_cst_7, val_main_cst_8]

end Ref

/-! ## One point -/

section Point
variable (X : Vec Ideal S8x512x128 .bf16) (g W U W' : Vec Ideal S512x128 .f32) (j : S512x128.Idx)

/-- A point adds the eight parts. -/
theorem grad_point : k0_pay4 (F := Ideal) (View.ld X r0_0) (View.ld X r0_1) (View.ld X r0_2) (View.ld X r0_3) (View.ld X r0_4)
    (View.ld X r0_5) (View.ld X r0_6) (View.ld X r0_7) j = ∑ k : Fin 8, X (ix3 k (j 0) (j 1)) := by
  pointwise [k0_pay4]
  rw [Fin.sum_univ_eight]

theorem mom1_point : k0_pay1 (F := Ideal) g U j = mom1 (g j) (U j) := by pointwise [k0_pay1, mom1]
theorem mom2_point : k0_pay2 (F := Ideal) g U j = mom2 (g j) (U j) := by pointwise [k0_pay2, mom2]
theorem step_point : k0_pay3 (F := Ideal) g (k0_pay5 W) U W' j = step (g j) (W j) (U j) (W' j) := by
  pointwise [k0_pay3, k0_pay5, k0_pay1, k0_pay2, step, mom1, mom2]

end Point

variable (m : (ℓ : Loc nD τ sig) → Buf (Elt Ideal) ℓ) (ρ : Dev nD → PrngReg)

/-- The block indices of the windows. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the array that a row of point `t`'s block is. -/
def row (t : Fin cfg0.N) (i : Fin 512) : Fin 2048 := ⟨t.val * 512 + i.val, by have := t.isLt; have : t.val < 4 := this; omega⟩

/-- The arguments as the kernel's windows see them. -/
theorem host_p (c : Dev nD) : V m c main_v0 = parts (m ((c : Thread nD τ).loc main_arg0)) := by
  show StableHlo.after hostOps0 _ (Proc.devRef .tc main_v0) = _
  after_results <;> rfl
theorem host_w (c : Dev nD) : V m c main_v1 = rows (m ((c : Thread nD τ).loc main_arg1)) := by
  show StableHlo.after hostOps0 _ (Proc.devRef .tc main_v1) = _
  after_results <;> rfl
theorem host_u (c : Dev nD) : V m c main_v2 = rows (m ((c : Thread nD τ).loc main_arg2)) := by
  show StableHlo.after hostOps0 _ (Proc.devRef .tc main_v2) = _
  after_results <;> rfl
theorem host_v (c : Dev nD) : V m c main_v3 = rows (m ((c : Thread nD τ).loc main_arg3)) := by
  show StableHlo.after hostOps0 _ (Proc.devRef .tc main_v3) = _
  after_results <;> rfl

theorem blk_p (c : Dev nD) (t : Fin cfg0.N) (j : S8x512x128.Idx) :
    iblk m c 0 t j = parts (m ((c : Thread nD τ).loc main_arg0)) (ix3 (j 0) (row t (j 1)) (j 2)) := by
  rw [← host_p m c]
  blk_point [iblk, idx t, row]
theorem blk_w (c : Dev nD) (t : Fin cfg0.N) (j : S512x128.Idx) :
    iblk m c 1 t j = rows (m ((c : Thread nD τ).loc main_arg1)) (ix2 (row t (j 0)) (j 1)) := by
  rw [← host_w m c]
  blk_point [iblk, idx t, row]
theorem blk_u (c : Dev nD) (t : Fin cfg0.N) (j : S512x128.Idx) :
    iblk m c 2 t j = rows (m ((c : Thread nD τ).loc main_arg2)) (ix2 (row t (j 0)) (j 1)) := by
  rw [← host_u m c]
  blk_point [iblk, idx t, row]
theorem blk_v (c : Dev nD) (t : Fin cfg0.N) (j : S512x128.Idx) :
    iblk m c 3 t j = rows (m ((c : Thread nD τ).loc main_arg3)) (ix2 (row t (j 0)) (j 1)) := by
  rw [← host_v m c]
  blk_point [iblk, idx t, row]

/-- The gradient of a point's block is the reference's at its rows. -/
theorem grad_blk (c : Dev nD) (t : Fin cfg0.N) (j : S512x128.Idx) :
    k0_pay6 (F := Ideal) (iblk m c 0 t) (iblk m c 1 t) (iblk m c 2 t) (iblk m c 3 t) j
      = val_main_v26 (F := Ideal) (m ((c : Thread nD τ).loc main_arg0)) (ix2 (row t (j 0)) (j 1)) := by
  rw [grad_ref]
  exact (grad_point _ j).trans (Finset.sum_congr rfl fun k _ => blk_p m c t _)

theorem grad_value (c : Dev nD) : (dats m 0 c).arrAt 4 cfg0.N = val_main_v26 (F := Ideal) (m ((c : Thread nD τ).loc main_arg0)) := by
  refine (dats m 0 c).arrAt_eq_of_covers 4 _ (by decide +kernel) fun t _ y => ?_
  blk_simp
  rw [after0_4, out0_4]; frame_out
  rw [grad_blk m c t]
  blk_ext [idx t, row] <;> simp [Pipeline.WinKind.off]

theorem step_value (c : Dev nD) : (dats m 0 c).arrAt 5 cfg0.N = val_main_v27 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out0_5]; frame_out
  rw [step_point, grad_blk m c t, blk_w m c t, blk_u m c t, blk_v m c t, ← step_ref]
  blk_ext [idx t, row] <;> simp [Pipeline.WinKind.off]

theorem mom1_value (c : Dev nD) : (dats m 0 c).arrAt 6 cfg0.N = val_main_v28 (F := Ideal) (m ((c : Thread nD τ).loc main_arg0))
    (m ((c : Thread nD τ).loc main_arg2)) := by
  refine (dats m 0 c).arrAt_eq_of_covers 6 _ (by decide +kernel) fun t _ y => ?_
  blk_simp
  rw [after0_6, out0_6]; frame_out
  rw [mom1_point, grad_blk m c t, blk_u m c t, ← mom1_ref]
  blk_ext [idx t, row] <;> simp [Pipeline.WinKind.off]

theorem mom2_value (c : Dev nD) : (dats m 0 c).arrAt 7 cfg0.N = val_main_v29 (F := Ideal) (m ((c : Thread nD τ).loc main_arg0))
    (m ((c : Thread nD τ).loc main_arg3)) := by
  refine (dats m 0 c).arrAt_eq_of_covers 7 _ (by decide +kernel) fun t _ y => ?_
  blk_simp
  rw [after0_7, out0_7]; frame_out
  rw [mom2_point, grad_blk m c t, blk_v m c t, ← mom2_ref]
  blk_ext [idx t, row] <;> simp [Pipeline.WinKind.off]

/-- After the kernel its four results are the reference's functions of the arguments. -/
theorem run_value : θ_run defs (onTc (τ := τ) (main (F := Ideal))) ⟨m, fun _ => 0, ρ⟩ (fun r => ∀ c : Dev nD,
      r.2.mem ((c.tc : Thread nD τ).loc main_v4_0) = val_main_v26 (F := Ideal) (m ((c : Thread nD τ).loc main_arg0))
      ∧ r.2.mem ((c.tc : Thread nD τ).loc main_v4_1) = val_main_v27 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v4_2) = val_main_v28 (F := Ideal) (m ((c : Thread nD τ).loc main_arg0)) (m ((c : Thread nD τ).loc main_arg2))
      ∧ r.2.mem ((c.tc : Thread nD τ).loc main_v4_3) = val_main_v29 (F := Ideal) (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (grad_value m c), (h c).2.1.trans (step_value m c),
    (h c).2.2.1.trans (mom1_value m c), (h c).2.2.2.1.trans (mom2_value m c), (h c).2.2.2.2⟩) (Cert.AdamwIdeal.Value.run_blocks m ρ)

end Cert.AdamwIdeal.Whole
-- ==== Proof.AdamwClaims.lean ====
/-
  The claims about the sum of the gradient's parts and the optimiser's step: the kernel's frame, the reference's frame, and that both
  compute the same four results over the extended reals.
-/
module

public import proofs.«01_k».proof.Defs
public import proofs.«01_k».proof.Proof.AdamwValue
public import proofs.«01_k».proof.Proof.Gen.Adamw
public import Idealize.ShloMosaic.Lib.Quiescent

@[expose] public section

set_option maxRecDepth 16384

noncomputable section

namespace Cert.Proof.Adamw

open Idealize.ShloMosaic Idealize.ShloMosaic.TcCoe Idealize.SL.Sem

attribute [local instance] Cert.Adamw.Gen.facts Cert.AdamwIdeal.Gen.facts Cert.AdamwRefIdeal.Gen.facts

/-- The printed kernel's frame, from the one generated run at machine floats. -/
theorem frame_kernel : Cert.quiescent_Adamw := fun m ρ _ =>
  cast (by sl_kernel_rfl) (Cert.AdamwIdeal.Gen.frame (F := Bits) m ρ)
/-- The same run over the reals. -/
theorem frame_ideal : Cert.quiescent_AdamwIdeal := fun m ρ _ => Cert.AdamwIdeal.Gen.frame (F := Ideal) m ρ
/-- The reference, host operations only, leaves its arguments and has no semaphore. -/
theorem frame_reference : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

/-- The reference's gradient, step and two moments are the kernel's. -/
theorem algebraic : Cert.algebraic_AdamwIdeal_AdamwRefIdeal := by
  pair_intro
  · run_from Cert.AdamwIdeal.Whole.run_value m g
  · refine (θ_run Cert.AdamwRefIdeal.defs _ _).mono (fun r h c => ?_) (Cert.AdamwRefIdeal.Value.run (F := Ideal) m' g')
    obtain ⟨e0, e1, e2, e3⟩ := hagree c
    refine ⟨((h c).1.trans (Cert.AdamwRefIdeal.Read.val_main_v26_eq (F := Ideal) _)).trans ?_,
      ((h c).2.1.trans (Cert.AdamwRefIdeal.Read.val_main_v27_eq (F := Ideal) _ _ _ _)).trans ?_,
      ((h c).2.2.1.trans (Cert.AdamwRefIdeal.Read.val_main_v28_eq (F := Ideal) _ _)).trans ?_,
      ((h c).2.2.2.1.trans (Cert.AdamwRefIdeal.Read.val_main_v29_eq (F := Ideal) _ _)).trans ?_, (h c).2.2.2.2⟩
    · exact congrArg (Cert.AdamwRefIdeal.Read.val_main_v26 (F := Ideal)) e0
    · exact congr (congr (congr (congrArg (Cert.AdamwRefIdeal.Read.val_main_v27 (F := Ideal)) e0) e1) e2) e3
    · exact congrArg₂ (Cert.AdamwRefIdeal.Read.val_main_v28 (F := Ideal)) e0 e2
    · exact congrArg₂ (Cert.AdamwRefIdeal.Read.val_main_v29 (F := Ideal)) e0 e3

end Cert.Proof.Adamw
-- ==== Proof.DwinValue.lean ====
/-
  The gradient of the input projection's weight: a grid point multiplies 256 columns of one of the four parts of the joint
  cotangent with the whole normalised input; the reference differentiates the projection, whose cotangent is the four
  parts side by side.
-/
module

public import proofs.«01_k».proof.Proof.Gen.DwinIdeal.Value
public import proofs.«01_k».proof.Proof.Gen.DwinRefIdeal.Read
public import Idealize.ShloMosaic.Lib.Pipeline.ValueKit

@[expose] public section

set_option maxRecDepth 16384

noncomputable section

namespace Cert.DwinIdeal.Whole

open Cert.DwinIdeal Cert.DwinIdeal.Gen Cert.DwinRefIdeal.Read
open Idealize.ShloMosaic Idealize.ShloMosaic.TcCoe Idealize.SL.Sem

/-- A point's product at an entry. -/
theorem prod_point (X : Vec Ideal S4096x256 .bf16) (H : Vec Ideal S4096x1024 .bf16) (j : S256x1024.Idx) :
    k0_pay1 (F := Ideal) X H j = ∑ k : Fin 4096, X (ix2 k (j 0)) * H (ix2 k (j 1)) := by
  pointwise [k0_pay1]

section Ref
variable (x : Vec Ideal S4096x1024 .f32) (g : Vec Ideal S1024 .f32) (a : Vec Ideal S4096x1280 .bf16) (b : Vec Ideal S4096x1536 .bf16)
  (e : Vec Ideal S4096x1024 .bf16) (d : Vec Ideal S4096x3072 .bf16)

/-- The reference's gradient at an entry. -/
theorem grad_ref (z : S6912x1024.Idx) : val_main_v20 (F := Ideal) x g a b e d z
    = ∑ k : Fin 4096, val_main_v0 (F := Ideal) a b e d (ix2 k (z 0)) * val_main_v15 (F := Ideal) x g (ix2 k (z 1)) := by
  pointwise [val_main_v20, val_main_v19, val_main_v18, val_main_v17, val_main_v1]

/-- The four parts side by side: the columns of the first part, -/
theorem part_a (k : Fin 4096) (n : Fin 6912) (i : Fin 1280) (h : n.val = 0 + i.val) :
    val_main_v0 (F := Ideal) a b e d (ix2 k n) = a (ix2 k i) := by
  have := i.isLt
  pointwise [val_main_v0]
  rw [dif_pos (by omega)]
  exact congrArg (fun q => a (ix2 k q)) (Fin.ext (show _ = i.val by simp only; omega))

/-- of the second, -/
theorem part_b (k : Fin 4096) (n : Fin 6912) (i : Fin 1536) (h : n.val = 1280 + i.val) :
    val_main_v0 (F := Ideal) a b e d (ix2 k n) = b (ix2 k i) := by
  have := i.isLt
  pointwise [val_main_v0]
  rw [dif_neg (by omega), dif_pos (by omega)]
  exact congrArg (fun q => b (ix2 k q)) (Fin.ext (show _ = i.val by simp only; omega))

/-- of the third, -/
theorem part_e (k : Fin 4096) (n : Fin 6912) (i : Fin 1024) (h : n.val = 2816 + i.val) :
    val_main_v0 (F := Ideal) a b e d (ix2 k n) = e (ix2 k i) := by
  have := i.isLt
  pointwise [val_main_v0]
  rw [dif_neg (by omega), dif_neg (by omega), dif_pos (by omega)]
  exact congrArg (fun q => e (ix2 k q)) (Fin.ext (show _ = i.val by simp only; omega))

/-- and of the fourth. -/
theorem part_d (k : Fin 4096) (n : Fin 6912) (i : Fin 3072) (h : n.val = 3840 + i.val) :
    val_main_v0 (F := Ideal) a b e d (ix2 k n) = d (ix2 k i) := by
  have := i.isLt
  pointwise [val_main_v0]
  rw [dif_neg (by omega), dif_neg (by omega), dif_neg (by omega)]
  exact congrArg (fun q => d (ix2 k q)) (Fin.ext (show _ = i.val by simp only; omega))

end Ref

variable (m : (ℓ : Loc nD τ sig) → Buf (Elt Ideal) ℓ) (ρ : Dev nD → PrngReg)

/-- The block indices of the normalised input's and the gradient's windows. -/
theorem idx : ∀ t : Fin cfg0.N, win0_4.index t = ![0, 0] ∧ win0_5.index t = ![t.val, 0] := (by decide +kernel : ∀ t : Fin grid0.N, _)
/-- Each part's window at the points that read it. -/
theorem idx_a : ∀ t : Fin cfg0.N, t.val < 5 → win0_0.index t = ![0, t.val] := (by decide +kernel : ∀ t : Fin grid0.N, _)
theorem idx_b : ∀ t : Fin cfg0.N, 5 ≤ t.val ∧ t.val ≤ 10 → win0_1.index t = ![0, t.val - 5] := (by decide +kernel : ∀ t : Fin grid0.N, _)
theorem idx_e : ∀ t : Fin cfg0.N, 11 ≤ t.val ∧ t.val ≤ 14 → win0_2.index t = ![0, t.val - 11] := (by decide +kernel : ∀ t : Fin grid0.N, _)
theorem idx_d : ∀ t : Fin cfg0.N, 15 ≤ t.val → win0_3.index t = ![0, t.val - 15] := (by decide +kernel : ∀ t : Fin grid0.N, _)

/-- The column of the joint cotangent that a column of point `t`'s block is. -/
def col (t : Fin cfg0.N) (i : Fin 256) : Fin 6912 := ⟨t.val * 256 + i.val, by have := t.isLt; have : t.val < 27 := this; omega⟩

/-- The normalised input is the reference's. -/
theorem host_h (c : Dev nD) : V m c main_v13 = truncf (F := Ideal) (s := S4096x1024) .bf16 (val_main_v15 (F := Ideal) (m ((c : Thread nD τ).loc main_arg0)) (m ((c : Thread nD τ).loc main_arg1))) bitsLt_bf16_f32 := by
  show StableHlo.after hostOps0 _ (Proc.devRef .tc main_v13) = _
  after_results <;> rfl
theorem blk_h (c : Dev nD) (t : Fin cfg0.N) (j : S4096x1024.Idx) :
    iblk m c 4 t j = val_main_v15 (F := Ideal) (m ((c : Thread nD τ).loc main_arg0)) (m ((c : Thread nD τ).loc main_arg1)) (ix2 (j 0) (j 1)) := by
  refine Eq.trans (b := V m c main_v13 (ix2 (j 0) (j 1))) ?_ (by rw [host_h]; rfl)
  blk_point [iblk, idx t]
/-- Each part's block at a point that reads it: columns of the joint cotangent. -/
theorem blk_a (c : Dev nD) (t : Fin cfg0.N) (h : t.val < 5) (j : S4096x256.Idx) :
    iblk m c 0 t j = val_main_v0 (F := Ideal) (m ((c : Thread nD τ).loc main_arg2)) (m ((c : Thread nD τ).loc main_arg3)) (m ((c : Thread nD τ).loc main_arg4)) (m ((c : Thread nD τ).loc main_arg5)) (ix2 (j 0) (col t (j 1))) := by
  have ht : t.val < 27 := t.isLt
  have hj : (j 1).val < 256 := (j 1).isLt
  rw [part_a _ _ _ _ (j 0) (col t (j 1)) ⟨t.val * 256 + (j 1).val, by omega⟩ (by simp only [col]; omega), ← V_main_arg2 m c]
  blk_point [iblk, idx_a t h]
theorem blk_b (c : Dev nD) (t : Fin cfg0.N) (h : 5 ≤ t.val ∧ t.val ≤ 10) (j : S4096x256.Idx) :
    iblk m c 1 t j = val_main_v0 (F := Ideal) (m ((c : Thread nD τ).loc main_arg2)) (m ((c : Thread nD τ).loc main_arg3)) (m ((c : Thread nD τ).loc main_arg4)) (m ((c : Thread nD τ).loc main_arg5)) (ix2 (j 0) (col t (j 1))) := by
  have ht : t.val < 27 := t.isLt
  have hj : (j 1).val < 256 := (j 1).isLt
  rw [part_b _ _ _ _ (j 0) (col t (j 1)) ⟨(t.val - 5) * 256 + (j 1).val, by omega⟩ (by simp only [col]; omega), ← V_main_arg3 m c]
  blk_point [iblk, idx_b t h]
theorem blk_e (c : Dev nD) (t : Fin cfg0.N) (h : 11 ≤ t.val ∧ t.val ≤ 14) (j : S4096x256.Idx) :
    iblk m c 2 t j = val_main_v0 (F := Ideal) (m ((c : Thread nD τ).loc main_arg2)) (m ((c : Thread nD τ).loc main_arg3)) (m ((c : Thread nD τ).loc main_arg4)) (m ((c : Thread nD τ).loc main_arg5)) (ix2 (j 0) (col t (j 1))) := by
  have ht : t.val < 27 := t.isLt
  have hj : (j 1).val < 256 := (j 1).isLt
  rw [part_e _ _ _ _ (j 0) (col t (j 1)) ⟨(t.val - 11) * 256 + (j 1).val, by omega⟩ (by simp only [col]; omega), ← V_main_arg4 m c]
  blk_point [iblk, idx_e t h]
theorem blk_d (c : Dev nD) (t : Fin cfg0.N) (h : 15 ≤ t.val) (j : S4096x256.Idx) :
    iblk m c 3 t j = val_main_v0 (F := Ideal) (m ((c : Thread nD τ).loc main_arg2)) (m ((c : Thread nD τ).loc main_arg3)) (m ((c : Thread nD τ).loc main_arg4)) (m ((c : Thread nD τ).loc main_arg5)) (ix2 (j 0) (col t (j 1))) := by
  have ht : t.val < 27 := t.isLt
  have hj : (j 1).val < 256 := (j 1).isLt
  rw [part_d _ _ _ _ (j 0) (col t (j 1)) ⟨(t.val - 15) * 256 + (j 1).val, by omega⟩ (by simp only [col]; omega), ← V_main_arg5 m c]
  blk_point [iblk, idx_d t h]

/-- A point's block of the gradient, whichever part it reads. -/
theorem prod_blk (c : Dev nD) (t : Fin cfg0.N) (X : Vec Ideal S4096x256 .bf16) (H : Vec Ideal S4096x1024 .bf16)
    (hX : ∀ j, X j = val_main_v0 (F := Ideal) (m ((c : Thread nD τ).loc main_arg2)) (m ((c : Thread nD τ).loc main_arg3)) (m ((c : Thread nD τ).loc main_arg4)) (m ((c : Thread nD τ).loc main_arg5)) (ix2 (j 0) (col t (j 1))))
    (hH : ∀ j, H j = val_main_v15 (F := Ideal) (m ((c : Thread nD τ).loc main_arg0)) (m ((c : Thread nD τ).loc main_arg1)) (ix2 (j 0) (j 1))) (j : S256x1024.Idx) :
    k0_pay1 (F := Ideal) X H j = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (col t (j 0)) (j 1)) := by
  rw [prod_point, grad_ref]
  exact Finset.sum_congr rfl fun k _ => congrArg₂ (· * ·) (hX _) (hH _)

/-- The gradient: block `t` of the result is rows `256 t …` of the reference's. -/
theorem grad_value (c : Dev nD) : (dats m 0 c).arrAt 5 cfg0.N = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t _ y => ?_
  have ht : t.val < 27 := t.isLt
  blk_simp
  rw [after0_5]
  by_cases h0 : t.val < 5
  · rw [outsAt0_A m c t h0 (by omega) (by omega) (by omega)]; frame_out
    refine (prod_blk m c t _ _ (blk_a m c t h0) (blk_h m c t) _).trans ?_
    blk_ext [idx t, col] <;> simp [Pipeline.WinKind.off]
  by_cases h1 : t.val ≤ 10
  · rw [outsAt0_B m c t h0 (by omega) (by omega) (by omega)]; frame_out
    refine (prod_blk m c t _ _ (blk_b m c t (by omega)) (blk_h m c t) _).trans ?_
    blk_ext [idx t, col] <;> simp [Pipeline.WinKind.off]
  by_cases h2 : t.val ≤ 14
  · rw [outsAt0_C m c t h0 (by omega) (by omega) (by omega)]; frame_out
    refine (prod_blk m c t _ _ (blk_e m c t (by omega)) (blk_h m c t) _).trans ?_
    blk_ext [idx t, col] <;> simp [Pipeline.WinKind.off]
  · rw [outsAt0_D m c t h0 (by omega) (by omega) (by omega)]; frame_out
    refine (prod_blk m c t _ _ (blk_d m c t (by omega)) (blk_h m c t) _).trans ?_
    blk_ext [idx t, col] <;> simp [Pipeline.WinKind.off]

/-- After the kernel its result is the reference's function of the arguments. -/
theorem run_value : θ_run defs (onTc (τ := τ) (main (F := Ideal))) ⟨m, fun _ => 0, ρ⟩ (fun r => ∀ c : Dev nD,
      r.2.mem ((c.tc : Thread nD τ).loc main_v14) = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (grad_value m c), (h c).2⟩) (Cert.DwinIdeal.Value.run_blocks m ρ)

end Cert.DwinIdeal.Whole
-- ==== Proof.DwinClaims.lean ====
/-
  The claims about the input projection's weight gradient: the kernel's frame, the reference's frame, and that both
  compute the same gradient over the extended reals.
-/
module

public import proofs.«01_k».proof.Defs
public import proofs.«01_k».proof.Proof.DwinValue
public import proofs.«01_k».proof.Proof.Gen.Dwin
public import Idealize.ShloMosaic.Lib.Quiescent

@[expose] public section

set_option maxRecDepth 16384

noncomputable section

namespace Cert.Proof.Dwin

open Idealize.ShloMosaic Idealize.ShloMosaic.TcCoe Idealize.SL.Sem

attribute [local instance] Cert.Dwin.Gen.facts Cert.DwinIdeal.Gen.facts Cert.DwinRefIdeal.Gen.facts

/-- The printed kernel's frame, from the one generated run at machine floats. -/
theorem frame_kernel : Cert.quiescent_Dwin := fun m ρ _ =>
  cast (by sl_kernel_rfl) (Cert.DwinIdeal.Gen.frame (F := Bits) m ρ)
/-- The same run over the reals. -/
theorem frame_ideal : Cert.quiescent_DwinIdeal := fun m ρ _ => Cert.DwinIdeal.Gen.frame (F := Ideal) m ρ
/-- The reference, host operations only, leaves its arguments and has no semaphore. -/
theorem frame_reference : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run (F := Ideal) m ρ)

/-- The reference's gradient is the kernel's. -/
theorem algebraic : Cert.algebraic_DwinIdeal_DwinRefIdeal := by
  pair_intro
  · run_from Cert.DwinIdeal.Whole.run_value m g
  · refine (θ_run Cert.DwinRefIdeal.defs _ _).mono (fun r h c => ?_) (Cert.DwinRefIdeal.Value.run (F := Ideal) m' g')
    obtain ⟨e0, e1, e2, e3, e4, e5⟩ := hagree c
    refine ⟨((h c).1.trans (Cert.DwinRefIdeal.Read.val_main_v20_eq (F := Ideal) _ _ _ _ _ _)).trans ?_, (h c).2⟩
    exact congr (congr (congr (congr (congr (congrArg (Cert.DwinRefIdeal.Read.val_main_v20 (F := Ideal)) e0) e1) e2) e3) e4) e5

end Cert.Proof.Dwin
-- ==== Proof.MmtnValue.lean ====
/-
  The gradient of the output projection's weight: a grid point multiplies 2048 rows of the merged branches with the rows
  of the output's cotangent, and the two points' products are added; the reference differentiates the projection over all
  4096 rows. The kernel's merged branches are written branch by branch, the reference's as one product over a stack.
-/
module

public import proofs.«01_k».proof.Proof.Gen.MmtnIdeal.Value
public import proofs.«01_k».proof.Proof.Gen.MmtnRefIdeal.Read
public import Idealize.ShloMosaic.Lib.Pipeline.ReadBack
public import Idealize.ShloMosaic.Lib.Pipeline.ValueKit

@[expose] public section

set_option maxRecDepth 16384

noncomputable section

namespace Cert.MmtnIdeal.Whole

open Cert.MmtnIdeal Cert.MmtnIdeal.Gen Cert.MmtnRefIdeal.Read
open Idealize.ShloMosaic Idealize.ShloMosaic.TcCoe Idealize.SL.Sem

/-! ## The merged branches -/

section Merged
variable (a b e : FVec Ideal S4096x512 .f32) (p : FVec Ideal S4096x3072 .f32) (w : FVec Ideal S3x512x1024 .f32)

/-- The three branches' gates. -/
def gates : FVec Ideal S4096x3072 .f32 :=
  Host.divf (broadcastInDim S4096x3072 ![] bcast_S_S4096x3072 (constant S_ .f32 0x3F800000#32))
    (addf (broadcastInDim S4096x3072 ![] bcast_S_S4096x3072 (constant S_ .f32 0x3F800000#32)) (Host.exp (Host.negf p)))

/-- The merged branches as the kernel's program writes them, one branch after the other. -/
def merged : FVec Ideal S4096x1024 .f32 :=
  addf (addf (addf (broadcastInDim S4096x1024 ![] bcast_S_S4096x1024 (constant S_ .f32 0x00000000#32))
    (mulf (extractStridedSlice S4096x1024 ![0, 0] (gates p) slices_S4096x3072_S4096x1024_0_0)
    (Host.dotGeneral dot_S4096x512_S512x1024_S4096x1024_1_0_0_1_n_n none a
      (shapeCast _ (extractStridedSlice S1x512x1024 ![0, 0, 0] w slices_S3x512x1024_S1x512x1024_0_0_0) shapeCasts_S1x512x1024_S512x1024))))
    (mulf (extractStridedSlice S4096x1024 ![0, 1024] (gates p) slices_S4096x3072_S4096x1024_0_1024)
    (Host.dotGeneral dot_S4096x512_S512x1024_S4096x1024_1_0_0_1_n_n none b
      (shapeCast _ (extractStridedSlice S1x512x1024 ![1, 0, 0] w slices_S3x512x1024_S1x512x1024_1_0_0) shapeCasts_S1x512x1024_S512x1024))))
    (mulf (extractStridedSlice S4096x1024 ![0, 2048] (gates p) slices_S4096x3072_S4096x1024_0_2048)
    (Host.dotGeneral dot_S4096x512_S512x1024_S4096x1024_1_0_0_1_n_n none e
      (shapeCast _ (extractStridedSlice S1x512x1024 ![2, 0, 0] w slices_S3x512x1024_S1x512x1024_2_0_0) shapeCasts_S1x512x1024_S512x1024)))

/-- They are the reference's. -/
theorem merged_eq (z : S4096x1024.Idx) : merged a b e p w z = val_main_v14 (F := Ideal) a b e p w z := by
  pointwise [merged, gates, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rw [Fin.sum_univ_three]
  simp [fun (i : Fin 3) (x : Fin 512) (y : EReal) => mul_comm (w (ix3 i x (z 1))) y]

end Merged

/-! ## One point -/

/-- The product of a point's rows at an entry. -/
theorem prod_point (X : Vec Ideal S2048x1024 .bf16) (D : Vec Ideal S2048x1024 .f32) (j : S1024x1024.Idx) :
    k0_pay1 (F := Ideal) X D j = ∑ k : Fin 2048, X (ix2 k (j 0)) * D (ix2 k (j 1)) := by
  pointwise [k0_pay1]

/-- The reference's gradient at an entry. -/
theorem grad_ref (a b e : Vec Ideal S4096x512 .f32) (p : Vec Ideal S4096x3072 .f32) (w : Vec Ideal S3x512x1024 .f32)
    (d : Vec Ideal S4096x1024 .f32) (z : S1024x1024.Idx) : val_main_v19 (F := Ideal) a b e p w d z
      = ∑ k : Fin 4096, d (ix2 k (z 1)) * val_main_v14 (F := Ideal) a b e p w (ix2 k (z 0)) := by
  pointwise [val_main_v19, val_main_v18, val_main_v17]

variable (m : (ℓ : Loc nD τ sig) → Buf (Elt Ideal) ℓ) (ρ : Dev nD → PrngReg)

/-- The block indices of the windows. -/
theorem idx : ∀ t : Fin cfg0.N, win0_0.index t = ![t.val, 0] ∧ win0_1.index t = ![t.val, 0] ∧ win0_2.index t = ![0, 0] :=
  (by decide +kernel : ∀ t : Fin grid0.N, _)

/-- The row of the array that a row of point `t`'s block is. -/
def row (t : Fin cfg0.N) (i : Fin 2048) : Fin 4096 := ⟨t.val * 2048 + i.val, by have := t.isLt; have : t.val < 2 := this; omega⟩

/-- A sum over all rows, point by point. -/
theorem sum_rows (f : Fin 4096 → EReal) : (∑ k, f (row t0_0 k)) + ∑ k, f (row t0_1 k) = ∑ k, f k :=
  ((Fin.sum_univ_tiles (M := EReal) 2 2048 rfl f).trans (Fin.sum_univ_two _)).symm

/-- The gradient's products, point by point. -/
theorem sum_prods (D M : Vec Ideal S4096x1024 .f32) (j : S1024x1024.Idx) :
    (∑ k : Fin 2048, D (ix2 (row t0_0 k) (j 1)) * M (ix2 (row t0_0 k) (j 0))) + ∑ k : Fin 2048, D (ix2 (row t0_1 k) (j 1)) * M (ix2 (row t0_1 k) (j 0))
      = ∑ k : Fin 4096, D (ix2 k (j 1)) * M (ix2 k (j 0)) := sum_rows fun k => D (ix2 k (j 1)) * M (ix2 k (j 0))

/-- The kernel multiplies the merged branches. -/
theorem host_m (c : Dev nD) : V m c main_v25 = truncf (F := Ideal) (s := S4096x1024) .bf16 (merged (m ((c : Thread nD τ).loc main_arg0)) (m ((c : Thread nD τ).loc main_arg1)) (m ((c : Thread nD τ).loc main_arg2)) (m ((c : Thread nD τ).loc main_arg3)) (m ((c : Thread nD τ).loc main_arg4))) bitsLt_bf16_f32 := by
  show StableHlo.after hostOps0 _ (Proc.devRef .tc main_v25) = _
  after_results <;> rfl
theorem blk_m (c : Dev nD) (t : Fin cfg0.N) (j : S2048x1024.Idx) :
    iblk m c 0 t j = val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t (j 0)) (j 1)) := by
  refine Eq.trans (b := V m c main_v25 (ix2 (row t (j 0)) (j 1))) ?_ (by rw [host_m]; exact merged_eq _ _ _ _ _ _)
  blk_point [iblk, idx t, row]
theorem blk_d (c : Dev nD) (t : Fin cfg0.N) (j : S2048x1024.Idx) :
    iblk m c 1 t j = (m ((c : Thread nD τ).loc main_arg5)) (ix2 (row t (j 0)) (j 1)) := by
  rw [← V_main_arg5 m c]
  blk_point [iblk, idx t, row]

/-- A point's product is its rows' part of the gradient. -/
theorem prod_rows (M D : Vec Ideal S4096x1024 .f32) (X : Vec Ideal S2048x1024 .bf16) (Y : Vec Ideal S2048x1024 .f32) (r : Fin 2048 → Fin 4096)
    (hX : ∀ j, X j = M (ix2 (r (j 0)) (j 1))) (hY : ∀ j, Y j = D (ix2 (r (j 0)) (j 1))) (j : S1024x1024.Idx) :
    k0_pay1 (F := Ideal) X Y j = ∑ k : Fin 2048, D (ix2 (r k) (j 1)) * M (ix2 (r k) (j 0)) := by
  rw [prod_point]
  exact Finset.sum_congr rfl fun k _ => (congrArg₂ (· * ·) (hX _) (hY _)).trans (mul_comm _ _)

/-- The accumulator after both points. -/
theorem acc_point (X : Vec Ideal S2048x1024 .bf16) (Y : Vec Ideal S2048x1024 .f32) (A : Vec Ideal S1024x1024 .f32) (j : S1024x1024.Idx) :
    k0_pay4 (F := Ideal) (k0_pay3 X Y A) j = A j + k0_pay1 (F := Ideal) X Y j := by
  pointwise [k0_pay4, k0_pay3]

/-- What the first point leaves in the accumulator. -/
theorem first (c : Dev nD) (h : 0 < cfg0.N) : (outsAt0 m c 0 h).2 = k0_pay1 (F := Ideal) (iblk m c 0 t0_0) (iblk m c 1 t0_0) := by
  rw [show (outsAt0 m c 0 h).2 = _ from congrArg Prod.snd (outsAt0_A m c t0_0 (by decide) (by decide) (by decide))]
  dsimp only
  frame_out
  funext z
  pointwise [k0_pay2]

/-- The gradient, written at the second point. -/
theorem grad_value (c : Dev nD) : (dats m 0 c).arrAt 2 cfg0.N = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 2 t0_1 (by decide +kernel) _ fun j => ?_
  blk_simp
  rw [after0_2, outsAt0_B m c t0_1 (by decide) (by decide) (by decide)]
  dsimp only
  frame_out
  rw [read_unread_whole]
  refine (acc_point _ _ _ j).trans ?_
  refine (congrArg (· + _) (congrFun (first m c (by decide)) j)).trans ?_
  rw [prod_rows _ _ _ _ _ (blk_m m c t0_0) (blk_d m c t0_0), prod_rows _ _ _ _ _ (blk_m m c t0_1) (blk_d m c t0_1), grad_ref]
  exact sum_prods _ _ j

/-- After the kernel its result is the reference's function of the arguments. -/
theorem run_value : θ_run defs (onTc (τ := τ) (main (F := Ideal))) ⟨m, fun _ => 0, ρ⟩ (fun r => ∀ c : Dev nD,
      r.2.mem ((c.tc : Thread nD τ).loc main_v26) = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (grad_value m c), (h c).2⟩) (Cert.MmtnIdeal.Value.run_blocks m ρ)

end Cert.MmtnIdeal.Whole
-- ==== Proof.MmtnClaims.lean ====
/-
  The claims about the output projection's weight gradient: the kernel's frame, the reference's frame, and that both
  compute the same gradient over the extended reals.
-/
module

public import proofs.«01_k».proof.Defs
public import proofs.«01_k».proof.Proof.MmtnValue
public import proofs.«01_k».proof.Proof.Gen.Mmtn
public import Idealize.ShloMosaic.Lib.Quiescent

@[expose] public section

set_option maxRecDepth 16384

noncomputable section

namespace Cert.Proof.Mmtn

open Idealize.ShloMosaic Idealize.ShloMosaic.TcCoe Idealize.SL.Sem

attribute [local instance] Cert.Mmtn.Gen.facts Cert.MmtnIdeal.Gen.facts Cert.MmtnRefIdeal.Gen.facts

/-- The printed kernel's frame, from the one generated run at machine floats. -/
theorem frame_kernel : Cert.quiescent_Mmtn := fun m ρ _ =>
  cast (by sl_kernel_rfl) (Cert.MmtnIdeal.Gen.frame (F := Bits) m ρ)
/-- The same run over the reals. -/
theorem frame_ideal : Cert.quiescent_MmtnIdeal := fun m ρ _ => Cert.MmtnIdeal.Gen.frame (F := Ideal) m ρ
/-- The reference, host operations only, leaves its arguments and has no semaphore. -/
theorem frame_reference : Cert.quiescent_MmtnRefIdeal := fun m ρ _ =>
  (θ_run Cert.MmtnRefIdeal.defs _ _).mono (fun r h => ⟨fun c => (h c).2, sem_eq_zero_of_no_sems (by decide) r.2⟩)
    (Cert.MmtnRefIdeal.Value.run (F := Ideal) m ρ)

/-- The reference's gradient is the kernel's. -/
theorem algebraic : Cert.algebraic_MmtnIdeal_MmtnRefIdeal := by
  pair_intro
  · run_from Cert.MmtnIdeal.Whole.run_value m g
  · refine (θ_run Cert.MmtnRefIdeal.defs _ _).mono (fun r h c => ?_) (Cert.MmtnRefIdeal.Value.run (F := Ideal) m' g')
    obtain ⟨e0, e1, e2, e3, e4, e5⟩ := hagree c
    refine ⟨((h c).1.trans (Cert.MmtnRefIdeal.Read.val_main_v19_eq (F := Ideal) _ _ _ _ _ _)).trans ?_, (h c).2⟩
    exact congr (congr (congr (congr (congr (congrArg (Cert.MmtnRefIdeal.Read.val_main_v19 (F := Ideal)) e0) e1) e2) e3) e4) e5

end Cert.Proof.Mmtn
-- ==== Proof.lean ====
/-
  The proof of `Cert.Claim`: each program pair's claims are proved in its own modules; this file puts them in order.
-/
module

public import proofs.«01_k».proof.Defs
public import proofs.«01_k».proof.Proof.MemKvClaims
public import proofs.«01_k».proof.Proof.LossClaims
public import proofs.«01_k».proof.Proof.MergeClaims
public import proofs.«01_k».proof.Proof.DhClaims
public import proofs.«01_k».proof.Proof.CrossClaims
public import proofs.«01_k».proof.Proof.GmlpClaims
public import proofs.«01_k».proof.Proof.AttnClaims
public import proofs.«01_k».proof.Proof.AttnFwdClaims
public import proofs.«01_k».proof.Proof.PrepClaims
public import proofs.«01_k».proof.Proof.AdamwClaims
public import proofs.«01_k».proof.Proof.DwinClaims
public import proofs.«01_k».proof.Proof.MmtnClaims
public import proofs.«01_k».proof.Proof.Gen.MemKv
public import proofs.«01_k».proof.Proof.Gen.MemKvIdeal
public import proofs.«01_k».proof.Proof.Gen.MemKvIdeal.Frame
public import proofs.«01_k».proof.Proof.Gen.MemKvRefIdeal
public import proofs.«01_k».proof.Proof.Gen.MemKvRefIdeal.Read
public import proofs.«01_k».proof.Proof.Gen.Loss
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Read
public import proofs.«01_k».proof.Proof.Gen.Merge
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Read
public import proofs.«01_k».proof.Proof.Gen.Dh
public import proofs.«01_k».proof.Proof.Gen.DhIdeal
public import proofs.«01_k».proof.Proof.Gen.DhIdeal.Value
public import proofs.«01_k».proof.Proof.Gen.DhRefIdeal
public import proofs.«01_k».proof.Proof.Gen.DhRefIdeal.Read
public import proofs.«01_k».proof.Proof.Gen.Cross
public import proofs.«01_k».proof.Proof.Gen.CrossIdeal
public import proofs.«01_k».proof.Proof.Gen.CrossIdeal.Value
public import proofs.«01_k».proof.Proof.Gen.CrossRefIdeal
public import proofs.«01_k».proof.Proof.Gen.CrossRefIdeal.Read
public import proofs.«01_k».proof.Proof.Gen.Gmlp
public import proofs.«01_k».proof.Proof.Gen.GmlpIdeal
public import proofs.«01_k».proof.Proof.Gen.GmlpIdeal.Value
public import proofs.«01_k».proof.Proof.Gen.GmlpRefIdeal
public import proofs.«01_k».proof.Proof.Gen.GmlpRefIdeal.Read
public import proofs.«01_k».proof.Proof.Gen.Attn
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Read
public import proofs.«01_k».proof.Proof.Gen.AttnFwd
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.AttnFwdRefIdeal.Read
public import proofs.«01_k».proof.Proof.Gen.Prep
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Read
public import proofs.«01_k».proof.Proof.Gen.Adamw
public import proofs.«01_k».proof.Proof.Gen.AdamwIdeal
public import proofs.«01_k».proof.Proof.Gen.AdamwIdeal.Value
public import proofs.«01_k».proof.Proof.Gen.AdamwRefIdeal
public import proofs.«01_k».proof.Proof.Gen.AdamwRefIdeal.Read
public import proofs.«01_k».proof.Proof.Gen.Dwin
public import proofs.«01_k».proof.Proof.Gen.DwinIdeal
public import proofs.«01_k».proof.Proof.Gen.DwinIdeal.Value
public import proofs.«01_k».proof.Proof.Gen.DwinRefIdeal
public import proofs.«01_k».proof.Proof.Gen.DwinRefIdeal.Read
public import proofs.«01_k».proof.Proof.Gen.Mmtn
public import proofs.«01_k».proof.Proof.Gen.MmtnIdeal
public import proofs.«01_k».proof.Proof.Gen.MmtnIdeal.Value
public import proofs.«01_k».proof.Proof.Gen.MmtnRefIdeal
public import proofs.«01_k».proof.Proof.Gen.MmtnRefIdeal.Read
public import Idealize.ShloMosaic.Adequacy
public import Idealize.ShloMosaic.Init

@[expose] public section

noncomputable section

namespace Cert.Proof

open Idealize.ShloMosaic Idealize.SL.Sem

/-- Every claim, in the order of the statement. -/
theorem claim : Cert.Claim := ⟨Cert.MemKv.Gen.facts, Cert.MemKvIdeal.Gen.facts, Cert.MemKvRefIdeal.Gen.facts,
  Cert.Loss.Gen.facts, Cert.LossIdeal.Gen.facts, Cert.LossRefIdeal.Gen.facts,
  Cert.Merge.Gen.facts, Cert.MergeIdeal.Gen.facts, Cert.MergeRefIdeal.Gen.facts,
  Cert.Dh.Gen.facts, Cert.DhIdeal.Gen.facts, Cert.DhRefIdeal.Gen.facts,
  Cert.Cross.Gen.facts, Cert.CrossIdeal.Gen.facts, Cert.CrossRefIdeal.Gen.facts,
  Cert.Gmlp.Gen.facts, Cert.GmlpIdeal.Gen.facts, Cert.GmlpRefIdeal.Gen.facts,
  Cert.Attn.Gen.facts, Cert.AttnIdeal.Gen.facts, Cert.AttnRefIdeal.Gen.facts,
  Cert.AttnFwd.Gen.facts, Cert.AttnFwdIdeal.Gen.facts, Cert.AttnFwdRefIdeal.Gen.facts,
  Cert.Prep.Gen.facts, Cert.PrepIdeal.Gen.facts, Cert.PrepRefIdeal.Gen.facts,
  Cert.Adamw.Gen.facts, Cert.AdamwIdeal.Gen.facts, Cert.AdamwRefIdeal.Gen.facts,
  Cert.Dwin.Gen.facts, Cert.DwinIdeal.Gen.facts, Cert.DwinRefIdeal.Gen.facts,
  Cert.Mmtn.Gen.facts, Cert.MmtnIdeal.Gen.facts, Cert.MmtnRefIdeal.Gen.facts,
  Cross.pre_facts, Gmlp.pre_facts, Attn.pre_facts,
  AttnFwd.pre_facts, Prep.pre_facts,
  MemKv.frame_kernel, MemKv.frame_ideal, MemKv.frame_reference,
  Loss.frame_kernel, Loss.frame_ideal, Loss.frame_reference,
  Merge.frame_kernel, Merge.frame_ideal, Merge.frame_reference,
  Dh.frame_kernel, Dh.frame_ideal, Dh.frame_reference,
  Cross.frame_kernel, Cross.frame_ideal, Cross.frame_ideal_finite, Cross.frame_reference, Cross.frame_reference_finite,
  Gmlp.frame_kernel, Gmlp.frame_ideal, Gmlp.frame_ideal_finite, Gmlp.frame_reference, Gmlp.frame_reference_finite,
  Attn.frame_kernel, Attn.frame_ideal, Attn.frame_ideal_finite, Attn.frame_reference, Attn.frame_reference_finite,
  AttnFwd.frame_kernel, AttnFwd.frame_ideal, AttnFwd.frame_ideal_finite, AttnFwd.frame_reference, AttnFwd.frame_reference_finite,
  Prep.frame_kernel, Prep.frame_ideal, Prep.frame_ideal_finite, Prep.frame_reference, Prep.frame_reference_finite,
  Adamw.frame_kernel, Adamw.frame_ideal, Adamw.frame_reference,
  Dwin.frame_kernel, Dwin.frame_ideal, Dwin.frame_reference,
  Mmtn.frame_kernel, Mmtn.frame_ideal, Mmtn.frame_reference,
  trivial, MemKv.algebraic,
  trivial, Loss.algebraic,
  trivial, Merge.algebraic,
  trivial, Dh.algebraic,
  trivial, Cross.algebraic,
  trivial, Gmlp.algebraic,
  trivial, Attn.algebraic,
  trivial, AttnFwd.algebraic,
  trivial, Prep.algebraic,
  trivial, Adamw.algebraic,
  trivial, Dwin.algebraic,
  trivial, Mmtn.algebraic⟩

end Cert.Proof

end
